-- ==== Defs.lean ====
def Pre_Kernel [hPre_routed_Kernel : Cert.Pre_routed_Kernel.Facts] (m : (ℓ : Loc Cert.Kernel.nD Cert.Kernel.τ Cert.Kernel.sig) → Buf (Elt Bits) ℓ) : Prop :=
  ∀ c : Dev Cert.Kernel.nD,
    (Cert.Pre_routed_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_routed_Kernel : Cert.Pre_routed_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routed_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_routed_Kernel : Cert.Pre_routed_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_routed_Kernel : Cert.Pre_routed_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed_Kernel : Cert.Pre_routed_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![64, 128, 256]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![8, 256]⟩ ⟨2, ![256, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v25) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_Kernel : Cert.Pre_routed_Kernel.Facts) (hPre_routed_ReferenceIdeal : Cert.Pre_routed_ReferenceIdeal.Facts),
    quiescent_Kernel (hKernel := hKernel) (hPre_routed_Kernel := hPre_routed_Kernel)
    ∧ quiescent_KernelIdeal (hKernelIdeal := hKernelIdeal) (hPre_routed_Kernel := hPre_routed_Kernel)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal (hKernelIdeal := hKernelIdeal) (hReferenceIdeal := hReferenceIdeal) (hPre_routed_Kernel := hPre_routed_Kernel)
-- ==== Pre_routed_Kernel.lean ====
abbrev S256x128 : Shape := ⟨2, ![256, 128]⟩
abbrev S128x64 : Shape := ⟨2, ![128, 64]⟩
abbrev S256x1 : Shape := ⟨2, ![256, 1]⟩
abbrev S2x128x256 : Shape := ⟨3, ![2, 128, 256]⟩
abbrev S_ : Shape := ⟨0, ![]⟩

class Facts : Prop where
  bcast_S_S256x1 : S_.BroadcastsInDim S256x1 (![] : Fin 0 → Fin S256x1.rank)
  reducesTo_S256x1_S_d0_1 : S256x1.ReducesTo [0, 1] S_
  h_S_ : 0 < S_.numel

variable [Facts]

def fn {F : FTy → Type} [FloatOps F] (main_arg0 : FVec F S256x128 .bf16) (main_arg1 : FVec F S128x64 .bf16) (main_arg2 : IVec S256x1 32) (main_arg3 : FVec F S2x128x256 .bf16) : IVec S_ 1 :=
  let main_c : IVec S_ 32 := constantI S_ 32 0#32
  let main_v0 : IVec S256x1 32 := broadcastInDim S256x1 ![] bcast_S_S256x1 main_c
  let main_v1 : IVec S256x1 1 := cmpi .sge main_arg2 main_v0
  let main_c_0 : IVec S_ 32 := constantI S_ 32 64#32
  let main_v2 : IVec S256x1 32 := broadcastInDim S256x1 ![] bcast_S_S256x1 main_c_0
  let main_v3 : IVec S256x1 1 := cmpi .slt main_arg2 main_v2
  let main_v4 : IVec S256x1 1 := andi main_v1 main_v3
  let main_c_1 : IVec S_ 1 := constantI S_ 1 1#1
  let main_v5 : IVec S_ 1 := (fun x v => Host.reduce IntOp.andi x v reducesTo_S256x1_S_d0_1 h_S_) main_v4 main_c_1
  main_v5
-- ==== Pre_routed_ReferenceIdeal.lean ====
abbrev S256x128 : Shape := ⟨2, ![256, 128]⟩
abbrev S128x64 : Shape := ⟨2, ![128, 64]⟩
abbrev S256x1 : Shape := ⟨2, ![256, 1]⟩
abbrev S64x128x256 : Shape := ⟨3, ![64, 128, 256]⟩
abbrev S_ : Shape := ⟨0, ![]⟩

class Facts : Prop where
  bcast_S_S256x1 : S_.BroadcastsInDim S256x1 (![] : Fin 0 → Fin S256x1.rank)
  reducesTo_S256x1_S_d0_1 : S256x1.ReducesTo [0, 1] S_
  h_S_ : 0 < S_.numel

variable [Facts]

def fn {F : FTy → Type} [FloatOps F] (main_arg0 : FVec F S256x128 .bf16) (main_arg1 : FVec F S128x64 .bf16) (main_arg2 : IVec S256x1 32) (main_arg3 : FVec F S64x128x256 .bf16) : IVec S_ 1 :=
  let main_c : IVec S_ 32 := constantI S_ 32 0#32
  let main_v0 : IVec S256x1 32 := broadcastInDim S256x1 ![] bcast_S_S256x1 main_c
  let main_v1 : IVec S256x1 1 := cmpi .sge main_arg2 main_v0
  let main_c_0 : IVec S_ 32 := constantI S_ 32 64#32
  let main_v2 : IVec S256x1 32 := broadcastInDim S256x1 ![] bcast_S_S256x1 main_c_0
  let main_v3 : IVec S256x1 1 := cmpi .slt main_arg2 main_v2
  let main_v4 : IVec S256x1 1 := andi main_v1 main_v3
  let main_c_1 : IVec S_ 1 := constantI S_ 1 1#1
  let main_v5 : IVec S_ 1 := (fun x v => Host.reduce IntOp.andi x v reducesTo_S256x1_S_d0_1 h_S_) main_v4 main_c_1
  main_v5
-- ==== Kernel.lean ====
abbrev S256x128 : Shape := ⟨2, ![256, 128]⟩
abbrev S128x64 : Shape := ⟨2, ![128, 64]⟩
abbrev S256x1 : Shape := ⟨2, ![256, 1]⟩
abbrev S2x128x256 : Shape := ⟨3, ![2, 128, 256]⟩
abbrev S8x256 : Shape := ⟨2, ![8, 256]⟩
abbrev S2x3x256 : Shape := ⟨3, ![2, 3, 256]⟩
abbrev S64 : Shape := ⟨1, ![64]⟩
abbrev S6 : Shape := ⟨1, ![6]⟩
abbrev S8 : Shape := ⟨1, ![8]⟩
abbrev S1 : Shape := ⟨1, ![1]⟩
abbrev S_ : Shape := ⟨0, ![]⟩
abbrev S1x1 : Shape := ⟨2, ![1, 1]⟩
abbrev S1x256 : Shape := ⟨2, ![1, 256]⟩
abbrev S1x128 : Shape := ⟨2, ![1, 128]⟩
abbrev S3x128 : Shape := ⟨2, ![3, 128]⟩
abbrev S1x128x256 : Shape := ⟨3, ![1, 128, 256]⟩
abbrev S128x256 : Shape := ⟨2, ![128, 256]⟩
abbrev S3x256 : Shape := ⟨2, ![3, 256]⟩
abbrev S1x3x256 : Shape := ⟨3, ![1, 3, 256]⟩
abbrev S1x1x256 : Shape := ⟨3, ![1, 1, 256]⟩

abbrev nBuf : Space → Nat
  | .hbm => 38
  | .vmem => 4
  | .smem => 5
  | _ => 0

abbrev bufTy : (tb : Table) → Fin (tcTables nBuf tb) → BufTy
  | .hbm, ⟨0, _⟩ => ⟨S256x128, .bf16⟩
  | .hbm, ⟨1, _⟩ => ⟨S128x64, .bf16⟩
  | .hbm, ⟨2, _⟩ => ⟨S256x1, .i32⟩
  | .hbm, ⟨3, _⟩ => ⟨S2x128x256, .bf16⟩
  | .hbm, ⟨4, _⟩ => ⟨S256x1, .i32⟩
  | .hbm, ⟨5, _⟩ => ⟨S256x1, .i32⟩
  | .hbm, ⟨6, _⟩ => ⟨S256x1, .i32⟩
  | .hbm, ⟨7, _⟩ => ⟨S256x1, .i32⟩
  | .hbm, ⟨8, _⟩ => ⟨S256x1, .i32⟩
  | .hbm, ⟨9, _⟩ => ⟨S256x1, .i32⟩
  | .hbm, ⟨10, _⟩ => ⟨S256x1, .i32⟩
  | .hbm, ⟨11, _⟩ => ⟨S256x1, .i32⟩
  | .hbm, ⟨12, _⟩ => ⟨S256x1, .i32⟩
  | .hbm, ⟨13, _⟩ => ⟨S256x1, .i32⟩
  | .hbm, ⟨14, _⟩ => ⟨S256x1, .i32⟩
  | .hbm, ⟨15, _⟩ => ⟨S256x1, .i32⟩
  | .hbm, ⟨16, _⟩ => ⟨S256x1, .i32⟩
  | .hbm, ⟨17, _⟩ => ⟨S256x1, .i32⟩
  | .hbm, ⟨18, _⟩ => ⟨S256x1, .i32⟩
  | .hbm, ⟨19, _⟩ => ⟨S256x1, .i32⟩
  | .hbm, ⟨20, _⟩ => ⟨S256x1, .i32⟩
  | .hbm, ⟨21, _⟩ => ⟨S256x1, .i32⟩
  | .hbm, ⟨22, _⟩ => ⟨S256x1, .i32⟩
  | .hbm, ⟨23, _⟩ => ⟨S256x1, .i32⟩
  | .hbm, ⟨24, _⟩ => ⟨S256x1, .i32⟩
  | .hbm, ⟨25, _⟩ => ⟨S256x1, .i32⟩
  | .hbm, ⟨26, _⟩ => ⟨S256x1, .i32⟩
  | .hbm, ⟨27, _⟩ => ⟨S256x1, .i32⟩
  | .hbm, ⟨28, _⟩ => ⟨S256x1, .i32⟩
  | .hbm, ⟨29, _⟩ => ⟨S256x1, .i32⟩
  | .hbm, ⟨30, _⟩ => ⟨S256x1, .i32⟩
  | .hbm, ⟨31, _⟩ => ⟨S256x1, .i32⟩
  | .hbm, ⟨32, _⟩ => ⟨S256x1, .i32⟩
  | .hbm, ⟨33, _⟩ => ⟨S256x1, .i32⟩
  | .hbm, ⟨34, _⟩ => ⟨S256x1, .i32⟩
  | .hbm, ⟨35, _⟩ => ⟨S256x1, .i32⟩
  | .hbm, ⟨36, _⟩ => ⟨S256x1, .i32⟩
  | .hbm, ⟨37, _⟩ => ⟨S8x256, .f32⟩
  | .local _ .vmem, ⟨0, _⟩ => ⟨S256x128, .bf16⟩
  | .local _ .vmem, ⟨1, _⟩ => ⟨S2x128x256, .bf16⟩
  | .local _ .vmem, ⟨2, _⟩ => ⟨S8x256, .f32⟩
  | .local _ .vmem, ⟨3, _⟩ => ⟨S2x3x256, .f32⟩
  | .local _ .smem, ⟨0, _⟩ => ⟨S256x1, .i32⟩
  | .local _ .smem, ⟨1, _⟩ => ⟨S64, .i32⟩
  | .local _ .smem, ⟨2, _⟩ => ⟨S6, .i32⟩
  | .local _ .smem, ⟨3, _⟩ => ⟨S8, .i32⟩
  | .local _ .smem, ⟨4, _⟩ => ⟨S1, .i32⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 2 → Bool
  | ⟨0, _⟩ => false
  | ⟨1, _⟩ => false
  | _ => false

abbrev dmaSemScoped : Fin 20 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 2 20 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v1_s0 : Ref sig .tc := ⟨.hbm, 5, rfl⟩
abbrev main_v1_s1 : Ref sig .tc := ⟨.hbm, 6, rfl⟩
abbrev main_v1_s2 : Ref sig .tc := ⟨.hbm, 7, rfl⟩
abbrev main_v1_s3 : Ref sig .tc := ⟨.hbm, 8, rfl⟩
abbrev main_v1_s4 : Ref sig .tc := ⟨.hbm, 9, rfl⟩
abbrev main_v1_s5 : Ref sig .tc := ⟨.hbm, 10, rfl⟩
abbrev main_v1_s6 : Ref sig .tc := ⟨.hbm, 11, rfl⟩
abbrev main_v1_s7 : Ref sig .tc := ⟨.hbm, 12, rfl⟩
abbrev main_v1_s8 : Ref sig .tc := ⟨.hbm, 13, rfl⟩
abbrev main_v1_s9 : Ref sig .tc := ⟨.hbm, 14, rfl⟩
abbrev main_v1_s10 : Ref sig .tc := ⟨.hbm, 15, rfl⟩
abbrev main_v1_s11 : Ref sig .tc := ⟨.hbm, 16, rfl⟩
abbrev main_v1_s12 : Ref sig .tc := ⟨.hbm, 17, rfl⟩
abbrev main_v1_s13 : Ref sig .tc := ⟨.hbm, 18, rfl⟩
abbrev main_v1_s14 : Ref sig .tc := ⟨.hbm, 19, rfl⟩
abbrev main_v1_s15 : Ref sig .tc := ⟨.hbm, 20, rfl⟩
abbrev main_v1_s16 : Ref sig .tc := ⟨.hbm, 21, rfl⟩
abbrev main_v1_s17 : Ref sig .tc := ⟨.hbm, 22, rfl⟩
abbrev main_v1_s18 : Ref sig .tc := ⟨.hbm, 23, rfl⟩
abbrev main_v1_s19 : Ref sig .tc := ⟨.hbm, 24, rfl⟩
abbrev main_v1_s20 : Ref sig .tc := ⟨.hbm, 25, rfl⟩
abbrev main_v1_s21 : Ref sig .tc := ⟨.hbm, 26, rfl⟩
abbrev main_v1_s22 : Ref sig .tc := ⟨.hbm, 27, rfl⟩
abbrev main_v1_s23 : Ref sig .tc := ⟨.hbm, 28, rfl⟩
abbrev main_v1_s24 : Ref sig .tc := ⟨.hbm, 29, rfl⟩
abbrev main_v1_s25 : Ref sig .tc := ⟨.hbm, 30, rfl⟩
abbrev main_v1_s26 : Ref sig .tc := ⟨.hbm, 31, rfl⟩
abbrev main_v1_s27 : Ref sig .tc := ⟨.hbm, 32, rfl⟩
abbrev main_v1_s28 : Ref sig .tc := ⟨.hbm, 33, rfl⟩
abbrev main_v1_s29 : Ref sig .tc := ⟨.hbm, 34, rfl⟩
abbrev main_v1_s30 : Ref sig .tc := ⟨.hbm, 35, rfl⟩
abbrev main_v1_s31 : Ref sig .tc := ⟨.hbm, 36, rfl⟩
abbrev main_v2 : Ref sig .tc := ⟨.hbm, 37, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_stg1_0 : Ref sig .tc := ⟨.smem, 0, rfl⟩
abbrev cc0_scratch1 : Ref sig .tc := ⟨.smem, 1, rfl⟩
abbrev cc0_scratch2 : Ref sig .tc := ⟨.smem, 2, rfl⟩
abbrev cc0_scratch3 : Ref sig .tc := ⟨.smem, 3, rfl⟩
abbrev cc0_scratch4 : Ref sig .tc := ⟨.smem, 4, rfl⟩
abbrev ar0_recv : DmaSem sig := 0
abbrev ar0_send : DmaSem sig := 1
abbrev cc0_sem0_0 : DmaSem sig := 2
abbrev cc0_sem1_0 : DmaSem sig := 3
abbrev cc0_sem2_0 : DmaSem sig := 4
abbrev cc0_sem3_0 : DmaSem sig := 5
abbrev ar0_barrier : Sem sig := 0
abbrev barrier0 : Sem sig := 1

abbrev nD : Nat := 32
abbrev τ : Topo := Topo.v7x

variable {F : FTy → Type} [FloatOps F]

abbrev ar0_mem : Fin 1 × Fin 32 → Dev nD := fun q => (![![0, 1, 2, 3, 4, 5, 6, 7, 8, 9, 10, 11, 12, 13, 14, 15, 16, 17, 18, 19, 20, 21, 22, 23, 24, 25, 26, 27, 28, 29, 30, 31]] : Fin 1 → Fin 32 → Dev nD) q.1 q.2
abbrev ar0_pos : Dev nD → Fin 1 × Fin 32 := fun c => ((![0, 0, 0, 0, 0, 0, 0, 0, 0, 0, 0, 0, 0, 0, 0, 0, 0, 0, 0, 0, 0, 0, 0, 0, 0, 0, 0, 0, 0, 0, 0, 0] : Fin 32 → Fin 1) c, (![0, 1, 2, 3, 4, 5, 6, 7, 8, 9, 10, 11, 12, 13, 14, 15, 16, 17, 18, 19, 20, 21, 22, 23, 24, 25, 26, 27, 28, 29, 30, 31] : Fin 32 → Fin 32) c)
abbrev ar0_stage : Fin 32 → Ref sig .tc := fun | 0 => main_v1_s0 | 1 => main_v1_s1 | 2 => main_v1_s2 | 3 => main_v1_s3 | 4 => main_v1_s4 | 5 => main_v1_s5 | 6 => main_v1_s6 | 7 => main_v1_s7 | 8 => main_v1_s8 | 9 => main_v1_s9 | 10 => main_v1_s10 | 11 => main_v1_s11 | 12 => main_v1_s12 | 13 => main_v1_s13 | 14 => main_v1_s14 | 15 => main_v1_s15 | 16 => main_v1_s16 | 17 => main_v1_s17 | 18 => main_v1_s18 | 19 => main_v1_s19 | 20 => main_v1_s20 | 21 => main_v1_s21 | 22 => main_v1_s22 | 23 => main_v1_s23 | 24 => main_v1_s24 | 25 => main_v1_s25 | 26 => main_v1_s26 | 27 => main_v1_s27 | 28 => main_v1_s28 | 29 => main_v1_s29 | 30 => main_v1_s30 | 31 => main_v1_s31 | ⟨_ + 32, h⟩ => absurd h (Nat.not_lt.2 (Nat.le_add_left _ _))

abbrev grid0 : Pipeline.Grid := .none

def k0_off1 (d0 : Dev nD) : Fin 2 → Nat :=
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let c0_i32 : BitVec 32 := 0#32
  let v8 : BitVec 32 := Scalar.addi v5 c0_i32
  let v9 : Index := Scalar.indexCast v8
  let c0 : Index := 0#32
  ![v9.toNat, 0]
def k0_dev1 (v10 : BitVec 32) : Nat :=
  let c0_i32_342 : BitVec 32 := 0#32
  let c0_i32_3 : BitVec 32 := 0#32
  let v12 : BitVec 1 := Scalar.cmpi .sgt v10 c0_i32_3
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c2_i32_2 : BitVec 32 := 2#32
  let c0_i32_5 : BitVec 32 := 0#32
  let v17 : BitVec 1 := Scalar.cmpi .sgt c2_i32_2 c0_i32_5
  let v18 : BitVec 32 := Scalar.extui v17
  let c0_i32_6 : BitVec 32 := 0#32
  let v19 : BitVec 1 := Scalar.cmpi .slt c2_i32_2 c0_i32_6
  let v20 : BitVec 32 := Scalar.extui v19
  let v21 : BitVec 32 := Scalar.subi v18 v20
  let v22 : BitVec 1 := Scalar.cmpi .ne v16 v21
  let v23 : BitVec 32 := Scalar.remsi v10 c2_i32_2
  let c0_i32_7 : BitVec 32 := 0#32
  let v24 : BitVec 1 := Scalar.cmpi .ne v23 c0_i32_7
  let v25 : BitVec 1 := Scalar.andi v22 v24
  let v11 : BitVec 32 := Scalar.divsi v10 c2_i32_2
  let c1_i32_8 : BitVec 32 := 1#32
  let v26 : BitVec 32 := Scalar.subi v11 c1_i32_8
  let v27 : BitVec 32 := Scalar.select v25 v26 v11
  let c1_i32_341 : BitVec 32 := 1#32
  let v671 : BitVec 32 := Scalar.muli v27 c1_i32_341
  let v672 : BitVec 32 := Scalar.addi c0_i32_342 v671
  v672.toNat
def k0_cond1 (d0 : Dev nD) (v10 : BitVec 32) : BitVec 1 :=
  let c0_i32_3 : BitVec 32 := 0#32
  let v12 : BitVec 1 := Scalar.cmpi .sgt v10 c0_i32_3
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c2_i32_2 : BitVec 32 := 2#32
  let c0_i32_5 : BitVec 32 := 0#32
  let v17 : BitVec 1 := Scalar.cmpi .sgt c2_i32_2 c0_i32_5
  let v18 : BitVec 32 := Scalar.extui v17
  let c0_i32_6 : BitVec 32 := 0#32
  let v19 : BitVec 1 := Scalar.cmpi .slt c2_i32_2 c0_i32_6
  let v20 : BitVec 32 := Scalar.extui v19
  let v21 : BitVec 32 := Scalar.subi v18 v20
  let v22 : BitVec 1 := Scalar.cmpi .ne v16 v21
  let v23 : BitVec 32 := Scalar.remsi v10 c2_i32_2
  let c0_i32_7 : BitVec 32 := 0#32
  let v24 : BitVec 1 := Scalar.cmpi .ne v23 c0_i32_7
  let v25 : BitVec 1 := Scalar.andi v22 v24
  let v11 : BitVec 32 := Scalar.divsi v10 c2_i32_2
  let c1_i32_8 : BitVec 32 := 1#32
  let v26 : BitVec 32 := Scalar.subi v11 c1_i32_8
  let v27 : BitVec 32 := Scalar.select v25 v26 v11
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v28 : BitVec 1 := Scalar.cmpi .ne v27 v2
  let v29 : BitVec 32 := Scalar.extui v28
  let c0_i32_9 : BitVec 32 := 0#32
  let v30 : BitVec 1 := Scalar.cmpi .ne v29 c0_i32_9
  v30

def k0_chk1 (d0 : Dev nD) (v10 : BitVec 32) : Prop :=
  (∀ (k0_h1 : k0_cond1 d0 v10 = 1#1), (k0_dev1 v10) < nD)
theorem k0_dev1_lt : ∀ (d0 : Dev nD) (v10 : BitVec 32) (k0_hw1 : k0_chk1 d0 v10), ∀ (k0_h1 : k0_cond1 d0 v10 = 1#1), (k0_dev1 v10) < nD := fun d0 v10 k0_hw1 k0_h1 => k0_hw1 k0_h1

def k0_off2 (d0 : Dev nD) : Fin 2 → Nat :=
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let c1_i32_10 : BitVec 32 := 1#32
  let v31 : BitVec 32 := Scalar.addi v5 c1_i32_10
  let v32 : Index := Scalar.indexCast v31
  let c0_11 : Index := 0#32
  ![v32.toNat, 0]
def k0_dev2 (v33 : BitVec 32) : Nat :=
  let c0_i32_342 : BitVec 32 := 0#32
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let v34 : BitVec 32 := Scalar.divsi v33 c2_i32_12
  let c1_i32_18 : BitVec 32 := 1#32
  let v49 : BitVec 32 := Scalar.subi v34 c1_i32_18
  let v50 : BitVec 32 := Scalar.select v48 v49 v34
  let c1_i32_341 : BitVec 32 := 1#32
  let v671 : BitVec 32 := Scalar.muli v50 c1_i32_341
  let v672 : BitVec 32 := Scalar.addi c0_i32_342 v671
  v672.toNat
def k0_cond2 (d0 : Dev nD) (v33 : BitVec 32) : BitVec 1 :=
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32_12 : BitVec 32 := 2#32
  let c0_i32_15 : BitVec 32 := 0#32
  let v40 : BitVec 1 := Scalar.cmpi .sgt c2_i32_12 c0_i32_15
  let v41 : BitVec 32 := Scalar.extui v40
  let c0_i32_16 : BitVec 32 := 0#32
  let v42 : BitVec 1 := Scalar.cmpi .slt c2_i32_12 c0_i32_16
  let v43 : BitVec 32 := Scalar.extui v42
  let v44 : BitVec 32 := Scalar.subi v41 v43
  let v45 : BitVec 1 := Scalar.cmpi .ne v39 v44
  let v46 : BitVec 32 := Scalar.remsi v33 c2_i32_12
  let c0_i32_17 : BitVec 32 := 0#32
  let v47 : BitVec 1 := Scalar.cmpi .ne v46 c0_i32_17
  let v48 : BitVec 1 := Scalar.andi v45 v47
  let v34 : BitVec 32 := Scalar.divsi v33 c2_i32_12
  let c1_i32_18 : BitVec 32 := 1#32
  let v49 : BitVec 32 := Scalar.subi v34 c1_i32_18
  let v50 : BitVec 32 := Scalar.select v48 v49 v34
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v51 : BitVec 1 := Scalar.cmpi .ne v50 v2
  let v52 : BitVec 32 := Scalar.extui v51
  let c0_i32_19 : BitVec 32 := 0#32
  let v53 : BitVec 1 := Scalar.cmpi .ne v52 c0_i32_19
  v53

def k0_chk2 (d0 : Dev nD) (v33 : BitVec 32) : Prop :=
  (∀ (k0_h2 : k0_cond2 d0 v33 = 1#1), (k0_dev2 v33) < nD)
theorem k0_dev2_lt : ∀ (d0 : Dev nD) (v33 : BitVec 32) (k0_hw2 : k0_chk2 d0 v33), ∀ (k0_h2 : k0_cond2 d0 v33 = 1#1), (k0_dev2 v33) < nD := fun d0 v33 k0_hw2 k0_h2 => k0_hw2 k0_h2

def k0_off3 (d0 : Dev nD) : Fin 2 → Nat :=
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let c2_i32_20 : BitVec 32 := 2#32
  let v54 : BitVec 32 := Scalar.addi v5 c2_i32_20
  let v55 : Index := Scalar.indexCast v54
  let c0_21 : Index := 0#32
  ![v55.toNat, 0]
def k0_dev3 (v56 : BitVec 32) : Nat :=
  let c0_i32_342 : BitVec 32 := 0#32
  let c0_i32_23 : BitVec 32 := 0#32
  let v58 : BitVec 1 := Scalar.cmpi .sgt v56 c0_i32_23
  let v59 : BitVec 32 := Scalar.extui v58
  let c0_i32_24 : BitVec 32 := 0#32
  let v60 : BitVec 1 := Scalar.cmpi .slt v56 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v56 c2_i32_22
  let c0_i32_27 : BitVec 32 := 0#32
  let v70 : BitVec 1 := Scalar.cmpi .ne v69 c0_i32_27
  let v71 : BitVec 1 := Scalar.andi v68 v70
  let v57 : BitVec 32 := Scalar.divsi v56 c2_i32_22
  let c1_i32_28 : BitVec 32 := 1#32
  let v72 : BitVec 32 := Scalar.subi v57 c1_i32_28
  let v73 : BitVec 32 := Scalar.select v71 v72 v57
  let c1_i32_341 : BitVec 32 := 1#32
  let v671 : BitVec 32 := Scalar.muli v73 c1_i32_341
  let v672 : BitVec 32 := Scalar.addi c0_i32_342 v671
  v672.toNat
def k0_cond3 (d0 : Dev nD) (v56 : BitVec 32) : BitVec 1 :=
  let c0_i32_23 : BitVec 32 := 0#32
  let v58 : BitVec 1 := Scalar.cmpi .sgt v56 c0_i32_23
  let v59 : BitVec 32 := Scalar.extui v58
  let c0_i32_24 : BitVec 32 := 0#32
  let v60 : BitVec 1 := Scalar.cmpi .slt v56 c0_i32_24
  let v61 : BitVec 32 := Scalar.extui v60
  let v62 : BitVec 32 := Scalar.subi v59 v61
  let c2_i32_22 : BitVec 32 := 2#32
  let c0_i32_25 : BitVec 32 := 0#32
  let v63 : BitVec 1 := Scalar.cmpi .sgt c2_i32_22 c0_i32_25
  let v64 : BitVec 32 := Scalar.extui v63
  let c0_i32_26 : BitVec 32 := 0#32
  let v65 : BitVec 1 := Scalar.cmpi .slt c2_i32_22 c0_i32_26
  let v66 : BitVec 32 := Scalar.extui v65
  let v67 : BitVec 32 := Scalar.subi v64 v66
  let v68 : BitVec 1 := Scalar.cmpi .ne v62 v67
  let v69 : BitVec 32 := Scalar.remsi v56 c2_i32_22
  let c0_i32_27 : BitVec 32 := 0#32
  let v70 : BitVec 1 := Scalar.cmpi .ne v69 c0_i32_27
  let v71 : BitVec 1 := Scalar.andi v68 v70
  let v57 : BitVec 32 := Scalar.divsi v56 c2_i32_22
  let c1_i32_28 : BitVec 32 := 1#32
  let v72 : BitVec 32 := Scalar.subi v57 c1_i32_28
  let v73 : BitVec 32 := Scalar.select v71 v72 v57
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v74 : BitVec 1 := Scalar.cmpi .ne v73 v2
  let v75 : BitVec 32 := Scalar.extui v74
  let c0_i32_29 : BitVec 32 := 0#32
  let v76 : BitVec 1 := Scalar.cmpi .ne v75 c0_i32_29
  v76

def k0_chk3 (d0 : Dev nD) (v56 : BitVec 32) : Prop :=
  (∀ (k0_h3 : k0_cond3 d0 v56 = 1#1), (k0_dev3 v56) < nD)
theorem k0_dev3_lt : ∀ (d0 : Dev nD) (v56 : BitVec 32) (k0_hw3 : k0_chk3 d0 v56), ∀ (k0_h3 : k0_cond3 d0 v56 = 1#1), (k0_dev3 v56) < nD := fun d0 v56 k0_hw3 k0_h3 => k0_hw3 k0_h3

def k0_off4 (d0 : Dev nD) : Fin 2 → Nat :=
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let c3_i32 : BitVec 32 := 3#32
  let v77 : BitVec 32 := Scalar.addi v5 c3_i32
  let v78 : Index := Scalar.indexCast v77
  let c0_30 : Index := 0#32
  ![v78.toNat, 0]
def k0_dev4 (v79 : BitVec 32) : Nat :=
  let c0_i32_342 : BitVec 32 := 0#32
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c2_i32_31 : BitVec 32 := 2#32
  let c0_i32_34 : BitVec 32 := 0#32
  let v86 : BitVec 1 := Scalar.cmpi .sgt c2_i32_31 c0_i32_34
  let v87 : BitVec 32 := Scalar.extui v86
  let c0_i32_35 : BitVec 32 := 0#32
  let v88 : BitVec 1 := Scalar.cmpi .slt c2_i32_31 c0_i32_35
  let v89 : BitVec 32 := Scalar.extui v88
  let v90 : BitVec 32 := Scalar.subi v87 v89
  let v91 : BitVec 1 := Scalar.cmpi .ne v85 v90
  let v92 : BitVec 32 := Scalar.remsi v79 c2_i32_31
  let c0_i32_36 : BitVec 32 := 0#32
  let v93 : BitVec 1 := Scalar.cmpi .ne v92 c0_i32_36
  let v94 : BitVec 1 := Scalar.andi v91 v93
  let v80 : BitVec 32 := Scalar.divsi v79 c2_i32_31
  let c1_i32_37 : BitVec 32 := 1#32
  let v95 : BitVec 32 := Scalar.subi v80 c1_i32_37
  let v96 : BitVec 32 := Scalar.select v94 v95 v80
  let c1_i32_341 : BitVec 32 := 1#32
  let v671 : BitVec 32 := Scalar.muli v96 c1_i32_341
  let v672 : BitVec 32 := Scalar.addi c0_i32_342 v671
  v672.toNat
def k0_cond4 (d0 : Dev nD) (v79 : BitVec 32) : BitVec 1 :=
  let c0_i32_32 : BitVec 32 := 0#32
  let v81 : BitVec 1 := Scalar.cmpi .sgt v79 c0_i32_32
  let v82 : BitVec 32 := Scalar.extui v81
  let c0_i32_33 : BitVec 32 := 0#32
  let v83 : BitVec 1 := Scalar.cmpi .slt v79 c0_i32_33
  let v84 : BitVec 32 := Scalar.extui v83
  let v85 : BitVec 32 := Scalar.subi v82 v84
  let c2_i32_31 : BitVec 32 := 2#32
  let c0_i32_34 : BitVec 32 := 0#32
  let v86 : BitVec 1 := Scalar.cmpi .sgt c2_i32_31 c0_i32_34
  let v87 : BitVec 32 := Scalar.extui v86
  let c0_i32_35 : BitVec 32 := 0#32
  let v88 : BitVec 1 := Scalar.cmpi .slt c2_i32_31 c0_i32_35
  let v89 : BitVec 32 := Scalar.extui v88
  let v90 : BitVec 32 := Scalar.subi v87 v89
  let v91 : BitVec 1 := Scalar.cmpi .ne v85 v90
  let v92 : BitVec 32 := Scalar.remsi v79 c2_i32_31
  let c0_i32_36 : BitVec 32 := 0#32
  let v93 : BitVec 1 := Scalar.cmpi .ne v92 c0_i32_36
  let v94 : BitVec 1 := Scalar.andi v91 v93
  let v80 : BitVec 32 := Scalar.divsi v79 c2_i32_31
  let c1_i32_37 : BitVec 32 := 1#32
  let v95 : BitVec 32 := Scalar.subi v80 c1_i32_37
  let v96 : BitVec 32 := Scalar.select v94 v95 v80
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v97 : BitVec 1 := Scalar.cmpi .ne v96 v2
  let v98 : BitVec 32 := Scalar.extui v97
  let c0_i32_38 : BitVec 32 := 0#32
  let v99 : BitVec 1 := Scalar.cmpi .ne v98 c0_i32_38
  v99

def k0_chk4 (d0 : Dev nD) (v79 : BitVec 32) : Prop :=
  (∀ (k0_h4 : k0_cond4 d0 v79 = 1#1), (k0_dev4 v79) < nD)
theorem k0_dev4_lt : ∀ (d0 : Dev nD) (v79 : BitVec 32) (k0_hw4 : k0_chk4 d0 v79), ∀ (k0_h4 : k0_cond4 d0 v79 = 1#1), (k0_dev4 v79) < nD := fun d0 v79 k0_hw4 k0_h4 => k0_hw4 k0_h4

def k0_off5 (d0 : Dev nD) : Fin 2 → Nat :=
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let c4_i32 : BitVec 32 := 4#32
  let v100 : BitVec 32 := Scalar.addi v5 c4_i32
  let v101 : Index := Scalar.indexCast v100
  let c0_39 : Index := 0#32
  ![v101.toNat, 0]
def k0_dev5 (v102 : BitVec 32) : Nat :=
  let c0_i32_342 : BitVec 32 := 0#32
  let c0_i32_41 : BitVec 32 := 0#32
  let v104 : BitVec 1 := Scalar.cmpi .sgt v102 c0_i32_41
  let v105 : BitVec 32 := Scalar.extui v104
  let c0_i32_42 : BitVec 32 := 0#32
  let v106 : BitVec 1 := Scalar.cmpi .slt v102 c0_i32_42
  let v107 : BitVec 32 := Scalar.extui v106
  let v108 : BitVec 32 := Scalar.subi v105 v107
  let c2_i32_40 : BitVec 32 := 2#32
  let c0_i32_43 : BitVec 32 := 0#32
  let v109 : BitVec 1 := Scalar.cmpi .sgt c2_i32_40 c0_i32_43
  let v110 : BitVec 32 := Scalar.extui v109
  let c0_i32_44 : BitVec 32 := 0#32
  let v111 : BitVec 1 := Scalar.cmpi .slt c2_i32_40 c0_i32_44
  let v112 : BitVec 32 := Scalar.extui v111
  let v113 : BitVec 32 := Scalar.subi v110 v112
  let v114 : BitVec 1 := Scalar.cmpi .ne v108 v113
  let v115 : BitVec 32 := Scalar.remsi v102 c2_i32_40
  let c0_i32_45 : BitVec 32 := 0#32
  let v116 : BitVec 1 := Scalar.cmpi .ne v115 c0_i32_45
  let v117 : BitVec 1 := Scalar.andi v114 v116
  let v103 : BitVec 32 := Scalar.divsi v102 c2_i32_40
  let c1_i32_46 : BitVec 32 := 1#32
  let v118 : BitVec 32 := Scalar.subi v103 c1_i32_46
  let v119 : BitVec 32 := Scalar.select v117 v118 v103
  let c1_i32_341 : BitVec 32 := 1#32
  let v671 : BitVec 32 := Scalar.muli v119 c1_i32_341
  let v672 : BitVec 32 := Scalar.addi c0_i32_342 v671
  v672.toNat
def k0_cond5 (d0 : Dev nD) (v102 : BitVec 32) : BitVec 1 :=
  let c0_i32_41 : BitVec 32 := 0#32
  let v104 : BitVec 1 := Scalar.cmpi .sgt v102 c0_i32_41
  let v105 : BitVec 32 := Scalar.extui v104
  let c0_i32_42 : BitVec 32 := 0#32
  let v106 : BitVec 1 := Scalar.cmpi .slt v102 c0_i32_42
  let v107 : BitVec 32 := Scalar.extui v106
  let v108 : BitVec 32 := Scalar.subi v105 v107
  let c2_i32_40 : BitVec 32 := 2#32
  let c0_i32_43 : BitVec 32 := 0#32
  let v109 : BitVec 1 := Scalar.cmpi .sgt c2_i32_40 c0_i32_43
  let v110 : BitVec 32 := Scalar.extui v109
  let c0_i32_44 : BitVec 32 := 0#32
  let v111 : BitVec 1 := Scalar.cmpi .slt c2_i32_40 c0_i32_44
  let v112 : BitVec 32 := Scalar.extui v111
  let v113 : BitVec 32 := Scalar.subi v110 v112
  let v114 : BitVec 1 := Scalar.cmpi .ne v108 v113
  let v115 : BitVec 32 := Scalar.remsi v102 c2_i32_40
  let c0_i32_45 : BitVec 32 := 0#32
  let v116 : BitVec 1 := Scalar.cmpi .ne v115 c0_i32_45
  let v117 : BitVec 1 := Scalar.andi v114 v116
  let v103 : BitVec 32 := Scalar.divsi v102 c2_i32_40
  let c1_i32_46 : BitVec 32 := 1#32
  let v118 : BitVec 32 := Scalar.subi v103 c1_i32_46
  let v119 : BitVec 32 := Scalar.select v117 v118 v103
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v120 : BitVec 1 := Scalar.cmpi .ne v119 v2
  let v121 : BitVec 32 := Scalar.extui v120
  let c0_i32_47 : BitVec 32 := 0#32
  let v122 : BitVec 1 := Scalar.cmpi .ne v121 c0_i32_47
  v122

def k0_chk5 (d0 : Dev nD) (v102 : BitVec 32) : Prop :=
  (∀ (k0_h5 : k0_cond5 d0 v102 = 1#1), (k0_dev5 v102) < nD)
theorem k0_dev5_lt : ∀ (d0 : Dev nD) (v102 : BitVec 32) (k0_hw5 : k0_chk5 d0 v102), ∀ (k0_h5 : k0_cond5 d0 v102 = 1#1), (k0_dev5 v102) < nD := fun d0 v102 k0_hw5 k0_h5 => k0_hw5 k0_h5

def k0_off6 (d0 : Dev nD) : Fin 2 → Nat :=
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let c5_i32 : BitVec 32 := 5#32
  let v123 : BitVec 32 := Scalar.addi v5 c5_i32
  let v124 : Index := Scalar.indexCast v123
  let c0_48 : Index := 0#32
  ![v124.toNat, 0]
def k0_dev6 (v125 : BitVec 32) : Nat :=
  let c0_i32_342 : BitVec 32 := 0#32
  let c0_i32_50 : BitVec 32 := 0#32
  let v127 : BitVec 1 := Scalar.cmpi .sgt v125 c0_i32_50
  let v128 : BitVec 32 := Scalar.extui v127
  let c0_i32_51 : BitVec 32 := 0#32
  let v129 : BitVec 1 := Scalar.cmpi .slt v125 c0_i32_51
  let v130 : BitVec 32 := Scalar.extui v129
  let v131 : BitVec 32 := Scalar.subi v128 v130
  let c2_i32_49 : BitVec 32 := 2#32
  let c0_i32_52 : BitVec 32 := 0#32
  let v132 : BitVec 1 := Scalar.cmpi .sgt c2_i32_49 c0_i32_52
  let v133 : BitVec 32 := Scalar.extui v132
  let c0_i32_53 : BitVec 32 := 0#32
  let v134 : BitVec 1 := Scalar.cmpi .slt c2_i32_49 c0_i32_53
  let v135 : BitVec 32 := Scalar.extui v134
  let v136 : BitVec 32 := Scalar.subi v133 v135
  let v137 : BitVec 1 := Scalar.cmpi .ne v131 v136
  let v138 : BitVec 32 := Scalar.remsi v125 c2_i32_49
  let c0_i32_54 : BitVec 32 := 0#32
  let v139 : BitVec 1 := Scalar.cmpi .ne v138 c0_i32_54
  let v140 : BitVec 1 := Scalar.andi v137 v139
  let v126 : BitVec 32 := Scalar.divsi v125 c2_i32_49
  let c1_i32_55 : BitVec 32 := 1#32
  let v141 : BitVec 32 := Scalar.subi v126 c1_i32_55
  let v142 : BitVec 32 := Scalar.select v140 v141 v126
  let c1_i32_341 : BitVec 32 := 1#32
  let v671 : BitVec 32 := Scalar.muli v142 c1_i32_341
  let v672 : BitVec 32 := Scalar.addi c0_i32_342 v671
  v672.toNat
def k0_cond6 (d0 : Dev nD) (v125 : BitVec 32) : BitVec 1 :=
  let c0_i32_50 : BitVec 32 := 0#32
  let v127 : BitVec 1 := Scalar.cmpi .sgt v125 c0_i32_50
  let v128 : BitVec 32 := Scalar.extui v127
  let c0_i32_51 : BitVec 32 := 0#32
  let v129 : BitVec 1 := Scalar.cmpi .slt v125 c0_i32_51
  let v130 : BitVec 32 := Scalar.extui v129
  let v131 : BitVec 32 := Scalar.subi v128 v130
  let c2_i32_49 : BitVec 32 := 2#32
  let c0_i32_52 : BitVec 32 := 0#32
  let v132 : BitVec 1 := Scalar.cmpi .sgt c2_i32_49 c0_i32_52
  let v133 : BitVec 32 := Scalar.extui v132
  let c0_i32_53 : BitVec 32 := 0#32
  let v134 : BitVec 1 := Scalar.cmpi .slt c2_i32_49 c0_i32_53
  let v135 : BitVec 32 := Scalar.extui v134
  let v136 : BitVec 32 := Scalar.subi v133 v135
  let v137 : BitVec 1 := Scalar.cmpi .ne v131 v136
  let v138 : BitVec 32 := Scalar.remsi v125 c2_i32_49
  let c0_i32_54 : BitVec 32 := 0#32
  let v139 : BitVec 1 := Scalar.cmpi .ne v138 c0_i32_54
  let v140 : BitVec 1 := Scalar.andi v137 v139
  let v126 : BitVec 32 := Scalar.divsi v125 c2_i32_49
  let c1_i32_55 : BitVec 32 := 1#32
  let v141 : BitVec 32 := Scalar.subi v126 c1_i32_55
  let v142 : BitVec 32 := Scalar.select v140 v141 v126
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v143 : BitVec 1 := Scalar.cmpi .ne v142 v2
  let v144 : BitVec 32 := Scalar.extui v143
  let c0_i32_56 : BitVec 32 := 0#32
  let v145 : BitVec 1 := Scalar.cmpi .ne v144 c0_i32_56
  v145

def k0_chk6 (d0 : Dev nD) (v125 : BitVec 32) : Prop :=
  (∀ (k0_h6 : k0_cond6 d0 v125 = 1#1), (k0_dev6 v125) < nD)
theorem k0_dev6_lt : ∀ (d0 : Dev nD) (v125 : BitVec 32) (k0_hw6 : k0_chk6 d0 v125), ∀ (k0_h6 : k0_cond6 d0 v125 = 1#1), (k0_dev6 v125) < nD := fun d0 v125 k0_hw6 k0_h6 => k0_hw6 k0_h6

def k0_off7 (d0 : Dev nD) : Fin 2 → Nat :=
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let c6_i32 : BitVec 32 := 6#32
  let v146 : BitVec 32 := Scalar.addi v5 c6_i32
  let v147 : Index := Scalar.indexCast v146
  let c0_57 : Index := 0#32
  ![v147.toNat, 0]
def k0_dev7 (v148 : BitVec 32) : Nat :=
  let c0_i32_342 : BitVec 32 := 0#32
  let c0_i32_59 : BitVec 32 := 0#32
  let v150 : BitVec 1 := Scalar.cmpi .sgt v148 c0_i32_59
  let v151 : BitVec 32 := Scalar.extui v150
  let c0_i32_60 : BitVec 32 := 0#32
  let v152 : BitVec 1 := Scalar.cmpi .slt v148 c0_i32_60
  let v153 : BitVec 32 := Scalar.extui v152
  let v154 : BitVec 32 := Scalar.subi v151 v153
  let c2_i32_58 : BitVec 32 := 2#32
  let c0_i32_61 : BitVec 32 := 0#32
  let v155 : BitVec 1 := Scalar.cmpi .sgt c2_i32_58 c0_i32_61
  let v156 : BitVec 32 := Scalar.extui v155
  let c0_i32_62 : BitVec 32 := 0#32
  let v157 : BitVec 1 := Scalar.cmpi .slt c2_i32_58 c0_i32_62
  let v158 : BitVec 32 := Scalar.extui v157
  let v159 : BitVec 32 := Scalar.subi v156 v158
  let v160 : BitVec 1 := Scalar.cmpi .ne v154 v159
  let v161 : BitVec 32 := Scalar.remsi v148 c2_i32_58
  let c0_i32_63 : BitVec 32 := 0#32
  let v162 : BitVec 1 := Scalar.cmpi .ne v161 c0_i32_63
  let v163 : BitVec 1 := Scalar.andi v160 v162
  let v149 : BitVec 32 := Scalar.divsi v148 c2_i32_58
  let c1_i32_64 : BitVec 32 := 1#32
  let v164 : BitVec 32 := Scalar.subi v149 c1_i32_64
  let v165 : BitVec 32 := Scalar.select v163 v164 v149
  let c1_i32_341 : BitVec 32 := 1#32
  let v671 : BitVec 32 := Scalar.muli v165 c1_i32_341
  let v672 : BitVec 32 := Scalar.addi c0_i32_342 v671
  v672.toNat
def k0_cond7 (d0 : Dev nD) (v148 : BitVec 32) : BitVec 1 :=
  let c0_i32_59 : BitVec 32 := 0#32
  let v150 : BitVec 1 := Scalar.cmpi .sgt v148 c0_i32_59
  let v151 : BitVec 32 := Scalar.extui v150
  let c0_i32_60 : BitVec 32 := 0#32
  let v152 : BitVec 1 := Scalar.cmpi .slt v148 c0_i32_60
  let v153 : BitVec 32 := Scalar.extui v152
  let v154 : BitVec 32 := Scalar.subi v151 v153
  let c2_i32_58 : BitVec 32 := 2#32
  let c0_i32_61 : BitVec 32 := 0#32
  let v155 : BitVec 1 := Scalar.cmpi .sgt c2_i32_58 c0_i32_61
  let v156 : BitVec 32 := Scalar.extui v155
  let c0_i32_62 : BitVec 32 := 0#32
  let v157 : BitVec 1 := Scalar.cmpi .slt c2_i32_58 c0_i32_62
  let v158 : BitVec 32 := Scalar.extui v157
  let v159 : BitVec 32 := Scalar.subi v156 v158
  let v160 : BitVec 1 := Scalar.cmpi .ne v154 v159
  let v161 : BitVec 32 := Scalar.remsi v148 c2_i32_58
  let c0_i32_63 : BitVec 32 := 0#32
  let v162 : BitVec 1 := Scalar.cmpi .ne v161 c0_i32_63
  let v163 : BitVec 1 := Scalar.andi v160 v162
  let v149 : BitVec 32 := Scalar.divsi v148 c2_i32_58
  let c1_i32_64 : BitVec 32 := 1#32
  let v164 : BitVec 32 := Scalar.subi v149 c1_i32_64
  let v165 : BitVec 32 := Scalar.select v163 v164 v149
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v166 : BitVec 1 := Scalar.cmpi .ne v165 v2
  let v167 : BitVec 32 := Scalar.extui v166
  let c0_i32_65 : BitVec 32 := 0#32
  let v168 : BitVec 1 := Scalar.cmpi .ne v167 c0_i32_65
  v168

def k0_chk7 (d0 : Dev nD) (v148 : BitVec 32) : Prop :=
  (∀ (k0_h7 : k0_cond7 d0 v148 = 1#1), (k0_dev7 v148) < nD)
theorem k0_dev7_lt : ∀ (d0 : Dev nD) (v148 : BitVec 32) (k0_hw7 : k0_chk7 d0 v148), ∀ (k0_h7 : k0_cond7 d0 v148 = 1#1), (k0_dev7 v148) < nD := fun d0 v148 k0_hw7 k0_h7 => k0_hw7 k0_h7

def k0_off8 (d0 : Dev nD) : Fin 2 → Nat :=
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let c7_i32 : BitVec 32 := 7#32
  let v169 : BitVec 32 := Scalar.addi v5 c7_i32
  let v170 : Index := Scalar.indexCast v169
  let c0_66 : Index := 0#32
  ![v170.toNat, 0]
def k0_dev8 (v171 : BitVec 32) : Nat :=
  let c0_i32_342 : BitVec 32 := 0#32
  let c0_i32_68 : BitVec 32 := 0#32
  let v173 : BitVec 1 := Scalar.cmpi .sgt v171 c0_i32_68
  let v174 : BitVec 32 := Scalar.extui v173
  let c0_i32_69 : BitVec 32 := 0#32
  let v175 : BitVec 1 := Scalar.cmpi .slt v171 c0_i32_69
  let v176 : BitVec 32 := Scalar.extui v175
  let v177 : BitVec 32 := Scalar.subi v174 v176
  let c2_i32_67 : BitVec 32 := 2#32
  let c0_i32_70 : BitVec 32 := 0#32
  let v178 : BitVec 1 := Scalar.cmpi .sgt c2_i32_67 c0_i32_70
  let v179 : BitVec 32 := Scalar.extui v178
  let c0_i32_71 : BitVec 32 := 0#32
  let v180 : BitVec 1 := Scalar.cmpi .slt c2_i32_67 c0_i32_71
  let v181 : BitVec 32 := Scalar.extui v180
  let v182 : BitVec 32 := Scalar.subi v179 v181
  let v183 : BitVec 1 := Scalar.cmpi .ne v177 v182
  let v184 : BitVec 32 := Scalar.remsi v171 c2_i32_67
  let c0_i32_72 : BitVec 32 := 0#32
  let v185 : BitVec 1 := Scalar.cmpi .ne v184 c0_i32_72
  let v186 : BitVec 1 := Scalar.andi v183 v185
  let v172 : BitVec 32 := Scalar.divsi v171 c2_i32_67
  let c1_i32_73 : BitVec 32 := 1#32
  let v187 : BitVec 32 := Scalar.subi v172 c1_i32_73
  let v188 : BitVec 32 := Scalar.select v186 v187 v172
  let c1_i32_341 : BitVec 32 := 1#32
  let v671 : BitVec 32 := Scalar.muli v188 c1_i32_341
  let v672 : BitVec 32 := Scalar.addi c0_i32_342 v671
  v672.toNat
def k0_cond8 (d0 : Dev nD) (v171 : BitVec 32) : BitVec 1 :=
  let c0_i32_68 : BitVec 32 := 0#32
  let v173 : BitVec 1 := Scalar.cmpi .sgt v171 c0_i32_68
  let v174 : BitVec 32 := Scalar.extui v173
  let c0_i32_69 : BitVec 32 := 0#32
  let v175 : BitVec 1 := Scalar.cmpi .slt v171 c0_i32_69
  let v176 : BitVec 32 := Scalar.extui v175
  let v177 : BitVec 32 := Scalar.subi v174 v176
  let c2_i32_67 : BitVec 32 := 2#32
  let c0_i32_70 : BitVec 32 := 0#32
  let v178 : BitVec 1 := Scalar.cmpi .sgt c2_i32_67 c0_i32_70
  let v179 : BitVec 32 := Scalar.extui v178
  let c0_i32_71 : BitVec 32 := 0#32
  let v180 : BitVec 1 := Scalar.cmpi .slt c2_i32_67 c0_i32_71
  let v181 : BitVec 32 := Scalar.extui v180
  let v182 : BitVec 32 := Scalar.subi v179 v181
  let v183 : BitVec 1 := Scalar.cmpi .ne v177 v182
  let v184 : BitVec 32 := Scalar.remsi v171 c2_i32_67
  let c0_i32_72 : BitVec 32 := 0#32
  let v185 : BitVec 1 := Scalar.cmpi .ne v184 c0_i32_72
  let v186 : BitVec 1 := Scalar.andi v183 v185
  let v172 : BitVec 32 := Scalar.divsi v171 c2_i32_67
  let c1_i32_73 : BitVec 32 := 1#32
  let v187 : BitVec 32 := Scalar.subi v172 c1_i32_73
  let v188 : BitVec 32 := Scalar.select v186 v187 v172
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v189 : BitVec 1 := Scalar.cmpi .ne v188 v2
  let v190 : BitVec 32 := Scalar.extui v189
  let c0_i32_74 : BitVec 32 := 0#32
  let v191 : BitVec 1 := Scalar.cmpi .ne v190 c0_i32_74
  v191

def k0_chk8 (d0 : Dev nD) (v171 : BitVec 32) : Prop :=
  (∀ (k0_h8 : k0_cond8 d0 v171 = 1#1), (k0_dev8 v171) < nD)
theorem k0_dev8_lt : ∀ (d0 : Dev nD) (v171 : BitVec 32) (k0_hw8 : k0_chk8 d0 v171), ∀ (k0_h8 : k0_cond8 d0 v171 = 1#1), (k0_dev8 v171) < nD := fun d0 v171 k0_hw8 k0_h8 => k0_hw8 k0_h8

@[reducible] def k0_t1_loop : Scf.Loop 32 :=
  let c0_i32_75 : BitVec 32 := 0#32
  let c64_i32 : BitVec 32 := 64#32
  let v192 : BitVec 32 := Scalar.addi c0_i32_75 c64_i32
  let c1_i32_76 : BitVec 32 := 1#32
  ⟨c0_i32_75, v192, c1_i32_76⟩
def k0_off9 (k0_t1 : Fin k0_t1_loop.trips) : Fin 1 → Nat :=
  let c0_i32_75 : BitVec 32 := 0#32
  let c1_i32_76 : BitVec 32 := 1#32
  let arg11 : BitVec 32 := Scf.iv c0_i32_75 c1_i32_76 k0_t1
  let v671 : Index := Scalar.indexCast arg11
  ![v671.toNat]
@[reducible] def k0_t2_loop : Scf.Loop 32 :=
  let c0_i32_86 : BitVec 32 := 0#32
  let c256_i32_87 : BitVec 32 := 256#32
  let v200 : BitVec 32 := Scalar.addi c0_i32_86 c256_i32_87
  let c1_i32_88 : BitVec 32 := 1#32
  ⟨c0_i32_86, v200, c1_i32_88⟩
def k0_off10 (k0_t2 : Fin k0_t2_loop.trips) : Fin 2 → Nat :=
  let c0_i32_86 : BitVec 32 := 0#32
  let c1_i32_88 : BitVec 32 := 1#32
  let arg11 : BitVec 32 := Scf.iv c0_i32_86 c1_i32_88 k0_t2
  let v671 : Index := Scalar.indexCast arg11
  let c0_340 : Index := 0#32
  ![v671.toNat, 0]
def k0_off11 (v672 : BitVec 32) : Fin 1 → Nat :=
  let v673 : Index := Scalar.indexCast v672
  ![v673.toNat]

def k0_chk9 (v672 : BitVec 32) : Prop :=
  (∀ a, (k0_off11 v672) a + S1.size a ≤ S64.size a)
theorem k0_off11_inb : ∀ (v672 : BitVec 32) (k0_hw9 : k0_chk9 v672), ∀ a, (k0_off11 v672) a + S1.size a ≤ S64.size a := fun v672 k0_hw9 => k0_hw9

def k0_off12 (d0 : Dev nD) (v672 : BitVec 32) (v674 : BitVec 32) : Fin 1 → Nat :=
  let c2_i32 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : BitVec 32 := Scalar.muli c2_i32 v2
  let v697 : BitVec 32 := Scalar.subi v672 v3
  let c3_i32_345 : BitVec 32 := 3#32
  let v698 : BitVec 32 := Scalar.muli v697 c3_i32_345
  let v699 : BitVec 32 := Scalar.addi v698 v674
  let v700 : Index := Scalar.indexCast v699
  ![v700.toNat]
def k0_cond9 (d0 : Dev nD) (v672 : BitVec 32) (v674 : BitVec 32) : BitVec 1 :=
  let c3_i32_341 : BitVec 32 := 3#32
  let v675 : BitVec 1 := Scalar.cmpi .slt v674 c3_i32_341
  let c2_i32 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : BitVec 32 := Scalar.muli c2_i32 v2
  let v680 : BitVec 1 := Scalar.cmpi .sge v672 v3
  let c2_i32_0 : BitVec 32 := 2#32
  let v4 : BitVec 32 := Scalar.addi v3 c2_i32_0
  let v681 : BitVec 1 := Scalar.cmpi .slt v672 v4
  let v682 : BitVec 1 := Scalar.andi v680 v681
  let v683 : BitVec 1 := Scalar.andi v675 v682
  let v684 : BitVec 32 := Scalar.extui v683
  let c0_i32_342 : BitVec 32 := 0#32
  let v685 : BitVec 1 := Scalar.cmpi .ne v684 c0_i32_342
  v685

def k0_chk10 (d0 : Dev nD) (v672 : BitVec 32) (v674 : BitVec 32) : Prop :=
  (∀ (k0_h9 : k0_cond9 d0 v672 v674 = 1#1), ∀ a, (k0_off12 d0 v672 v674) a + S1.size a ≤ S6.size a)
theorem k0_off12_inb : ∀ (d0 : Dev nD) (v672 : BitVec 32) (v674 : BitVec 32) (k0_hw10 : k0_chk10 d0 v672 v674), ∀ (k0_h9 : k0_cond9 d0 v672 v674 = 1#1), ∀ a, (k0_off12 d0 v672 v674) a + S1.size a ≤ S6.size a := fun d0 v672 v674 k0_hw10 k0_h9 => k0_hw10 k0_h9

def k0_cond11 (d0 : Dev nD) (k0_t2 : Fin k0_t2_loop.trips) : BitVec 1 :=
  let c0_i32_86 : BitVec 32 := 0#32
  let c1_i32_88 : BitVec 32 := 1#32
  let arg11 : BitVec 32 := Scf.iv c0_i32_86 c1_i32_88 k0_t2
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let v692 : BitVec 1 := Scalar.cmpi .sge arg11 v5
  let c8_i32_1 : BitVec 32 := 8#32
  let v6 : BitVec 32 := Scalar.addi v5 c8_i32_1
  let v693 : BitVec 1 := Scalar.cmpi .slt arg11 v6
  let v694 : BitVec 1 := Scalar.andi v692 v693
  let v695 : BitVec 32 := Scalar.extui v694
  let c0_i32_344 : BitVec 32 := 0#32
  let v696 : BitVec 1 := Scalar.cmpi .ne v695 c0_i32_344
  v696

def k0_off13 (d0 : Dev nD) (k0_t2 : Fin k0_t2_loop.trips) : Fin 1 → Nat :=
  let c0_i32_86 : BitVec 32 := 0#32
  let c1_i32_88 : BitVec 32 := 1#32
  let arg11 : BitVec 32 := Scf.iv c0_i32_86 c1_i32_88 k0_t2
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let v698 : BitVec 32 := Scalar.subi arg11 v5
  let v699 : Index := Scalar.indexCast v698
  ![v699.toNat]
def k0_off14 (v233 : BitVec 32) : Fin 2 → Nat :=
  let c255_i32 : BitVec 32 := 255#32
  let v239 : BitVec 32 := Scalar.minsi v233 c255_i32
  let v245 : Index := Scalar.indexCast v239
  let c0_123 : Index := 0#32
  ![v245.toNat, 0]

def k0_off15 (v234 : BitVec 32) : Fin 2 → Nat :=
  let c255_i32_118 : BitVec 32 := 255#32
  let v240 : BitVec 32 := Scalar.minsi v234 c255_i32_118
  let v248 : Index := Scalar.indexCast v240
  let c0_124 : Index := 0#32
  ![v248.toNat, 0]

def k0_off16 (v235 : BitVec 32) : Fin 2 → Nat :=
  let c255_i32_119 : BitVec 32 := 255#32
  let v241 : BitVec 32 := Scalar.minsi v235 c255_i32_119
  let v251 : Index := Scalar.indexCast v241
  let c0_125 : Index := 0#32
  ![v251.toNat, 0]

def k0_off17 (v236 : BitVec 32) : Fin 2 → Nat :=
  let c255_i32_120 : BitVec 32 := 255#32
  let v242 : BitVec 32 := Scalar.minsi v236 c255_i32_120
  let v261 : Index := Scalar.indexCast v242
  let c0_132 : Index := 0#32
  ![v261.toNat, 0]

def k0_off18 (v237 : BitVec 32) : Fin 2 → Nat :=
  let c255_i32_121 : BitVec 32 := 255#32
  let v243 : BitVec 32 := Scalar.minsi v237 c255_i32_121
  let v264 : Index := Scalar.indexCast v243
  let c0_133 : Index := 0#32
  ![v264.toNat, 0]

def k0_off19 (v238 : BitVec 32) : Fin 2 → Nat :=
  let c255_i32_122 : BitVec 32 := 255#32
  let v244 : BitVec 32 := Scalar.minsi v238 c255_i32_122
  let v267 : Index := Scalar.indexCast v244
  let c0_134 : Index := 0#32
  ![v267.toNat, 0]

@[reducible] def k0_t3_loop (v277 : BitVec 32) : Scf.Loop 32 :=
  let c0_i32_144 : BitVec 32 := 0#32
  let v278 : BitVec 32 := Scalar.subi v277 c0_i32_144
  let c1_i32_145 : BitVec 32 := 1#32
  let v280 : BitVec 32 := Scalar.divsi v278 c1_i32_145
  let v281 : BitVec 32 := Scalar.muli v280 c1_i32_145
  let v282 : BitVec 32 := Scalar.addi c0_i32_144 v281
  let c1_i32_146 : BitVec 32 := 1#32
  ⟨c0_i32_144, v282, c1_i32_146⟩

@[reducible] def k0_t4_loop (v277 : BitVec 32) : Scf.Loop 32 :=
  let c0_i32_144 : BitVec 32 := 0#32
  let v278 : BitVec 32 := Scalar.subi v277 c0_i32_144
  let c1_i32_145 : BitVec 32 := 1#32
  let v280 : BitVec 32 := Scalar.divsi v278 c1_i32_145
  let v281 : BitVec 32 := Scalar.muli v280 c1_i32_145
  let v282 : BitVec 32 := Scalar.addi c0_i32_144 v281
  let v279 : BitVec 32 := Scalar.addi c0_i32_144 v278
  let c1_i32_147 : BitVec 32 := 1#32
  ⟨v282, v279, c1_i32_147⟩

def k0_chk17 (v277 : BitVec 32) : Prop :=
  ((k0_t3_loop v277).OK) ∧
  ((k0_t4_loop v277).OK)
theorem k0_t3_ok : ∀ (v277 : BitVec 32) (k0_hw17 : k0_chk17 v277), (k0_t3_loop v277).OK := fun v277 k0_hw17 => k0_hw17.1
theorem k0_t4_ok : ∀ (v277 : BitVec 32) (k0_hw17 : k0_chk17 v277), (k0_t4_loop v277).OK := fun v277 k0_hw17 => k0_hw17.2

def k0_off20 (v233 : BitVec 32) : Fin 1 → Nat :=
  let c255_i32 : BitVec 32 := 255#32
  let v239 : BitVec 32 := Scalar.minsi v233 c255_i32
  let c0_i32_150 : BitVec 32 := 0#32
  let v285 : BitVec 1 := Scalar.cmpi .sgt v239 c0_i32_150
  let v286 : BitVec 32 := Scalar.extui v285
  let c0_i32_151 : BitVec 32 := 0#32
  let v287 : BitVec 1 := Scalar.cmpi .slt v239 c0_i32_151
  let v288 : BitVec 32 := Scalar.extui v287
  let v289 : BitVec 32 := Scalar.subi v286 v288
  let c8_i32_149 : BitVec 32 := 8#32
  let c0_i32_152 : BitVec 32 := 0#32
  let v290 : BitVec 1 := Scalar.cmpi .sgt c8_i32_149 c0_i32_152
  let v291 : BitVec 32 := Scalar.extui v290
  let c0_i32_153 : BitVec 32 := 0#32
  let v292 : BitVec 1 := Scalar.cmpi .slt c8_i32_149 c0_i32_153
  let v293 : BitVec 32 := Scalar.extui v292
  let v294 : BitVec 32 := Scalar.subi v291 v293
  let v295 : BitVec 1 := Scalar.cmpi .ne v289 v294
  let v296 : BitVec 32 := Scalar.remsi v239 c8_i32_149
  let c0_i32_154 : BitVec 32 := 0#32
  let v297 : BitVec 1 := Scalar.cmpi .ne v296 c0_i32_154
  let v298 : BitVec 1 := Scalar.andi v295 v297
  let v284 : BitVec 32 := Scalar.divsi v239 c8_i32_149
  let c1_i32_155 : BitVec 32 := 1#32
  let v299 : BitVec 32 := Scalar.subi v284 c1_i32_155
  let v300 : BitVec 32 := Scalar.select v298 v299 v284
  let c8_i32_156 : BitVec 32 := 8#32
  let v301 : BitVec 32 := Scalar.muli v300 c8_i32_156
  let v302 : BitVec 32 := Scalar.subi v239 v301
  ![v302.toNat]
def k0_cond20 (d0 : Dev nD) (v233 : BitVec 32) : BitVec 1 :=
  let c256_i32_148 : BitVec 32 := 256#32
  let v283 : BitVec 1 := Scalar.cmpi .slt v233 c256_i32_148
  let c255_i32 : BitVec 32 := 255#32
  let v239 : BitVec 32 := Scalar.minsi v233 c255_i32
  let c0_i32_150 : BitVec 32 := 0#32
  let v285 : BitVec 1 := Scalar.cmpi .sgt v239 c0_i32_150
  let v286 : BitVec 32 := Scalar.extui v285
  let c0_i32_151 : BitVec 32 := 0#32
  let v287 : BitVec 1 := Scalar.cmpi .slt v239 c0_i32_151
  let v288 : BitVec 32 := Scalar.extui v287
  let v289 : BitVec 32 := Scalar.subi v286 v288
  let c8_i32_149 : BitVec 32 := 8#32
  let c0_i32_152 : BitVec 32 := 0#32
  let v290 : BitVec 1 := Scalar.cmpi .sgt c8_i32_149 c0_i32_152
  let v291 : BitVec 32 := Scalar.extui v290
  let c0_i32_153 : BitVec 32 := 0#32
  let v292 : BitVec 1 := Scalar.cmpi .slt c8_i32_149 c0_i32_153
  let v293 : BitVec 32 := Scalar.extui v292
  let v294 : BitVec 32 := Scalar.subi v291 v293
  let v295 : BitVec 1 := Scalar.cmpi .ne v289 v294
  let v296 : BitVec 32 := Scalar.remsi v239 c8_i32_149
  let c0_i32_154 : BitVec 32 := 0#32
  let v297 : BitVec 1 := Scalar.cmpi .ne v296 c0_i32_154
  let v298 : BitVec 1 := Scalar.andi v295 v297
  let v284 : BitVec 32 := Scalar.divsi v239 c8_i32_149
  let c1_i32_155 : BitVec 32 := 1#32
  let v299 : BitVec 32 := Scalar.subi v284 c1_i32_155
  let v300 : BitVec 32 := Scalar.select v298 v299 v284
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v303 : BitVec 1 := Scalar.cmpi .ne v300 v2
  let v304 : BitVec 1 := Scalar.andi v283 v303
  let v305 : BitVec 32 := Scalar.extui v304
  let c0_i32_159 : BitVec 32 := 0#32
  let v306 : BitVec 1 := Scalar.cmpi .ne v305 c0_i32_159
  v306

def k0_off21 (v233 : BitVec 32) : Fin 2 → Nat :=
  let c255_i32 : BitVec 32 := 255#32
  let v239 : BitVec 32 := Scalar.minsi v233 c255_i32
  let c0_i32_150 : BitVec 32 := 0#32
  let v285 : BitVec 1 := Scalar.cmpi .sgt v239 c0_i32_150
  let v286 : BitVec 32 := Scalar.extui v285
  let c0_i32_151 : BitVec 32 := 0#32
  let v287 : BitVec 1 := Scalar.cmpi .slt v239 c0_i32_151
  let v288 : BitVec 32 := Scalar.extui v287
  let v289 : BitVec 32 := Scalar.subi v286 v288
  let c8_i32_149 : BitVec 32 := 8#32
  let c0_i32_152 : BitVec 32 := 0#32
  let v290 : BitVec 1 := Scalar.cmpi .sgt c8_i32_149 c0_i32_152
  let v291 : BitVec 32 := Scalar.extui v290
  let c0_i32_153 : BitVec 32 := 0#32
  let v292 : BitVec 1 := Scalar.cmpi .slt c8_i32_149 c0_i32_153
  let v293 : BitVec 32 := Scalar.extui v292
  let v294 : BitVec 32 := Scalar.subi v291 v293
  let v295 : BitVec 1 := Scalar.cmpi .ne v289 v294
  let v296 : BitVec 32 := Scalar.remsi v239 c8_i32_149
  let c0_i32_154 : BitVec 32 := 0#32
  let v297 : BitVec 1 := Scalar.cmpi .ne v296 c0_i32_154
  let v298 : BitVec 1 := Scalar.andi v295 v297
  let v284 : BitVec 32 := Scalar.divsi v239 c8_i32_149
  let c1_i32_155 : BitVec 32 := 1#32
  let v299 : BitVec 32 := Scalar.subi v284 c1_i32_155
  let v300 : BitVec 32 := Scalar.select v298 v299 v284
  let c8_i32_156 : BitVec 32 := 8#32
  let v301 : BitVec 32 := Scalar.muli v300 c8_i32_156
  let v302 : BitVec 32 := Scalar.subi v239 v301
  let c0_i32_342 : BitVec 32 := 0#32
  ![v302.toNat, 0]
def k0_dev9 (v233 : BitVec 32) : Nat :=
  let c0_i32_341 : BitVec 32 := 0#32
  let c255_i32 : BitVec 32 := 255#32
  let v239 : BitVec 32 := Scalar.minsi v233 c255_i32
  let c0_i32_150 : BitVec 32 := 0#32
  let v285 : BitVec 1 := Scalar.cmpi .sgt v239 c0_i32_150
  let v286 : BitVec 32 := Scalar.extui v285
  let c0_i32_151 : BitVec 32 := 0#32
  let v287 : BitVec 1 := Scalar.cmpi .slt v239 c0_i32_151
  let v288 : BitVec 32 := Scalar.extui v287
  let v289 : BitVec 32 := Scalar.subi v286 v288
  let c8_i32_149 : BitVec 32 := 8#32
  let c0_i32_152 : BitVec 32 := 0#32
  let v290 : BitVec 1 := Scalar.cmpi .sgt c8_i32_149 c0_i32_152
  let v291 : BitVec 32 := Scalar.extui v290
  let c0_i32_153 : BitVec 32 := 0#32
  let v292 : BitVec 1 := Scalar.cmpi .slt c8_i32_149 c0_i32_153
  let v293 : BitVec 32 := Scalar.extui v292
  let v294 : BitVec 32 := Scalar.subi v291 v293
  let v295 : BitVec 1 := Scalar.cmpi .ne v289 v294
  let v296 : BitVec 32 := Scalar.remsi v239 c8_i32_149
  let c0_i32_154 : BitVec 32 := 0#32
  let v297 : BitVec 1 := Scalar.cmpi .ne v296 c0_i32_154
  let v298 : BitVec 1 := Scalar.andi v295 v297
  let v284 : BitVec 32 := Scalar.divsi v239 c8_i32_149
  let c1_i32_155 : BitVec 32 := 1#32
  let v299 : BitVec 32 := Scalar.subi v284 c1_i32_155
  let v300 : BitVec 32 := Scalar.select v298 v299 v284
  let c1_i32_340 : BitVec 32 := 1#32
  let v671 : BitVec 32 := Scalar.muli v300 c1_i32_340
  let v672 : BitVec 32 := Scalar.addi c0_i32_341 v671
  v672.toNat
def k0_off22 (v233 : BitVec 32) : Fin 2 → Nat :=
  let c255_i32 : BitVec 32 := 255#32
  let v239 : BitVec 32 := Scalar.minsi v233 c255_i32
  let c0_i32_150 : BitVec 32 := 0#32
  let v285 : BitVec 1 := Scalar.cmpi .sgt v239 c0_i32_150
  let v286 : BitVec 32 := Scalar.extui v285
  let c0_i32_151 : BitVec 32 := 0#32
  let v287 : BitVec 1 := Scalar.cmpi .slt v239 c0_i32_151
  let v288 : BitVec 32 := Scalar.extui v287
  let v289 : BitVec 32 := Scalar.subi v286 v288
  let c8_i32_149 : BitVec 32 := 8#32
  let c0_i32_152 : BitVec 32 := 0#32
  let v290 : BitVec 1 := Scalar.cmpi .sgt c8_i32_149 c0_i32_152
  let v291 : BitVec 32 := Scalar.extui v290
  let c0_i32_153 : BitVec 32 := 0#32
  let v292 : BitVec 1 := Scalar.cmpi .slt c8_i32_149 c0_i32_153
  let v293 : BitVec 32 := Scalar.extui v292
  let v294 : BitVec 32 := Scalar.subi v291 v293
  let v295 : BitVec 1 := Scalar.cmpi .ne v289 v294
  let v296 : BitVec 32 := Scalar.remsi v239 c8_i32_149
  let c0_i32_154 : BitVec 32 := 0#32
  let v297 : BitVec 1 := Scalar.cmpi .ne v296 c0_i32_154
  let v298 : BitVec 1 := Scalar.andi v295 v297
  let v284 : BitVec 32 := Scalar.divsi v239 c8_i32_149
  let c1_i32_155 : BitVec 32 := 1#32
  let v299 : BitVec 32 := Scalar.subi v284 c1_i32_155
  let v300 : BitVec 32 := Scalar.select v298 v299 v284
  let c8_i32_156 : BitVec 32 := 8#32
  let v301 : BitVec 32 := Scalar.muli v300 c8_i32_156
  let v302 : BitVec 32 := Scalar.subi v239 v301
  let v673 : Index := Scalar.indexCast v302
  let c0_343 : Index := 0#32
  ![v673.toNat, 0]
def k0_cond21 (d0 : Dev nD) (v233 : BitVec 32) : BitVec 1 :=
  let c256_i32_148 : BitVec 32 := 256#32
  let v283 : BitVec 1 := Scalar.cmpi .slt v233 c256_i32_148
  let c255_i32 : BitVec 32 := 255#32
  let v239 : BitVec 32 := Scalar.minsi v233 c255_i32
  let c0_i32_150 : BitVec 32 := 0#32
  let v285 : BitVec 1 := Scalar.cmpi .sgt v239 c0_i32_150
  let v286 : BitVec 32 := Scalar.extui v285
  let c0_i32_151 : BitVec 32 := 0#32
  let v287 : BitVec 1 := Scalar.cmpi .slt v239 c0_i32_151
  let v288 : BitVec 32 := Scalar.extui v287
  let v289 : BitVec 32 := Scalar.subi v286 v288
  let c8_i32_149 : BitVec 32 := 8#32
  let c0_i32_152 : BitVec 32 := 0#32
  let v290 : BitVec 1 := Scalar.cmpi .sgt c8_i32_149 c0_i32_152
  let v291 : BitVec 32 := Scalar.extui v290
  let c0_i32_153 : BitVec 32 := 0#32
  let v292 : BitVec 1 := Scalar.cmpi .slt c8_i32_149 c0_i32_153
  let v293 : BitVec 32 := Scalar.extui v292
  let v294 : BitVec 32 := Scalar.subi v291 v293
  let v295 : BitVec 1 := Scalar.cmpi .ne v289 v294
  let v296 : BitVec 32 := Scalar.remsi v239 c8_i32_149
  let c0_i32_154 : BitVec 32 := 0#32
  let v297 : BitVec 1 := Scalar.cmpi .ne v296 c0_i32_154
  let v298 : BitVec 1 := Scalar.andi v295 v297
  let v284 : BitVec 32 := Scalar.divsi v239 c8_i32_149
  let c1_i32_155 : BitVec 32 := 1#32
  let v299 : BitVec 32 := Scalar.subi v284 c1_i32_155
  let v300 : BitVec 32 := Scalar.select v298 v299 v284
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v307 : BitVec 1 := Scalar.cmpi .eq v300 v2
  let v308 : BitVec 1 := Scalar.andi v283 v307
  let v309 : BitVec 32 := Scalar.extui v308
  let c0_i32_160 : BitVec 32 := 0#32
  let v310 : BitVec 1 := Scalar.cmpi .ne v309 c0_i32_160
  v310

def k0_off23 (v234 : BitVec 32) : Fin 1 → Nat :=
  let c255_i32_118 : BitVec 32 := 255#32
  let v240 : BitVec 32 := Scalar.minsi v234 c255_i32_118
  let c0_i32_163 : BitVec 32 := 0#32
  let v313 : BitVec 1 := Scalar.cmpi .sgt v240 c0_i32_163
  let v314 : BitVec 32 := Scalar.extui v313
  let c0_i32_164 : BitVec 32 := 0#32
  let v315 : BitVec 1 := Scalar.cmpi .slt v240 c0_i32_164
  let v316 : BitVec 32 := Scalar.extui v315
  let v317 : BitVec 32 := Scalar.subi v314 v316
  let c8_i32_162 : BitVec 32 := 8#32
  let c0_i32_165 : BitVec 32 := 0#32
  let v318 : BitVec 1 := Scalar.cmpi .sgt c8_i32_162 c0_i32_165
  let v319 : BitVec 32 := Scalar.extui v318
  let c0_i32_166 : BitVec 32 := 0#32
  let v320 : BitVec 1 := Scalar.cmpi .slt c8_i32_162 c0_i32_166
  let v321 : BitVec 32 := Scalar.extui v320
  let v322 : BitVec 32 := Scalar.subi v319 v321
  let v323 : BitVec 1 := Scalar.cmpi .ne v317 v322
  let v324 : BitVec 32 := Scalar.remsi v240 c8_i32_162
  let c0_i32_167 : BitVec 32 := 0#32
  let v325 : BitVec 1 := Scalar.cmpi .ne v324 c0_i32_167
  let v326 : BitVec 1 := Scalar.andi v323 v325
  let v312 : BitVec 32 := Scalar.divsi v240 c8_i32_162
  let c1_i32_168 : BitVec 32 := 1#32
  let v327 : BitVec 32 := Scalar.subi v312 c1_i32_168
  let v328 : BitVec 32 := Scalar.select v326 v327 v312
  let c8_i32_169 : BitVec 32 := 8#32
  let v329 : BitVec 32 := Scalar.muli v328 c8_i32_169
  let v330 : BitVec 32 := Scalar.subi v240 v329
  ![v330.toNat]
def k0_cond22 (d0 : Dev nD) (v234 : BitVec 32) : BitVec 1 :=
  let c256_i32_161 : BitVec 32 := 256#32
  let v311 : BitVec 1 := Scalar.cmpi .slt v234 c256_i32_161
  let c255_i32_118 : BitVec 32 := 255#32
  let v240 : BitVec 32 := Scalar.minsi v234 c255_i32_118
  let c0_i32_163 : BitVec 32 := 0#32
  let v313 : BitVec 1 := Scalar.cmpi .sgt v240 c0_i32_163
  let v314 : BitVec 32 := Scalar.extui v313
  let c0_i32_164 : BitVec 32 := 0#32
  let v315 : BitVec 1 := Scalar.cmpi .slt v240 c0_i32_164
  let v316 : BitVec 32 := Scalar.extui v315
  let v317 : BitVec 32 := Scalar.subi v314 v316
  let c8_i32_162 : BitVec 32 := 8#32
  let c0_i32_165 : BitVec 32 := 0#32
  let v318 : BitVec 1 := Scalar.cmpi .sgt c8_i32_162 c0_i32_165
  let v319 : BitVec 32 := Scalar.extui v318
  let c0_i32_166 : BitVec 32 := 0#32
  let v320 : BitVec 1 := Scalar.cmpi .slt c8_i32_162 c0_i32_166
  let v321 : BitVec 32 := Scalar.extui v320
  let v322 : BitVec 32 := Scalar.subi v319 v321
  let v323 : BitVec 1 := Scalar.cmpi .ne v317 v322
  let v324 : BitVec 32 := Scalar.remsi v240 c8_i32_162
  let c0_i32_167 : BitVec 32 := 0#32
  let v325 : BitVec 1 := Scalar.cmpi .ne v324 c0_i32_167
  let v326 : BitVec 1 := Scalar.andi v323 v325
  let v312 : BitVec 32 := Scalar.divsi v240 c8_i32_162
  let c1_i32_168 : BitVec 32 := 1#32
  let v327 : BitVec 32 := Scalar.subi v312 c1_i32_168
  let v328 : BitVec 32 := Scalar.select v326 v327 v312
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v331 : BitVec 1 := Scalar.cmpi .ne v328 v2
  let v332 : BitVec 1 := Scalar.andi v311 v331
  let v333 : BitVec 32 := Scalar.extui v332
  let c0_i32_172 : BitVec 32 := 0#32
  let v334 : BitVec 1 := Scalar.cmpi .ne v333 c0_i32_172
  v334

def k0_off24 (v234 : BitVec 32) : Fin 2 → Nat :=
  let c255_i32_118 : BitVec 32 := 255#32
  let v240 : BitVec 32 := Scalar.minsi v234 c255_i32_118
  let c0_i32_163 : BitVec 32 := 0#32
  let v313 : BitVec 1 := Scalar.cmpi .sgt v240 c0_i32_163
  let v314 : BitVec 32 := Scalar.extui v313
  let c0_i32_164 : BitVec 32 := 0#32
  let v315 : BitVec 1 := Scalar.cmpi .slt v240 c0_i32_164
  let v316 : BitVec 32 := Scalar.extui v315
  let v317 : BitVec 32 := Scalar.subi v314 v316
  let c8_i32_162 : BitVec 32 := 8#32
  let c0_i32_165 : BitVec 32 := 0#32
  let v318 : BitVec 1 := Scalar.cmpi .sgt c8_i32_162 c0_i32_165
  let v319 : BitVec 32 := Scalar.extui v318
  let c0_i32_166 : BitVec 32 := 0#32
  let v320 : BitVec 1 := Scalar.cmpi .slt c8_i32_162 c0_i32_166
  let v321 : BitVec 32 := Scalar.extui v320
  let v322 : BitVec 32 := Scalar.subi v319 v321
  let v323 : BitVec 1 := Scalar.cmpi .ne v317 v322
  let v324 : BitVec 32 := Scalar.remsi v240 c8_i32_162
  let c0_i32_167 : BitVec 32 := 0#32
  let v325 : BitVec 1 := Scalar.cmpi .ne v324 c0_i32_167
  let v326 : BitVec 1 := Scalar.andi v323 v325
  let v312 : BitVec 32 := Scalar.divsi v240 c8_i32_162
  let c1_i32_168 : BitVec 32 := 1#32
  let v327 : BitVec 32 := Scalar.subi v312 c1_i32_168
  let v328 : BitVec 32 := Scalar.select v326 v327 v312
  let c8_i32_169 : BitVec 32 := 8#32
  let v329 : BitVec 32 := Scalar.muli v328 c8_i32_169
  let v330 : BitVec 32 := Scalar.subi v240 v329
  let c0_i32_342 : BitVec 32 := 0#32
  ![v330.toNat, 0]
def k0_dev10 (v234 : BitVec 32) : Nat :=
  let c0_i32_341 : BitVec 32 := 0#32
  let c255_i32_118 : BitVec 32 := 255#32
  let v240 : BitVec 32 := Scalar.minsi v234 c255_i32_118
  let c0_i32_163 : BitVec 32 := 0#32
  let v313 : BitVec 1 := Scalar.cmpi .sgt v240 c0_i32_163
  let v314 : BitVec 32 := Scalar.extui v313
  let c0_i32_164 : BitVec 32 := 0#32
  let v315 : BitVec 1 := Scalar.cmpi .slt v240 c0_i32_164
  let v316 : BitVec 32 := Scalar.extui v315
  let v317 : BitVec 32 := Scalar.subi v314 v316
  let c8_i32_162 : BitVec 32 := 8#32
  let c0_i32_165 : BitVec 32 := 0#32
  let v318 : BitVec 1 := Scalar.cmpi .sgt c8_i32_162 c0_i32_165
  let v319 : BitVec 32 := Scalar.extui v318
  let c0_i32_166 : BitVec 32 := 0#32
  let v320 : BitVec 1 := Scalar.cmpi .slt c8_i32_162 c0_i32_166
  let v321 : BitVec 32 := Scalar.extui v320
  let v322 : BitVec 32 := Scalar.subi v319 v321
  let v323 : BitVec 1 := Scalar.cmpi .ne v317 v322
  let v324 : BitVec 32 := Scalar.remsi v240 c8_i32_162
  let c0_i32_167 : BitVec 32 := 0#32
  let v325 : BitVec 1 := Scalar.cmpi .ne v324 c0_i32_167
  let v326 : BitVec 1 := Scalar.andi v323 v325
  let v312 : BitVec 32 := Scalar.divsi v240 c8_i32_162
  let c1_i32_168 : BitVec 32 := 1#32
  let v327 : BitVec 32 := Scalar.subi v312 c1_i32_168
  let v328 : BitVec 32 := Scalar.select v326 v327 v312
  let c1_i32_340 : BitVec 32 := 1#32
  let v671 : BitVec 32 := Scalar.muli v328 c1_i32_340
  let v672 : BitVec 32 := Scalar.addi c0_i32_341 v671
  v672.toNat
def k0_off25 (v234 : BitVec 32) : Fin 2 → Nat :=
  let c255_i32_118 : BitVec 32 := 255#32
  let v240 : BitVec 32 := Scalar.minsi v234 c255_i32_118
  let c0_i32_163 : BitVec 32 := 0#32
  let v313 : BitVec 1 := Scalar.cmpi .sgt v240 c0_i32_163
  let v314 : BitVec 32 := Scalar.extui v313
  let c0_i32_164 : BitVec 32 := 0#32
  let v315 : BitVec 1 := Scalar.cmpi .slt v240 c0_i32_164
  let v316 : BitVec 32 := Scalar.extui v315
  let v317 : BitVec 32 := Scalar.subi v314 v316
  let c8_i32_162 : BitVec 32 := 8#32
  let c0_i32_165 : BitVec 32 := 0#32
  let v318 : BitVec 1 := Scalar.cmpi .sgt c8_i32_162 c0_i32_165
  let v319 : BitVec 32 := Scalar.extui v318
  let c0_i32_166 : BitVec 32 := 0#32
  let v320 : BitVec 1 := Scalar.cmpi .slt c8_i32_162 c0_i32_166
  let v321 : BitVec 32 := Scalar.extui v320
  let v322 : BitVec 32 := Scalar.subi v319 v321
  let v323 : BitVec 1 := Scalar.cmpi .ne v317 v322
  let v324 : BitVec 32 := Scalar.remsi v240 c8_i32_162
  let c0_i32_167 : BitVec 32 := 0#32
  let v325 : BitVec 1 := Scalar.cmpi .ne v324 c0_i32_167
  let v326 : BitVec 1 := Scalar.andi v323 v325
  let v312 : BitVec 32 := Scalar.divsi v240 c8_i32_162
  let c1_i32_168 : BitVec 32 := 1#32
  let v327 : BitVec 32 := Scalar.subi v312 c1_i32_168
  let v328 : BitVec 32 := Scalar.select v326 v327 v312
  let c8_i32_169 : BitVec 32 := 8#32
  let v329 : BitVec 32 := Scalar.muli v328 c8_i32_169
  let v330 : BitVec 32 := Scalar.subi v240 v329
  let v673 : Index := Scalar.indexCast v330
  let c0_343 : Index := 0#32
  ![v673.toNat, 0]
def k0_cond23 (d0 : Dev nD) (v234 : BitVec 32) : BitVec 1 :=
  let c256_i32_161 : BitVec 32 := 256#32
  let v311 : BitVec 1 := Scalar.cmpi .slt v234 c256_i32_161
  let c255_i32_118 : BitVec 32 := 255#32
  let v240 : BitVec 32 := Scalar.minsi v234 c255_i32_118
  let c0_i32_163 : BitVec 32 := 0#32
  let v313 : BitVec 1 := Scalar.cmpi .sgt v240 c0_i32_163
  let v314 : BitVec 32 := Scalar.extui v313
  let c0_i32_164 : BitVec 32 := 0#32
  let v315 : BitVec 1 := Scalar.cmpi .slt v240 c0_i32_164
  let v316 : BitVec 32 := Scalar.extui v315
  let v317 : BitVec 32 := Scalar.subi v314 v316
  let c8_i32_162 : BitVec 32 := 8#32
  let c0_i32_165 : BitVec 32 := 0#32
  let v318 : BitVec 1 := Scalar.cmpi .sgt c8_i32_162 c0_i32_165
  let v319 : BitVec 32 := Scalar.extui v318
  let c0_i32_166 : BitVec 32 := 0#32
  let v320 : BitVec 1 := Scalar.cmpi .slt c8_i32_162 c0_i32_166
  let v321 : BitVec 32 := Scalar.extui v320
  let v322 : BitVec 32 := Scalar.subi v319 v321
  let v323 : BitVec 1 := Scalar.cmpi .ne v317 v322
  let v324 : BitVec 32 := Scalar.remsi v240 c8_i32_162
  let c0_i32_167 : BitVec 32 := 0#32
  let v325 : BitVec 1 := Scalar.cmpi .ne v324 c0_i32_167
  let v326 : BitVec 1 := Scalar.andi v323 v325
  let v312 : BitVec 32 := Scalar.divsi v240 c8_i32_162
  let c1_i32_168 : BitVec 32 := 1#32
  let v327 : BitVec 32 := Scalar.subi v312 c1_i32_168
  let v328 : BitVec 32 := Scalar.select v326 v327 v312
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v335 : BitVec 1 := Scalar.cmpi .eq v328 v2
  let v336 : BitVec 1 := Scalar.andi v311 v335
  let v337 : BitVec 32 := Scalar.extui v336
  let c0_i32_173 : BitVec 32 := 0#32
  let v338 : BitVec 1 := Scalar.cmpi .ne v337 c0_i32_173
  v338

def k0_off26 (v235 : BitVec 32) : Fin 1 → Nat :=
  let c255_i32_119 : BitVec 32 := 255#32
  let v241 : BitVec 32 := Scalar.minsi v235 c255_i32_119
  let c0_i32_176 : BitVec 32 := 0#32
  let v341 : BitVec 1 := Scalar.cmpi .sgt v241 c0_i32_176
  let v342 : BitVec 32 := Scalar.extui v341
  let c0_i32_177 : BitVec 32 := 0#32
  let v343 : BitVec 1 := Scalar.cmpi .slt v241 c0_i32_177
  let v344 : BitVec 32 := Scalar.extui v343
  let v345 : BitVec 32 := Scalar.subi v342 v344
  let c8_i32_175 : BitVec 32 := 8#32
  let c0_i32_178 : BitVec 32 := 0#32
  let v346 : BitVec 1 := Scalar.cmpi .sgt c8_i32_175 c0_i32_178
  let v347 : BitVec 32 := Scalar.extui v346
  let c0_i32_179 : BitVec 32 := 0#32
  let v348 : BitVec 1 := Scalar.cmpi .slt c8_i32_175 c0_i32_179
  let v349 : BitVec 32 := Scalar.extui v348
  let v350 : BitVec 32 := Scalar.subi v347 v349
  let v351 : BitVec 1 := Scalar.cmpi .ne v345 v350
  let v352 : BitVec 32 := Scalar.remsi v241 c8_i32_175
  let c0_i32_180 : BitVec 32 := 0#32
  let v353 : BitVec 1 := Scalar.cmpi .ne v352 c0_i32_180
  let v354 : BitVec 1 := Scalar.andi v351 v353
  let v340 : BitVec 32 := Scalar.divsi v241 c8_i32_175
  let c1_i32_181 : BitVec 32 := 1#32
  let v355 : BitVec 32 := Scalar.subi v340 c1_i32_181
  let v356 : BitVec 32 := Scalar.select v354 v355 v340
  let c8_i32_182 : BitVec 32 := 8#32
  let v357 : BitVec 32 := Scalar.muli v356 c8_i32_182
  let v358 : BitVec 32 := Scalar.subi v241 v357
  ![v358.toNat]
def k0_cond24 (d0 : Dev nD) (v235 : BitVec 32) : BitVec 1 :=
  let c256_i32_174 : BitVec 32 := 256#32
  let v339 : BitVec 1 := Scalar.cmpi .slt v235 c256_i32_174
  let c255_i32_119 : BitVec 32 := 255#32
  let v241 : BitVec 32 := Scalar.minsi v235 c255_i32_119
  let c0_i32_176 : BitVec 32 := 0#32
  let v341 : BitVec 1 := Scalar.cmpi .sgt v241 c0_i32_176
  let v342 : BitVec 32 := Scalar.extui v341
  let c0_i32_177 : BitVec 32 := 0#32
  let v343 : BitVec 1 := Scalar.cmpi .slt v241 c0_i32_177
  let v344 : BitVec 32 := Scalar.extui v343
  let v345 : BitVec 32 := Scalar.subi v342 v344
  let c8_i32_175 : BitVec 32 := 8#32
  let c0_i32_178 : BitVec 32 := 0#32
  let v346 : BitVec 1 := Scalar.cmpi .sgt c8_i32_175 c0_i32_178
  let v347 : BitVec 32 := Scalar.extui v346
  let c0_i32_179 : BitVec 32 := 0#32
  let v348 : BitVec 1 := Scalar.cmpi .slt c8_i32_175 c0_i32_179
  let v349 : BitVec 32 := Scalar.extui v348
  let v350 : BitVec 32 := Scalar.subi v347 v349
  let v351 : BitVec 1 := Scalar.cmpi .ne v345 v350
  let v352 : BitVec 32 := Scalar.remsi v241 c8_i32_175
  let c0_i32_180 : BitVec 32 := 0#32
  let v353 : BitVec 1 := Scalar.cmpi .ne v352 c0_i32_180
  let v354 : BitVec 1 := Scalar.andi v351 v353
  let v340 : BitVec 32 := Scalar.divsi v241 c8_i32_175
  let c1_i32_181 : BitVec 32 := 1#32
  let v355 : BitVec 32 := Scalar.subi v340 c1_i32_181
  let v356 : BitVec 32 := Scalar.select v354 v355 v340
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v359 : BitVec 1 := Scalar.cmpi .ne v356 v2
  let v360 : BitVec 1 := Scalar.andi v339 v359
  let v361 : BitVec 32 := Scalar.extui v360
  let c0_i32_185 : BitVec 32 := 0#32
  let v362 : BitVec 1 := Scalar.cmpi .ne v361 c0_i32_185
  v362

def k0_off27 (v235 : BitVec 32) : Fin 2 → Nat :=
  let c255_i32_119 : BitVec 32 := 255#32
  let v241 : BitVec 32 := Scalar.minsi v235 c255_i32_119
  let c0_i32_176 : BitVec 32 := 0#32
  let v341 : BitVec 1 := Scalar.cmpi .sgt v241 c0_i32_176
  let v342 : BitVec 32 := Scalar.extui v341
  let c0_i32_177 : BitVec 32 := 0#32
  let v343 : BitVec 1 := Scalar.cmpi .slt v241 c0_i32_177
  let v344 : BitVec 32 := Scalar.extui v343
  let v345 : BitVec 32 := Scalar.subi v342 v344
  let c8_i32_175 : BitVec 32 := 8#32
  let c0_i32_178 : BitVec 32 := 0#32
  let v346 : BitVec 1 := Scalar.cmpi .sgt c8_i32_175 c0_i32_178
  let v347 : BitVec 32 := Scalar.extui v346
  let c0_i32_179 : BitVec 32 := 0#32
  let v348 : BitVec 1 := Scalar.cmpi .slt c8_i32_175 c0_i32_179
  let v349 : BitVec 32 := Scalar.extui v348
  let v350 : BitVec 32 := Scalar.subi v347 v349
  let v351 : BitVec 1 := Scalar.cmpi .ne v345 v350
  let v352 : BitVec 32 := Scalar.remsi v241 c8_i32_175
  let c0_i32_180 : BitVec 32 := 0#32
  let v353 : BitVec 1 := Scalar.cmpi .ne v352 c0_i32_180
  let v354 : BitVec 1 := Scalar.andi v351 v353
  let v340 : BitVec 32 := Scalar.divsi v241 c8_i32_175
  let c1_i32_181 : BitVec 32 := 1#32
  let v355 : BitVec 32 := Scalar.subi v340 c1_i32_181
  let v356 : BitVec 32 := Scalar.select v354 v355 v340
  let c8_i32_182 : BitVec 32 := 8#32
  let v357 : BitVec 32 := Scalar.muli v356 c8_i32_182
  let v358 : BitVec 32 := Scalar.subi v241 v357
  let c0_i32_342 : BitVec 32 := 0#32
  ![v358.toNat, 0]
def k0_dev11 (v235 : BitVec 32) : Nat :=
  let c0_i32_341 : BitVec 32 := 0#32
  let c255_i32_119 : BitVec 32 := 255#32
  let v241 : BitVec 32 := Scalar.minsi v235 c255_i32_119
  let c0_i32_176 : BitVec 32 := 0#32
  let v341 : BitVec 1 := Scalar.cmpi .sgt v241 c0_i32_176
  let v342 : BitVec 32 := Scalar.extui v341
  let c0_i32_177 : BitVec 32 := 0#32
  let v343 : BitVec 1 := Scalar.cmpi .slt v241 c0_i32_177
  let v344 : BitVec 32 := Scalar.extui v343
  let v345 : BitVec 32 := Scalar.subi v342 v344
  let c8_i32_175 : BitVec 32 := 8#32
  let c0_i32_178 : BitVec 32 := 0#32
  let v346 : BitVec 1 := Scalar.cmpi .sgt c8_i32_175 c0_i32_178
  let v347 : BitVec 32 := Scalar.extui v346
  let c0_i32_179 : BitVec 32 := 0#32
  let v348 : BitVec 1 := Scalar.cmpi .slt c8_i32_175 c0_i32_179
  let v349 : BitVec 32 := Scalar.extui v348
  let v350 : BitVec 32 := Scalar.subi v347 v349
  let v351 : BitVec 1 := Scalar.cmpi .ne v345 v350
  let v352 : BitVec 32 := Scalar.remsi v241 c8_i32_175
  let c0_i32_180 : BitVec 32 := 0#32
  let v353 : BitVec 1 := Scalar.cmpi .ne v352 c0_i32_180
  let v354 : BitVec 1 := Scalar.andi v351 v353
  let v340 : BitVec 32 := Scalar.divsi v241 c8_i32_175
  let c1_i32_181 : BitVec 32 := 1#32
  let v355 : BitVec 32 := Scalar.subi v340 c1_i32_181
  let v356 : BitVec 32 := Scalar.select v354 v355 v340
  let c1_i32_340 : BitVec 32 := 1#32
  let v671 : BitVec 32 := Scalar.muli v356 c1_i32_340
  let v672 : BitVec 32 := Scalar.addi c0_i32_341 v671
  v672.toNat
def k0_off28 (v235 : BitVec 32) : Fin 2 → Nat :=
  let c255_i32_119 : BitVec 32 := 255#32
  let v241 : BitVec 32 := Scalar.minsi v235 c255_i32_119
  let c0_i32_176 : BitVec 32 := 0#32
  let v341 : BitVec 1 := Scalar.cmpi .sgt v241 c0_i32_176
  let v342 : BitVec 32 := Scalar.extui v341
  let c0_i32_177 : BitVec 32 := 0#32
  let v343 : BitVec 1 := Scalar.cmpi .slt v241 c0_i32_177
  let v344 : BitVec 32 := Scalar.extui v343
  let v345 : BitVec 32 := Scalar.subi v342 v344
  let c8_i32_175 : BitVec 32 := 8#32
  let c0_i32_178 : BitVec 32 := 0#32
  let v346 : BitVec 1 := Scalar.cmpi .sgt c8_i32_175 c0_i32_178
  let v347 : BitVec 32 := Scalar.extui v346
  let c0_i32_179 : BitVec 32 := 0#32
  let v348 : BitVec 1 := Scalar.cmpi .slt c8_i32_175 c0_i32_179
  let v349 : BitVec 32 := Scalar.extui v348
  let v350 : BitVec 32 := Scalar.subi v347 v349
  let v351 : BitVec 1 := Scalar.cmpi .ne v345 v350
  let v352 : BitVec 32 := Scalar.remsi v241 c8_i32_175
  let c0_i32_180 : BitVec 32 := 0#32
  let v353 : BitVec 1 := Scalar.cmpi .ne v352 c0_i32_180
  let v354 : BitVec 1 := Scalar.andi v351 v353
  let v340 : BitVec 32 := Scalar.divsi v241 c8_i32_175
  let c1_i32_181 : BitVec 32 := 1#32
  let v355 : BitVec 32 := Scalar.subi v340 c1_i32_181
  let v356 : BitVec 32 := Scalar.select v354 v355 v340
  let c8_i32_182 : BitVec 32 := 8#32
  let v357 : BitVec 32 := Scalar.muli v356 c8_i32_182
  let v358 : BitVec 32 := Scalar.subi v241 v357
  let v673 : Index := Scalar.indexCast v358
  let c0_343 : Index := 0#32
  ![v673.toNat, 0]
def k0_cond25 (d0 : Dev nD) (v235 : BitVec 32) : BitVec 1 :=
  let c256_i32_174 : BitVec 32 := 256#32
  let v339 : BitVec 1 := Scalar.cmpi .slt v235 c256_i32_174
  let c255_i32_119 : BitVec 32 := 255#32
  let v241 : BitVec 32 := Scalar.minsi v235 c255_i32_119
  let c0_i32_176 : BitVec 32 := 0#32
  let v341 : BitVec 1 := Scalar.cmpi .sgt v241 c0_i32_176
  let v342 : BitVec 32 := Scalar.extui v341
  let c0_i32_177 : BitVec 32 := 0#32
  let v343 : BitVec 1 := Scalar.cmpi .slt v241 c0_i32_177
  let v344 : BitVec 32 := Scalar.extui v343
  let v345 : BitVec 32 := Scalar.subi v342 v344
  let c8_i32_175 : BitVec 32 := 8#32
  let c0_i32_178 : BitVec 32 := 0#32
  let v346 : BitVec 1 := Scalar.cmpi .sgt c8_i32_175 c0_i32_178
  let v347 : BitVec 32 := Scalar.extui v346
  let c0_i32_179 : BitVec 32 := 0#32
  let v348 : BitVec 1 := Scalar.cmpi .slt c8_i32_175 c0_i32_179
  let v349 : BitVec 32 := Scalar.extui v348
  let v350 : BitVec 32 := Scalar.subi v347 v349
  let v351 : BitVec 1 := Scalar.cmpi .ne v345 v350
  let v352 : BitVec 32 := Scalar.remsi v241 c8_i32_175
  let c0_i32_180 : BitVec 32 := 0#32
  let v353 : BitVec 1 := Scalar.cmpi .ne v352 c0_i32_180
  let v354 : BitVec 1 := Scalar.andi v351 v353
  let v340 : BitVec 32 := Scalar.divsi v241 c8_i32_175
  let c1_i32_181 : BitVec 32 := 1#32
  let v355 : BitVec 32 := Scalar.subi v340 c1_i32_181
  let v356 : BitVec 32 := Scalar.select v354 v355 v340
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v363 : BitVec 1 := Scalar.cmpi .eq v356 v2
  let v364 : BitVec 1 := Scalar.andi v339 v363
  let v365 : BitVec 32 := Scalar.extui v364
  let c0_i32_186 : BitVec 32 := 0#32
  let v366 : BitVec 1 := Scalar.cmpi .ne v365 c0_i32_186
  v366

def k0_off29 (v236 : BitVec 32) : Fin 1 → Nat :=
  let c255_i32_120 : BitVec 32 := 255#32
  let v242 : BitVec 32 := Scalar.minsi v236 c255_i32_120
  let c0_i32_189 : BitVec 32 := 0#32
  let v369 : BitVec 1 := Scalar.cmpi .sgt v242 c0_i32_189
  let v370 : BitVec 32 := Scalar.extui v369
  let c0_i32_190 : BitVec 32 := 0#32
  let v371 : BitVec 1 := Scalar.cmpi .slt v242 c0_i32_190
  let v372 : BitVec 32 := Scalar.extui v371
  let v373 : BitVec 32 := Scalar.subi v370 v372
  let c8_i32_188 : BitVec 32 := 8#32
  let c0_i32_191 : BitVec 32 := 0#32
  let v374 : BitVec 1 := Scalar.cmpi .sgt c8_i32_188 c0_i32_191
  let v375 : BitVec 32 := Scalar.extui v374
  let c0_i32_192 : BitVec 32 := 0#32
  let v376 : BitVec 1 := Scalar.cmpi .slt c8_i32_188 c0_i32_192
  let v377 : BitVec 32 := Scalar.extui v376
  let v378 : BitVec 32 := Scalar.subi v375 v377
  let v379 : BitVec 1 := Scalar.cmpi .ne v373 v378
  let v380 : BitVec 32 := Scalar.remsi v242 c8_i32_188
  let c0_i32_193 : BitVec 32 := 0#32
  let v381 : BitVec 1 := Scalar.cmpi .ne v380 c0_i32_193
  let v382 : BitVec 1 := Scalar.andi v379 v381
  let v368 : BitVec 32 := Scalar.divsi v242 c8_i32_188
  let c1_i32_194 : BitVec 32 := 1#32
  let v383 : BitVec 32 := Scalar.subi v368 c1_i32_194
  let v384 : BitVec 32 := Scalar.select v382 v383 v368
  let c8_i32_195 : BitVec 32 := 8#32
  let v385 : BitVec 32 := Scalar.muli v384 c8_i32_195
  let v386 : BitVec 32 := Scalar.subi v242 v385
  ![v386.toNat]
def k0_cond26 (d0 : Dev nD) (v236 : BitVec 32) : BitVec 1 :=
  let c256_i32_187 : BitVec 32 := 256#32
  let v367 : BitVec 1 := Scalar.cmpi .slt v236 c256_i32_187
  let c255_i32_120 : BitVec 32 := 255#32
  let v242 : BitVec 32 := Scalar.minsi v236 c255_i32_120
  let c0_i32_189 : BitVec 32 := 0#32
  let v369 : BitVec 1 := Scalar.cmpi .sgt v242 c0_i32_189
  let v370 : BitVec 32 := Scalar.extui v369
  let c0_i32_190 : BitVec 32 := 0#32
  let v371 : BitVec 1 := Scalar.cmpi .slt v242 c0_i32_190
  let v372 : BitVec 32 := Scalar.extui v371
  let v373 : BitVec 32 := Scalar.subi v370 v372
  let c8_i32_188 : BitVec 32 := 8#32
  let c0_i32_191 : BitVec 32 := 0#32
  let v374 : BitVec 1 := Scalar.cmpi .sgt c8_i32_188 c0_i32_191
  let v375 : BitVec 32 := Scalar.extui v374
  let c0_i32_192 : BitVec 32 := 0#32
  let v376 : BitVec 1 := Scalar.cmpi .slt c8_i32_188 c0_i32_192
  let v377 : BitVec 32 := Scalar.extui v376
  let v378 : BitVec 32 := Scalar.subi v375 v377
  let v379 : BitVec 1 := Scalar.cmpi .ne v373 v378
  let v380 : BitVec 32 := Scalar.remsi v242 c8_i32_188
  let c0_i32_193 : BitVec 32 := 0#32
  let v381 : BitVec 1 := Scalar.cmpi .ne v380 c0_i32_193
  let v382 : BitVec 1 := Scalar.andi v379 v381
  let v368 : BitVec 32 := Scalar.divsi v242 c8_i32_188
  let c1_i32_194 : BitVec 32 := 1#32
  let v383 : BitVec 32 := Scalar.subi v368 c1_i32_194
  let v384 : BitVec 32 := Scalar.select v382 v383 v368
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v387 : BitVec 1 := Scalar.cmpi .ne v384 v2
  let v388 : BitVec 1 := Scalar.andi v367 v387
  let v389 : BitVec 32 := Scalar.extui v388
  let c0_i32_198 : BitVec 32 := 0#32
  let v390 : BitVec 1 := Scalar.cmpi .ne v389 c0_i32_198
  v390

def k0_off30 (v236 : BitVec 32) : Fin 2 → Nat :=
  let c255_i32_120 : BitVec 32 := 255#32
  let v242 : BitVec 32 := Scalar.minsi v236 c255_i32_120
  let c0_i32_189 : BitVec 32 := 0#32
  let v369 : BitVec 1 := Scalar.cmpi .sgt v242 c0_i32_189
  let v370 : BitVec 32 := Scalar.extui v369
  let c0_i32_190 : BitVec 32 := 0#32
  let v371 : BitVec 1 := Scalar.cmpi .slt v242 c0_i32_190
  let v372 : BitVec 32 := Scalar.extui v371
  let v373 : BitVec 32 := Scalar.subi v370 v372
  let c8_i32_188 : BitVec 32 := 8#32
  let c0_i32_191 : BitVec 32 := 0#32
  let v374 : BitVec 1 := Scalar.cmpi .sgt c8_i32_188 c0_i32_191
  let v375 : BitVec 32 := Scalar.extui v374
  let c0_i32_192 : BitVec 32 := 0#32
  let v376 : BitVec 1 := Scalar.cmpi .slt c8_i32_188 c0_i32_192
  let v377 : BitVec 32 := Scalar.extui v376
  let v378 : BitVec 32 := Scalar.subi v375 v377
  let v379 : BitVec 1 := Scalar.cmpi .ne v373 v378
  let v380 : BitVec 32 := Scalar.remsi v242 c8_i32_188
  let c0_i32_193 : BitVec 32 := 0#32
  let v381 : BitVec 1 := Scalar.cmpi .ne v380 c0_i32_193
  let v382 : BitVec 1 := Scalar.andi v379 v381
  let v368 : BitVec 32 := Scalar.divsi v242 c8_i32_188
  let c1_i32_194 : BitVec 32 := 1#32
  let v383 : BitVec 32 := Scalar.subi v368 c1_i32_194
  let v384 : BitVec 32 := Scalar.select v382 v383 v368
  let c8_i32_195 : BitVec 32 := 8#32
  let v385 : BitVec 32 := Scalar.muli v384 c8_i32_195
  let v386 : BitVec 32 := Scalar.subi v242 v385
  let c0_i32_342 : BitVec 32 := 0#32
  ![v386.toNat, 0]
def k0_dev12 (v236 : BitVec 32) : Nat :=
  let c0_i32_341 : BitVec 32 := 0#32
  let c255_i32_120 : BitVec 32 := 255#32
  let v242 : BitVec 32 := Scalar.minsi v236 c255_i32_120
  let c0_i32_189 : BitVec 32 := 0#32
  let v369 : BitVec 1 := Scalar.cmpi .sgt v242 c0_i32_189
  let v370 : BitVec 32 := Scalar.extui v369
  let c0_i32_190 : BitVec 32 := 0#32
  let v371 : BitVec 1 := Scalar.cmpi .slt v242 c0_i32_190
  let v372 : BitVec 32 := Scalar.extui v371
  let v373 : BitVec 32 := Scalar.subi v370 v372
  let c8_i32_188 : BitVec 32 := 8#32
  let c0_i32_191 : BitVec 32 := 0#32
  let v374 : BitVec 1 := Scalar.cmpi .sgt c8_i32_188 c0_i32_191
  let v375 : BitVec 32 := Scalar.extui v374
  let c0_i32_192 : BitVec 32 := 0#32
  let v376 : BitVec 1 := Scalar.cmpi .slt c8_i32_188 c0_i32_192
  let v377 : BitVec 32 := Scalar.extui v376
  let v378 : BitVec 32 := Scalar.subi v375 v377
  let v379 : BitVec 1 := Scalar.cmpi .ne v373 v378
  let v380 : BitVec 32 := Scalar.remsi v242 c8_i32_188
  let c0_i32_193 : BitVec 32 := 0#32
  let v381 : BitVec 1 := Scalar.cmpi .ne v380 c0_i32_193
  let v382 : BitVec 1 := Scalar.andi v379 v381
  let v368 : BitVec 32 := Scalar.divsi v242 c8_i32_188
  let c1_i32_194 : BitVec 32 := 1#32
  let v383 : BitVec 32 := Scalar.subi v368 c1_i32_194
  let v384 : BitVec 32 := Scalar.select v382 v383 v368
  let c1_i32_340 : BitVec 32 := 1#32
  let v671 : BitVec 32 := Scalar.muli v384 c1_i32_340
  let v672 : BitVec 32 := Scalar.addi c0_i32_341 v671
  v672.toNat
def k0_off31 (v236 : BitVec 32) : Fin 2 → Nat :=
  let c255_i32_120 : BitVec 32 := 255#32
  let v242 : BitVec 32 := Scalar.minsi v236 c255_i32_120
  let c0_i32_189 : BitVec 32 := 0#32
  let v369 : BitVec 1 := Scalar.cmpi .sgt v242 c0_i32_189
  let v370 : BitVec 32 := Scalar.extui v369
  let c0_i32_190 : BitVec 32 := 0#32
  let v371 : BitVec 1 := Scalar.cmpi .slt v242 c0_i32_190
  let v372 : BitVec 32 := Scalar.extui v371
  let v373 : BitVec 32 := Scalar.subi v370 v372
  let c8_i32_188 : BitVec 32 := 8#32
  let c0_i32_191 : BitVec 32 := 0#32
  let v374 : BitVec 1 := Scalar.cmpi .sgt c8_i32_188 c0_i32_191
  let v375 : BitVec 32 := Scalar.extui v374
  let c0_i32_192 : BitVec 32 := 0#32
  let v376 : BitVec 1 := Scalar.cmpi .slt c8_i32_188 c0_i32_192
  let v377 : BitVec 32 := Scalar.extui v376
  let v378 : BitVec 32 := Scalar.subi v375 v377
  let v379 : BitVec 1 := Scalar.cmpi .ne v373 v378
  let v380 : BitVec 32 := Scalar.remsi v242 c8_i32_188
  let c0_i32_193 : BitVec 32 := 0#32
  let v381 : BitVec 1 := Scalar.cmpi .ne v380 c0_i32_193
  let v382 : BitVec 1 := Scalar.andi v379 v381
  let v368 : BitVec 32 := Scalar.divsi v242 c8_i32_188
  let c1_i32_194 : BitVec 32 := 1#32
  let v383 : BitVec 32 := Scalar.subi v368 c1_i32_194
  let v384 : BitVec 32 := Scalar.select v382 v383 v368
  let c8_i32_195 : BitVec 32 := 8#32
  let v385 : BitVec 32 := Scalar.muli v384 c8_i32_195
  let v386 : BitVec 32 := Scalar.subi v242 v385
  let v673 : Index := Scalar.indexCast v386
  let c0_343 : Index := 0#32
  ![v673.toNat, 0]
def k0_cond27 (d0 : Dev nD) (v236 : BitVec 32) : BitVec 1 :=
  let c256_i32_187 : BitVec 32 := 256#32
  let v367 : BitVec 1 := Scalar.cmpi .slt v236 c256_i32_187
  let c255_i32_120 : BitVec 32 := 255#32
  let v242 : BitVec 32 := Scalar.minsi v236 c255_i32_120
  let c0_i32_189 : BitVec 32 := 0#32
  let v369 : BitVec 1 := Scalar.cmpi .sgt v242 c0_i32_189
  let v370 : BitVec 32 := Scalar.extui v369
  let c0_i32_190 : BitVec 32 := 0#32
  let v371 : BitVec 1 := Scalar.cmpi .slt v242 c0_i32_190
  let v372 : BitVec 32 := Scalar.extui v371
  let v373 : BitVec 32 := Scalar.subi v370 v372
  let c8_i32_188 : BitVec 32 := 8#32
  let c0_i32_191 : BitVec 32 := 0#32
  let v374 : BitVec 1 := Scalar.cmpi .sgt c8_i32_188 c0_i32_191
  let v375 : BitVec 32 := Scalar.extui v374
  let c0_i32_192 : BitVec 32 := 0#32
  let v376 : BitVec 1 := Scalar.cmpi .slt c8_i32_188 c0_i32_192
  let v377 : BitVec 32 := Scalar.extui v376
  let v378 : BitVec 32 := Scalar.subi v375 v377
  let v379 : BitVec 1 := Scalar.cmpi .ne v373 v378
  let v380 : BitVec 32 := Scalar.remsi v242 c8_i32_188
  let c0_i32_193 : BitVec 32 := 0#32
  let v381 : BitVec 1 := Scalar.cmpi .ne v380 c0_i32_193
  let v382 : BitVec 1 := Scalar.andi v379 v381
  let v368 : BitVec 32 := Scalar.divsi v242 c8_i32_188
  let c1_i32_194 : BitVec 32 := 1#32
  let v383 : BitVec 32 := Scalar.subi v368 c1_i32_194
  let v384 : BitVec 32 := Scalar.select v382 v383 v368
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v391 : BitVec 1 := Scalar.cmpi .eq v384 v2
  let v392 : BitVec 1 := Scalar.andi v367 v391
  let v393 : BitVec 32 := Scalar.extui v392
  let c0_i32_199 : BitVec 32 := 0#32
  let v394 : BitVec 1 := Scalar.cmpi .ne v393 c0_i32_199
  v394

def k0_off32 (v237 : BitVec 32) : Fin 1 → Nat :=
  let c255_i32_121 : BitVec 32 := 255#32
  let v243 : BitVec 32 := Scalar.minsi v237 c255_i32_121
  let c0_i32_202 : BitVec 32 := 0#32
  let v397 : BitVec 1 := Scalar.cmpi .sgt v243 c0_i32_202
  let v398 : BitVec 32 := Scalar.extui v397
  let c0_i32_203 : BitVec 32 := 0#32
  let v399 : BitVec 1 := Scalar.cmpi .slt v243 c0_i32_203
  let v400 : BitVec 32 := Scalar.extui v399
  let v401 : BitVec 32 := Scalar.subi v398 v400
  let c8_i32_201 : BitVec 32 := 8#32
  let c0_i32_204 : BitVec 32 := 0#32
  let v402 : BitVec 1 := Scalar.cmpi .sgt c8_i32_201 c0_i32_204
  let v403 : BitVec 32 := Scalar.extui v402
  let c0_i32_205 : BitVec 32 := 0#32
  let v404 : BitVec 1 := Scalar.cmpi .slt c8_i32_201 c0_i32_205
  let v405 : BitVec 32 := Scalar.extui v404
  let v406 : BitVec 32 := Scalar.subi v403 v405
  let v407 : BitVec 1 := Scalar.cmpi .ne v401 v406
  let v408 : BitVec 32 := Scalar.remsi v243 c8_i32_201
  let c0_i32_206 : BitVec 32 := 0#32
  let v409 : BitVec 1 := Scalar.cmpi .ne v408 c0_i32_206
  let v410 : BitVec 1 := Scalar.andi v407 v409
  let v396 : BitVec 32 := Scalar.divsi v243 c8_i32_201
  let c1_i32_207 : BitVec 32 := 1#32
  let v411 : BitVec 32 := Scalar.subi v396 c1_i32_207
  let v412 : BitVec 32 := Scalar.select v410 v411 v396
  let c8_i32_208 : BitVec 32 := 8#32
  let v413 : BitVec 32 := Scalar.muli v412 c8_i32_208
  let v414 : BitVec 32 := Scalar.subi v243 v413
  ![v414.toNat]
def k0_cond28 (d0 : Dev nD) (v237 : BitVec 32) : BitVec 1 :=
  let c256_i32_200 : BitVec 32 := 256#32
  let v395 : BitVec 1 := Scalar.cmpi .slt v237 c256_i32_200
  let c255_i32_121 : BitVec 32 := 255#32
  let v243 : BitVec 32 := Scalar.minsi v237 c255_i32_121
  let c0_i32_202 : BitVec 32 := 0#32
  let v397 : BitVec 1 := Scalar.cmpi .sgt v243 c0_i32_202
  let v398 : BitVec 32 := Scalar.extui v397
  let c0_i32_203 : BitVec 32 := 0#32
  let v399 : BitVec 1 := Scalar.cmpi .slt v243 c0_i32_203
  let v400 : BitVec 32 := Scalar.extui v399
  let v401 : BitVec 32 := Scalar.subi v398 v400
  let c8_i32_201 : BitVec 32 := 8#32
  let c0_i32_204 : BitVec 32 := 0#32
  let v402 : BitVec 1 := Scalar.cmpi .sgt c8_i32_201 c0_i32_204
  let v403 : BitVec 32 := Scalar.extui v402
  let c0_i32_205 : BitVec 32 := 0#32
  let v404 : BitVec 1 := Scalar.cmpi .slt c8_i32_201 c0_i32_205
  let v405 : BitVec 32 := Scalar.extui v404
  let v406 : BitVec 32 := Scalar.subi v403 v405
  let v407 : BitVec 1 := Scalar.cmpi .ne v401 v406
  let v408 : BitVec 32 := Scalar.remsi v243 c8_i32_201
  let c0_i32_206 : BitVec 32 := 0#32
  let v409 : BitVec 1 := Scalar.cmpi .ne v408 c0_i32_206
  let v410 : BitVec 1 := Scalar.andi v407 v409
  let v396 : BitVec 32 := Scalar.divsi v243 c8_i32_201
  let c1_i32_207 : BitVec 32 := 1#32
  let v411 : BitVec 32 := Scalar.subi v396 c1_i32_207
  let v412 : BitVec 32 := Scalar.select v410 v411 v396
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v415 : BitVec 1 := Scalar.cmpi .ne v412 v2
  let v416 : BitVec 1 := Scalar.andi v395 v415
  let v417 : BitVec 32 := Scalar.extui v416
  let c0_i32_211 : BitVec 32 := 0#32
  let v418 : BitVec 1 := Scalar.cmpi .ne v417 c0_i32_211
  v418

def k0_off33 (v237 : BitVec 32) : Fin 2 → Nat :=
  let c255_i32_121 : BitVec 32 := 255#32
  let v243 : BitVec 32 := Scalar.minsi v237 c255_i32_121
  let c0_i32_202 : BitVec 32 := 0#32
  let v397 : BitVec 1 := Scalar.cmpi .sgt v243 c0_i32_202
  let v398 : BitVec 32 := Scalar.extui v397
  let c0_i32_203 : BitVec 32 := 0#32
  let v399 : BitVec 1 := Scalar.cmpi .slt v243 c0_i32_203
  let v400 : BitVec 32 := Scalar.extui v399
  let v401 : BitVec 32 := Scalar.subi v398 v400
  let c8_i32_201 : BitVec 32 := 8#32
  let c0_i32_204 : BitVec 32 := 0#32
  let v402 : BitVec 1 := Scalar.cmpi .sgt c8_i32_201 c0_i32_204
  let v403 : BitVec 32 := Scalar.extui v402
  let c0_i32_205 : BitVec 32 := 0#32
  let v404 : BitVec 1 := Scalar.cmpi .slt c8_i32_201 c0_i32_205
  let v405 : BitVec 32 := Scalar.extui v404
  let v406 : BitVec 32 := Scalar.subi v403 v405
  let v407 : BitVec 1 := Scalar.cmpi .ne v401 v406
  let v408 : BitVec 32 := Scalar.remsi v243 c8_i32_201
  let c0_i32_206 : BitVec 32 := 0#32
  let v409 : BitVec 1 := Scalar.cmpi .ne v408 c0_i32_206
  let v410 : BitVec 1 := Scalar.andi v407 v409
  let v396 : BitVec 32 := Scalar.divsi v243 c8_i32_201
  let c1_i32_207 : BitVec 32 := 1#32
  let v411 : BitVec 32 := Scalar.subi v396 c1_i32_207
  let v412 : BitVec 32 := Scalar.select v410 v411 v396
  let c8_i32_208 : BitVec 32 := 8#32
  let v413 : BitVec 32 := Scalar.muli v412 c8_i32_208
  let v414 : BitVec 32 := Scalar.subi v243 v413
  let c0_i32_342 : BitVec 32 := 0#32
  ![v414.toNat, 0]
def k0_dev13 (v237 : BitVec 32) : Nat :=
  let c0_i32_341 : BitVec 32 := 0#32
  let c255_i32_121 : BitVec 32 := 255#32
  let v243 : BitVec 32 := Scalar.minsi v237 c255_i32_121
  let c0_i32_202 : BitVec 32 := 0#32
  let v397 : BitVec 1 := Scalar.cmpi .sgt v243 c0_i32_202
  let v398 : BitVec 32 := Scalar.extui v397
  let c0_i32_203 : BitVec 32 := 0#32
  let v399 : BitVec 1 := Scalar.cmpi .slt v243 c0_i32_203
  let v400 : BitVec 32 := Scalar.extui v399
  let v401 : BitVec 32 := Scalar.subi v398 v400
  let c8_i32_201 : BitVec 32 := 8#32
  let c0_i32_204 : BitVec 32 := 0#32
  let v402 : BitVec 1 := Scalar.cmpi .sgt c8_i32_201 c0_i32_204
  let v403 : BitVec 32 := Scalar.extui v402
  let c0_i32_205 : BitVec 32 := 0#32
  let v404 : BitVec 1 := Scalar.cmpi .slt c8_i32_201 c0_i32_205
  let v405 : BitVec 32 := Scalar.extui v404
  let v406 : BitVec 32 := Scalar.subi v403 v405
  let v407 : BitVec 1 := Scalar.cmpi .ne v401 v406
  let v408 : BitVec 32 := Scalar.remsi v243 c8_i32_201
  let c0_i32_206 : BitVec 32 := 0#32
  let v409 : BitVec 1 := Scalar.cmpi .ne v408 c0_i32_206
  let v410 : BitVec 1 := Scalar.andi v407 v409
  let v396 : BitVec 32 := Scalar.divsi v243 c8_i32_201
  let c1_i32_207 : BitVec 32 := 1#32
  let v411 : BitVec 32 := Scalar.subi v396 c1_i32_207
  let v412 : BitVec 32 := Scalar.select v410 v411 v396
  let c1_i32_340 : BitVec 32 := 1#32
  let v671 : BitVec 32 := Scalar.muli v412 c1_i32_340
  let v672 : BitVec 32 := Scalar.addi c0_i32_341 v671
  v672.toNat
def k0_off34 (v237 : BitVec 32) : Fin 2 → Nat :=
  let c255_i32_121 : BitVec 32 := 255#32
  let v243 : BitVec 32 := Scalar.minsi v237 c255_i32_121
  let c0_i32_202 : BitVec 32 := 0#32
  let v397 : BitVec 1 := Scalar.cmpi .sgt v243 c0_i32_202
  let v398 : BitVec 32 := Scalar.extui v397
  let c0_i32_203 : BitVec 32 := 0#32
  let v399 : BitVec 1 := Scalar.cmpi .slt v243 c0_i32_203
  let v400 : BitVec 32 := Scalar.extui v399
  let v401 : BitVec 32 := Scalar.subi v398 v400
  let c8_i32_201 : BitVec 32 := 8#32
  let c0_i32_204 : BitVec 32 := 0#32
  let v402 : BitVec 1 := Scalar.cmpi .sgt c8_i32_201 c0_i32_204
  let v403 : BitVec 32 := Scalar.extui v402
  let c0_i32_205 : BitVec 32 := 0#32
  let v404 : BitVec 1 := Scalar.cmpi .slt c8_i32_201 c0_i32_205
  let v405 : BitVec 32 := Scalar.extui v404
  let v406 : BitVec 32 := Scalar.subi v403 v405
  let v407 : BitVec 1 := Scalar.cmpi .ne v401 v406
  let v408 : BitVec 32 := Scalar.remsi v243 c8_i32_201
  let c0_i32_206 : BitVec 32 := 0#32
  let v409 : BitVec 1 := Scalar.cmpi .ne v408 c0_i32_206
  let v410 : BitVec 1 := Scalar.andi v407 v409
  let v396 : BitVec 32 := Scalar.divsi v243 c8_i32_201
  let c1_i32_207 : BitVec 32 := 1#32
  let v411 : BitVec 32 := Scalar.subi v396 c1_i32_207
  let v412 : BitVec 32 := Scalar.select v410 v411 v396
  let c8_i32_208 : BitVec 32 := 8#32
  let v413 : BitVec 32 := Scalar.muli v412 c8_i32_208
  let v414 : BitVec 32 := Scalar.subi v243 v413
  let v673 : Index := Scalar.indexCast v414
  let c0_343 : Index := 0#32
  ![v673.toNat, 0]
def k0_cond29 (d0 : Dev nD) (v237 : BitVec 32) : BitVec 1 :=
  let c256_i32_200 : BitVec 32 := 256#32
  let v395 : BitVec 1 := Scalar.cmpi .slt v237 c256_i32_200
  let c255_i32_121 : BitVec 32 := 255#32
  let v243 : BitVec 32 := Scalar.minsi v237 c255_i32_121
  let c0_i32_202 : BitVec 32 := 0#32
  let v397 : BitVec 1 := Scalar.cmpi .sgt v243 c0_i32_202
  let v398 : BitVec 32 := Scalar.extui v397
  let c0_i32_203 : BitVec 32 := 0#32
  let v399 : BitVec 1 := Scalar.cmpi .slt v243 c0_i32_203
  let v400 : BitVec 32 := Scalar.extui v399
  let v401 : BitVec 32 := Scalar.subi v398 v400
  let c8_i32_201 : BitVec 32 := 8#32
  let c0_i32_204 : BitVec 32 := 0#32
  let v402 : BitVec 1 := Scalar.cmpi .sgt c8_i32_201 c0_i32_204
  let v403 : BitVec 32 := Scalar.extui v402
  let c0_i32_205 : BitVec 32 := 0#32
  let v404 : BitVec 1 := Scalar.cmpi .slt c8_i32_201 c0_i32_205
  let v405 : BitVec 32 := Scalar.extui v404
  let v406 : BitVec 32 := Scalar.subi v403 v405
  let v407 : BitVec 1 := Scalar.cmpi .ne v401 v406
  let v408 : BitVec 32 := Scalar.remsi v243 c8_i32_201
  let c0_i32_206 : BitVec 32 := 0#32
  let v409 : BitVec 1 := Scalar.cmpi .ne v408 c0_i32_206
  let v410 : BitVec 1 := Scalar.andi v407 v409
  let v396 : BitVec 32 := Scalar.divsi v243 c8_i32_201
  let c1_i32_207 : BitVec 32 := 1#32
  let v411 : BitVec 32 := Scalar.subi v396 c1_i32_207
  let v412 : BitVec 32 := Scalar.select v410 v411 v396
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v419 : BitVec 1 := Scalar.cmpi .eq v412 v2
  let v420 : BitVec 1 := Scalar.andi v395 v419
  let v421 : BitVec 32 := Scalar.extui v420
  let c0_i32_212 : BitVec 32 := 0#32
  let v422 : BitVec 1 := Scalar.cmpi .ne v421 c0_i32_212
  v422

def k0_off35 (v238 : BitVec 32) : Fin 1 → Nat :=
  let c255_i32_122 : BitVec 32 := 255#32
  let v244 : BitVec 32 := Scalar.minsi v238 c255_i32_122
  let c0_i32_215 : BitVec 32 := 0#32
  let v425 : BitVec 1 := Scalar.cmpi .sgt v244 c0_i32_215
  let v426 : BitVec 32 := Scalar.extui v425
  let c0_i32_216 : BitVec 32 := 0#32
  let v427 : BitVec 1 := Scalar.cmpi .slt v244 c0_i32_216
  let v428 : BitVec 32 := Scalar.extui v427
  let v429 : BitVec 32 := Scalar.subi v426 v428
  let c8_i32_214 : BitVec 32 := 8#32
  let c0_i32_217 : BitVec 32 := 0#32
  let v430 : BitVec 1 := Scalar.cmpi .sgt c8_i32_214 c0_i32_217
  let v431 : BitVec 32 := Scalar.extui v430
  let c0_i32_218 : BitVec 32 := 0#32
  let v432 : BitVec 1 := Scalar.cmpi .slt c8_i32_214 c0_i32_218
  let v433 : BitVec 32 := Scalar.extui v432
  let v434 : BitVec 32 := Scalar.subi v431 v433
  let v435 : BitVec 1 := Scalar.cmpi .ne v429 v434
  let v436 : BitVec 32 := Scalar.remsi v244 c8_i32_214
  let c0_i32_219 : BitVec 32 := 0#32
  let v437 : BitVec 1 := Scalar.cmpi .ne v436 c0_i32_219
  let v438 : BitVec 1 := Scalar.andi v435 v437
  let v424 : BitVec 32 := Scalar.divsi v244 c8_i32_214
  let c1_i32_220 : BitVec 32 := 1#32
  let v439 : BitVec 32 := Scalar.subi v424 c1_i32_220
  let v440 : BitVec 32 := Scalar.select v438 v439 v424
  let c8_i32_221 : BitVec 32 := 8#32
  let v441 : BitVec 32 := Scalar.muli v440 c8_i32_221
  let v442 : BitVec 32 := Scalar.subi v244 v441
  ![v442.toNat]
def k0_cond30 (d0 : Dev nD) (v238 : BitVec 32) : BitVec 1 :=
  let c256_i32_213 : BitVec 32 := 256#32
  let v423 : BitVec 1 := Scalar.cmpi .slt v238 c256_i32_213
  let c255_i32_122 : BitVec 32 := 255#32
  let v244 : BitVec 32 := Scalar.minsi v238 c255_i32_122
  let c0_i32_215 : BitVec 32 := 0#32
  let v425 : BitVec 1 := Scalar.cmpi .sgt v244 c0_i32_215
  let v426 : BitVec 32 := Scalar.extui v425
  let c0_i32_216 : BitVec 32 := 0#32
  let v427 : BitVec 1 := Scalar.cmpi .slt v244 c0_i32_216
  let v428 : BitVec 32 := Scalar.extui v427
  let v429 : BitVec 32 := Scalar.subi v426 v428
  let c8_i32_214 : BitVec 32 := 8#32
  let c0_i32_217 : BitVec 32 := 0#32
  let v430 : BitVec 1 := Scalar.cmpi .sgt c8_i32_214 c0_i32_217
  let v431 : BitVec 32 := Scalar.extui v430
  let c0_i32_218 : BitVec 32 := 0#32
  let v432 : BitVec 1 := Scalar.cmpi .slt c8_i32_214 c0_i32_218
  let v433 : BitVec 32 := Scalar.extui v432
  let v434 : BitVec 32 := Scalar.subi v431 v433
  let v435 : BitVec 1 := Scalar.cmpi .ne v429 v434
  let v436 : BitVec 32 := Scalar.remsi v244 c8_i32_214
  let c0_i32_219 : BitVec 32 := 0#32
  let v437 : BitVec 1 := Scalar.cmpi .ne v436 c0_i32_219
  let v438 : BitVec 1 := Scalar.andi v435 v437
  let v424 : BitVec 32 := Scalar.divsi v244 c8_i32_214
  let c1_i32_220 : BitVec 32 := 1#32
  let v439 : BitVec 32 := Scalar.subi v424 c1_i32_220
  let v440 : BitVec 32 := Scalar.select v438 v439 v424
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v443 : BitVec 1 := Scalar.cmpi .ne v440 v2
  let v444 : BitVec 1 := Scalar.andi v423 v443
  let v445 : BitVec 32 := Scalar.extui v444
  let c0_i32_224 : BitVec 32 := 0#32
  let v446 : BitVec 1 := Scalar.cmpi .ne v445 c0_i32_224
  v446

def k0_off36 (v238 : BitVec 32) : Fin 2 → Nat :=
  let c255_i32_122 : BitVec 32 := 255#32
  let v244 : BitVec 32 := Scalar.minsi v238 c255_i32_122
  let c0_i32_215 : BitVec 32 := 0#32
  let v425 : BitVec 1 := Scalar.cmpi .sgt v244 c0_i32_215
  let v426 : BitVec 32 := Scalar.extui v425
  let c0_i32_216 : BitVec 32 := 0#32
  let v427 : BitVec 1 := Scalar.cmpi .slt v244 c0_i32_216
  let v428 : BitVec 32 := Scalar.extui v427
  let v429 : BitVec 32 := Scalar.subi v426 v428
  let c8_i32_214 : BitVec 32 := 8#32
  let c0_i32_217 : BitVec 32 := 0#32
  let v430 : BitVec 1 := Scalar.cmpi .sgt c8_i32_214 c0_i32_217
  let v431 : BitVec 32 := Scalar.extui v430
  let c0_i32_218 : BitVec 32 := 0#32
  let v432 : BitVec 1 := Scalar.cmpi .slt c8_i32_214 c0_i32_218
  let v433 : BitVec 32 := Scalar.extui v432
  let v434 : BitVec 32 := Scalar.subi v431 v433
  let v435 : BitVec 1 := Scalar.cmpi .ne v429 v434
  let v436 : BitVec 32 := Scalar.remsi v244 c8_i32_214
  let c0_i32_219 : BitVec 32 := 0#32
  let v437 : BitVec 1 := Scalar.cmpi .ne v436 c0_i32_219
  let v438 : BitVec 1 := Scalar.andi v435 v437
  let v424 : BitVec 32 := Scalar.divsi v244 c8_i32_214
  let c1_i32_220 : BitVec 32 := 1#32
  let v439 : BitVec 32 := Scalar.subi v424 c1_i32_220
  let v440 : BitVec 32 := Scalar.select v438 v439 v424
  let c8_i32_221 : BitVec 32 := 8#32
  let v441 : BitVec 32 := Scalar.muli v440 c8_i32_221
  let v442 : BitVec 32 := Scalar.subi v244 v441
  let c0_i32_342 : BitVec 32 := 0#32
  ![v442.toNat, 0]
def k0_dev14 (v238 : BitVec 32) : Nat :=
  let c0_i32_341 : BitVec 32 := 0#32
  let c255_i32_122 : BitVec 32 := 255#32
  let v244 : BitVec 32 := Scalar.minsi v238 c255_i32_122
  let c0_i32_215 : BitVec 32 := 0#32
  let v425 : BitVec 1 := Scalar.cmpi .sgt v244 c0_i32_215
  let v426 : BitVec 32 := Scalar.extui v425
  let c0_i32_216 : BitVec 32 := 0#32
  let v427 : BitVec 1 := Scalar.cmpi .slt v244 c0_i32_216
  let v428 : BitVec 32 := Scalar.extui v427
  let v429 : BitVec 32 := Scalar.subi v426 v428
  let c8_i32_214 : BitVec 32 := 8#32
  let c0_i32_217 : BitVec 32 := 0#32
  let v430 : BitVec 1 := Scalar.cmpi .sgt c8_i32_214 c0_i32_217
  let v431 : BitVec 32 := Scalar.extui v430
  let c0_i32_218 : BitVec 32 := 0#32
  let v432 : BitVec 1 := Scalar.cmpi .slt c8_i32_214 c0_i32_218
  let v433 : BitVec 32 := Scalar.extui v432
  let v434 : BitVec 32 := Scalar.subi v431 v433
  let v435 : BitVec 1 := Scalar.cmpi .ne v429 v434
  let v436 : BitVec 32 := Scalar.remsi v244 c8_i32_214
  let c0_i32_219 : BitVec 32 := 0#32
  let v437 : BitVec 1 := Scalar.cmpi .ne v436 c0_i32_219
  let v438 : BitVec 1 := Scalar.andi v435 v437
  let v424 : BitVec 32 := Scalar.divsi v244 c8_i32_214
  let c1_i32_220 : BitVec 32 := 1#32
  let v439 : BitVec 32 := Scalar.subi v424 c1_i32_220
  let v440 : BitVec 32 := Scalar.select v438 v439 v424
  let c1_i32_340 : BitVec 32 := 1#32
  let v671 : BitVec 32 := Scalar.muli v440 c1_i32_340
  let v672 : BitVec 32 := Scalar.addi c0_i32_341 v671
  v672.toNat
def k0_off37 (v238 : BitVec 32) : Fin 2 → Nat :=
  let c255_i32_122 : BitVec 32 := 255#32
  let v244 : BitVec 32 := Scalar.minsi v238 c255_i32_122
  let c0_i32_215 : BitVec 32 := 0#32
  let v425 : BitVec 1 := Scalar.cmpi .sgt v244 c0_i32_215
  let v426 : BitVec 32 := Scalar.extui v425
  let c0_i32_216 : BitVec 32 := 0#32
  let v427 : BitVec 1 := Scalar.cmpi .slt v244 c0_i32_216
  let v428 : BitVec 32 := Scalar.extui v427
  let v429 : BitVec 32 := Scalar.subi v426 v428
  let c8_i32_214 : BitVec 32 := 8#32
  let c0_i32_217 : BitVec 32 := 0#32
  let v430 : BitVec 1 := Scalar.cmpi .sgt c8_i32_214 c0_i32_217
  let v431 : BitVec 32 := Scalar.extui v430
  let c0_i32_218 : BitVec 32 := 0#32
  let v432 : BitVec 1 := Scalar.cmpi .slt c8_i32_214 c0_i32_218
  let v433 : BitVec 32 := Scalar.extui v432
  let v434 : BitVec 32 := Scalar.subi v431 v433
  let v435 : BitVec 1 := Scalar.cmpi .ne v429 v434
  let v436 : BitVec 32 := Scalar.remsi v244 c8_i32_214
  let c0_i32_219 : BitVec 32 := 0#32
  let v437 : BitVec 1 := Scalar.cmpi .ne v436 c0_i32_219
  let v438 : BitVec 1 := Scalar.andi v435 v437
  let v424 : BitVec 32 := Scalar.divsi v244 c8_i32_214
  let c1_i32_220 : BitVec 32 := 1#32
  let v439 : BitVec 32 := Scalar.subi v424 c1_i32_220
  let v440 : BitVec 32 := Scalar.select v438 v439 v424
  let c8_i32_221 : BitVec 32 := 8#32
  let v441 : BitVec 32 := Scalar.muli v440 c8_i32_221
  let v442 : BitVec 32 := Scalar.subi v244 v441
  let v673 : Index := Scalar.indexCast v442
  let c0_343 : Index := 0#32
  ![v673.toNat, 0]
def k0_cond31 (d0 : Dev nD) (v238 : BitVec 32) : BitVec 1 :=
  let c256_i32_213 : BitVec 32 := 256#32
  let v423 : BitVec 1 := Scalar.cmpi .slt v238 c256_i32_213
  let c255_i32_122 : BitVec 32 := 255#32
  let v244 : BitVec 32 := Scalar.minsi v238 c255_i32_122
  let c0_i32_215 : BitVec 32 := 0#32
  let v425 : BitVec 1 := Scalar.cmpi .sgt v244 c0_i32_215
  let v426 : BitVec 32 := Scalar.extui v425
  let c0_i32_216 : BitVec 32 := 0#32
  let v427 : BitVec 1 := Scalar.cmpi .slt v244 c0_i32_216
  let v428 : BitVec 32 := Scalar.extui v427
  let v429 : BitVec 32 := Scalar.subi v426 v428
  let c8_i32_214 : BitVec 32 := 8#32
  let c0_i32_217 : BitVec 32 := 0#32
  let v430 : BitVec 1 := Scalar.cmpi .sgt c8_i32_214 c0_i32_217
  let v431 : BitVec 32 := Scalar.extui v430
  let c0_i32_218 : BitVec 32 := 0#32
  let v432 : BitVec 1 := Scalar.cmpi .slt c8_i32_214 c0_i32_218
  let v433 : BitVec 32 := Scalar.extui v432
  let v434 : BitVec 32 := Scalar.subi v431 v433
  let v435 : BitVec 1 := Scalar.cmpi .ne v429 v434
  let v436 : BitVec 32 := Scalar.remsi v244 c8_i32_214
  let c0_i32_219 : BitVec 32 := 0#32
  let v437 : BitVec 1 := Scalar.cmpi .ne v436 c0_i32_219
  let v438 : BitVec 1 := Scalar.andi v435 v437
  let v424 : BitVec 32 := Scalar.divsi v244 c8_i32_214
  let c1_i32_220 : BitVec 32 := 1#32
  let v439 : BitVec 32 := Scalar.subi v424 c1_i32_220
  let v440 : BitVec 32 := Scalar.select v438 v439 v424
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v447 : BitVec 1 := Scalar.cmpi .eq v440 v2
  let v448 : BitVec 1 := Scalar.andi v423 v447
  let v449 : BitVec 32 := Scalar.extui v448
  let c0_i32_225 : BitVec 32 := 0#32
  let v450 : BitVec 1 := Scalar.cmpi .ne v449 c0_i32_225
  v450

def k0_off38 (v233 : BitVec 32) : Fin 2 → Nat :=
  let c255_i32 : BitVec 32 := 255#32
  let v239 : BitVec 32 := Scalar.minsi v233 c255_i32
  let c0_i32_150 : BitVec 32 := 0#32
  let v285 : BitVec 1 := Scalar.cmpi .sgt v239 c0_i32_150
  let v286 : BitVec 32 := Scalar.extui v285
  let c0_i32_151 : BitVec 32 := 0#32
  let v287 : BitVec 1 := Scalar.cmpi .slt v239 c0_i32_151
  let v288 : BitVec 32 := Scalar.extui v287
  let v289 : BitVec 32 := Scalar.subi v286 v288
  let c8_i32_149 : BitVec 32 := 8#32
  let c0_i32_152 : BitVec 32 := 0#32
  let v290 : BitVec 1 := Scalar.cmpi .sgt c8_i32_149 c0_i32_152
  let v291 : BitVec 32 := Scalar.extui v290
  let c0_i32_153 : BitVec 32 := 0#32
  let v292 : BitVec 1 := Scalar.cmpi .slt c8_i32_149 c0_i32_153
  let v293 : BitVec 32 := Scalar.extui v292
  let v294 : BitVec 32 := Scalar.subi v291 v293
  let v295 : BitVec 1 := Scalar.cmpi .ne v289 v294
  let v296 : BitVec 32 := Scalar.remsi v239 c8_i32_149
  let c0_i32_154 : BitVec 32 := 0#32
  let v297 : BitVec 1 := Scalar.cmpi .ne v296 c0_i32_154
  let v298 : BitVec 1 := Scalar.andi v295 v297
  let v284 : BitVec 32 := Scalar.divsi v239 c8_i32_149
  let c1_i32_155 : BitVec 32 := 1#32
  let v299 : BitVec 32 := Scalar.subi v284 c1_i32_155
  let v300 : BitVec 32 := Scalar.select v298 v299 v284
  let c8_i32_156 : BitVec 32 := 8#32
  let v301 : BitVec 32 := Scalar.muli v300 c8_i32_156
  let v302 : BitVec 32 := Scalar.subi v239 v301
  let c0_i32_343 : BitVec 32 := 0#32
  ![v302.toNat, 0]
def k0_cond32 (d0 : Dev nD) (v233 : BitVec 32) : BitVec 1 :=
  let c256_i32_148 : BitVec 32 := 256#32
  let v283 : BitVec 1 := Scalar.cmpi .slt v233 c256_i32_148
  let c255_i32 : BitVec 32 := 255#32
  let v239 : BitVec 32 := Scalar.minsi v233 c255_i32
  let c0_i32_150 : BitVec 32 := 0#32
  let v285 : BitVec 1 := Scalar.cmpi .sgt v239 c0_i32_150
  let v286 : BitVec 32 := Scalar.extui v285
  let c0_i32_151 : BitVec 32 := 0#32
  let v287 : BitVec 1 := Scalar.cmpi .slt v239 c0_i32_151
  let v288 : BitVec 32 := Scalar.extui v287
  let v289 : BitVec 32 := Scalar.subi v286 v288
  let c8_i32_149 : BitVec 32 := 8#32
  let c0_i32_152 : BitVec 32 := 0#32
  let v290 : BitVec 1 := Scalar.cmpi .sgt c8_i32_149 c0_i32_152
  let v291 : BitVec 32 := Scalar.extui v290
  let c0_i32_153 : BitVec 32 := 0#32
  let v292 : BitVec 1 := Scalar.cmpi .slt c8_i32_149 c0_i32_153
  let v293 : BitVec 32 := Scalar.extui v292
  let v294 : BitVec 32 := Scalar.subi v291 v293
  let v295 : BitVec 1 := Scalar.cmpi .ne v289 v294
  let v296 : BitVec 32 := Scalar.remsi v239 c8_i32_149
  let c0_i32_154 : BitVec 32 := 0#32
  let v297 : BitVec 1 := Scalar.cmpi .ne v296 c0_i32_154
  let v298 : BitVec 1 := Scalar.andi v295 v297
  let v284 : BitVec 32 := Scalar.divsi v239 c8_i32_149
  let c1_i32_155 : BitVec 32 := 1#32
  let v299 : BitVec 32 := Scalar.subi v284 c1_i32_155
  let v300 : BitVec 32 := Scalar.select v298 v299 v284
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v303 : BitVec 1 := Scalar.cmpi .ne v300 v2
  let v304 : BitVec 1 := Scalar.andi v283 v303
  let v451 : BitVec 32 := Scalar.extui v304
  let c0_i32_228 : BitVec 32 := 0#32
  let v452 : BitVec 1 := Scalar.cmpi .ne v451 c0_i32_228
  v452

def k0_chk11 (d0 : Dev nD) (v233 : BitVec 32) : Prop :=
  (∀ a, (k0_off14 v233) a + S1x128.size a ≤ S256x128.size a) ∧
  (∀ (k0_h20 : k0_cond20 d0 v233 = 1#1), ∀ a, (k0_off20 v233) a + S1.size a ≤ S8.size a) ∧
  (∀ (k0_h20 : k0_cond20 d0 v233 = 1#1), ∀ a, (k0_off21 v233) a + S1x256.size a ≤ S8x256.size a) ∧
  (∀ (k0_h20 : k0_cond20 d0 v233 = 1#1), (k0_dev9 v233) < nD) ∧
  (∀ (k0_h21 : k0_cond21 d0 v233 = 1#1), ∀ a, (k0_off22 v233) a + S1x256.size a ≤ S8x256.size a) ∧
  (∀ (k0_h32 : k0_cond32 d0 v233 = 1#1), ∀ a, (k0_off38 v233) a + S1x256.size a ≤ S8x256.size a)
theorem k0_off14_inb : ∀ (d0 : Dev nD) (v233 : BitVec 32) (k0_hw11 : k0_chk11 d0 v233), ∀ a, (k0_off14 v233) a + S1x128.size a ≤ S256x128.size a := fun d0 v233 k0_hw11 => k0_hw11.1
theorem k0_off20_inb : ∀ (d0 : Dev nD) (v233 : BitVec 32) (k0_hw11 : k0_chk11 d0 v233), ∀ (k0_h20 : k0_cond20 d0 v233 = 1#1), ∀ a, (k0_off20 v233) a + S1.size a ≤ S8.size a := fun d0 v233 k0_hw11 k0_h20 => k0_hw11.2.1 k0_h20
theorem k0_off21_inb : ∀ (d0 : Dev nD) (v233 : BitVec 32) (k0_hw11 : k0_chk11 d0 v233), ∀ (k0_h20 : k0_cond20 d0 v233 = 1#1), ∀ a, (k0_off21 v233) a + S1x256.size a ≤ S8x256.size a := fun d0 v233 k0_hw11 k0_h20 => k0_hw11.2.2.1 k0_h20
theorem k0_dev9_lt : ∀ (d0 : Dev nD) (v233 : BitVec 32) (k0_hw11 : k0_chk11 d0 v233), ∀ (k0_h20 : k0_cond20 d0 v233 = 1#1), (k0_dev9 v233) < nD := fun d0 v233 k0_hw11 k0_h20 => k0_hw11.2.2.2.1 k0_h20
theorem k0_off22_inb : ∀ (d0 : Dev nD) (v233 : BitVec 32) (k0_hw11 : k0_chk11 d0 v233), ∀ (k0_h21 : k0_cond21 d0 v233 = 1#1), ∀ a, (k0_off22 v233) a + S1x256.size a ≤ S8x256.size a := fun d0 v233 k0_hw11 k0_h21 => k0_hw11.2.2.2.2.1 k0_h21
theorem k0_off38_inb : ∀ (d0 : Dev nD) (v233 : BitVec 32) (k0_hw11 : k0_chk11 d0 v233), ∀ (k0_h32 : k0_cond32 d0 v233 = 1#1), ∀ a, (k0_off38 v233) a + S1x256.size a ≤ S8x256.size a := fun d0 v233 k0_hw11 k0_h32 => k0_hw11.2.2.2.2.2 k0_h32

def k0_off39 (v234 : BitVec 32) : Fin 2 → Nat :=
  let c255_i32_118 : BitVec 32 := 255#32
  let v240 : BitVec 32 := Scalar.minsi v234 c255_i32_118
  let c0_i32_163 : BitVec 32 := 0#32
  let v313 : BitVec 1 := Scalar.cmpi .sgt v240 c0_i32_163
  let v314 : BitVec 32 := Scalar.extui v313
  let c0_i32_164 : BitVec 32 := 0#32
  let v315 : BitVec 1 := Scalar.cmpi .slt v240 c0_i32_164
  let v316 : BitVec 32 := Scalar.extui v315
  let v317 : BitVec 32 := Scalar.subi v314 v316
  let c8_i32_162 : BitVec 32 := 8#32
  let c0_i32_165 : BitVec 32 := 0#32
  let v318 : BitVec 1 := Scalar.cmpi .sgt c8_i32_162 c0_i32_165
  let v319 : BitVec 32 := Scalar.extui v318
  let c0_i32_166 : BitVec 32 := 0#32
  let v320 : BitVec 1 := Scalar.cmpi .slt c8_i32_162 c0_i32_166
  let v321 : BitVec 32 := Scalar.extui v320
  let v322 : BitVec 32 := Scalar.subi v319 v321
  let v323 : BitVec 1 := Scalar.cmpi .ne v317 v322
  let v324 : BitVec 32 := Scalar.remsi v240 c8_i32_162
  let c0_i32_167 : BitVec 32 := 0#32
  let v325 : BitVec 1 := Scalar.cmpi .ne v324 c0_i32_167
  let v326 : BitVec 1 := Scalar.andi v323 v325
  let v312 : BitVec 32 := Scalar.divsi v240 c8_i32_162
  let c1_i32_168 : BitVec 32 := 1#32
  let v327 : BitVec 32 := Scalar.subi v312 c1_i32_168
  let v328 : BitVec 32 := Scalar.select v326 v327 v312
  let c8_i32_169 : BitVec 32 := 8#32
  let v329 : BitVec 32 := Scalar.muli v328 c8_i32_169
  let v330 : BitVec 32 := Scalar.subi v240 v329
  let c0_i32_343 : BitVec 32 := 0#32
  ![v330.toNat, 0]
def k0_cond33 (d0 : Dev nD) (v234 : BitVec 32) : BitVec 1 :=
  let c256_i32_161 : BitVec 32 := 256#32
  let v311 : BitVec 1 := Scalar.cmpi .slt v234 c256_i32_161
  let c255_i32_118 : BitVec 32 := 255#32
  let v240 : BitVec 32 := Scalar.minsi v234 c255_i32_118
  let c0_i32_163 : BitVec 32 := 0#32
  let v313 : BitVec 1 := Scalar.cmpi .sgt v240 c0_i32_163
  let v314 : BitVec 32 := Scalar.extui v313
  let c0_i32_164 : BitVec 32 := 0#32
  let v315 : BitVec 1 := Scalar.cmpi .slt v240 c0_i32_164
  let v316 : BitVec 32 := Scalar.extui v315
  let v317 : BitVec 32 := Scalar.subi v314 v316
  let c8_i32_162 : BitVec 32 := 8#32
  let c0_i32_165 : BitVec 32 := 0#32
  let v318 : BitVec 1 := Scalar.cmpi .sgt c8_i32_162 c0_i32_165
  let v319 : BitVec 32 := Scalar.extui v318
  let c0_i32_166 : BitVec 32 := 0#32
  let v320 : BitVec 1 := Scalar.cmpi .slt c8_i32_162 c0_i32_166
  let v321 : BitVec 32 := Scalar.extui v320
  let v322 : BitVec 32 := Scalar.subi v319 v321
  let v323 : BitVec 1 := Scalar.cmpi .ne v317 v322
  let v324 : BitVec 32 := Scalar.remsi v240 c8_i32_162
  let c0_i32_167 : BitVec 32 := 0#32
  let v325 : BitVec 1 := Scalar.cmpi .ne v324 c0_i32_167
  let v326 : BitVec 1 := Scalar.andi v323 v325
  let v312 : BitVec 32 := Scalar.divsi v240 c8_i32_162
  let c1_i32_168 : BitVec 32 := 1#32
  let v327 : BitVec 32 := Scalar.subi v312 c1_i32_168
  let v328 : BitVec 32 := Scalar.select v326 v327 v312
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v331 : BitVec 1 := Scalar.cmpi .ne v328 v2
  let v332 : BitVec 1 := Scalar.andi v311 v331
  let v453 : BitVec 32 := Scalar.extui v332
  let c0_i32_231 : BitVec 32 := 0#32
  let v454 : BitVec 1 := Scalar.cmpi .ne v453 c0_i32_231
  v454

def k0_chk12 (d0 : Dev nD) (v234 : BitVec 32) : Prop :=
  (∀ a, (k0_off15 v234) a + S1x128.size a ≤ S256x128.size a) ∧
  (∀ (k0_h22 : k0_cond22 d0 v234 = 1#1), ∀ a, (k0_off23 v234) a + S1.size a ≤ S8.size a) ∧
  (∀ (k0_h22 : k0_cond22 d0 v234 = 1#1), ∀ a, (k0_off24 v234) a + S1x256.size a ≤ S8x256.size a) ∧
  (∀ (k0_h22 : k0_cond22 d0 v234 = 1#1), (k0_dev10 v234) < nD) ∧
  (∀ (k0_h23 : k0_cond23 d0 v234 = 1#1), ∀ a, (k0_off25 v234) a + S1x256.size a ≤ S8x256.size a) ∧
  (∀ (k0_h33 : k0_cond33 d0 v234 = 1#1), ∀ a, (k0_off39 v234) a + S1x256.size a ≤ S8x256.size a)
theorem k0_off15_inb : ∀ (d0 : Dev nD) (v234 : BitVec 32) (k0_hw12 : k0_chk12 d0 v234), ∀ a, (k0_off15 v234) a + S1x128.size a ≤ S256x128.size a := fun d0 v234 k0_hw12 => k0_hw12.1
theorem k0_off23_inb : ∀ (d0 : Dev nD) (v234 : BitVec 32) (k0_hw12 : k0_chk12 d0 v234), ∀ (k0_h22 : k0_cond22 d0 v234 = 1#1), ∀ a, (k0_off23 v234) a + S1.size a ≤ S8.size a := fun d0 v234 k0_hw12 k0_h22 => k0_hw12.2.1 k0_h22
theorem k0_off24_inb : ∀ (d0 : Dev nD) (v234 : BitVec 32) (k0_hw12 : k0_chk12 d0 v234), ∀ (k0_h22 : k0_cond22 d0 v234 = 1#1), ∀ a, (k0_off24 v234) a + S1x256.size a ≤ S8x256.size a := fun d0 v234 k0_hw12 k0_h22 => k0_hw12.2.2.1 k0_h22
theorem k0_dev10_lt : ∀ (d0 : Dev nD) (v234 : BitVec 32) (k0_hw12 : k0_chk12 d0 v234), ∀ (k0_h22 : k0_cond22 d0 v234 = 1#1), (k0_dev10 v234) < nD := fun d0 v234 k0_hw12 k0_h22 => k0_hw12.2.2.2.1 k0_h22
theorem k0_off25_inb : ∀ (d0 : Dev nD) (v234 : BitVec 32) (k0_hw12 : k0_chk12 d0 v234), ∀ (k0_h23 : k0_cond23 d0 v234 = 1#1), ∀ a, (k0_off25 v234) a + S1x256.size a ≤ S8x256.size a := fun d0 v234 k0_hw12 k0_h23 => k0_hw12.2.2.2.2.1 k0_h23
theorem k0_off39_inb : ∀ (d0 : Dev nD) (v234 : BitVec 32) (k0_hw12 : k0_chk12 d0 v234), ∀ (k0_h33 : k0_cond33 d0 v234 = 1#1), ∀ a, (k0_off39 v234) a + S1x256.size a ≤ S8x256.size a := fun d0 v234 k0_hw12 k0_h33 => k0_hw12.2.2.2.2.2 k0_h33

def k0_off40 (v235 : BitVec 32) : Fin 2 → Nat :=
  let c255_i32_119 : BitVec 32 := 255#32
  let v241 : BitVec 32 := Scalar.minsi v235 c255_i32_119
  let c0_i32_176 : BitVec 32 := 0#32
  let v341 : BitVec 1 := Scalar.cmpi .sgt v241 c0_i32_176
  let v342 : BitVec 32 := Scalar.extui v341
  let c0_i32_177 : BitVec 32 := 0#32
  let v343 : BitVec 1 := Scalar.cmpi .slt v241 c0_i32_177
  let v344 : BitVec 32 := Scalar.extui v343
  let v345 : BitVec 32 := Scalar.subi v342 v344
  let c8_i32_175 : BitVec 32 := 8#32
  let c0_i32_178 : BitVec 32 := 0#32
  let v346 : BitVec 1 := Scalar.cmpi .sgt c8_i32_175 c0_i32_178
  let v347 : BitVec 32 := Scalar.extui v346
  let c0_i32_179 : BitVec 32 := 0#32
  let v348 : BitVec 1 := Scalar.cmpi .slt c8_i32_175 c0_i32_179
  let v349 : BitVec 32 := Scalar.extui v348
  let v350 : BitVec 32 := Scalar.subi v347 v349
  let v351 : BitVec 1 := Scalar.cmpi .ne v345 v350
  let v352 : BitVec 32 := Scalar.remsi v241 c8_i32_175
  let c0_i32_180 : BitVec 32 := 0#32
  let v353 : BitVec 1 := Scalar.cmpi .ne v352 c0_i32_180
  let v354 : BitVec 1 := Scalar.andi v351 v353
  let v340 : BitVec 32 := Scalar.divsi v241 c8_i32_175
  let c1_i32_181 : BitVec 32 := 1#32
  let v355 : BitVec 32 := Scalar.subi v340 c1_i32_181
  let v356 : BitVec 32 := Scalar.select v354 v355 v340
  let c8_i32_182 : BitVec 32 := 8#32
  let v357 : BitVec 32 := Scalar.muli v356 c8_i32_182
  let v358 : BitVec 32 := Scalar.subi v241 v357
  let c0_i32_343 : BitVec 32 := 0#32
  ![v358.toNat, 0]
def k0_cond34 (d0 : Dev nD) (v235 : BitVec 32) : BitVec 1 :=
  let c256_i32_174 : BitVec 32 := 256#32
  let v339 : BitVec 1 := Scalar.cmpi .slt v235 c256_i32_174
  let c255_i32_119 : BitVec 32 := 255#32
  let v241 : BitVec 32 := Scalar.minsi v235 c255_i32_119
  let c0_i32_176 : BitVec 32 := 0#32
  let v341 : BitVec 1 := Scalar.cmpi .sgt v241 c0_i32_176
  let v342 : BitVec 32 := Scalar.extui v341
  let c0_i32_177 : BitVec 32 := 0#32
  let v343 : BitVec 1 := Scalar.cmpi .slt v241 c0_i32_177
  let v344 : BitVec 32 := Scalar.extui v343
  let v345 : BitVec 32 := Scalar.subi v342 v344
  let c8_i32_175 : BitVec 32 := 8#32
  let c0_i32_178 : BitVec 32 := 0#32
  let v346 : BitVec 1 := Scalar.cmpi .sgt c8_i32_175 c0_i32_178
  let v347 : BitVec 32 := Scalar.extui v346
  let c0_i32_179 : BitVec 32 := 0#32
  let v348 : BitVec 1 := Scalar.cmpi .slt c8_i32_175 c0_i32_179
  let v349 : BitVec 32 := Scalar.extui v348
  let v350 : BitVec 32 := Scalar.subi v347 v349
  let v351 : BitVec 1 := Scalar.cmpi .ne v345 v350
  let v352 : BitVec 32 := Scalar.remsi v241 c8_i32_175
  let c0_i32_180 : BitVec 32 := 0#32
  let v353 : BitVec 1 := Scalar.cmpi .ne v352 c0_i32_180
  let v354 : BitVec 1 := Scalar.andi v351 v353
  let v340 : BitVec 32 := Scalar.divsi v241 c8_i32_175
  let c1_i32_181 : BitVec 32 := 1#32
  let v355 : BitVec 32 := Scalar.subi v340 c1_i32_181
  let v356 : BitVec 32 := Scalar.select v354 v355 v340
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v359 : BitVec 1 := Scalar.cmpi .ne v356 v2
  let v360 : BitVec 1 := Scalar.andi v339 v359
  let v455 : BitVec 32 := Scalar.extui v360
  let c0_i32_234 : BitVec 32 := 0#32
  let v456 : BitVec 1 := Scalar.cmpi .ne v455 c0_i32_234
  v456

def k0_chk13 (d0 : Dev nD) (v235 : BitVec 32) : Prop :=
  (∀ a, (k0_off16 v235) a + S1x128.size a ≤ S256x128.size a) ∧
  (∀ (k0_h24 : k0_cond24 d0 v235 = 1#1), ∀ a, (k0_off26 v235) a + S1.size a ≤ S8.size a) ∧
  (∀ (k0_h24 : k0_cond24 d0 v235 = 1#1), ∀ a, (k0_off27 v235) a + S1x256.size a ≤ S8x256.size a) ∧
  (∀ (k0_h24 : k0_cond24 d0 v235 = 1#1), (k0_dev11 v235) < nD) ∧
  (∀ (k0_h25 : k0_cond25 d0 v235 = 1#1), ∀ a, (k0_off28 v235) a + S1x256.size a ≤ S8x256.size a) ∧
  (∀ (k0_h34 : k0_cond34 d0 v235 = 1#1), ∀ a, (k0_off40 v235) a + S1x256.size a ≤ S8x256.size a)
theorem k0_off16_inb : ∀ (d0 : Dev nD) (v235 : BitVec 32) (k0_hw13 : k0_chk13 d0 v235), ∀ a, (k0_off16 v235) a + S1x128.size a ≤ S256x128.size a := fun d0 v235 k0_hw13 => k0_hw13.1
theorem k0_off26_inb : ∀ (d0 : Dev nD) (v235 : BitVec 32) (k0_hw13 : k0_chk13 d0 v235), ∀ (k0_h24 : k0_cond24 d0 v235 = 1#1), ∀ a, (k0_off26 v235) a + S1.size a ≤ S8.size a := fun d0 v235 k0_hw13 k0_h24 => k0_hw13.2.1 k0_h24
theorem k0_off27_inb : ∀ (d0 : Dev nD) (v235 : BitVec 32) (k0_hw13 : k0_chk13 d0 v235), ∀ (k0_h24 : k0_cond24 d0 v235 = 1#1), ∀ a, (k0_off27 v235) a + S1x256.size a ≤ S8x256.size a := fun d0 v235 k0_hw13 k0_h24 => k0_hw13.2.2.1 k0_h24
theorem k0_dev11_lt : ∀ (d0 : Dev nD) (v235 : BitVec 32) (k0_hw13 : k0_chk13 d0 v235), ∀ (k0_h24 : k0_cond24 d0 v235 = 1#1), (k0_dev11 v235) < nD := fun d0 v235 k0_hw13 k0_h24 => k0_hw13.2.2.2.1 k0_h24
theorem k0_off28_inb : ∀ (d0 : Dev nD) (v235 : BitVec 32) (k0_hw13 : k0_chk13 d0 v235), ∀ (k0_h25 : k0_cond25 d0 v235 = 1#1), ∀ a, (k0_off28 v235) a + S1x256.size a ≤ S8x256.size a := fun d0 v235 k0_hw13 k0_h25 => k0_hw13.2.2.2.2.1 k0_h25
theorem k0_off40_inb : ∀ (d0 : Dev nD) (v235 : BitVec 32) (k0_hw13 : k0_chk13 d0 v235), ∀ (k0_h34 : k0_cond34 d0 v235 = 1#1), ∀ a, (k0_off40 v235) a + S1x256.size a ≤ S8x256.size a := fun d0 v235 k0_hw13 k0_h34 => k0_hw13.2.2.2.2.2 k0_h34

def k0_off41 (v236 : BitVec 32) : Fin 2 → Nat :=
  let c255_i32_120 : BitVec 32 := 255#32
  let v242 : BitVec 32 := Scalar.minsi v236 c255_i32_120
  let c0_i32_189 : BitVec 32 := 0#32
  let v369 : BitVec 1 := Scalar.cmpi .sgt v242 c0_i32_189
  let v370 : BitVec 32 := Scalar.extui v369
  let c0_i32_190 : BitVec 32 := 0#32
  let v371 : BitVec 1 := Scalar.cmpi .slt v242 c0_i32_190
  let v372 : BitVec 32 := Scalar.extui v371
  let v373 : BitVec 32 := Scalar.subi v370 v372
  let c8_i32_188 : BitVec 32 := 8#32
  let c0_i32_191 : BitVec 32 := 0#32
  let v374 : BitVec 1 := Scalar.cmpi .sgt c8_i32_188 c0_i32_191
  let v375 : BitVec 32 := Scalar.extui v374
  let c0_i32_192 : BitVec 32 := 0#32
  let v376 : BitVec 1 := Scalar.cmpi .slt c8_i32_188 c0_i32_192
  let v377 : BitVec 32 := Scalar.extui v376
  let v378 : BitVec 32 := Scalar.subi v375 v377
  let v379 : BitVec 1 := Scalar.cmpi .ne v373 v378
  let v380 : BitVec 32 := Scalar.remsi v242 c8_i32_188
  let c0_i32_193 : BitVec 32 := 0#32
  let v381 : BitVec 1 := Scalar.cmpi .ne v380 c0_i32_193
  let v382 : BitVec 1 := Scalar.andi v379 v381
  let v368 : BitVec 32 := Scalar.divsi v242 c8_i32_188
  let c1_i32_194 : BitVec 32 := 1#32
  let v383 : BitVec 32 := Scalar.subi v368 c1_i32_194
  let v384 : BitVec 32 := Scalar.select v382 v383 v368
  let c8_i32_195 : BitVec 32 := 8#32
  let v385 : BitVec 32 := Scalar.muli v384 c8_i32_195
  let v386 : BitVec 32 := Scalar.subi v242 v385
  let c0_i32_343 : BitVec 32 := 0#32
  ![v386.toNat, 0]
def k0_cond35 (d0 : Dev nD) (v236 : BitVec 32) : BitVec 1 :=
  let c256_i32_187 : BitVec 32 := 256#32
  let v367 : BitVec 1 := Scalar.cmpi .slt v236 c256_i32_187
  let c255_i32_120 : BitVec 32 := 255#32
  let v242 : BitVec 32 := Scalar.minsi v236 c255_i32_120
  let c0_i32_189 : BitVec 32 := 0#32
  let v369 : BitVec 1 := Scalar.cmpi .sgt v242 c0_i32_189
  let v370 : BitVec 32 := Scalar.extui v369
  let c0_i32_190 : BitVec 32 := 0#32
  let v371 : BitVec 1 := Scalar.cmpi .slt v242 c0_i32_190
  let v372 : BitVec 32 := Scalar.extui v371
  let v373 : BitVec 32 := Scalar.subi v370 v372
  let c8_i32_188 : BitVec 32 := 8#32
  let c0_i32_191 : BitVec 32 := 0#32
  let v374 : BitVec 1 := Scalar.cmpi .sgt c8_i32_188 c0_i32_191
  let v375 : BitVec 32 := Scalar.extui v374
  let c0_i32_192 : BitVec 32 := 0#32
  let v376 : BitVec 1 := Scalar.cmpi .slt c8_i32_188 c0_i32_192
  let v377 : BitVec 32 := Scalar.extui v376
  let v378 : BitVec 32 := Scalar.subi v375 v377
  let v379 : BitVec 1 := Scalar.cmpi .ne v373 v378
  let v380 : BitVec 32 := Scalar.remsi v242 c8_i32_188
  let c0_i32_193 : BitVec 32 := 0#32
  let v381 : BitVec 1 := Scalar.cmpi .ne v380 c0_i32_193
  let v382 : BitVec 1 := Scalar.andi v379 v381
  let v368 : BitVec 32 := Scalar.divsi v242 c8_i32_188
  let c1_i32_194 : BitVec 32 := 1#32
  let v383 : BitVec 32 := Scalar.subi v368 c1_i32_194
  let v384 : BitVec 32 := Scalar.select v382 v383 v368
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v387 : BitVec 1 := Scalar.cmpi .ne v384 v2
  let v388 : BitVec 1 := Scalar.andi v367 v387
  let v457 : BitVec 32 := Scalar.extui v388
  let c0_i32_237 : BitVec 32 := 0#32
  let v458 : BitVec 1 := Scalar.cmpi .ne v457 c0_i32_237
  v458

def k0_chk14 (d0 : Dev nD) (v236 : BitVec 32) : Prop :=
  (∀ a, (k0_off17 v236) a + S1x128.size a ≤ S256x128.size a) ∧
  (∀ (k0_h26 : k0_cond26 d0 v236 = 1#1), ∀ a, (k0_off29 v236) a + S1.size a ≤ S8.size a) ∧
  (∀ (k0_h26 : k0_cond26 d0 v236 = 1#1), ∀ a, (k0_off30 v236) a + S1x256.size a ≤ S8x256.size a) ∧
  (∀ (k0_h26 : k0_cond26 d0 v236 = 1#1), (k0_dev12 v236) < nD) ∧
  (∀ (k0_h27 : k0_cond27 d0 v236 = 1#1), ∀ a, (k0_off31 v236) a + S1x256.size a ≤ S8x256.size a) ∧
  (∀ (k0_h35 : k0_cond35 d0 v236 = 1#1), ∀ a, (k0_off41 v236) a + S1x256.size a ≤ S8x256.size a)
theorem k0_off17_inb : ∀ (d0 : Dev nD) (v236 : BitVec 32) (k0_hw14 : k0_chk14 d0 v236), ∀ a, (k0_off17 v236) a + S1x128.size a ≤ S256x128.size a := fun d0 v236 k0_hw14 => k0_hw14.1
theorem k0_off29_inb : ∀ (d0 : Dev nD) (v236 : BitVec 32) (k0_hw14 : k0_chk14 d0 v236), ∀ (k0_h26 : k0_cond26 d0 v236 = 1#1), ∀ a, (k0_off29 v236) a + S1.size a ≤ S8.size a := fun d0 v236 k0_hw14 k0_h26 => k0_hw14.2.1 k0_h26
theorem k0_off30_inb : ∀ (d0 : Dev nD) (v236 : BitVec 32) (k0_hw14 : k0_chk14 d0 v236), ∀ (k0_h26 : k0_cond26 d0 v236 = 1#1), ∀ a, (k0_off30 v236) a + S1x256.size a ≤ S8x256.size a := fun d0 v236 k0_hw14 k0_h26 => k0_hw14.2.2.1 k0_h26
theorem k0_dev12_lt : ∀ (d0 : Dev nD) (v236 : BitVec 32) (k0_hw14 : k0_chk14 d0 v236), ∀ (k0_h26 : k0_cond26 d0 v236 = 1#1), (k0_dev12 v236) < nD := fun d0 v236 k0_hw14 k0_h26 => k0_hw14.2.2.2.1 k0_h26
theorem k0_off31_inb : ∀ (d0 : Dev nD) (v236 : BitVec 32) (k0_hw14 : k0_chk14 d0 v236), ∀ (k0_h27 : k0_cond27 d0 v236 = 1#1), ∀ a, (k0_off31 v236) a + S1x256.size a ≤ S8x256.size a := fun d0 v236 k0_hw14 k0_h27 => k0_hw14.2.2.2.2.1 k0_h27
theorem k0_off41_inb : ∀ (d0 : Dev nD) (v236 : BitVec 32) (k0_hw14 : k0_chk14 d0 v236), ∀ (k0_h35 : k0_cond35 d0 v236 = 1#1), ∀ a, (k0_off41 v236) a + S1x256.size a ≤ S8x256.size a := fun d0 v236 k0_hw14 k0_h35 => k0_hw14.2.2.2.2.2 k0_h35

def k0_off42 (v237 : BitVec 32) : Fin 2 → Nat :=
  let c255_i32_121 : BitVec 32 := 255#32
  let v243 : BitVec 32 := Scalar.minsi v237 c255_i32_121
  let c0_i32_202 : BitVec 32 := 0#32
  let v397 : BitVec 1 := Scalar.cmpi .sgt v243 c0_i32_202
  let v398 : BitVec 32 := Scalar.extui v397
  let c0_i32_203 : BitVec 32 := 0#32
  let v399 : BitVec 1 := Scalar.cmpi .slt v243 c0_i32_203
  let v400 : BitVec 32 := Scalar.extui v399
  let v401 : BitVec 32 := Scalar.subi v398 v400
  let c8_i32_201 : BitVec 32 := 8#32
  let c0_i32_204 : BitVec 32 := 0#32
  let v402 : BitVec 1 := Scalar.cmpi .sgt c8_i32_201 c0_i32_204
  let v403 : BitVec 32 := Scalar.extui v402
  let c0_i32_205 : BitVec 32 := 0#32
  let v404 : BitVec 1 := Scalar.cmpi .slt c8_i32_201 c0_i32_205
  let v405 : BitVec 32 := Scalar.extui v404
  let v406 : BitVec 32 := Scalar.subi v403 v405
  let v407 : BitVec 1 := Scalar.cmpi .ne v401 v406
  let v408 : BitVec 32 := Scalar.remsi v243 c8_i32_201
  let c0_i32_206 : BitVec 32 := 0#32
  let v409 : BitVec 1 := Scalar.cmpi .ne v408 c0_i32_206
  let v410 : BitVec 1 := Scalar.andi v407 v409
  let v396 : BitVec 32 := Scalar.divsi v243 c8_i32_201
  let c1_i32_207 : BitVec 32 := 1#32
  let v411 : BitVec 32 := Scalar.subi v396 c1_i32_207
  let v412 : BitVec 32 := Scalar.select v410 v411 v396
  let c8_i32_208 : BitVec 32 := 8#32
  let v413 : BitVec 32 := Scalar.muli v412 c8_i32_208
  let v414 : BitVec 32 := Scalar.subi v243 v413
  let c0_i32_343 : BitVec 32 := 0#32
  ![v414.toNat, 0]
def k0_cond36 (d0 : Dev nD) (v237 : BitVec 32) : BitVec 1 :=
  let c256_i32_200 : BitVec 32 := 256#32
  let v395 : BitVec 1 := Scalar.cmpi .slt v237 c256_i32_200
  let c255_i32_121 : BitVec 32 := 255#32
  let v243 : BitVec 32 := Scalar.minsi v237 c255_i32_121
  let c0_i32_202 : BitVec 32 := 0#32
  let v397 : BitVec 1 := Scalar.cmpi .sgt v243 c0_i32_202
  let v398 : BitVec 32 := Scalar.extui v397
  let c0_i32_203 : BitVec 32 := 0#32
  let v399 : BitVec 1 := Scalar.cmpi .slt v243 c0_i32_203
  let v400 : BitVec 32 := Scalar.extui v399
  let v401 : BitVec 32 := Scalar.subi v398 v400
  let c8_i32_201 : BitVec 32 := 8#32
  let c0_i32_204 : BitVec 32 := 0#32
  let v402 : BitVec 1 := Scalar.cmpi .sgt c8_i32_201 c0_i32_204
  let v403 : BitVec 32 := Scalar.extui v402
  let c0_i32_205 : BitVec 32 := 0#32
  let v404 : BitVec 1 := Scalar.cmpi .slt c8_i32_201 c0_i32_205
  let v405 : BitVec 32 := Scalar.extui v404
  let v406 : BitVec 32 := Scalar.subi v403 v405
  let v407 : BitVec 1 := Scalar.cmpi .ne v401 v406
  let v408 : BitVec 32 := Scalar.remsi v243 c8_i32_201
  let c0_i32_206 : BitVec 32 := 0#32
  let v409 : BitVec 1 := Scalar.cmpi .ne v408 c0_i32_206
  let v410 : BitVec 1 := Scalar.andi v407 v409
  let v396 : BitVec 32 := Scalar.divsi v243 c8_i32_201
  let c1_i32_207 : BitVec 32 := 1#32
  let v411 : BitVec 32 := Scalar.subi v396 c1_i32_207
  let v412 : BitVec 32 := Scalar.select v410 v411 v396
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v415 : BitVec 1 := Scalar.cmpi .ne v412 v2
  let v416 : BitVec 1 := Scalar.andi v395 v415
  let v459 : BitVec 32 := Scalar.extui v416
  let c0_i32_240 : BitVec 32 := 0#32
  let v460 : BitVec 1 := Scalar.cmpi .ne v459 c0_i32_240
  v460

def k0_chk15 (d0 : Dev nD) (v237 : BitVec 32) : Prop :=
  (∀ a, (k0_off18 v237) a + S1x128.size a ≤ S256x128.size a) ∧
  (∀ (k0_h28 : k0_cond28 d0 v237 = 1#1), ∀ a, (k0_off32 v237) a + S1.size a ≤ S8.size a) ∧
  (∀ (k0_h28 : k0_cond28 d0 v237 = 1#1), ∀ a, (k0_off33 v237) a + S1x256.size a ≤ S8x256.size a) ∧
  (∀ (k0_h28 : k0_cond28 d0 v237 = 1#1), (k0_dev13 v237) < nD) ∧
  (∀ (k0_h29 : k0_cond29 d0 v237 = 1#1), ∀ a, (k0_off34 v237) a + S1x256.size a ≤ S8x256.size a) ∧
  (∀ (k0_h36 : k0_cond36 d0 v237 = 1#1), ∀ a, (k0_off42 v237) a + S1x256.size a ≤ S8x256.size a)
theorem k0_off18_inb : ∀ (d0 : Dev nD) (v237 : BitVec 32) (k0_hw15 : k0_chk15 d0 v237), ∀ a, (k0_off18 v237) a + S1x128.size a ≤ S256x128.size a := fun d0 v237 k0_hw15 => k0_hw15.1
theorem k0_off32_inb : ∀ (d0 : Dev nD) (v237 : BitVec 32) (k0_hw15 : k0_chk15 d0 v237), ∀ (k0_h28 : k0_cond28 d0 v237 = 1#1), ∀ a, (k0_off32 v237) a + S1.size a ≤ S8.size a := fun d0 v237 k0_hw15 k0_h28 => k0_hw15.2.1 k0_h28
theorem k0_off33_inb : ∀ (d0 : Dev nD) (v237 : BitVec 32) (k0_hw15 : k0_chk15 d0 v237), ∀ (k0_h28 : k0_cond28 d0 v237 = 1#1), ∀ a, (k0_off33 v237) a + S1x256.size a ≤ S8x256.size a := fun d0 v237 k0_hw15 k0_h28 => k0_hw15.2.2.1 k0_h28
theorem k0_dev13_lt : ∀ (d0 : Dev nD) (v237 : BitVec 32) (k0_hw15 : k0_chk15 d0 v237), ∀ (k0_h28 : k0_cond28 d0 v237 = 1#1), (k0_dev13 v237) < nD := fun d0 v237 k0_hw15 k0_h28 => k0_hw15.2.2.2.1 k0_h28
theorem k0_off34_inb : ∀ (d0 : Dev nD) (v237 : BitVec 32) (k0_hw15 : k0_chk15 d0 v237), ∀ (k0_h29 : k0_cond29 d0 v237 = 1#1), ∀ a, (k0_off34 v237) a + S1x256.size a ≤ S8x256.size a := fun d0 v237 k0_hw15 k0_h29 => k0_hw15.2.2.2.2.1 k0_h29
theorem k0_off42_inb : ∀ (d0 : Dev nD) (v237 : BitVec 32) (k0_hw15 : k0_chk15 d0 v237), ∀ (k0_h36 : k0_cond36 d0 v237 = 1#1), ∀ a, (k0_off42 v237) a + S1x256.size a ≤ S8x256.size a := fun d0 v237 k0_hw15 k0_h36 => k0_hw15.2.2.2.2.2 k0_h36

def k0_off43 (v238 : BitVec 32) : Fin 2 → Nat :=
  let c255_i32_122 : BitVec 32 := 255#32
  let v244 : BitVec 32 := Scalar.minsi v238 c255_i32_122
  let c0_i32_215 : BitVec 32 := 0#32
  let v425 : BitVec 1 := Scalar.cmpi .sgt v244 c0_i32_215
  let v426 : BitVec 32 := Scalar.extui v425
  let c0_i32_216 : BitVec 32 := 0#32
  let v427 : BitVec 1 := Scalar.cmpi .slt v244 c0_i32_216
  let v428 : BitVec 32 := Scalar.extui v427
  let v429 : BitVec 32 := Scalar.subi v426 v428
  let c8_i32_214 : BitVec 32 := 8#32
  let c0_i32_217 : BitVec 32 := 0#32
  let v430 : BitVec 1 := Scalar.cmpi .sgt c8_i32_214 c0_i32_217
  let v431 : BitVec 32 := Scalar.extui v430
  let c0_i32_218 : BitVec 32 := 0#32
  let v432 : BitVec 1 := Scalar.cmpi .slt c8_i32_214 c0_i32_218
  let v433 : BitVec 32 := Scalar.extui v432
  let v434 : BitVec 32 := Scalar.subi v431 v433
  let v435 : BitVec 1 := Scalar.cmpi .ne v429 v434
  let v436 : BitVec 32 := Scalar.remsi v244 c8_i32_214
  let c0_i32_219 : BitVec 32 := 0#32
  let v437 : BitVec 1 := Scalar.cmpi .ne v436 c0_i32_219
  let v438 : BitVec 1 := Scalar.andi v435 v437
  let v424 : BitVec 32 := Scalar.divsi v244 c8_i32_214
  let c1_i32_220 : BitVec 32 := 1#32
  let v439 : BitVec 32 := Scalar.subi v424 c1_i32_220
  let v440 : BitVec 32 := Scalar.select v438 v439 v424
  let c8_i32_221 : BitVec 32 := 8#32
  let v441 : BitVec 32 := Scalar.muli v440 c8_i32_221
  let v442 : BitVec 32 := Scalar.subi v244 v441
  let c0_i32_343 : BitVec 32 := 0#32
  ![v442.toNat, 0]
def k0_cond37 (d0 : Dev nD) (v238 : BitVec 32) : BitVec 1 :=
  let c256_i32_213 : BitVec 32 := 256#32
  let v423 : BitVec 1 := Scalar.cmpi .slt v238 c256_i32_213
  let c255_i32_122 : BitVec 32 := 255#32
  let v244 : BitVec 32 := Scalar.minsi v238 c255_i32_122
  let c0_i32_215 : BitVec 32 := 0#32
  let v425 : BitVec 1 := Scalar.cmpi .sgt v244 c0_i32_215
  let v426 : BitVec 32 := Scalar.extui v425
  let c0_i32_216 : BitVec 32 := 0#32
  let v427 : BitVec 1 := Scalar.cmpi .slt v244 c0_i32_216
  let v428 : BitVec 32 := Scalar.extui v427
  let v429 : BitVec 32 := Scalar.subi v426 v428
  let c8_i32_214 : BitVec 32 := 8#32
  let c0_i32_217 : BitVec 32 := 0#32
  let v430 : BitVec 1 := Scalar.cmpi .sgt c8_i32_214 c0_i32_217
  let v431 : BitVec 32 := Scalar.extui v430
  let c0_i32_218 : BitVec 32 := 0#32
  let v432 : BitVec 1 := Scalar.cmpi .slt c8_i32_214 c0_i32_218
  let v433 : BitVec 32 := Scalar.extui v432
  let v434 : BitVec 32 := Scalar.subi v431 v433
  let v435 : BitVec 1 := Scalar.cmpi .ne v429 v434
  let v436 : BitVec 32 := Scalar.remsi v244 c8_i32_214
  let c0_i32_219 : BitVec 32 := 0#32
  let v437 : BitVec 1 := Scalar.cmpi .ne v436 c0_i32_219
  let v438 : BitVec 1 := Scalar.andi v435 v437
  let v424 : BitVec 32 := Scalar.divsi v244 c8_i32_214
  let c1_i32_220 : BitVec 32 := 1#32
  let v439 : BitVec 32 := Scalar.subi v424 c1_i32_220
  let v440 : BitVec 32 := Scalar.select v438 v439 v424
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v443 : BitVec 1 := Scalar.cmpi .ne v440 v2
  let v444 : BitVec 1 := Scalar.andi v423 v443
  let v461 : BitVec 32 := Scalar.extui v444
  let c0_i32_243 : BitVec 32 := 0#32
  let v462 : BitVec 1 := Scalar.cmpi .ne v461 c0_i32_243
  v462

def k0_chk16 (d0 : Dev nD) (v238 : BitVec 32) : Prop :=
  (∀ a, (k0_off19 v238) a + S1x128.size a ≤ S256x128.size a) ∧
  (∀ (k0_h30 : k0_cond30 d0 v238 = 1#1), ∀ a, (k0_off35 v238) a + S1.size a ≤ S8.size a) ∧
  (∀ (k0_h30 : k0_cond30 d0 v238 = 1#1), ∀ a, (k0_off36 v238) a + S1x256.size a ≤ S8x256.size a) ∧
  (∀ (k0_h30 : k0_cond30 d0 v238 = 1#1), (k0_dev14 v238) < nD) ∧
  (∀ (k0_h31 : k0_cond31 d0 v238 = 1#1), ∀ a, (k0_off37 v238) a + S1x256.size a ≤ S8x256.size a) ∧
  (∀ (k0_h37 : k0_cond37 d0 v238 = 1#1), ∀ a, (k0_off43 v238) a + S1x256.size a ≤ S8x256.size a)
theorem k0_off19_inb : ∀ (d0 : Dev nD) (v238 : BitVec 32) (k0_hw16 : k0_chk16 d0 v238), ∀ a, (k0_off19 v238) a + S1x128.size a ≤ S256x128.size a := fun d0 v238 k0_hw16 => k0_hw16.1
theorem k0_off35_inb : ∀ (d0 : Dev nD) (v238 : BitVec 32) (k0_hw16 : k0_chk16 d0 v238), ∀ (k0_h30 : k0_cond30 d0 v238 = 1#1), ∀ a, (k0_off35 v238) a + S1.size a ≤ S8.size a := fun d0 v238 k0_hw16 k0_h30 => k0_hw16.2.1 k0_h30
theorem k0_off36_inb : ∀ (d0 : Dev nD) (v238 : BitVec 32) (k0_hw16 : k0_chk16 d0 v238), ∀ (k0_h30 : k0_cond30 d0 v238 = 1#1), ∀ a, (k0_off36 v238) a + S1x256.size a ≤ S8x256.size a := fun d0 v238 k0_hw16 k0_h30 => k0_hw16.2.2.1 k0_h30
theorem k0_dev14_lt : ∀ (d0 : Dev nD) (v238 : BitVec 32) (k0_hw16 : k0_chk16 d0 v238), ∀ (k0_h30 : k0_cond30 d0 v238 = 1#1), (k0_dev14 v238) < nD := fun d0 v238 k0_hw16 k0_h30 => k0_hw16.2.2.2.1 k0_h30
theorem k0_off37_inb : ∀ (d0 : Dev nD) (v238 : BitVec 32) (k0_hw16 : k0_chk16 d0 v238), ∀ (k0_h31 : k0_cond31 d0 v238 = 1#1), ∀ a, (k0_off37 v238) a + S1x256.size a ≤ S8x256.size a := fun d0 v238 k0_hw16 k0_h31 => k0_hw16.2.2.2.2.1 k0_h31
theorem k0_off43_inb : ∀ (d0 : Dev nD) (v238 : BitVec 32) (k0_hw16 : k0_chk16 d0 v238), ∀ (k0_h37 : k0_cond37 d0 v238 = 1#1), ∀ a, (k0_off43 v238) a + S1x256.size a ≤ S8x256.size a := fun d0 v238 k0_hw16 k0_h37 => k0_hw16.2.2.2.2.2 k0_h37

def k0_off44 (d0 : Dev nD) : Fin 2 → Nat :=
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let c0_i32_244 : BitVec 32 := 0#32
  let v463 : BitVec 32 := Scalar.addi v5 c0_i32_244
  let v464 : Index := Scalar.indexCast v463
  let c0_245 : Index := 0#32
  ![v464.toNat, 0]
def k0_off45 (d0 : Dev nD) : Fin 2 → Nat :=
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let c1_i32_256 : BitVec 32 := 1#32
  let v489 : BitVec 32 := Scalar.addi v5 c1_i32_256
  let v490 : Index := Scalar.indexCast v489
  let c0_257 : Index := 0#32
  ![v490.toNat, 0]
def k0_off46 (d0 : Dev nD) : Fin 2 → Nat :=
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let c2_i32_268 : BitVec 32 := 2#32
  let v515 : BitVec 32 := Scalar.addi v5 c2_i32_268
  let v516 : Index := Scalar.indexCast v515
  let c0_269 : Index := 0#32
  ![v516.toNat, 0]
def k0_off47 (d0 : Dev nD) : Fin 2 → Nat :=
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let c3_i32_280 : BitVec 32 := 3#32
  let v541 : BitVec 32 := Scalar.addi v5 c3_i32_280
  let v542 : Index := Scalar.indexCast v541
  let c0_281 : Index := 0#32
  ![v542.toNat, 0]
def k0_off48 (d0 : Dev nD) : Fin 2 → Nat :=
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let c4_i32_292 : BitVec 32 := 4#32
  let v567 : BitVec 32 := Scalar.addi v5 c4_i32_292
  let v568 : Index := Scalar.indexCast v567
  let c0_293 : Index := 0#32
  ![v568.toNat, 0]
def k0_off49 (d0 : Dev nD) : Fin 2 → Nat :=
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let c5_i32_304 : BitVec 32 := 5#32
  let v593 : BitVec 32 := Scalar.addi v5 c5_i32_304
  let v594 : Index := Scalar.indexCast v593
  let c0_305 : Index := 0#32
  ![v594.toNat, 0]
def k0_off50 (d0 : Dev nD) : Fin 2 → Nat :=
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let c6_i32_316 : BitVec 32 := 6#32
  let v619 : BitVec 32 := Scalar.addi v5 c6_i32_316
  let v620 : Index := Scalar.indexCast v619
  let c0_317 : Index := 0#32
  ![v620.toNat, 0]
def k0_off51 (d0 : Dev nD) : Fin 2 → Nat :=
  let c8_i32 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.muli c8_i32 v2
  let c7_i32_328 : BitVec 32 := 7#32
  let v645 : BitVec 32 := Scalar.addi v5 c7_i32_328
  let v646 : Index := Scalar.indexCast v645
  let c0_329 : Index := 0#32
  ![v646.toNat, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x128 : Shape := ⟨2, ![256, 128]⟩
abbrev S128x64 : Shape := ⟨2, ![128, 64]⟩
abbrev S256x1 : Shape := ⟨2, ![256, 1]⟩
abbrev S64x128x256 : Shape := ⟨3, ![64, 128, 256]⟩
abbrev S256 : Shape := ⟨1, ![256]⟩
abbrev S1x256 : Shape := ⟨2, ![1, 256]⟩
abbrev S256x256 : Shape := ⟨2, ![256, 256]⟩
abbrev S_ : Shape := ⟨0, ![]⟩
abbrev S256x128x256 : Shape := ⟨3, ![256, 128, 256]⟩

abbrev nBuf : Space → Nat
  | .hbm => 41
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x64, .bf16⟩
  | .hbm, ⟨2, _⟩ => ⟨S256x1, .i32⟩
  | .hbm, ⟨3, _⟩ => ⟨S64x128x256, .bf16⟩
  | .hbm, ⟨4, _⟩ => ⟨S256, .i32⟩
  | .hbm, ⟨5, _⟩ => ⟨S256x1, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S256x256, .i32⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S_, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256, .i32⟩
  | .hbm, ⟨20, _⟩ => ⟨S256x128, .f32⟩
  | .hbm, ⟨21, _⟩ => ⟨S64x128x256, .f32⟩
  | .hbm, ⟨22, _⟩ => ⟨S_, .i32⟩
  | .hbm, ⟨23, _⟩ => ⟨S256, .i32⟩
  | .hbm, ⟨24, _⟩ => ⟨S256, .i1⟩
  | .hbm, ⟨25, _⟩ => ⟨S_, .i32⟩
  | .hbm, ⟨26, _⟩ => ⟨S256, .i32⟩
  | .hbm, ⟨27, _⟩ => ⟨S256, .i32⟩
  | .hbm, ⟨28, _⟩ => ⟨S256, .i32⟩
  | .hbm, ⟨29, _⟩ => ⟨S256x1, .i32⟩
  | .hbm, ⟨30, _⟩ => ⟨S256x128x256, .f32⟩
  | .hbm, ⟨31, _⟩ => ⟨S256x256, .f32⟩
  | .hbm, ⟨32, _⟩ => ⟨S_, .i32⟩
  | .hbm, ⟨33, _⟩ => ⟨S256, .i32⟩
  | .hbm, ⟨34, _⟩ => ⟨S256, .i1⟩
  | .hbm, ⟨35, _⟩ => ⟨S256x1, .i1⟩
  | .hbm, ⟨36, _⟩ => ⟨S_, .f32⟩
  | .hbm, ⟨37, _⟩ => ⟨S_, .f32⟩
  | .hbm, ⟨38, _⟩ => ⟨S256x256, .i1⟩
  | .hbm, ⟨39, _⟩ => ⟨S256x256, .f32⟩
  | .hbm, ⟨40, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Proof.Route.lean ====
module

public import proofs.«01_k».proof.Proof.Gen.KernelIdeal.Skeleton

@[expose] public section

/-!
# The routing arithmetic

Everything in this module is about one table `T` that names, for each of the 256 tokens, the
expert it wants.  It fixes the vocabulary of the protocol:

* `owner` — the device that holds the expert of a token (two experts on each of 32 devices);
* `home`, `row` — the device and the row at which the result of the token ends up (eight tokens
  on each device);
* `rank` — how many earlier tokens want the same expert; a token survives (`under`) when that is
  below the capacity three;
* `At T c s i` — token `i` survives, is owned by device `c` and sits in slot `s` of the six slots
  of that device.
-/

namespace Cert.Moe

/-- The expert wanted by each token. -/
abbrev Tab := Fin 256 → Fin 64

/-- The device holding the expert of a token. -/
def owner (T : Tab) (i : Fin 256) : Fin 32 := ⟨(T i).val / 2, by have := (T i).isLt; omega⟩

/-- The device at which the result of a token ends up. -/
def home (i : Fin 256) : Fin 32 := ⟨i.val / 8, by have := i.isLt; omega⟩

/-- The row of its home device at which the result of a token ends up. -/
def row (i : Fin 256) : Fin 8 := ⟨i.val % 8, by omega⟩

/-- The token at a row of a device. -/
def tok (c : Fin 32) (r : Fin 8) : Fin 256 := ⟨8 * c.val + r.val, by have := c.isLt; have := r.isLt; omega⟩

@[simp] theorem home_tok (c : Fin 32) (r : Fin 8) : home (tok c r) = c := by
  apply Fin.ext; simp only [home, tok]; have := r.isLt; omega

@[simp] theorem row_tok (c : Fin 32) (r : Fin 8) : row (tok c r) = r := by
  apply Fin.ext; simp only [row, tok]; have := r.isLt; omega

@[simp] theorem tok_home_row (i : Fin 256) : tok (home i) (row i) = i := by
  apply Fin.ext; simp only [home, row, tok]; omega

theorem eq_tok_of {i : Fin 256} {c : Fin 32} {r : Fin 8} (h : home i = c) (hr : row i = r) : i = tok c r := by
  subst h hr; simp

/-- How many of the first `k` tokens want expert `e`. -/
def cnt (T : Tab) (k : ℕ) (e : Fin 64) : ℕ := (Finset.univ.filter fun j : Fin 256 => j.val < k ∧ T j = e).card

/-- How many earlier tokens want the same expert. -/
def rank (T : Tab) (i : Fin 256) : ℕ := cnt T i.val (T i)

/-- The token finds room at its expert. -/
def under (T : Tab) (i : Fin 256) : Prop := rank T i < 3

instance (T : Tab) (i : Fin 256) : Decidable (under T i) := inferInstanceAs (Decidable (_ < 3))

/-- The slot of a token among the six slots of its owner. -/
def slotN (T : Tab) (i : Fin 256) : ℕ := (T i).val % 2 * 3 + rank T i

/-- Token `i` survives, belongs to device `c`, and sits in slot `s`. -/
def At (T : Tab) (c : Fin 32) (s : ℕ) (i : Fin 256) : Prop := owner T i = c ∧ under T i ∧ slotN T i = s

instance (T : Tab) (c : Fin 32) (s : ℕ) (i : Fin 256) : Decidable (At T c s i) :=
  inferInstanceAs (Decidable (_ ∧ _ ∧ _))

theorem cnt_zero (T : Tab) (e : Fin 64) : cnt T 0 e = 0 := by simp [cnt]

theorem cnt_succ (T : Tab) (k : Fin 256) (e : Fin 64) : cnt T (k.val + 1) e = cnt T k.val e + if T k = e then 1 else 0 := by
  unfold cnt
  by_cases h : T k = e
  · rw [if_pos h]
    rw [show (Finset.univ.filter fun j : Fin 256 => j.val < k.val + 1 ∧ T j = e) =
      insert k (Finset.univ.filter fun j : Fin 256 => j.val < k.val ∧ T j = e) from ?_]
    · rw [Finset.card_insert_of_notMem (by simp)]
    · ext j; simp only [Finset.mem_filter, Finset.mem_univ, true_and, Finset.mem_insert]
      constructor
      · rintro ⟨h1, h2⟩
        by_cases hj : j = k
        · exact Or.inl hj
        · exact Or.inr ⟨by have : j.val ≠ k.val := fun q => hj (Fin.ext q); omega, h2⟩
      · rintro (rfl | ⟨h1, h2⟩)
        · exact ⟨by omega, h⟩
        · exact ⟨by omega, h2⟩
  · rw [if_neg h]
    refine (congrArg Finset.card ?_).trans (Nat.add_zero _).symm
    ext j; simp only [Finset.mem_filter, Finset.mem_univ, true_and]
    constructor
    · rintro ⟨h1, h2⟩
      refine ⟨?_, h2⟩
      have : j.val ≠ k.val := fun q => h (by rw [← h2, Fin.ext q])
      omega
    · rintro ⟨h1, h2⟩; exact ⟨by omega, h2⟩

theorem cnt_mono (T : Tab) {k l : ℕ} (h : k ≤ l) (e : Fin 64) : cnt T k e ≤ cnt T l e := by
  apply Finset.card_le_card
  intro j hj
  simp only [Finset.mem_filter, Finset.mem_univ, true_and] at hj ⊢
  exact ⟨by omega, hj.2⟩

theorem rank_lt_of_lt (T : Tab) {i j : Fin 256} (h : i.val < j.val) (he : T i = T j) : rank T i < rank T j := by
  have h1 : cnt T (i.val + 1) (T j) = cnt T i.val (T j) + 1 := by rw [cnt_succ, if_pos he]
  have h2 : cnt T (i.val + 1) (T j) ≤ cnt T j.val (T j) := cnt_mono T h _
  unfold rank
  rw [he]; omega

/-- A slot holds at most one token. -/
theorem At_unique {T : Tab} {c : Fin 32} {s : ℕ} {i j : Fin 256} (hi : At T c s i) (hj : At T c s j) : i = j := by
  obtain ⟨oi, ui, si⟩ := hi
  obtain ⟨oj, uj, sj⟩ := hj
  unfold under at ui uj
  unfold slotN at si sj
  have ho : (T i).val / 2 = (T j).val / 2 := by
    have := congrArg Fin.val (oi.trans oj.symm); exact this
  have hT : T i = T j := Fin.ext (by omega)
  have hr : rank T i = rank T j := by rw [hT] at si; omega
  rcases Nat.lt_trichotomy i.val j.val with h | h | h
  · have := rank_lt_of_lt T h hT; omega
  · exact Fin.ext h
  · have := rank_lt_of_lt T h hT.symm; omega

theorem slotN_lt {T : Tab} {i : Fin 256} (h : under T i) : slotN T i < 6 := by
  unfold under at h; unfold slotN; omega

/-- Token `j` makes its home send one unit to the barrier of device `c`. -/
def calls (T : Tab) (c : Fin 32) (j : Fin 256) : Prop := owner T j = c ∧ home j ≠ c

instance (T : Tab) (c : Fin 32) (j : Fin 256) : Decidable (calls T c j) := inferInstanceAs (Decidable (_ ∧ _))

/-- The tokens that make their home call device `c`. -/
def callers (T : Tab) (c : Fin 32) : Finset (Fin 256) := Finset.univ.filter fun j => calls T c j

/-- How many of the first `k` tokens make their home call device `c`. -/
def callsN (T : Tab) (c : Fin 32) (k : ℕ) : ℕ := (Finset.univ.filter fun j : Fin 256 => j.val < k ∧ calls T c j).card

theorem callsN_zero (T : Tab) (c : Fin 32) : callsN T c 0 = 0 := by simp [callsN]

theorem callsN_succ (T : Tab) (c : Fin 32) (k : Fin 256) :
    callsN T c (k.val + 1) = callsN T c k.val + if calls T c k then 1 else 0 := by
  unfold callsN
  by_cases h : calls T c k
  · rw [if_pos h]
    rw [show (Finset.univ.filter fun j : Fin 256 => j.val < k.val + 1 ∧ calls T c j) =
      insert k (Finset.univ.filter fun j : Fin 256 => j.val < k.val ∧ calls T c j) from ?_]
    · rw [Finset.card_insert_of_notMem (by simp)]
    · ext j; simp only [Finset.mem_filter, Finset.mem_univ, true_and, Finset.mem_insert]
      constructor
      · rintro ⟨h1, h2⟩
        by_cases hj : j = k
        · exact Or.inl hj
        · exact Or.inr ⟨by have : j.val ≠ k.val := fun q => hj (Fin.ext q); omega, h2⟩
      · rintro (rfl | ⟨h1, h2⟩)
        · exact ⟨by omega, h⟩
        · exact ⟨by omega, h2⟩
  · rw [if_neg h]
    refine (congrArg Finset.card ?_).trans (Nat.add_zero _).symm
    ext j; simp only [Finset.mem_filter, Finset.mem_univ, true_and]
    constructor
    · rintro ⟨h1, h2⟩
      refine ⟨?_, h2⟩
      have : j.val ≠ k.val := fun q => h (by rw [← Fin.ext q]; exact h2)
      omega
    · rintro ⟨h1, h2⟩; exact ⟨by omega, h2⟩

theorem callsN_le (T : Tab) (c : Fin 32) (k : ℕ) : callsN T c k ≤ 256 :=
  (Finset.card_le_univ _).trans (by simp)

theorem callsN_all (T : Tab) (c : Fin 32) : callsN T c 256 = (callers T c).card := by
  unfold callsN callers
  congr 1
  ext j
  simp only [Finset.mem_filter, Finset.mem_univ, true_and, and_iff_right_iff_imp]
  exact fun _ => j.isLt

/-- Token `i` survives and has to travel to its home. -/
def travels (T : Tab) (i : Fin 256) : Prop := under T i ∧ owner T i ≠ home i

instance (T : Tab) (i : Fin 256) : Decidable (travels T i) := inferInstanceAs (Decidable (_ ∧ _))

/-- The number a device keeps in slot `s`: its token, or 256 for an empty slot. -/
noncomputable def heldAt (T : Tab) (c : Fin 32) (s : ℕ) : Fin 257 :=
  haveI := Classical.dec (∃ i, At T c s i)
  if h : ∃ i, At T c s i then ⟨h.choose.val, by have := h.choose.isLt; omega⟩ else 256

theorem heldAt_of {T : Tab} {c : Fin 32} {s : ℕ} {i : Fin 256} (h : At T c s i) : (heldAt T c s).val = i.val := by
  have hx : ∃ i, At T c s i := ⟨i, h⟩
  unfold heldAt
  rw [dif_pos hx]
  show hx.choose.val = i.val
  rw [At_unique hx.choose_spec h]

theorem heldAt_none {T : Tab} {c : Fin 32} {s : ℕ} (h : ¬ ∃ i, At T c s i) : heldAt T c s = 256 := by
  unfold heldAt
  rw [dif_neg h]

/-- A slot either holds a token or is empty. -/
theorem heldAt_cases (T : Tab) (c : Fin 32) (s : ℕ) :
    (∃ i, At T c s i ∧ (heldAt T c s).val = i.val) ∨ ((¬ ∃ i, At T c s i) ∧ heldAt T c s = 256) := by
  by_cases h : ∃ i, At T c s i
  · obtain ⟨i, hi⟩ := h
    exact Or.inl ⟨i, hi, heldAt_of hi⟩
  · exact Or.inr ⟨h, heldAt_none h⟩

theorem owner_val (T : Tab) (i : Fin 256) : (owner T i).val = (T i).val / 2 := rfl
theorem home_val (i : Fin 256) : (home i).val = i.val / 8 := rfl
theorem row_val (i : Fin 256) : (row i).val = i.val % 8 := rfl
theorem tok_val (c : Fin 32) (r : Fin 8) : (tok c r).val = 8 * c.val + r.val := rfl

end Cert.Moe
-- ==== Proof.Words.lean ====
module

public import proofs.«01_k».proof.Proof.Route

@[expose] public section

set_option maxRecDepth 8192

/-!
# What the kernel computes with its words

Every address, device number and branch condition of the kernel is a few operations on 32-bit
words.  The words it reads are small numbers (an expert below 64, a token or the mark 256, a count),
so each of them is settled by checking all the small numbers.
-/

namespace Cert.Moe

open Idealize.ShloMosaic Cert.KernelIdeal Cert.KernelIdeal.Gen

/-- The word of a small number. -/
abbrev wd (n : ℕ) : BitVec 32 := BitVec.ofNat 32 n

/-- The kernel's own number, as it computes it. -/
def me (d : Dev nD) : BitVec 32 := Scalar.remsi (Scalar.divsi (Dev.word d) 1#32) 32#32

/-- Half of a word, rounded down, in the kernel's spelling. -/
def half (v : BitVec 32) : BitVec 32 :=
  Scalar.select (Scalar.andi (Scalar.cmpi .ne
      (Scalar.subi (Scalar.extui (Scalar.cmpi .sgt v 0#32)) (Scalar.extui (Scalar.cmpi .slt v 0#32)))
      (Scalar.subi (Scalar.extui (Scalar.cmpi .sgt (2#32 : BitVec 32) 0#32)) (Scalar.extui (Scalar.cmpi .slt (2#32 : BitVec 32) 0#32))))
      (Scalar.cmpi .ne (Scalar.remsi v 2#32) 0#32))
    (Scalar.subi (Scalar.divsi v 2#32) 1#32) (Scalar.divsi v 2#32)

/-- The condition under which a device waits for a row: it survived (`s`) and is made elsewhere. -/
def recvCond (d : Dev nD) (v s : BitVec 32) : BitVec 1 :=
  Scalar.cmpi .ne (Scalar.extui (Scalar.andi (Scalar.cmpi .eq s 1#32) (Scalar.cmpi .ne (half v) (me d))) : BitVec 32) 0#32

theorem recvCond_iff (d : Fin 32) (t : Fin 64) (b : Bool) :
    recvCond d (wd t.val) (if b then 1#32 else 0#32) = 1#1 ↔ (b = true ∧ t.val / 2 ≠ d.val) := by
  revert d t b
  decide +kernel

/-- A signal is sent exactly when the expert of the token sits on another device. -/
theorem cond1_iff : ∀ (d : Fin 32) (t : Fin 64), k0_cond1 d (wd t.val) = 1#1 ↔ t.val / 2 ≠ d.val := by
  decide +kernel
theorem dev1_eq : ∀ t : Fin 64, k0_dev1 (wd t.val) = t.val / 2 := by
  decide +kernel
theorem chk1_ok (d : Fin 32) (t : Fin 64) : k0_chk1 d (wd t.val) :=
  fun _ => by rw [dev1_eq]; have := t.isLt; show _ < 32; omega
theorem off1_eq : ∀ d : Fin 32, k0_off1 d = ![8 * d.val + 0, 0] := by decide +kernel
theorem off44_eq : ∀ d : Fin 32, k0_off44 d = ![8 * d.val + 0, 0] := by decide +kernel
theorem cond2_iff : ∀ (d : Fin 32) (t : Fin 64), k0_cond2 d (wd t.val) = 1#1 ↔ t.val / 2 ≠ d.val := cond1_iff
theorem dev2_eq : ∀ t : Fin 64, k0_dev2 (wd t.val) = t.val / 2 := dev1_eq
theorem chk2_ok (d : Fin 32) (t : Fin 64) : k0_chk2 d (wd t.val) := chk1_ok d t
theorem off2_eq : ∀ d : Fin 32, k0_off2 d = ![8 * d.val + 1, 0] := by decide +kernel
theorem off45_eq : ∀ d : Fin 32, k0_off45 d = ![8 * d.val + 1, 0] := by decide +kernel
theorem cond3_iff : ∀ (d : Fin 32) (t : Fin 64), k0_cond3 d (wd t.val) = 1#1 ↔ t.val / 2 ≠ d.val := cond1_iff
theorem dev3_eq : ∀ t : Fin 64, k0_dev3 (wd t.val) = t.val / 2 := dev1_eq
theorem chk3_ok (d : Fin 32) (t : Fin 64) : k0_chk3 d (wd t.val) := chk1_ok d t
theorem off3_eq : ∀ d : Fin 32, k0_off3 d = ![8 * d.val + 2, 0] := by decide +kernel
theorem off46_eq : ∀ d : Fin 32, k0_off46 d = ![8 * d.val + 2, 0] := by decide +kernel
theorem cond4_iff : ∀ (d : Fin 32) (t : Fin 64), k0_cond4 d (wd t.val) = 1#1 ↔ t.val / 2 ≠ d.val := cond1_iff
theorem dev4_eq : ∀ t : Fin 64, k0_dev4 (wd t.val) = t.val / 2 := dev1_eq
theorem chk4_ok (d : Fin 32) (t : Fin 64) : k0_chk4 d (wd t.val) := chk1_ok d t
theorem off4_eq : ∀ d : Fin 32, k0_off4 d = ![8 * d.val + 3, 0] := by decide +kernel
theorem off47_eq : ∀ d : Fin 32, k0_off47 d = ![8 * d.val + 3, 0] := by decide +kernel
theorem cond5_iff : ∀ (d : Fin 32) (t : Fin 64), k0_cond5 d (wd t.val) = 1#1 ↔ t.val / 2 ≠ d.val := cond1_iff
theorem dev5_eq : ∀ t : Fin 64, k0_dev5 (wd t.val) = t.val / 2 := dev1_eq
theorem chk5_ok (d : Fin 32) (t : Fin 64) : k0_chk5 d (wd t.val) := chk1_ok d t
theorem off5_eq : ∀ d : Fin 32, k0_off5 d = ![8 * d.val + 4, 0] := by decide +kernel
theorem off48_eq : ∀ d : Fin 32, k0_off48 d = ![8 * d.val + 4, 0] := by decide +kernel
theorem cond6_iff : ∀ (d : Fin 32) (t : Fin 64), k0_cond6 d (wd t.val) = 1#1 ↔ t.val / 2 ≠ d.val := cond1_iff
theorem dev6_eq : ∀ t : Fin 64, k0_dev6 (wd t.val) = t.val / 2 := dev1_eq
theorem chk6_ok (d : Fin 32) (t : Fin 64) : k0_chk6 d (wd t.val) := chk1_ok d t
theorem off6_eq : ∀ d : Fin 32, k0_off6 d = ![8 * d.val + 5, 0] := by decide +kernel
theorem off49_eq : ∀ d : Fin 32, k0_off49 d = ![8 * d.val + 5, 0] := by decide +kernel
theorem cond7_iff : ∀ (d : Fin 32) (t : Fin 64), k0_cond7 d (wd t.val) = 1#1 ↔ t.val / 2 ≠ d.val := cond1_iff
theorem dev7_eq : ∀ t : Fin 64, k0_dev7 (wd t.val) = t.val / 2 := dev1_eq
theorem chk7_ok (d : Fin 32) (t : Fin 64) : k0_chk7 d (wd t.val) := chk1_ok d t
theorem off7_eq : ∀ d : Fin 32, k0_off7 d = ![8 * d.val + 6, 0] := by decide +kernel
theorem off50_eq : ∀ d : Fin 32, k0_off50 d = ![8 * d.val + 6, 0] := by decide +kernel
theorem cond8_iff : ∀ (d : Fin 32) (t : Fin 64), k0_cond8 d (wd t.val) = 1#1 ↔ t.val / 2 ≠ d.val := cond1_iff
theorem dev8_eq : ∀ t : Fin 64, k0_dev8 (wd t.val) = t.val / 2 := dev1_eq
theorem chk8_ok (d : Fin 32) (t : Fin 64) : k0_chk8 d (wd t.val) := chk1_ok d t
theorem off8_eq : ∀ d : Fin 32, k0_off8 d = ![8 * d.val + 7, 0] := by decide +kernel
theorem off51_eq : ∀ d : Fin 32, k0_off51 d = ![8 * d.val + 7, 0] := by decide +kernel

theorem t1_trips : k0_t1_loop.trips = 64 := by decide +kernel
theorem t2_trips : k0_t2_loop.trips = 256 := by decide +kernel

theorem off9_eq : ∀ k : Fin 64, k0_off9 (k.cast t1_trips.symm) = ![k.val] := by decide +kernel
theorem off10_eq : ∀ k : Fin 256, k0_off10 (k.cast t2_trips.symm) = ![k.val, 0] := by decide +kernel
theorem off11_eq : ∀ t : Fin 64, k0_off11 (wd t.val) = ![t.val] := by decide +kernel
theorem chk9_ok : ∀ t : Fin 64, k0_chk9 (wd t.val) := by decide +kernel
theorem cond9_iff : ∀ (d : Fin 32) (t : Fin 64) (c : Fin 4),
    k0_cond9 d (wd t.val) (wd c.val) = 1#1 ↔ (c.val < 3 ∧ t.val / 2 = d.val) := by decide +kernel
theorem off12_eq : ∀ (d : Fin 32) (b : Fin 2) (c : Fin 3),
    k0_off12 d (wd (2 * d.val + b.val)) (wd c.val) = ![b.val * 3 + c.val] := by decide +kernel
theorem chk10_ok : ∀ (d : Fin 32) (t : Fin 64) (c : Fin 4), k0_chk10 d (wd t.val) (wd c.val) := by decide +kernel
theorem cond11_iff : ∀ (d : Fin 32) (k : Fin 256), k0_cond11 d (k.cast t2_trips.symm) = 1#1 ↔ k.val / 8 = d.val := by
  decide +kernel
theorem off13_eq : ∀ (d : Fin 32) (r : Fin 8), k0_off13 d ((tok d r).cast t2_trips.symm) = ![r.val] := by decide +kernel

theorem t3_trips : ∀ n : Fin 257, (k0_t3_loop (wd n.val)).trips = n.val := by decide +kernel
theorem t4_trips : ∀ n : Fin 257, (k0_t4_loop (wd n.val)).trips = 0 := by decide +kernel
theorem chk17_ok : ∀ n : Fin 257, k0_chk17 (wd n.val) := by decide +kernel

/-! ## The six slots -/

theorem off14_eq : ∀ t : Fin 257, k0_off14 (wd t.val) = ![min t.val 255, 0] := by decide +kernel
theorem off20_eq : ∀ t : Fin 256, k0_off20 (wd t.val) = ![t.val % 8] := by decide +kernel
theorem off21_eq : ∀ t : Fin 256, k0_off21 (wd t.val) = ![t.val % 8, 0] := by decide +kernel
theorem off22_eq : ∀ t : Fin 256, k0_off22 (wd t.val) = ![t.val % 8, 0] := by decide +kernel
theorem off38_eq : ∀ t : Fin 256, k0_off38 (wd t.val) = ![t.val % 8, 0] := by decide +kernel
theorem dev9_eq : ∀ t : Fin 256, k0_dev9 (wd t.val) = t.val / 8 := by decide +kernel
theorem cond20_iff : ∀ (d : Fin 32) (t : Fin 257), k0_cond20 d (wd t.val) = 1#1 ↔ (t.val < 256 ∧ t.val / 8 ≠ d.val) := by
  decide +kernel
theorem cond21_iff : ∀ (d : Fin 32) (t : Fin 257), k0_cond21 d (wd t.val) = 1#1 ↔ (t.val < 256 ∧ t.val / 8 = d.val) := by
  decide +kernel
theorem cond32_iff : ∀ (d : Fin 32) (t : Fin 257), k0_cond32 d (wd t.val) = 1#1 ↔ (t.val < 256 ∧ t.val / 8 ≠ d.val) := by
  decide +kernel
theorem chk11_ok : ∀ (d : Fin 32) (t : Fin 257), k0_chk11 d (wd t.val) := by decide +kernel

theorem off15_eq : ∀ t : Fin 257, k0_off15 (wd t.val) = ![min t.val 255, 0] := off14_eq
theorem off23_eq : ∀ t : Fin 256, k0_off23 (wd t.val) = ![t.val % 8] := off20_eq
theorem off24_eq : ∀ t : Fin 256, k0_off24 (wd t.val) = ![t.val % 8, 0] := off21_eq
theorem off25_eq : ∀ t : Fin 256, k0_off25 (wd t.val) = ![t.val % 8, 0] := off22_eq
theorem off39_eq : ∀ t : Fin 256, k0_off39 (wd t.val) = ![t.val % 8, 0] := off38_eq
theorem dev10_eq : ∀ t : Fin 256, k0_dev10 (wd t.val) = t.val / 8 := dev9_eq
theorem cond22_iff : ∀ (d : Fin 32) (t : Fin 257), k0_cond22 d (wd t.val) = 1#1 ↔ (t.val < 256 ∧ t.val / 8 ≠ d.val) := cond20_iff
theorem cond23_iff : ∀ (d : Fin 32) (t : Fin 257), k0_cond23 d (wd t.val) = 1#1 ↔ (t.val < 256 ∧ t.val / 8 = d.val) := cond21_iff
theorem cond33_iff : ∀ (d : Fin 32) (t : Fin 257), k0_cond33 d (wd t.val) = 1#1 ↔ (t.val < 256 ∧ t.val / 8 ≠ d.val) := cond32_iff
theorem chk12_ok : ∀ (d : Fin 32) (t : Fin 257), k0_chk12 d (wd t.val) := chk11_ok
theorem off16_eq : ∀ t : Fin 257, k0_off16 (wd t.val) = ![min t.val 255, 0] := off14_eq
theorem off26_eq : ∀ t : Fin 256, k0_off26 (wd t.val) = ![t.val % 8] := off20_eq
theorem off27_eq : ∀ t : Fin 256, k0_off27 (wd t.val) = ![t.val % 8, 0] := off21_eq
theorem off28_eq : ∀ t : Fin 256, k0_off28 (wd t.val) = ![t.val % 8, 0] := off22_eq
theorem off40_eq : ∀ t : Fin 256, k0_off40 (wd t.val) = ![t.val % 8, 0] := off38_eq
theorem dev11_eq : ∀ t : Fin 256, k0_dev11 (wd t.val) = t.val / 8 := dev9_eq
theorem cond24_iff : ∀ (d : Fin 32) (t : Fin 257), k0_cond24 d (wd t.val) = 1#1 ↔ (t.val < 256 ∧ t.val / 8 ≠ d.val) := cond20_iff
theorem cond25_iff : ∀ (d : Fin 32) (t : Fin 257), k0_cond25 d (wd t.val) = 1#1 ↔ (t.val < 256 ∧ t.val / 8 = d.val) := cond21_iff
theorem cond34_iff : ∀ (d : Fin 32) (t : Fin 257), k0_cond34 d (wd t.val) = 1#1 ↔ (t.val < 256 ∧ t.val / 8 ≠ d.val) := cond32_iff
theorem chk13_ok : ∀ (d : Fin 32) (t : Fin 257), k0_chk13 d (wd t.val) := chk11_ok
theorem off17_eq : ∀ t : Fin 257, k0_off17 (wd t.val) = ![min t.val 255, 0] := off14_eq
theorem off29_eq : ∀ t : Fin 256, k0_off29 (wd t.val) = ![t.val % 8] := off20_eq
theorem off30_eq : ∀ t : Fin 256, k0_off30 (wd t.val) = ![t.val % 8, 0] := off21_eq
theorem off31_eq : ∀ t : Fin 256, k0_off31 (wd t.val) = ![t.val % 8, 0] := off22_eq
theorem off41_eq : ∀ t : Fin 256, k0_off41 (wd t.val) = ![t.val % 8, 0] := off38_eq
theorem dev12_eq : ∀ t : Fin 256, k0_dev12 (wd t.val) = t.val / 8 := dev9_eq
theorem cond26_iff : ∀ (d : Fin 32) (t : Fin 257), k0_cond26 d (wd t.val) = 1#1 ↔ (t.val < 256 ∧ t.val / 8 ≠ d.val) := cond20_iff
theorem cond27_iff : ∀ (d : Fin 32) (t : Fin 257), k0_cond27 d (wd t.val) = 1#1 ↔ (t.val < 256 ∧ t.val / 8 = d.val) := cond21_iff
theorem cond35_iff : ∀ (d : Fin 32) (t : Fin 257), k0_cond35 d (wd t.val) = 1#1 ↔ (t.val < 256 ∧ t.val / 8 ≠ d.val) := cond32_iff
theorem chk14_ok : ∀ (d : Fin 32) (t : Fin 257), k0_chk14 d (wd t.val) := chk11_ok
theorem off18_eq : ∀ t : Fin 257, k0_off18 (wd t.val) = ![min t.val 255, 0] := off14_eq
theorem off32_eq : ∀ t : Fin 256, k0_off32 (wd t.val) = ![t.val % 8] := off20_eq
theorem off33_eq : ∀ t : Fin 256, k0_off33 (wd t.val) = ![t.val % 8, 0] := off21_eq
theorem off34_eq : ∀ t : Fin 256, k0_off34 (wd t.val) = ![t.val % 8, 0] := off22_eq
theorem off42_eq : ∀ t : Fin 256, k0_off42 (wd t.val) = ![t.val % 8, 0] := off38_eq
theorem dev13_eq : ∀ t : Fin 256, k0_dev13 (wd t.val) = t.val / 8 := dev9_eq
theorem cond28_iff : ∀ (d : Fin 32) (t : Fin 257), k0_cond28 d (wd t.val) = 1#1 ↔ (t.val < 256 ∧ t.val / 8 ≠ d.val) := cond20_iff
theorem cond29_iff : ∀ (d : Fin 32) (t : Fin 257), k0_cond29 d (wd t.val) = 1#1 ↔ (t.val < 256 ∧ t.val / 8 = d.val) := cond21_iff
theorem cond36_iff : ∀ (d : Fin 32) (t : Fin 257), k0_cond36 d (wd t.val) = 1#1 ↔ (t.val < 256 ∧ t.val / 8 ≠ d.val) := cond32_iff
theorem chk15_ok : ∀ (d : Fin 32) (t : Fin 257), k0_chk15 d (wd t.val) := chk11_ok
theorem off19_eq : ∀ t : Fin 257, k0_off19 (wd t.val) = ![min t.val 255, 0] := off14_eq
theorem off35_eq : ∀ t : Fin 256, k0_off35 (wd t.val) = ![t.val % 8] := off20_eq
theorem off36_eq : ∀ t : Fin 256, k0_off36 (wd t.val) = ![t.val % 8, 0] := off21_eq
theorem off37_eq : ∀ t : Fin 256, k0_off37 (wd t.val) = ![t.val % 8, 0] := off22_eq
theorem off43_eq : ∀ t : Fin 256, k0_off43 (wd t.val) = ![t.val % 8, 0] := off38_eq
theorem dev14_eq : ∀ t : Fin 256, k0_dev14 (wd t.val) = t.val / 8 := dev9_eq
theorem cond30_iff : ∀ (d : Fin 32) (t : Fin 257), k0_cond30 d (wd t.val) = 1#1 ↔ (t.val < 256 ∧ t.val / 8 ≠ d.val) := cond20_iff
theorem cond31_iff : ∀ (d : Fin 32) (t : Fin 257), k0_cond31 d (wd t.val) = 1#1 ↔ (t.val < 256 ∧ t.val / 8 = d.val) := cond21_iff
theorem cond37_iff : ∀ (d : Fin 32) (t : Fin 257), k0_cond37 d (wd t.val) = 1#1 ↔ (t.val < 256 ∧ t.val / 8 ≠ d.val) := cond32_iff
theorem chk16_ok : ∀ (d : Fin 32) (t : Fin 257), k0_chk16 d (wd t.val) := chk11_ok

end Cert.Moe
-- ==== Proof.Rows.lean ====
module

public import proofs.«01_k».proof.Proof.Words
public import proofs.«01_k».proof.Proof.Gen.KernelIdeal.Launch
public import Idealize.ShloMosaic.Lib.Pipeline.TalkSites
public import Idealize.ShloMosaic.Lib.Pipeline.SiteBlocksAR
public import Idealize.ShloMosaic.Lib.Pipeline.RegionTalk
public import Idealize.ShloMosaic.Lib.Pipeline.Kit
public import Idealize.ShloMosaic.Lib.Scf
public import Idealize.ShloMosaic.Lib.Tactic

@[expose] public section

/-!
# Rows of the result buffer and slots of the exchange buffer

The kernel copies one row of 256 numbers at a time: out of one of the six slots of its exchange
buffer (two experts times three places) into one of the eight rows of the result buffer of some
device.  This module names these rows and says how the two buffers fall apart into them.
-/

noncomputable section

namespace Cert.Moe

open Cert.KernelIdeal Cert.KernelIdeal.Gen
open Idealize.ShloMosaic
open Idealize.ShloMosaic.TcCoe
variable {F : FTy → Type}

/-- The result buffer. -/
abbrev oM : Memref sig .tc .vmem S8x256 .f32 := Memref.whole cc0_stg3_0
/-- The exchange buffer. -/
abbrev cM : Memref sig .tc .vmem S2x3x256 .f32 := Memref.whole cc0_scratch0

theorem oInb (r : Fin 8) : ∀ a, (![r.val, 0] : Fin 2 → ℕ) a + S1x256.size a ≤ S8x256.size a := by
  revert r; decide
theorem cInb (e : Fin 2) (j : Fin 3) : ∀ a, (![e.val, j.val, 0] : Fin 3 → ℕ) a + S1x1x256.size a ≤ S2x3x256.size a := by
  revert e j; decide

/-- Where row `r` of the result lies. -/
abbrev oRect (r : Fin 8) : Rect S8x256 := Rect.unit (s := S8x256) ![r.val, 0] S1x256.size (oInb r)
/-- Where slot `(e, j)` of the exchange buffer lies. -/
abbrev cRect (e : Fin 2) (j : Fin 3) : Rect S2x3x256 := Rect.unit (s := S2x3x256) ![e.val, j.val, 0] S1x1x256.size (cInb e j)

/-- Row `r` of the result. -/
abbrev oRow (r : Fin 8) : Memref sig .tc .vmem S1x256 .f32 := oM.slice (oRect r) (fun _ => rfl)
/-- Slot `(e, j)` of the exchange buffer. -/
abbrev cRow (e : Fin 2) (j : Fin 3) : Memref sig .tc .vmem S1x256 .f32 :=
  (cM.slice (cRect e j) (fun _ => rfl)).squeeze S1x256 squeezes_S1x1x256_S1x256

/-- The entries of row `r`. -/
abbrev oSet (r : Fin 8) : Finset S8x256.Idx := (oRow r).view.set
/-- The entries of slot `(e, j)`. -/
abbrev cSet (p : Fin 2 × Fin 3) : Finset S2x3x256.Idx := (cRow p.1 p.2).view.set

theorem mem_oSet (r : Fin 8) (i : S8x256.Idx) : i ∈ oSet r ↔ i 0 = r := by
  show i ∈ ((View.whole cc0_stg3_0).slice (oRect r)).set ↔ _
  rw [View.set_slice_whole]
  refine (Rect.mem_set_unit (s := S8x256)).trans ⟨fun h => ?_, fun h a => ?_⟩
  · have h0 := h 0
    change r.val ≤ (i 0).val ∧ (i 0).val < r.val + 1 at h0
    exact Fin.ext (by omega)
  · fin_cases a
    · subst h
      show (i 0).val ≤ (i 0).val ∧ (i 0).val < (i 0).val + 1
      omega
    · have := (i 1).isLt
      show 0 ≤ (i 1).val ∧ (i 1).val < 0 + 256
      change (i 1).val < 256 at this
      omega

theorem mem_cSet (p : Fin 2 × Fin 3) (i : S2x3x256.Idx) : i ∈ cSet p ↔ (i 0 = p.1 ∧ i 1 = p.2) := by
  show i ∈ (((View.whole cc0_scratch0).slice (cRect p.1 p.2)).reshape S1x256 (Shape.Squeezes.numel_eq squeezes_S1x1x256_S1x256)).set ↔ _
  rw [View.set_reshape, View.set_slice_whole]
  refine (Rect.mem_set_unit (s := S2x3x256)).trans ⟨fun h => ?_, fun h a => ?_⟩
  · have h0 := h 0
    have h1 := h 1
    change p.1.val ≤ (i 0).val ∧ (i 0).val < p.1.val + 1 at h0
    change p.2.val ≤ (i 1).val ∧ (i 1).val < p.2.val + 1 at h1
    exact ⟨Fin.ext (by omega), Fin.ext (by omega)⟩
  · obtain ⟨h0, h1⟩ := h
    have h0' : (i 0).val = p.1.val := congrArg Fin.val h0
    have h1' : (i 1).val = p.2.val := congrArg Fin.val h1
    fin_cases a
    · show p.1.val ≤ (i 0).val ∧ (i 0).val < p.1.val + 1
      omega
    · show p.2.val ≤ (i 1).val ∧ (i 1).val < p.2.val + 1
      omega
    · have := (i 2).isLt
      show 0 ≤ (i 2).val ∧ (i 2).val < 0 + 256
      change (i 2).val < 256 at this
      omega

theorem oSet_disj : ∀ r ∈ (Finset.univ : Finset (Fin 8)), ∀ r' ∈ (Finset.univ : Finset (Fin 8)), r ≠ r' → Disjoint (oSet r) (oSet r') := by
  intro r _ r' _ h
  refine Finset.disjoint_left.mpr fun i hi hi' => h ?_
  exact ((mem_oSet r i).mp hi).symm.trans ((mem_oSet r' i).mp hi')

theorem cSet_disj : ∀ p ∈ (Finset.univ : Finset (Fin 2 × Fin 3)), ∀ p' ∈ (Finset.univ : Finset (Fin 2 × Fin 3)), p ≠ p' → Disjoint (cSet p) (cSet p') := by
  intro p _ p' _ h
  refine Finset.disjoint_left.mpr fun i hi hi' => h ?_
  have a := (mem_cSet p i).mp hi
  have b := (mem_cSet p' i).mp hi'
  exact Prod.ext (a.1.symm.trans b.1) (a.2.symm.trans b.2)

theorem oSet_all : (Finset.univ : Finset (Fin 8)).biUnion oSet = Finset.univ := by
  ext i
  simp only [Finset.mem_biUnion, Finset.mem_univ, true_and, iff_true]
  exact ⟨i 0, (mem_oSet _ i).mpr rfl⟩

theorem cSet_all : (Finset.univ : Finset (Fin 2 × Fin 3)).biUnion cSet = Finset.univ := by
  ext i
  simp only [Finset.mem_biUnion, Finset.mem_univ, true_and, iff_true]
  exact ⟨(i 0, i 1), (mem_cSet _ i).mpr ⟨rfl, rfl⟩⟩

/-- The place of entry `(r, t)` of the result in its row. -/
abbrev inRow (i : S8x256.Idx) : S1x256.Idx := fun a => match a with | ⟨0, _⟩ => (0 : Fin 1) | ⟨1, _⟩ => (i 1 : Fin 256)

/-- The result whose rows are `V`. -/
def stack (V : Fin 8 → S1x256.Idx → Elt F .f32) : S8x256.Idx → Elt F .f32 := fun i => V (i 0) (inRow i)

theorem oRow_read (r : Fin 8) (f : (cc0_stg3_0 : Ref sig .tc).ty.Contents (Elt F)) (i : S8x256.Idx) (h : i 0 = r) :
    (oRow r).view.read (Elt F) f (inRow i) = f i := by
  show f _ = f i
  refine congrArg f (funext fun a => Fin.ext ?_)
  subst h
  fin_cases a
  · show (i 0).val + 1 * 0 = (i 0).val
    omega
  · show 0 + 1 * (i 1).val = (i 1).val
    omega

/-- Storing a whole row and reading the row back. -/
theorem oRow_read_store (r : Fin 8) (f : (cc0_stg3_0 : Ref sig .tc).ty.Contents (Elt F)) (w : S1x256.Idx → Elt F .f32) :
    (oRow r).view.read (Elt F) (((oM : Memref sig .tc .vmem S8x256 .f32).access (oRect r) : View sig .tc _ _ _).write (Elt F) f w Finset.univ) = w :=
  View.read_write_univ (Val := Elt F) (v := (oRow r).view) f w

/-- A slot read as a block and reshaped is the slot read as a row. -/
theorem cRow_read (e : Fin 2) (j : Fin 3) (f : (cc0_scratch0 : Ref sig .tc).ty.Contents (Elt F)) :
    (cRow e j).view.read (Elt F) f = shapeCast S1x256 ((cM : Memref sig .tc .vmem S2x3x256 .f32).view.readAt (Elt F) (cRect e j).toLoadRect f) shapeCasts_S1x1x256_S1x256 := rfl

section Split

open Idealize.SL Idealize.SL.RA Idealize.SL.BI
open scoped Idealize.SL.BI
open Idealize.SL.BI.BIBase Idealize.SL.BI.Laws Idealize.SL.ProofMode Idealize.SL.Sem

variable {Ix Name Lvl U : Type} [URA U]

local notation "𝕄" => MT nD τ sig ℕ (Elt F) ℕ U ℕ

/-- The result buffer, row by row. -/
theorem split_out (c : Dev nD) (f : (cc0_stg3_0 : Ref sig .tc).ty.Contents (Elt F)) :
    ((((c : Thread nD τ).loc cc0_stg3_0) ↦{fullShare} f) : sProp 𝕄)
      = bigSep Finset.univ fun r : Fin 8 => ((((c : Thread nD τ).loc cc0_stg3_0) ↦[oSet r]{fullShare} f) : sProp 𝕄) := by
  rw [← pointsTo_biUnion (ℓ := (c : Thread nD τ).loc cc0_stg3_0) (q := fullShare) (f := f) Finset.univ oSet oSet_disj, oSet_all]

/-- The exchange buffer, slot by slot. -/
theorem split_comm (c : Dev nD) (f : (cc0_scratch0 : Ref sig .tc).ty.Contents (Elt F)) :
    ((((c : Thread nD τ).loc cc0_scratch0) ↦{fullShare} f) : sProp 𝕄)
      = bigSep Finset.univ fun p : Fin 2 × Fin 3 => ((((c : Thread nD τ).loc cc0_scratch0) ↦[cSet p]{fullShare} f) : sProp 𝕄) := by
  rw [← pointsTo_biUnion (ℓ := (c : Thread nD τ).loc cc0_scratch0) (q := fullShare) (f := f) Finset.univ cSet cSet_disj, cSet_all]

/-- A row of the result of device `c`, known to read `w`. -/
def ownsRow (c : Dev nD) (r : Fin 8) (w : S1x256.Idx → Elt F .f32) : sProp 𝕄 :=
  iprop(∃ f : (cc0_stg3_0 : Ref sig .tc).ty.Contents (Elt F), ⌜(oRow r).view.read (Elt F) f = w⌝ ∗ (((c : Thread nD τ).loc cc0_stg3_0) ↦[oSet r]{fullShare} f))

/-- A row of the result of device `c`, whatever it holds. -/
def anyRow (c : Dev nD) (r : Fin 8) : sProp 𝕄 :=
  iprop(∃ f : (cc0_stg3_0 : Ref sig .tc).ty.Contents (Elt F), (((c : Thread nD τ).loc cc0_stg3_0) ↦[oSet r]{fullShare} f))

/-- A slot of the exchange buffer of device `c`, whatever it holds. -/
def anySlot (c : Dev nD) (p : Fin 2 × Fin 3) : sProp 𝕄 :=
  iprop(∃ f : (cc0_scratch0 : Ref sig .tc).ty.Contents (Elt F), (((c : Thread nD τ).loc cc0_scratch0) ↦[cSet p]{fullShare} f))

/-- The eight rows, each known, are the whole result. -/
theorem join_out (c : Dev nD) (V : Fin 8 → S1x256.Idx → Elt F .f32) :
    (bigSep Finset.univ fun r : Fin 8 => ownsRow (U := U) c r (V r))
      ⊢ ((((c : Thread nD τ).loc cc0_stg3_0) ↦{fullShare} (stack V)) : sProp 𝕄) := by
  haveI : Nonempty ((cc0_stg3_0 : Ref sig .tc).ty.Contents (Elt F)) := ⟨stack V⟩
  unfold ownsRow
  iintro H
  ihave H := (bigSep_exists_pi (Y := fun _ : Fin 8 => (cc0_stg3_0 : Ref sig .tc).ty.Contents (Elt F)) Finset.univ _) $$ H
  icases H with ⟨%fs, H⟩
  ihave H := (bigSep_pure_sep _ _ _) $$ H
  icases H with ⟨%hfs, H⟩
  ihave H := (pointsTo_biUnion_join (ℓ := (c : Thread nD τ).loc cc0_stg3_0) (q := fullShare) Finset.univ oSet fs (fs 0) oSet_disj) $$ H
  icases H with ⟨%g, %hg, H⟩
  rw [oSet_all]
  have e : g = stack V := by
    funext i
    rw [hg (i 0) (Finset.mem_univ _) i ((mem_oSet _ i).mpr rfl), ← oRow_read (i 0) (fs (i 0)) i rfl, hfs (i 0) (Finset.mem_univ _)]
    rfl
  rw [← e]
  iexact H

end Split

end Cert.Moe
-- ==== Proof.Protocol.lean ====
module

public import proofs.«01_k».proof.Proof.Rows

@[expose] public section

/-!
# The protocol

Every device `c` owns one barrier cell, six cells that count its own copies as sent (one for each
slot of the exchange buffer) and eight cells that count copies as arrived (one for each row of its
result).

* A token `i` whose expert is on another device makes `home i` signal one unit to the barrier of
  `owner i`.  If the token survives, the signal hands over row `row i` of the result of `home i`,
  which only this copy will write.
* Device `c` waits for as many units as there are such tokens.  It then holds every row its copies
  write.
* A copy out of slot `s` pays the sender's own cell `s`, which gives the slot back, and the cell of
  the row at the destination, which gives the row back, now holding the value of the token.

The tokens number the duties: a cell has at most one duty for each token, all in round 0.
-/

noncomputable section

namespace Cert.Moe

open Cert.KernelIdeal Cert.KernelIdeal.Gen
open Idealize.ShloMosaic
open Idealize.ShloMosaic.TcCoe
variable {F : FTy → Type}

/-! ## Cells -/

theorem sInb (s : Fin 6) : ∀ a, (![s.val] : Fin 1 → ℕ) a + S1.size a ≤ S6.size a := by revert s; decide
theorem rInb (r : Fin 8) : ∀ a, (![r.val] : Fin 1 → ℕ) a + S1.size a ≤ S8.size a := by revert r; decide

/-- The semaphore of slot `s`. -/
abbrev sendS (s : Fin 6) : DmaSem sig :=
  ((cc0_scratch5.slice (Rect.unit (s := S6) ![s.val] S1.size (sInb s))).squeeze S_ squeezes_S1_S_).sem
/-- The semaphore of row `r`. -/
abbrev recvS (r : Fin 8) : DmaSem sig :=
  ((cc0_scratch6.slice (Rect.unit (s := S8) ![r.val] S1.size (rInb r))).squeeze S_ squeezes_S1_S_).sem
/-- The barrier semaphore. -/
abbrev barS : Sem sig := (SemArray.scalar (sig.barrier 0 rfl) : Sems sig S_).sem

theorem sendS_val (s : Fin 6) : (sendS s).val = 6 + s.val := by revert s; decide
theorem recvS_val (r : Fin 8) : (recvS r).val = 12 + r.val := by revert r; decide

abbrev barCell (c : Dev nD) : GSem nD τ sig := ((c : Thread nD τ), .reg barS)
abbrev sendCell (c : Dev nD) (s : Fin 6) : GSem nD τ sig := ((c : Thread nD τ), .dma (sendS s))
abbrev recvCell (c : Dev nD) (r : Fin 8) : GSem nD τ sig := ((c : Thread nD τ), .dma (recvS r))

/-- The kernel's own semaphores. -/
abbrev osem : Fin 6 ⊕ Fin 8 → SemLoc sig := Sum.elim (fun s => .dma (sendS s)) (fun r => .dma (recvS r))

theorem osem_inj : Function.Injective osem := by
  rintro (s | r) (s' | r') h
  · have := congrArg Fin.val (SemLoc.dma.inj h)
    rw [sendS_val, sendS_val] at this; exact congrArg _ (Fin.ext (by omega))
  · have := congrArg Fin.val (SemLoc.dma.inj h)
    rw [sendS_val, recvS_val] at this; have := s.isLt; omega
  · have := congrArg Fin.val (SemLoc.dma.inj h)
    rw [sendS_val, recvS_val] at this; have := s'.isLt; omega
  · have := congrArg Fin.val (SemLoc.dma.inj h)
    rw [recvS_val, recvS_val] at this; exact congrArg _ (Fin.ext (by omega))

/-! ## Who pays what -/

/-- The expert half and the place of a slot. -/
abbrev slotP (s : Fin 6) : Fin 2 × Fin 3 := (⟨s.val / 3, by have := s.isLt; omega⟩, ⟨s.val % 3, by omega⟩)

/-- The slot of a token, as one of six. -/
def slotF (T : Tab) (i : Fin 256) : Fin 6 := if h : slotN T i < 6 then ⟨slotN T i, h⟩ else 0

theorem slotF_of {T : Tab} {c : Fin 32} {s : Fin 6} {i : Fin 256} (h : At T c s.val i) : slotF T i = s := by
  unfold slotF
  rw [dif_pos (by rw [h.2.2]; exact s.isLt)]
  exact Fin.ext h.2.2

/-- The token that device `c` copies to another device out of slot `s`, if any. -/
def sent (T : Tab) (c : Fin 32) (s : Fin 6) : Finset (Fin 256) := Finset.univ.filter fun i => At T c s.val i ∧ home i ≠ c

/-- The token whose copy arrives at row `r` of device `c`, if any. -/
def recvd (T : Tab) (c : Fin 32) (r : Fin 8) : Finset (Fin 256) := Finset.univ.filter fun i => i = tok c r ∧ travels T i

theorem mem_sent {T : Tab} {c : Fin 32} {s : Fin 6} {i : Fin 256} : i ∈ sent T c s ↔ (At T c s.val i ∧ home i ≠ c) := by
  simp [sent]

theorem sent_travels {T : Tab} {c : Fin 32} {s : Fin 6} {i : Fin 256} (h : i ∈ sent T c s) : travels T i := by
  obtain ⟨⟨h1, h2, -⟩, h3⟩ := mem_sent.mp h
  exact ⟨h2, fun e => h3 (e ▸ h1)⟩

theorem sent_eq {T : Tab} {c : Fin 32} {s : Fin 6} {i : Fin 256} (h : At T c s.val i) (hi : home i ≠ c) : sent T c s = {i} := by
  ext j
  rw [mem_sent, Finset.mem_singleton]
  exact ⟨fun hj => At_unique hj.1 h, fun e => e ▸ ⟨h, hi⟩⟩

theorem sent_empty {T : Tab} {c : Fin 32} {s : Fin 6} (h : ∀ i, At T c s.val i → home i = c) : sent T c s = ∅ := by
  ext j
  rw [mem_sent]
  simp only [Finset.notMem_empty, iff_false]
  exact fun hj => hj.2 (h j hj.1)

theorem recvd_eq {T : Tab} {c : Fin 32} {r : Fin 8} (h : travels T (tok c r)) : recvd T c r = {tok c r} := by
  ext j
  simp only [recvd, Finset.mem_filter, Finset.mem_univ, true_and, Finset.mem_singleton]
  exact ⟨fun hj => hj.1, fun e => ⟨e, e ▸ h⟩⟩

theorem recvd_empty {T : Tab} {c : Fin 32} {r : Fin 8} (h : ¬ travels T (tok c r)) : recvd T c r = ∅ := by
  ext j
  simp only [recvd, Finset.mem_filter, Finset.mem_univ, true_and, Finset.notMem_empty, iff_false]
  rintro ⟨e, hj⟩
  exact h (e ▸ hj)

theorem sent_disj (T : Tab) (c : Fin 32) : ∀ s ∈ (Finset.univ : Finset (Fin 6)), ∀ s' ∈ (Finset.univ : Finset (Fin 6)), s ≠ s' → Disjoint (sent T c s) (sent T c s') := by
  intro s _ s' _ h
  refine Finset.disjoint_left.mpr fun i hi hi' => h ?_
  exact (slotF_of (mem_sent.mp hi).1).symm.trans (slotF_of (mem_sent.mp hi').1)

/-- The tokens device `c` copies to other devices. -/
def sentAll (T : Tab) (c : Fin 32) : Finset (Fin 256) := Finset.univ.biUnion (sent T c)

theorem mem_sentAll {T : Tab} {c : Fin 32} {i : Fin 256} : i ∈ sentAll T c ↔ (owner T i = c ∧ under T i ∧ home i ≠ c) := by
  unfold sentAll
  simp only [Finset.mem_biUnion, Finset.mem_univ, true_and, mem_sent]
  constructor
  · rintro ⟨s, ⟨h1, h2, -⟩, h3⟩; exact ⟨h1, h2, h3⟩
  · rintro ⟨h1, h2, h3⟩; exact ⟨⟨slotN T i, slotN_lt h2⟩, ⟨h1, h2, rfl⟩, h3⟩

/-- The rows of device `c` whose token's expert is elsewhere: for each, one signal. -/
def calling (T : Tab) (c : Fin 32) : Finset (Fin 8) := Finset.univ.filter fun r => owner T (tok c r) ≠ c

/-! ## The units of one copied row -/

/-- What a copied row counts for. -/
abbrev rowU : ℕ := (oRow 0).view.dmaCredit

theorem rowU_pos : 0 < rowU := View.dmaCredit_pos _ (by decide)

theorem oRow_amount (r : Fin 8) (q : DmaSem sig) : (oRow r).view.amount (.dma q) = rowU := rfl

/-! ## The schedule -/

section Sched

open Idealize.SL Idealize.SL.RA Idealize.SL.BI
open scoped Idealize.SL.BI
open Idealize.SL.BI.BIBase Idealize.SL.BI.Laws Idealize.SL.ProofMode Idealize.SL.Sem
open Idealize.ShloMosaic.Rounds

/-- The ghost parts: the staging copies, the reduction that comes first, this kernel. -/
abbrev UU : Type := UR sig nD τ × (SiteBlocks.Uar nD τ sig × URounds (GSem nD τ sig) (Fin 256))

local notation "𝕄" => MT nD τ sig ℕ (Elt F) ℕ UU ℕ

abbrev EP : Emb (UR sig nD τ) (MT nD τ sig ℕ (Elt F) ℕ UU ℕ) := embL
abbrev EC : Emb (SiteBlocks.Uar nD τ sig × URounds (GSem nD τ sig) (Fin 256)) (MT nD τ sig ℕ (Elt F) ℕ UU ℕ) := embR
abbrev E0 : Emb (SiteBlocks.Uar nD τ sig) (MT nD τ sig ℕ (Elt F) ℕ UU ℕ) := (Emb.inl).trans EC
abbrev EB : Emb (URounds (GSem nD τ sig) (Fin 256)) (MT nD τ sig ℕ (Elt F) ℕ UU ℕ) := (Emb.inr).trans EC

variable (T : Tab) (V : Fin 256 → S1x256.Idx → Elt F .f32)

/-- The duties of a cell in round 0. -/
def due0 (g : GSem nD τ sig) : Finset (Fin 256) := match g.2 with
  | .reg _ => callers T g.1.1
  | .dma q => Finset.univ.filter fun i =>
      (q.val = 6 + slotN T i ∧ under T i ∧ owner T i = g.1.1 ∧ home i ≠ g.1.1) ∨ (q.val = 12 + (row i).val ∧ home i = g.1.1 ∧ travels T i)

/-- What a token's signal hands over. -/
def barPay (i : Fin 256) : sProp 𝕄 :=
  if under T i then iprop(anyRow (home i) (row i) ∗ reached EB (recvCell (home i) (row i)) 0) else iprop(emp)

/-- What a token's duty at a cell hands over. -/
def pay0 (g : GSem nD τ sig) (i : Fin 256) : sProp 𝕄 := match g.2 with
  | .reg _ => barPay T i
  | .dma q => if q.val < 12 then anySlot g.1.1 (slotP (slotF T i)) else ownsRow (home i) (row i) (V i)

instance anyRow_storable (c : Dev nD) (r : Fin 8) : BI.Storable (upEmb : UEmb _ 𝕄) (anyRow (F := F) (U := UU) c r) := by
  unfold anyRow; infer_instance
instance ownsRow_storable (c : Dev nD) (r : Fin 8) (w : S1x256.Idx → Elt F .f32) : BI.Storable (upEmb : UEmb _ 𝕄) (ownsRow (F := F) (U := UU) c r w) := by
  unfold ownsRow; infer_instance
instance anySlot_storable (c : Dev nD) (p : Fin 2 × Fin 3) : BI.Storable (upEmb : UEmb _ 𝕄) (anySlot (F := F) (U := UU) c p) := by
  unfold anySlot; infer_instance

def Rd : Rounds.Schedule (GSem nD τ sig) (Fin 256) 𝕄 where
  duties g r := if r = 0 ∧ g.1.2 = .tc then due0 T g else ∅
  unitless _ := False
  amount g _ _ := match g.2 with | .reg _ => 1 | .dma _ => rowU
  payload g _ i := pay0 T V g i
  amount_pos g _ _ _ := by
    obtain ⟨t, q⟩ := g
    cases q with
    | reg q => exact Nat.one_pos
    | dma q => exact rowU_pos

instance Rd_storable (g : GSem nD τ sig) (r : ℕ) (i : Fin 256) : BI.Storable (upEmb : UEmb _ 𝕄) ((Rd T V).payload g r i) := by
  show BI.Storable upEmb (pay0 T V g i)
  unfold pay0 barPay
  (repeat' split) <;> infer_instance

theorem duties_bar (c : Dev nD) : (Rd T V).duties (barCell c) 0 = callers T c := by
  dsimp only [Rd]; exact if_pos ⟨rfl, rfl⟩
theorem duties_send (c : Dev nD) (s : Fin 6) : (Rd T V).duties (sendCell c s) 0 = sent T c s := by
  dsimp only [Rd]
  rw [if_pos ⟨rfl, rfl⟩]
  ext i
  simp only [due0, Finset.mem_filter, Finset.mem_univ, true_and, mem_sent, sendS_val]
  constructor
  · rintro (⟨h1, h2, h3, h4⟩ | ⟨h1, -⟩)
    · exact ⟨⟨h3, h2, by omega⟩, h4⟩
    · have := s.isLt; omega
  · rintro ⟨⟨h1, h2, h3⟩, h4⟩; exact Or.inl ⟨by omega, h2, h1, h4⟩
theorem duties_recv (c : Dev nD) (r : Fin 8) : (Rd T V).duties (recvCell c r) 0 = recvd T c r := by
  dsimp only [Rd]
  rw [if_pos ⟨rfl, rfl⟩]
  ext i
  simp only [due0, Finset.mem_filter, Finset.mem_univ, true_and, recvd, recvS_val]
  constructor
  · rintro (⟨h1, h2, h3, h4⟩ | ⟨h1, h2, h3⟩)
    · have := slotN_lt h2; omega
    · exact ⟨eq_tok_of h2 (Fin.ext (by omega)), h3⟩
  · rintro ⟨h1, h2⟩; exact Or.inr ⟨by rw [h1, row_tok], by rw [h1, home_tok], h2⟩
theorem duties_later (g : GSem nD τ sig) : ∀ r, 1 ≤ r → (Rd T V).duties g r = ∅ := fun r hr => by dsimp only [Rd]; exact if_neg fun h => by omega

theorem expect_bar (c : Dev nD) : (Rd T V).expect (barCell c) 0 = (callers T c).card := by
  unfold Schedule.expect Schedule.amountOf
  rw [duties_bar]
  exact (Finset.card_eq_sum_ones _).symm
theorem expect_send (c : Dev nD) (s : Fin 6) {i : Fin 256} (h : sent T c s = {i}) : (Rd T V).expect (sendCell c s) 0 = rowU := by
  unfold Schedule.expect Schedule.amountOf
  rw [duties_send, h, Finset.sum_singleton]; rfl
theorem expect_recv (c : Dev nD) (r : Fin 8) {i : Fin 256} (h : recvd T c r = {i}) : (Rd T V).expect (recvCell c r) 0 = rowU := by
  unfold Schedule.expect Schedule.amountOf
  rw [duties_recv, h, Finset.sum_singleton]; rfl

theorem payload_bar (c : Dev nD) (i : Fin 256) : (Rd T V).payload (barCell c) 0 i = barPay T i := rfl
theorem payload_send (c : Dev nD) (s : Fin 6) {i : Fin 256} (h : i ∈ sent T c s) : (Rd T V).payload (sendCell c s) 0 i = anySlot c (slotP s) := by
  show (if (sendS s).val < 12 then (anySlot c (slotP (slotF T i)) : sProp 𝕄) else ownsRow (home i) (row i) (V i)) = _
  rw [if_pos (by rw [sendS_val]; have := s.isLt; omega), slotF_of (mem_sent.mp h).1]
theorem payload_recv (c : Dev nD) (r : Fin 8) (i : Fin 256) : (Rd T V).payload (recvCell c r) 0 i = ownsRow (home i) (row i) (V i) := by
  show (if (recvS r).val < 12 then (anySlot c (slotP (slotF T i)) : sProp 𝕄) else ownsRow (home i) (row i) (V i)) = _
  rw [if_neg (by rw [recvS_val]; omega)]

/-! ## The family of cells and its tokens -/

abbrev barTok (i : Fin 256) : GSem nD τ sig × ℕ × Fin 256 := (barCell (owner T i), 0, i)
abbrev sendTok (i : Fin 256) : GSem nD τ sig × ℕ × Fin 256 := (sendCell (owner T i) (slotF T i), 0, i)
abbrev recvTok (i : Fin 256) : GSem nD τ sig × ℕ × Fin 256 := (recvCell (home i) (row i), 0, i)

def barTokE (c : Dev nD) : Fin 8 ↪ GSem nD τ sig × ℕ × Fin 256 :=
  ⟨fun r => barTok T (tok c r), fun r r' h => by
    have h : tok c r = tok c r' := congrArg (fun x => x.2.2) h
    have := congrArg row h
    simpa using this⟩
def sendTokE : Fin 256 ↪ GSem nD τ sig × ℕ × Fin 256 := ⟨sendTok T, fun _ _ h => congrArg (fun x => x.2.2) h⟩
def recvTokE : Fin 256 ↪ GSem nD τ sig × ℕ × Fin 256 := ⟨recvTok, fun _ _ h => congrArg (fun x => x.2.2) h⟩

def osemE : Fin 6 ⊕ Fin 8 ↪ SemLoc sig := ⟨osem, osem_inj⟩

def toksOf (c : Dev nD) : Finset (GSem nD τ sig × ℕ × Fin 256) :=
  (calling T c).map (barTokE T c) ∪ ((sentAll T c).map (sendTokE T) ∪ (sentAll T c).map recvTokE)

def fam : TalkSites.Fam nD τ sig (Fin 256) 1 where
  bar := .reg barS
  dorm _ := Finset.univ.map osemE
  toks c _ := toksOf T c
  semKey _ := 0
  hsem j _ _ := Subsingleton.elim _ _
  hbar _ h := by
    obtain ⟨k, -, e⟩ := Finset.mem_map.mp h
    rcases k with s | r <;> cases e
  tokKey x := (match x.1.2 with | .reg _ => home x.2.2 | .dma _ => owner T x.2.2, 0)
  htok c j x hx := by
    have hj : (0 : Fin 1) = j := Subsingleton.elim _ _
    subst hj
    rcases Finset.mem_union.mp hx with hx | hx
    · obtain ⟨r, -, rfl⟩ := Finset.mem_map.mp hx
      show (home (tok c r), _) = _
      rw [home_tok]
    · rcases Finset.mem_union.mp hx with hx | hx
      · obtain ⟨i, hi, rfl⟩ := Finset.mem_map.mp hx
        show (owner T i, _) = _
        rw [(mem_sentAll.mp hi).1]
      · obtain ⟨i, hi, rfl⟩ := Finset.mem_map.mp hx
        show (owner T i, _) = _
        rw [(mem_sentAll.mp hi).1]

theorem bigSep_dorm {M : Type} [URA M] (Φ : SemLoc sig → sProp M) (j : Fin 1) :
    bigSep ((fam T).dorm j) Φ = iprop((bigSep Finset.univ fun s : Fin 6 => Φ (.dma (sendS s))) ∗ (bigSep Finset.univ fun r : Fin 8 => Φ (.dma (recvS r)))) := by
  show bigSep (Finset.univ.map osemE) Φ = _
  rw [bigSep_map, bigSep_univ_sum]
  rfl

theorem bigSep_toks {M : Type} [URA M] (Φ : GSem nD τ sig × ℕ × Fin 256 → sProp M) (c : Dev nD) (j : Fin 1) :
    bigSep ((fam T).toks c j) Φ = iprop((bigSep Finset.univ fun r : Fin 8 => if owner T (tok c r) ≠ c then Φ (barTok T (tok c r)) else iprop(emp))
      ∗ (bigSep Finset.univ fun s : Fin 6 => bigSep (sent T c s) fun i => iprop(Φ (sendTok T i) ∗ Φ (recvTok i)))) := by
  show bigSep (toksOf T c) Φ = _
  have hd1 : Disjoint ((sentAll T c).map (sendTokE T)) ((sentAll T c).map recvTokE) := by
    refine Finset.disjoint_left.mpr fun x hx hx' => ?_
    obtain ⟨i, -, rfl⟩ := Finset.mem_map.mp hx
    obtain ⟨i', -, e⟩ := Finset.mem_map.mp hx'
    have e : (SemLoc.dma (recvS (row i')) : SemLoc sig) = .dma (sendS (slotF T i)) := congrArg (fun x => x.1.2) e
    have := congrArg Fin.val (SemLoc.dma.inj e)
    rw [recvS_val, sendS_val] at this
    have := (slotF T i).isLt; omega
  have hd2 : Disjoint ((calling T c).map (barTokE T c)) ((sentAll T c).map (sendTokE T) ∪ (sentAll T c).map recvTokE) := by
    refine Finset.disjoint_left.mpr fun x hx hx' => ?_
    obtain ⟨r, -, rfl⟩ := Finset.mem_map.mp hx
    rcases Finset.mem_union.mp hx' with hx' | hx'
    · obtain ⟨i', -, e⟩ := Finset.mem_map.mp hx'
      have e : (SemLoc.dma (sendS (slotF T i')) : SemLoc sig) = .reg barS := congrArg (fun x => x.1.2) e
      cases e
    · obtain ⟨i', -, e⟩ := Finset.mem_map.mp hx'
      have e : (SemLoc.dma (recvS (row i')) : SemLoc sig) = .reg barS := congrArg (fun x => x.1.2) e
      cases e
  unfold toksOf
  rw [bigSep_union hd2, bigSep_union hd1, bigSep_map, bigSep_map, bigSep_map]
  unfold calling sentAll
  rw [bigSep_filter, bigSep_biUnion_eq _ _ _ (sent_disj T c), bigSep_biUnion_eq _ _ _ (sent_disj T c)]
  simp only [bigSep_sep']
  rfl

/-! ## What a device owes, and what it is owed -/

/-- Where a token's signal goes: nothing if its expert is at home. -/
def callTally (i : Fin 256) : CellTallies nD τ sig ℕ := if owner T i ≠ home i then tallyAt (barCell (owner T i)) 4 1 else 0
/-- Where a token's copy arrives. -/
def rowTally (i : Fin 256) : CellTallies nD τ sig ℕ := tallyAt (recvCell (home i) (row i)) 5 rowU

/-- The signals device `c` owes. -/
def callDues (c : Dev nD) (r : Fin 8) : CellTallies nD τ sig ℕ := callTally T (tok c r)
/-- The copies device `c` owes. -/
def sendDues (c : Dev nD) (s : Fin 6) : CellTallies nD τ sig ℕ := ∑ i ∈ sent T c s, rowTally i

def dues (c : Dev nD) : CellTallies nD τ sig ℕ := (∑ s : Fin 6, sendDues T c s) + ∑ r : Fin 8, callDues T c r

/-- What the others owe device `c`. -/
def rowCred (c : Dev nD) (r : Fin 8) : CellTallies nD τ sig ℕ := if travels T (tok c r) then rowTally (tok c r) else 0
def creds (c : Dev nD) : CellTallies nD τ sig ℕ := (∑ r : Fin 8, rowCred T c r) + tallyAt (barCell c) 4 (callers T c).card

/-- Sums over the tokens, device by device and row by row. -/
theorem sum_tok {A : Type} [AddCommMonoid A] (f : Fin 256 → A) : (∑ c : Fin 32, ∑ r : Fin 8, f (tok c r)) = ∑ i, f i := by
  rw [← Finset.sum_product', Finset.univ_product_univ]
  exact Finset.sum_equiv
    (⟨fun p => tok p.1 p.2, fun i => (home i, row i), fun p => by simp, fun i => by simp⟩ : Fin 32 × Fin 8 ≃ Fin 256)
    (by simp) (fun p _ => rfl)

theorem tallyAt_sum (g : GSem nD τ sig) (k : ℕ) (S : Finset (Fin 256)) : (∑ _i ∈ S, (tallyAt g k 1 : CellTallies nD τ sig ℕ)) = tallyAt g k S.card := by
  induction S using Finset.induction_on with
  | empty => rw [Finset.sum_empty, Finset.card_empty, tallyAt_zero]
  | insert i S hi ih => rw [Finset.sum_insert hi, ih, tallyAt_add, Finset.card_insert_of_notMem hi, Nat.add_comm]

theorem sum_dues : (∑ c : Dev nD, dues T c) = ∑ c : Dev nD, creds T c := by
  unfold dues creds
  rw [Finset.sum_add_distrib, Finset.sum_add_distrib]
  refine congrArg₂ (· + ·) ?_ ?_
  · have e1 (c : Fin 32) : (∑ s : Fin 6, sendDues T c s) = ∑ i : Fin 256, if owner T i = c then (if travels T i then rowTally i else 0) else 0 := by
      unfold sendDues
      rw [← Finset.sum_biUnion (fun s hs s' hs' h => sent_disj T c s (Finset.mem_univ _) s' (Finset.mem_univ _) h)]
      rw [← Finset.sum_subset (Finset.subset_univ (sentAll T c))]
      · refine Finset.sum_congr rfl fun i hi => ?_
        obtain ⟨h1, h2, h3⟩ := mem_sentAll.mp hi
        rw [if_pos h1, if_pos ⟨h2, fun e => h3 (e ▸ h1)⟩]
      · intro i _ hi
        by_cases h1 : owner T i = c
        · rw [if_pos h1, if_neg]
          rintro ⟨h2, h3⟩
          exact hi (mem_sentAll.mpr ⟨h1, h2, fun e => h3 (h1.trans e.symm)⟩)
        · rw [if_neg h1]
    rw [Finset.sum_congr rfl fun c _ => e1 c, Finset.sum_comm]
    unfold rowCred
    rw [sum_tok fun i => if travels T i then rowTally i else 0]
    exact Finset.sum_congr rfl fun i _ => by rw [Finset.sum_ite_eq, if_pos (Finset.mem_univ _)]
  · unfold callDues
    rw [sum_tok (callTally T)]
    have e2 (c : Fin 32) : (tallyAt (barCell c) 4 (callers T c).card : CellTallies nD τ sig ℕ) = ∑ i : Fin 256, if owner T i = c then callTally T i else 0 := by
      rw [← tallyAt_sum]
      unfold callers
      rw [Finset.sum_filter]
      refine Finset.sum_congr rfl fun i _ => ?_
      unfold callTally
      by_cases h1 : owner T i = c
      · by_cases h2 : home i = c
        · rw [if_neg (fun h => h.2 h2), if_pos h1, if_neg (fun h => h (h1.trans h2.symm))]
        · rw [if_pos ⟨h1, h2⟩, if_pos h1, if_pos (fun h => h2 (h.symm.trans h1)), h1]
      · rw [if_neg (fun h => h1 h.1), if_neg h1]
    rw [Finset.sum_congr rfl fun c _ => e2 c, Finset.sum_comm]
    exact Finset.sum_congr rfl fun i _ => by rw [Finset.sum_ite_eq, if_pos (Finset.mem_univ _)]

theorem tally_dev {g g' : GSem nD τ sig} {k n : ℕ} (h : (tallyAt g k n : CellTallies nD τ sig ℕ) g' ≠ 0) : g' = g := by
  by_contra hn
  exact h (by ext j; by_contra h0; exact hn (Pipeline.tallyAt_pos (Nat.pos_of_ne_zero h0)).1)

theorem creds_dev (c : Dev nD) (g : GSem nD τ sig) (h : creds T c g ≠ 0) : g.1 = (c.tc : Thread nD τ) := by
  by_contra hn
  refine h ?_
  unfold creds
  rw [Pi.add_apply, Finset.sum_apply]
  have h1 : (tallyAt (barCell c) 4 (callers T c).card : CellTallies nD τ sig ℕ) g = 0 := by
    by_contra h0; exact hn (congrArg Prod.fst (tally_dev h0))
  have h2 (r : Fin 8) : rowCred T c r g = 0 := by
    unfold rowCred rowTally
    split
    · rw [home_tok, row_tok]
      by_contra h0; exact hn (congrArg Prod.fst (tally_dev h0))
    · rfl
  rw [h1, Finset.sum_eq_zero (fun r _ => h2 r), add_zero]

theorem cred_finsum {K : Type} [DecidableEq K] (S : Finset K) (f : K → CellTallies nD τ sig ℕ) :
    (cred (∑ k ∈ S, f k) : sProp 𝕄) = bigSep S fun k => cred (f k) := by
  induction S using Finset.induction_on with
  | empty => rw [Finset.sum_empty, bigSep_empty]; exact cred_zero
  | insert k S hk ih => rw [Finset.sum_insert hk, bigSep_insert hk, BI.Entails.antisymm (cred_add _ _).1 (cred_add _ _).2, ih]; rfl

theorem launch_creds (c : Dev nD) : (Pipeline.launchCred (dues T) c : sProp 𝕄)
    = iprop((bigSep Finset.univ fun r : Fin 8 => cred (rowCred T c r)) ∗ cred (tallyAt (barCell c) 4 (callers T c).card)) := by
  rw [Pipeline.launchCred_of_sum (dues T) (creds T) (sum_dues T) (creds_dev T) c]
  unfold creds
  rw [BI.Entails.antisymm (cred_add _ _).1 (cred_add _ _).2, cred_finsum]

/-! ## Levels -/

/-- Indices 1 to 3 belong to the reduction, 4 to the barrier, 5 to the arrivals, 6 to the device's own copies. -/
abbrev NL : ℕ := 7

theorem tally_above {g : GSem nD τ sig} {k n b : ℕ} (hg : g.1.2 = .tc) (hb : b ≤ k) (hk : k < NL) {g' : GSem nD τ sig} {i : ℕ}
    (h : 0 < (tallyAt g k n : CellTallies nD τ sig ℕ) g' i) : i ∈ SiteBlocks.L NL g' ∧ b ≤ i := by
  obtain ⟨rfl, rfl⟩ := Pipeline.tallyAt_pos h
  exact ⟨SiteBlocks.mem_L' hg hk, hb⟩

theorem sum_pos {K : Type} [DecidableEq K] {S : Finset K} {f : K → CellTallies nD τ sig ℕ} {g : GSem nD τ sig} {i : ℕ}
    (h : 0 < (∑ k ∈ S, f k) g i) : ∃ k ∈ S, 0 < f k g i := by
  rw [Finset.sum_apply, Finsupp.finset_sum_apply] at h
  by_contra hn
  push Not at hn
  rw [Finset.sum_eq_zero (fun k hk => Nat.le_zero.mp (hn k hk))] at h
  exact Nat.lt_irrefl 0 h

/-- Copies are owed at index 5. -/
theorem sendDues_above {K : Type} [DecidableEq K] {S : Finset K} {e : K → Fin 6} {c : Dev nD} {g : GSem nD τ sig} {i : ℕ}
    (h : 0 < (∑ s ∈ S, sendDues T c (e s)) g i) : i ∈ SiteBlocks.L NL g ∧ 5 ≤ i := by
  obtain ⟨s, -, h⟩ := sum_pos h
  obtain ⟨t, -, h⟩ := sum_pos h
  exact tally_above rfl (Nat.le_refl _) (by decide) h

theorem dues_above (c : Dev nD) {g : GSem nD τ sig} {i : ℕ} (h : 0 < dues T c g i) : i ∈ SiteBlocks.L NL g ∧ 4 ≤ i := by
  unfold dues at h
  rw [Pi.add_apply, Finsupp.add_apply] at h
  rcases Nat.add_pos_iff_pos_or_pos.mp h with h | h
  · have := sendDues_above T (e := id) h
    exact ⟨this.1, by omega⟩
  · obtain ⟨r, -, h⟩ := sum_pos h
    unfold callDues callTally at h
    split at h
    · exact tally_above rfl (Nat.le_refl _) (by decide) h
    · exact absurd h (Nat.lt_irrefl 0)

theorem above_dues : SiteBlocks.Above NL 4 (dues T) := fun c _ _ h => dues_above T c h

end Sched

end Cert.Moe
-- ==== Proof.Steps.lean ====
module

public import proofs.«01_k».proof.Proof.Protocol

@[expose] public section

/-!
# One rule for each kind of step

The body does the same few things over and over, for each of the eight rows or the six slots: signal
an expert's device, clear a row, copy a slot to another device, copy a slot to a row of this device,
wait for an own copy, wait for an arrival.  Each rule here moves one row or one slot from "not yet" to
"done", whichever way the printed condition turns out.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Families that are turned over one by one -/

section March

variable {M : Type} [URA M] {n : ℕ}

/-- The first `k` members are at `Ψ`, the others still at `Φ`. -/
def march (Φ Ψ : Fin n → sProp M) (k : ℕ) : sProp M := bigSep Finset.univ fun j => if j.val < k then Ψ j else Φ j

theorem march_zero (Φ Ψ : Fin n → sProp M) : march Φ Ψ 0 = bigSep Finset.univ Φ := rfl

theorem march_all (Φ Ψ : Fin n → sProp M) : march Φ Ψ n = bigSep Finset.univ Ψ :=
  bigSep_congr fun j _ => if_pos j.isLt

theorem march_take (Φ Ψ : Fin n → sProp M) {k : ℕ} (hk : k < n) :
    march Φ Ψ k ⊢ iprop(Φ ⟨k, hk⟩ ∗ (Ψ ⟨k, hk⟩ -∗ march Φ Ψ (k + 1))) := by
  have h := bigSep_univ_update (Φ := fun j : Fin n => if j.val < k then Ψ j else Φ j) (Ψ := fun j : Fin n => if j.val < k + 1 then Ψ j else Φ j)
    ⟨k, hk⟩ (fun j hj => by
      have : j.val ≠ k := fun e => hj (Fin.ext e)
      by_cases h : j.val < k
      · rw [if_pos h, if_pos (by omega)]
      · rw [if_neg h, if_neg (by omega)])
  rw [if_neg (Nat.lt_irrefl k), if_pos (Nat.lt_succ_self k)] at h
  exact h

/-- A member that is already turned over. -/
theorem march_done (Φ Ψ : Fin n → sProp M) {k : ℕ} (hk : k < n) :
    march Φ Ψ (k + 1) ⊢ iprop(Ψ ⟨k, hk⟩ ∗ (Ψ ⟨k, hk⟩ -∗ march Φ Ψ (k + 1))) := by
  have h := bigSep_univ_update (Φ := fun j : Fin n => if j.val < k + 1 then Ψ j else Φ j) (Ψ := fun j : Fin n => if j.val < k + 1 then Ψ j else Φ j)
    ⟨k, hk⟩ (fun j _ => rfl)
  rw [if_pos (Nat.lt_succ_self k)] at h
  exact h

end March

/-- The sum of the terms from `k` on. -/
def tail {A : Type} [AddCommMonoid A] {n : ℕ} (f : Fin n → A) (k : ℕ) : A := ∑ j ∈ Finset.univ.filter (fun j : Fin n => k ≤ j.val), f j

theorem tail_zero {A : Type} [AddCommMonoid A] {n : ℕ} (f : Fin n → A) : tail f 0 = ∑ j, f j := by
  unfold tail
  exact Finset.sum_congr (by ext j; simp) fun _ _ => rfl

theorem tail_all {A : Type} [AddCommMonoid A] {n : ℕ} (f : Fin n → A) : tail f n = 0 := by
  unfold tail
  refine Finset.sum_eq_zero fun j hj => ?_
  have := (Finset.mem_filter.mp hj).2
  have := j.isLt
  omega

theorem tail_step {A : Type} [AddCommMonoid A] {n : ℕ} (f : Fin n → A) {k : ℕ} (hk : k < n) : tail f k = tail f (k + 1) + f ⟨k, hk⟩ := by
  unfold tail
  rw [show (Finset.univ.filter fun j : Fin n => k ≤ j.val) = insert ⟨k, hk⟩ (Finset.univ.filter fun j : Fin n => k + 1 ≤ j.val) from ?_,
    Finset.sum_insert (by simp), add_comm]
  ext j
  simp only [Finset.mem_filter, Finset.mem_univ, true_and, Finset.mem_insert]
  constructor
  · intro h
    by_cases e : j.val = k
    · exact Or.inl (Fin.ext e)
    · exact Or.inr (by omega)
  · rintro (rfl | h)
    · exact Nat.le_refl _
    · omega

/-! ## What every step may use -/

variable {F : FTy → Type} [FloatOps F] [Cert.KernelIdeal.Facts]

local notation "𝕄" => MT nD τ sig ℕ (Elt F) ℕ UU ℕ

abbrev 𝒱₀ : Variants := Variants.none

variable (T : Tab) (V : Fin 256 → S1x256.Idx → Elt F .f32) (κ : GSem nD τ sig → ℕ) (c : Dev nD)

/-- The cells' invariants, the cells known to be open, the levels. -/
def ctx : sProp 𝕄 :=
  iprop((fam T).cellInvs EB (Rd T V) κ
    ∗ (bigSep Finset.univ fun n : Dev nD => reached EB (barCell n) 0)
    ∗ (bigSep Finset.univ fun s : Fin 6 => reached EB (sendCell c s) 0)
    ∗ (bigSep Finset.univ fun r : Fin 8 => reached EB (recvCell c r) 0)
    ∗ levAts (SiteBlocks.L NL) SiteBlocks.lv)

instance ctx_persistent : BI.Persistent (ctx T V κ c) := by unfold ctx; infer_instance

theorem inv_bar (n : Dev nD) : (ctx T V κ c : sProp 𝕄) ⊢ cellInv EB (Rd T V) (κ (barCell n)) (barCell n) := by
  unfold ctx
  iintro ⟨H, -⟩
  iapply ((fam T).cellInvs_bar EB (Rd T V) κ n); iexact H
theorem inv_send (n : Dev nD) (s : Fin 6) : (ctx T V κ c : sProp 𝕄) ⊢ cellInv EB (Rd T V) (κ (sendCell n s)) (sendCell n s) := by
  unfold ctx
  iintro ⟨H, -⟩
  iapply ((fam T).cellInvs_dorm EB (Rd T V) κ n (j := 0) (sm := osem (.inl s)) (show _ ∈ Finset.univ.map osemE from Finset.mem_map_of_mem osemE (Finset.mem_univ (Sum.inl s)))); iexact H
theorem inv_recv (n : Dev nD) (r : Fin 8) : (ctx T V κ c : sProp 𝕄) ⊢ cellInv EB (Rd T V) (κ (recvCell n r)) (recvCell n r) := by
  unfold ctx
  iintro ⟨H, -⟩
  iapply ((fam T).cellInvs_dorm EB (Rd T V) κ n (j := 0) (sm := osem (.inr r)) (show _ ∈ Finset.univ.map osemE from Finset.mem_map_of_mem osemE (Finset.mem_univ (Sum.inr r)))); iexact H
theorem open_bar (n : Dev nD) : (ctx T V κ c : sProp 𝕄) ⊢ reached EB (barCell n) 0 := by
  unfold ctx
  iintro ⟨-, H, -⟩
  iapply (show (bigSep Finset.univ fun n : Dev nD => reached EB (barCell n) 0 : sProp 𝕄) ⊢ reached EB (barCell n) 0 from bigSep_elim (Finset.mem_univ n)); iexact H
theorem open_send (s : Fin 6) : (ctx T V κ c : sProp 𝕄) ⊢ reached EB (sendCell c s) 0 := by
  unfold ctx
  iintro ⟨-, -, H, -⟩
  iapply (show (bigSep Finset.univ fun s : Fin 6 => reached EB (sendCell c s) 0 : sProp 𝕄) ⊢ reached EB (sendCell c s) 0 from bigSep_elim (Finset.mem_univ s)); iexact H
theorem open_recv (r : Fin 8) : (ctx T V κ c : sProp 𝕄) ⊢ reached EB (recvCell c r) 0 := by
  unfold ctx
  iintro ⟨-, -, -, H, -⟩
  iapply (show (bigSep Finset.univ fun r : Fin 8 => reached EB (recvCell c r) 0 : sProp 𝕄) ⊢ reached EB (recvCell c r) 0 from bigSep_elim (Finset.mem_univ r)); iexact H
theorem levels : (ctx T V κ c : sProp 𝕄) ⊢ levAts (SiteBlocks.L NL) SiteBlocks.lv := by
  unfold ctx
  iintro ⟨-, -, -, -, H⟩
  iexact H

/-! ## The signals -/

/-- A row before its signal. -/
def rowA (r : Fin 8) : sProp 𝕄 :=
  iprop((if owner T (tok c r) ≠ c then dutyTok EB (barCell (owner T (tok c r))) 0 (tok c r) else iprop(emp)) ∗ anyRow c r)
/-- A row after its signal: given away if a copy will write it. -/
def rowB (r : Fin 8) : sProp 𝕄 := if travels T (tok c r) then iprop(emp) else anyRow c r

/-- Before the signal of row `k`. -/
def SigSt (k : ℕ) : sProp 𝕄 :=
  iprop(march (rowA T c) (rowB T c) k ∗ ∃ W, owes (c : Thread nD τ) ((∑ s, sendDues T c s) + tail (callDues T c) k) W)

set_option maxHeartbeats 1000000 in
theorem sig_block {k : ℕ} (hk : k < 8) {cd : BitVec 1} (hcd : cd = 1#1 ↔ owner T (tok c ⟨k, hk⟩) ≠ c)
    {dv : cd = 1#1 → Dev nD} (hdv : ∀ h, dv h = owner T (tok c ⟨k, hk⟩))
    {α : Type} {Q : α → sProp 𝕄} {kk : Prog (TpuEff nD τ sig (Elt F) Λ₀ .tc) α} :
    iprop(ctx T V κ c ∗ SigSt T c k ∗ (SigSt T c (k + 1) -∗ wp frame (wpE (defs₀ (F := F)) 𝒱₀ (c : Thread nD τ) none) Set.univ kk Q))
      ⊢ wp frame (wpE (defs₀ (F := F)) 𝒱₀ (c : Thread nD τ) none) Set.univ
          (if h : cd = 1#1 then .op (.semSignal (Dev.tc (dv h)) barS (1#32 : BitVec 32).toInt) (fun _ => kk) else kk) Q := by
  unfold SigSt
  iintro ⟨#HX, ⟨Hm, ⟨%W, HO⟩⟩, Hk⟩
  ihave Hm := (march_take (rowA T c) (rowB T c) hk) $$ Hm
  icases Hm with ⟨HA, Hback⟩
  unfold rowA rowB
  rw [tail_step (callDues T c) hk]
  by_cases h : cd = 1#1
  · rw [dif_pos h, hdv h]
    have ho := hcd.mp h
    rw [if_pos ho]
    icases HA with ⟨Htok, Hrow⟩
    ihave #Hi := (inv_bar T V κ c (owner T (tok c ⟨k, hk⟩))) $$ HX
    ihave #Hr := (open_bar T V κ c (owner T (tok c ⟨k, hk⟩))) $$ HX
    ihave #Hr' := (open_recv T V κ c ⟨k, hk⟩) $$ HX
    rw [show (1#32 : BitVec 32).toInt = ((1#32 : BitVec 32).toNat : Int) from rfl]
    have hp : iprop(anyRow (F := F) (U := UU) c ⟨k, hk⟩ ∗ reached EB (recvCell c ⟨k, hk⟩) 0)
        ⊢ iprop((Rd T V).payload (barCell (owner T (tok c ⟨k, hk⟩))) 0 (tok c ⟨k, hk⟩) ∗ (if travels T (tok c ⟨k, hk⟩) then iprop(emp) else anyRow c ⟨k, hk⟩)) := by
      rw [payload_bar]
      unfold barPay
      rw [home_tok, row_tok]
      by_cases hu : under T (tok c ⟨k, hk⟩)
      · rw [if_pos hu, if_pos ⟨hu, by rw [home_tok]; exact ho⟩]
        iintro H
        isplitl [H]; · iexact H
        iempintro
      · rw [if_neg hu, if_neg (fun h => hu h.1)]
        iintro ⟨H, -⟩
        isplitr; · iempintro
        iexact H
    ihave Hp := hp $$ [Hrow]
    · isplitl [Hrow]; · iexact Hrow
      iexact Hr'
    icases Hp with ⟨Hp, HB⟩
    iapply (Rounds.wp_signal 𝒱₀ EB (Rd T V) (c : Thread nD τ) none (dst := ((owner T (tok c ⟨k, hk⟩) : Dev nD) : Thread nD τ)) (κ := κ (barCell (owner T (tok c ⟨k, hk⟩))))
        (r := 0) (d := tok c ⟨k, hk⟩)
        (by rw [duties_bar]; exact Finset.mem_filter.mpr ⟨Finset.mem_univ _, rfl, by rw [home_tok]; exact fun e => ho e.symm⟩)
        (show (Rd T V).amount (barCell (owner T (tok c ⟨k, hk⟩))) 0 (tok c ⟨k, hk⟩) = (1#32 : BitVec 32).toNat from rfl) 4
        (O₀ := (∑ s, sendDues T c s) + (tail (callDues T c) (k + 1) + callDues T c ⟨k, hk⟩)) ((∑ s, sendDues T c s) + tail (callDues T c) (k + 1))
        (by unfold callDues callTally; rw [if_pos (by rw [home_tok]; exact ho), ← add_assoc]; rfl)) $$ [HO Htok Hp]
    · isplitr; · iexact Hi
      isplitl [HO]; · iexact HO
      isplitl [Htok]; · iexact Htok
      isplitl [Hp]; · iexact Hp
      iexact Hr
    iintro HO
    iapply Hk
    isplitl [Hback HB]
    · iapply Hback; iexact HB
    · iexists W; iexact HO
  · rw [dif_neg h]
    have ho : ¬ owner T (tok c ⟨k, hk⟩) ≠ c := fun e => h (hcd.mpr e)
    rw [if_neg ho, if_neg (fun ht : travels T (tok c ⟨k, hk⟩) => ho (by have := ht.2; rwa [home_tok] at this))]
    icases HA with ⟨-, Hrow⟩
    rw [show callDues T c ⟨k, hk⟩ = 0 from if_neg (by rw [home_tok]; exact ho), add_zero]
    iapply Hk
    isplitl [Hback Hrow]
    · iapply Hback; iexact Hrow
    · iexists W; iexact HO

/-! ## Clearing the rows of tokens without room -/

/-- A row before it is cleared, and after: only the rows of tokens that found no room are. -/
def rowC (r : Fin 8) : sProp 𝕄 :=
  if under T (tok c r) then (if travels T (tok c r) then iprop(emp) else anyRow c r) else ownsRow c r (V (tok c r))

set_option maxHeartbeats 1000000 in
theorem zero_block {k : ℕ} (hk : k < 8) {cd : BitVec 1} (hcd : cd = 1#1 ↔ ¬ under T (tok c ⟨k, hk⟩))
    {off : Fin 2 → ℕ} (hoff : off = ![k, 0]) {w : S1x256.Idx → Elt F .f32} (hw : ¬ under T (tok c ⟨k, hk⟩) → V (tok c ⟨k, hk⟩) = w)
    {i1 i2 : ∀ a, off a + S1x256.size a ≤ S8x256.size a}
    {hl : (oM : Memref sig .tc .vmem S8x256 .f32).view.LoadsAt (Rect.unit (s := S8x256) off S1x256.size i1).toLoadRect}
    {hx : (oM.access (Rect.unit (s := S8x256) off S1x256.size i2) : View sig .tc _ _ _).Stores Finset.univ}
    {hm : Finset.univ = Finset.univ ∨ ∀ a, (Rect.unit (s := S8x256) off S1x256.size i2).stride a = 1}
    {α : Type} {Q : α → sProp 𝕄} {kk : Prog (TpuEff nD τ sig (Elt F) Λ₀ .tc) α} :
    iprop(march (rowB T c) (rowC T V c) k ∗ (march (rowB T c) (rowC T V c) (k + 1) -∗ wp frame (wpE (defs₀ (F := F)) 𝒱₀ (c : Thread nD τ) none) Set.univ kk Q))
      ⊢ wp frame (wpE (defs₀ (F := F)) 𝒱₀ (c : Thread nD τ) none) Set.univ
          (if cd = 1#1 then .op (.load oM (Rect.unit (s := S8x256) off S1x256.size i1).toLoadRect hl) (fun _ =>
              .op (.store oM (Rect.unit (s := S8x256) off S1x256.size i2) w Finset.univ hx hm) (fun _ => kk)) else kk) Q := by
  subst hoff
  iintro ⟨Hm, Hk⟩
  ihave Hm := (march_take (rowB T c) (rowC T V c) hk) $$ Hm
  icases Hm with ⟨HA, Hback⟩
  unfold rowC rowB
  by_cases h : cd = 1#1
  · have hu := hcd.mp h
    simp only [if_pos h, if_neg hu, if_neg (fun ht : travels T (tok c ⟨k, hk⟩) => hu ht.1)]
    ihave HA := (show anyRow (F := F) (U := UU) c ⟨k, hk⟩ ⊢ iprop(∃ f, (((c : Thread nD τ).loc cc0_stg3_0) ↦[oSet ⟨k, hk⟩]{fullShare} f)) from Entails.refl _) $$ HA
    icases HA with ⟨%f, HA⟩
    iapply (wp_load_rect 𝒱₀ (c : Thread nD τ) none Set.univ (m := oM) (r := oRect ⟨k, hk⟩) (S := oSet ⟨k, hk⟩) (q := fullShare) (f := f) (hl := hl) (Finset.Subset.refl _)) $$ HA
    iintro HA
    iapply (wp_store 𝒱₀ (c : Thread nD τ) none Set.univ (m := oM) (r := oRect ⟨k, hk⟩) (S := oSet ⟨k, hk⟩) (View.setOn_subset_set _ _)) $$ HA
    iintro HA
    iapply Hk
    iapply Hback
    unfold ownsRow
    iexists _
    isplitr
    · ipureintro
      rw [hw hu]
      exact oRow_read_store ⟨k, hk⟩ f w
    · iexact HA
  · have hu : under T (tok c ⟨k, hk⟩) := Classical.not_not.mp fun e => h (hcd.mpr e)
    rw [if_neg h, if_pos hu]
    iapply Hk
    iapply Hback
    iexact HA

end Cert.Moe
-- ==== Proof.Copies.lean ====
module

public import proofs.«01_k».proof.Proof.Steps

@[expose] public section

/-!
# The copies and the waits

For each slot: a copy to the device that owns the token, or a copy to the row of this device, or
nothing.  For each slot and each row afterwards: the wait for the copy, if there was one.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

variable (T : Tab) (V : Fin 256 → S1x256.Idx → Elt F .f32) (κ : GSem nD τ sig → ℕ) (c : Dev nD)
variable (Cm : (cc0_scratch0 : Ref sig .tc).ty.Contents (Elt F))

/-! ## The copies to other devices -/

/-- Slot `s` of the exchange buffer, full. -/
def slotPts (s : Fin 6) : sProp 𝕄 := ((c : Thread nD τ).loc cc0_scratch0) ↦[cSet (slotP s)]{fullShare} Cm

/-- What the copy of token `i` needs beside the slot: its two duties, and the row it writes. -/
def toSend (s : Fin 6) (i : Fin 256) : sProp 𝕄 :=
  iprop(dutyTok EB (sendCell c s) 0 i ∗ dutyTok EB (recvCell (home i) (row i)) 0 i ∗ anyRow (home i) (row i) ∗ reached EB (recvCell (home i) (row i)) 0)

/-- A slot before its copy. -/
def slotA (s : Fin 6) : sProp 𝕄 := iprop(slotPts c Cm s ∗ bigSep (sent T c s) fun i => toSend c s i)
/-- A slot after its copy: under way if it goes elsewhere. -/
def slotB (s : Fin 6) : sProp 𝕄 := if (sent T c s).Nonempty then cred (tallyAt (sendCell c s) 6 rowU) else slotPts c Cm s

/-- Before the copy of slot `k`. -/
def SendSt (k : ℕ) : sProp 𝕄 :=
  iprop(march (slotA T c Cm) (slotB T c Cm) k ∗ ∃ W, owes (c : Thread nD τ) (tail (sendDues T c) k) W)

set_option maxHeartbeats 4000000 in
theorem send_block (hCm : ∀ s i, At T c s.val i → V i = (cRow (slotP s).1 (slotP s).2).view.read (Elt F) Cm)
    {k : ℕ} (hk : k < 6) {cd : BitVec 1} (hcd : cd = 1#1 ↔ ∃ i, At T c k i ∧ home i ≠ c)
    {dv : cd = 1#1 → Dev nD} (hdv : ∀ h i, At T c k i → dv h = home i)
    {ofc : Fin 3 → ℕ} (hofc : ofc = ![(slotP ⟨k, hk⟩).1.val, (slotP ⟨k, hk⟩).2.val, 0])
    {ofs : Fin 1 → ℕ} (hofs : ofs = ![k])
    {of1 : Fin 1 → ℕ} (hof1 : ∀ i, At T c k i → of1 = ![(row i).val])
    {of2 : Fin 2 → ℕ} (hof2 : ∀ i, At T c k i → of2 = ![(row i).val, 0])
    {ic : ∀ a, ofc a + S1x1x256.size a ≤ S2x3x256.size a} {is : ∀ a, ofs a + S1.size a ≤ S6.size a}
    {i1 : cd = 1#1 → ∀ a, of1 a + S1.size a ≤ S8.size a} {i2 : cd = 1#1 → ∀ a, of2 a + S1x256.size a ≤ S8x256.size a}
    {hsc : ∀ h : cd = 1#1, (oM.slice (Rect.unit (s := S8x256) of2 S1x256.size (i2 h)) (fun _ => rfl)).view.ref.isScScratch = false}
    {hsrc : ((cM.slice (Rect.unit (s := S2x3x256) ofc S1x1x256.size ic) (fun _ => rfl)).squeeze S1x256 squeezes_S1x1x256_S1x256).view.WordExact}
    {hdst : ∀ h : cd = 1#1, (oM.slice (Rect.unit (s := S8x256) of2 S1x256.size (i2 h)) (fun _ => rfl)).view.WordExact}
    {hsem : ∀ h : cd = 1#1, DmaTarget.Typed (p := (c : Thread nD τ).2) .vmem (.dma ((cc0_scratch6.slice (Rect.unit (s := S8) of1 S1.size (i1 h))).squeeze S_ squeezes_S1_S_).sem)
      (.remote (Dev.tc (dv h)) (oM.slice (Rect.unit (s := S8x256) of2 S1x256.size (i2 h)) (fun _ => rfl))
        (.dma ((cc0_scratch5.slice (Rect.unit (s := S6) ofs S1.size is)).squeeze S_ squeezes_S1_S_).sem) (hsc h))}
    {α : Type} {Q : α → sProp 𝕄} {kk : Prog (TpuEff nD τ sig (Elt F) Λ₀ .tc) α} :
    iprop(ctx T V κ c ∗ SendSt T c Cm k ∗ (SendSt T c Cm (k + 1) -∗ wp frame (wpE (defs₀ (F := F)) 𝒱₀ (c : Thread nD τ) none) Set.univ kk Q))
      ⊢ wp frame (wpE (defs₀ (F := F)) 𝒱₀ (c : Thread nD τ) none) Set.univ
          (if h : cd = 1#1 then
            .op (.enqueueDma ((cM.slice (Rect.unit (s := S2x3x256) ofc S1x1x256.size ic) (fun _ => rfl)).squeeze S1x256 squeezes_S1x1x256_S1x256)
              (.remote (Dev.tc (dv h)) (oM.slice (Rect.unit (s := S8x256) of2 S1x256.size (i2 h)) (fun _ => rfl))
                (.dma ((cc0_scratch5.slice (Rect.unit (s := S6) ofs S1.size is)).squeeze S_ squeezes_S1_S_).sem) (hsc h))
              (.dma ((cc0_scratch6.slice (Rect.unit (s := S8) of1 S1.size (i1 h))).squeeze S_ squeezes_S1_S_).sem) hsrc (hdst h) (hsem h)) (fun _ => kk)
           else kk) Q := by
  subst hofc hofs
  unfold SendSt
  iintro ⟨#HX, ⟨Hm, ⟨%W, HO⟩⟩, Hk⟩
  ihave Hm := (march_take (slotA T c Cm) (slotB T c Cm) hk) $$ Hm
  icases Hm with ⟨HA, Hback⟩
  simp only [slotA, slotB, tail_step (sendDues T c) hk]
  by_cases h : cd = 1#1
  · obtain ⟨i, hi, hne⟩ := hcd.mp h
    obtain rfl := hof1 i hi
    obtain rfl := hof2 i hi
    have hs : sent T c ⟨k, hk⟩ = {i} := sent_eq (s := ⟨k, hk⟩) hi hne
    have hmem : i ∈ sent T c ⟨k, hk⟩ := by rw [hs]; exact Finset.mem_singleton_self i
    have hdv' : dv = fun _ => home i := funext fun h => hdv h i hi
    subst hdv'
    simp only [dif_pos h, hs, bigSep_singleton, if_pos (Finset.singleton_nonempty i)]
    unfold toSend slotPts
    icases HA with ⟨Hslot, Ht1, Ht2, Hrow, #Hr2⟩
    ihave Hrow := (show anyRow (F := F) (U := UU) (home i) (row i) ⊢ iprop(∃ f, (((home i : Thread nD τ).loc cc0_stg3_0) ↦[oSet (row i)]{fullShare} f)) from Entails.refl _) $$ Hrow
    icases Hrow with ⟨%fd, Hrow⟩
    ihave #Hi1 := (inv_send T V κ c c ⟨k, hk⟩) $$ HX
    ihave #Hi2 := (inv_recv T V κ c (home i) (row i)) $$ HX
    ihave #Hr1 := (open_send T V κ c ⟨k, hk⟩) $$ HX
    iapply (Rounds.wp_send_pointsTo 𝒱₀ EB (Rd T V) (c : Thread nD τ) none (c' := (home i : Thread nD τ))
        (src := cRow (slotP ⟨k, hk⟩).1 (slotP ⟨k, hk⟩).2) (dst := oRow (row i)) (sS := .dma (sendS ⟨k, hk⟩)) (sem := .dma (recvS (row i)))
        (q := fullShare) (fs := Cm) (fd := fd) (r₁ := 0) (r₂ := 0) (d₁ := i) (d₂ := i) (κ₁ := κ (sendCell c ⟨k, hk⟩)) (κ₂ := κ (recvCell (home i) (row i)))
        (show i ∈ (Rd T V).duties (sendCell c ⟨k, hk⟩) 0 by rw [duties_send]; exact hmem)
        (show i ∈ (Rd T V).duties (recvCell (home i) (row i)) 0 by
          rw [duties_recv]; exact Finset.mem_filter.mpr ⟨Finset.mem_univ _, (tok_home_row i).symm, sent_travels hmem⟩)
        5 6 rowU (oRow_amount (row i) (recvS (row i))) rfl rfl
        (O₀ := tail (sendDues T c) (k + 1) + sendDues T c ⟨k, hk⟩) (tail (sendDues T c) (k + 1))
        (by unfold sendDues; rw [hs, Finset.sum_singleton]; rfl)
        (by
          rw [payload_send T V c ⟨k, hk⟩ hmem]
          unfold anySlot
          iintro H; iexists Cm; iexact H)
        (by
          rw [payload_recv]
          unfold ownsRow
          iintro H
          iexists _
          isplitr
          · ipureintro
            rw [hCm ⟨k, hk⟩ i hi]
            exact View.read_write_univ (Val := Elt F) (v := (oRow (row i)).view) fd _
          · iexact H)) $$ [HO Hslot Hrow Ht1 Ht2]
    · isplitr; · iexact Hi1
      isplitr; · iexact Hi2
      isplitl [Hslot]; · iexact Hslot
      isplitl [Hrow]; · iexact Hrow
      isplitl [HO]; · iexact HO
      isplitl [Ht1]; · iexact Ht1
      isplitr; · iexact Hr1
      isplitl [Ht2]; · iexact Ht2
      iexact Hr2
    iintro ⟨Hc, HO⟩
    iapply Hk
    isplitl [Hback Hc]
    · iapply Hback; iexact Hc
    · iexists W; iexact HO
  · have hs : sent T c ⟨k, hk⟩ = ∅ := sent_empty (s := ⟨k, hk⟩) fun i hi => Classical.not_not.mp fun e => h (hcd.mpr ⟨i, hi, e⟩)
    have h0 : sendDues T c ⟨k, hk⟩ = 0 := by unfold sendDues; rw [hs, Finset.sum_empty]
    simp only [dif_neg h, hs, bigSep_empty, if_neg Finset.not_nonempty_empty, h0, add_zero]
    icases HA with ⟨Hslot, -⟩
    iapply Hk
    isplitl [Hback Hslot]
    · iapply Hback; iexact Hslot
    · iexists W; iexact HO

/-! ## The copies to rows of this device -/

/-- A row while the slots below `k` are done: the row of a token of this device's own experts holds its value once its slot is done. -/
def rowL (k : ℕ) (r : Fin 8) : sProp 𝕄 :=
  if under T (tok c r) then (if travels T (tok c r) then iprop(emp) else if slotN T (tok c r) < k then ownsRow c r (V (tok c r)) else anyRow c r)
  else ownsRow c r (V (tok c r))

theorem rowL_zero : rowL T V c 0 = rowC T V c := by
  funext r
  unfold rowL rowC
  simp only [Nat.not_lt_zero, if_false]

/-- The rows when all slots are done. -/
def rowD (r : Fin 8) : sProp 𝕄 := if travels T (tok c r) then iprop(emp) else ownsRow c r (V (tok c r))

theorem rowL_six : rowL T V c 6 = rowD T V c := by
  funext r
  unfold rowL rowD
  by_cases hu : under T (tok c r)
  · simp only [if_pos hu, if_pos (slotN_lt hu)]
  · simp only [if_neg hu, if_neg (fun h : travels T (tok c r) => hu h.1)]

set_option maxHeartbeats 4000000 in
theorem copy_block (hCm : ∀ s i, At T c s.val i → V i = (cRow (slotP s).1 (slotP s).2).view.read (Elt F) Cm)
    {k : ℕ} (hk : k < 6) {cd : BitVec 1} (hcd : cd = 1#1 ↔ ∃ i, At T c k i ∧ home i = c)
    {ofc : Fin 3 → ℕ} (hofc : ofc = ![(slotP ⟨k, hk⟩).1.val, (slotP ⟨k, hk⟩).2.val, 0])
    {of2 : Fin 2 → ℕ} (hof2 : ∀ i, At T c k i → of2 = ![(row i).val, 0])
    {pay : (S1x1x256.Idx → Elt F .f32) → S1x256.Idx → Elt F .f32}
    (hpay : ∀ f : (cc0_scratch0 : Ref sig .tc).ty.Contents (Elt F), pay ((cM.access (cRect (slotP ⟨k, hk⟩).1 (slotP ⟨k, hk⟩).2)).read (Elt F) f)
      = (cRow (slotP ⟨k, hk⟩).1 (slotP ⟨k, hk⟩).2).view.read (Elt F) f)
    {ic : ∀ a, ofc a + S1x1x256.size a ≤ S2x3x256.size a} {i2 i3 : cd = 1#1 → ∀ a, of2 a + S1x256.size a ≤ S8x256.size a}
    {hlc : cM.view.LoadsAt (Rect.unit (s := S2x3x256) ofc S1x1x256.size ic).toLoadRect}
    {hlo : ∀ h : cd = 1#1, oM.view.LoadsAt (Rect.unit (s := S8x256) of2 S1x256.size (i2 h)).toLoadRect}
    {hx : ∀ h : cd = 1#1, (oM.access (Rect.unit (s := S8x256) of2 S1x256.size (i3 h)) : View sig .tc _ _ _).Stores Finset.univ}
    {hm : ∀ h : cd = 1#1, Finset.univ = Finset.univ ∨ ∀ a, (Rect.unit (s := S8x256) of2 S1x256.size (i3 h)).stride a = 1}
    {α : Type} {Q : α → sProp 𝕄} {kk : Prog (TpuEff nD τ sig (Elt F) Λ₀ .tc) α} :
    iprop((SendSt T c Cm (k + 1) ∗ bigSep Finset.univ (rowL T V c k))
        ∗ (SendSt T c Cm (k + 1) ∗ bigSep Finset.univ (rowL T V c (k + 1)) -∗ wp frame (wpE (defs₀ (F := F)) 𝒱₀ (c : Thread nD τ) none) Set.univ kk Q))
      ⊢ wp frame (wpE (defs₀ (F := F)) 𝒱₀ (c : Thread nD τ) none) Set.univ
          (if h : cd = 1#1 then
            .op (.load cM (Rect.unit (s := S2x3x256) ofc S1x1x256.size ic).toLoadRect hlc) (fun v =>
              .op (.load oM (Rect.unit (s := S8x256) of2 S1x256.size (i2 h)).toLoadRect (hlo h)) (fun _ =>
              .op (.store oM (Rect.unit (s := S8x256) of2 S1x256.size (i3 h)) (pay v) Finset.univ (hx h) (hm h)) (fun _ => kk)))
           else kk) Q := by
  subst hofc
  by_cases h : cd = 1#1
  · obtain ⟨i, hi, he⟩ := hcd.mp h
    obtain rfl := hof2 i hi
    have hs : sent T c ⟨k, hk⟩ = ∅ := sent_empty (s := ⟨k, hk⟩) fun j hj => by rw [At_unique hj hi]; exact he
    have hti : tok c (row i) = i := by rw [← he]; exact tok_home_row i
    have hnt : ¬ travels T i := fun ht => ht.2 (hi.1.trans he.symm)
    simp only [dif_pos h]
    have hrows : (bigSep Finset.univ (rowL T V c k) : sProp 𝕄) ⊢ iprop(anyRow c (row i) ∗ (ownsRow c (row i) (V i) -∗ bigSep Finset.univ (rowL T V c (k + 1)))) := by
      have hu := bigSep_univ_update (Φ := rowL T V c k) (Ψ := rowL T V c (k + 1)) (row i) (fun r hr => by
        unfold rowL
        have : slotN T (tok c r) = k → under T (tok c r) → ¬ travels T (tok c r) → False := fun e hu hn => hr (by
          have ho : owner T (tok c r) = c := by
            by_contra ho
            exact hn ⟨hu, by rw [home_tok]; exact ho⟩
          have := At_unique (⟨ho, hu, e⟩ : At T c k (tok c r)) hi
          rw [← this, row_tok])
        by_cases hu : under T (tok c r)
        · by_cases hn : travels T (tok c r)
          · simp only [if_pos hu, if_pos hn]
          · have hne : slotN T (tok c r) ≠ k := fun e => this e hu hn
            simp only [if_pos hu, if_neg hn]
            by_cases hl : slotN T (tok c r) < k
            · rw [if_pos hl, if_pos (by omega)]
            · rw [if_neg hl, if_neg (by omega)]
        · simp only [if_neg hu])
      refine hu.trans ?_
      unfold rowL
      simp only [hti, if_pos hi.2.1, if_neg hnt, hi.2.2, Nat.lt_irrefl, if_false, Nat.lt_succ_self, if_true]
      exact Entails.refl _
    unfold SendSt
    iintro ⟨⟨⟨Hm, HW⟩, Hrows⟩, Hk⟩
    ihave Hm := (march_done (slotA T c Cm) (slotB T c Cm) hk) $$ Hm
    icases Hm with ⟨Hslot, Hback⟩
    ihave Hrows := hrows $$ Hrows
    icases Hrows with ⟨Hrow, Hrows⟩
    ihave Hrow := (show anyRow (F := F) (U := UU) c (row i) ⊢ iprop(∃ f, (((c : Thread nD τ).loc cc0_stg3_0) ↦[oSet (row i)]{fullShare} f)) from Entails.refl _) $$ Hrow
    icases Hrow with ⟨%f, Hrow⟩
    simp only [slotB, hs, if_neg Finset.not_nonempty_empty]
    ihave Hslot := (show slotPts c Cm ⟨k, hk⟩ ⊢ (((c : Thread nD τ).loc cc0_scratch0) ↦[cSet (slotP ⟨k, hk⟩)]{fullShare} Cm : sProp 𝕄) from Entails.refl _) $$ Hslot
    iapply (wp_load_rect 𝒱₀ (c : Thread nD τ) none Set.univ (m := cM) (r := cRect (slotP ⟨k, hk⟩).1 (slotP ⟨k, hk⟩).2) (S := cSet (slotP ⟨k, hk⟩)) (q := fullShare) (f := Cm) (hl := hlc)
      (by
        show _ ⊆ ((cM.access (cRect (slotP ⟨k, hk⟩).1 (slotP ⟨k, hk⟩).2)).reshape S1x256 (Shape.Squeezes.numel_eq squeezes_S1x1x256_S1x256)).set
        rw [View.set_reshape])) $$ Hslot
    iintro Hslot
    iapply (wp_load_rect 𝒱₀ (c : Thread nD τ) none Set.univ (m := oM) (r := oRect (row i)) (S := oSet (row i)) (q := fullShare) (f := f) (hl := hlo h) (Finset.Subset.refl _)) $$ Hrow
    iintro Hrow
    iapply (wp_store 𝒱₀ (c : Thread nD τ) none Set.univ (m := oM) (r := oRect (row i)) (S := oSet (row i)) (f := f) (hx := hx h) (hm := hm h) (View.setOn_subset_set _ _)) $$ Hrow
    iintro Hrow
    iapply Hk
    isplitl [Hback Hslot HW]
    · isplitl [Hback Hslot]
      · iapply Hback; unfold slotPts; iexact Hslot
      · iexact HW
    · iapply Hrows
      unfold ownsRow
      iexists _
      isplitr
      · ipureintro
        rw [hCm ⟨k, hk⟩ i hi, ← hpay]
        exact oRow_read_store (row i) f _
      · iexact Hrow
  · have hrows : rowL T V c (k + 1) = (rowL T V c k : Fin 8 → sProp 𝕄) := by
      funext r
      unfold rowL
      by_cases hu : under T (tok c r)
      · by_cases hn : travels T (tok c r)
        · simp only [if_pos hu, if_pos hn]
        · have ho : owner T (tok c r) = c := by
            by_contra ho
            exact hn ⟨hu, by rw [home_tok]; exact ho⟩
          have hne : slotN T (tok c r) ≠ k := fun e => h (hcd.mpr ⟨tok c r, ⟨ho, hu, e⟩, home_tok c r⟩)
          simp only [if_pos hu, if_neg hn]
          by_cases hl : slotN T (tok c r) < k
          · rw [if_pos hl, if_pos (by omega)]
          · rw [if_neg hl, if_neg (by omega)]
      · simp only [if_neg hu]
    rw [dif_neg h, hrows]
    iintro ⟨H, Hk⟩
    iapply Hk
    iexact H

/-! ## The waits for the own copies -/

/-- A slot before the wait for its copy, and after. -/
def slotC (s : Fin 6) : sProp 𝕄 := iprop(slotB T c Cm s ∗ atPos EB (sendCell c s) 0 ∅ 0)
def slotD (s : Fin 6) : sProp 𝕄 := iprop(anySlot c (slotP s) ∗ semVal (sendCell c s) 0)

/-- Before the wait of slot `k`. -/
def SwSt (k : ℕ) : sProp 𝕄 := iprop(march (slotC T c Cm) (slotD c) k ∗ ∃ W, owes (c : Thread nD τ) 0 W)

set_option maxHeartbeats 4000000 in
theorem sendwait_block {k : ℕ} (hk : k < 6) {cd : BitVec 1} (hcd : cd = 1#1 ↔ ∃ i, At T c k i ∧ home i ≠ c)
    {ofs : Fin 1 → ℕ} (hofs : ofs = ![k]) {is : ∀ a, ofs a + S1.size a ≤ S6.size a}
    {src : cd = 1#1 → Memref sig .tc .vmem S1x256 .f32} {dst : Memref sig .tc .vmem S1x256 .f32} (hdst : dst.view.dmaCredit = rowU)
    {h1 : ∀ h, (src h).view.WordExact} {h2 : dst.view.WordExact}
    {α : Type} {Q : α → sProp 𝕄} {kk : Prog (TpuEff nD τ sig (Elt F) Λ₀ .tc) α} :
    iprop(ctx T V κ c ∗ SwSt T c Cm k ∗ (SwSt T c Cm (k + 1) -∗ wp frame (wpE (defs₀ (F := F)) 𝒱₀ (c : Thread nD τ) none) Set.univ kk Q))
      ⊢ wp frame (wpE (defs₀ (F := F)) 𝒱₀ (c : Thread nD τ) none) Set.univ
          (if h : cd = 1#1 then
            .op (.waitDma2 ((cc0_scratch5.slice (Rect.unit (s := S6) ofs S1.size is)).squeeze S_ squeezes_S1_S_).sem (src h) dst (h1 h) h2) (fun _ => kk)
           else kk) Q := by
  subst hofs
  unfold SwSt
  iintro ⟨#HX, ⟨Hm, ⟨%W, HO⟩⟩, Hk⟩
  ihave Hm := (march_take (slotC T c Cm) (slotD c) hk) $$ Hm
  icases Hm with ⟨HA, Hback⟩
  simp only [slotC, slotD, slotB]
  icases HA with ⟨Hs, Hat⟩
  ihave #Hi := (inv_send T V κ c c ⟨k, hk⟩) $$ HX
  by_cases h : cd = 1#1
  · obtain ⟨i, hi, hne⟩ := hcd.mp h
    have hs : sent T c ⟨k, hk⟩ = {i} := sent_eq (s := ⟨k, hk⟩) hi hne
    have hmem : i ∈ sent T c ⟨k, hk⟩ := by rw [hs]; exact Finset.mem_singleton_self i
    simp only [dif_pos h, hs, if_pos (Finset.singleton_nonempty i)]
    iapply (Rounds.wp_wait_rest_token 𝒱₀ EB (Rd T V) (c : Thread nD τ) none (sm := .dma (sendS ⟨k, hk⟩)) (k' := rowU) (κ := κ (sendCell c ⟨k, hk⟩))
        (fun K => by rw [← hdst]; exact wpE_waitDma2_eq (c := (c : Thread nD τ)) (defs := defs₀ (F := F)) 𝒱₀ none Set.univ K) (Set.mem_univ _) 6
        (R := 0) (m := 0) (T := ∅) (O := 0) (W := W) (by rw [Nat.zero_add]; exact (expect_send T V c ⟨k, hk⟩ hs).symm)) $$ [HO Hs Hat]
    · isplitr; · iexact Hi
      isplitl [Hs]; · iexact Hs
      isplitl [HO]; · iexact HO
      isplitr
      · rw [MayWait_zero]; iempintro
      · iexact Hat
    iintro ⟨HO, Hat, -, Hp⟩
    simp only [show (Rd T V).duties ((c : Thread nD τ), .dma (sendS ⟨k, hk⟩)) 0 = {i} from (duties_send T V c ⟨k, hk⟩).trans hs, Finset.sdiff_empty, bigSep_singleton]
    ihave Hp := (show (Rd T V).payload ((c : Thread nD τ), .dma (sendS ⟨k, hk⟩)) 0 i ⊢ anySlot c (slotP ⟨k, hk⟩) from (payload_send T V c ⟨k, hk⟩ hmem) ▸ Entails.refl _) $$ Hp
    imod (Rounds.cell_close EB (Rd T V) (Es := Set.univ) (Set.mem_univ (κ (sendCell c ⟨k, hk⟩))) not_false (g := sendCell c ⟨k, hk⟩) (R := 1) (fun r hr => duties_later T V _ r hr)) $$ [Hat] with Hv
    · isplitr
      · iexact Hi
      · iexact Hat
    iapply Hk
    isplitl [Hback Hp Hv]
    · iapply Hback
      isplitl [Hp]
      · iexact Hp
      · iexact Hv
    · iexists _; iexact HO
  · have hs : sent T c ⟨k, hk⟩ = ∅ := sent_empty (s := ⟨k, hk⟩) fun i hi => Classical.not_not.mp fun e => h (hcd.mpr ⟨i, hi, e⟩)
    simp only [dif_neg h, hs, if_neg Finset.not_nonempty_empty]
    imod (Rounds.cell_close EB (Rd T V) (Es := Set.univ) (Set.mem_univ (κ (sendCell c ⟨k, hk⟩))) not_false (g := sendCell c ⟨k, hk⟩) (R := 0) (fun r hr => by
      rcases Nat.eq_zero_or_pos r with rfl | hr'
      · exact (duties_send T V c ⟨k, hk⟩).trans hs
      · exact duties_later T V _ r hr')) $$ [Hat] with Hv
    · isplitr
      · iexact Hi
      · iexact Hat
    iapply Hk
    isplitl [Hback Hs Hv]
    · iapply Hback
      isplitl [Hs]
      · unfold anySlot slotPts
        iexists Cm; iexact Hs
      · iexact Hv
    · iexists W; iexact HO

/-! ## The waits for the arrivals -/

/-- A row before the wait for its arrival, and after. -/
def rowE (r : Fin 8) : sProp 𝕄 := iprop(rowD T V c r ∗ cred (rowCred T c r) ∗ atPos EB (recvCell c r) 0 ∅ 0)
def rowF (r : Fin 8) : sProp 𝕄 := iprop(ownsRow c r (V (tok c r)) ∗ semVal (recvCell c r) 0)

/-- Before the wait of row `k`. -/
def RwSt (k : ℕ) : sProp 𝕄 := iprop(march (rowE T V c) (rowF V c) k ∗ ∃ W, owes (c : Thread nD τ) 0 W)

set_option maxHeartbeats 4000000 in
theorem recvwait_block {k : ℕ} (hk : k < 8) {cd : BitVec 1} (hcd : cd = 1#1 ↔ travels T (tok c ⟨k, hk⟩))
    {ofs : Fin 1 → ℕ} (hofs : ofs = ![k]) {is : ∀ a, ofs a + S1.size a ≤ S8.size a}
    {src : Memref sig .tc .vmem S1x256 .f32} {dst : Memref sig .tc .vmem S1x256 .f32} (hdst : dst.view.dmaCredit = rowU)
    {h1 : src.view.WordExact} {h2 : dst.view.WordExact}
    {α : Type} {Q : α → sProp 𝕄} {kk : Prog (TpuEff nD τ sig (Elt F) Λ₀ .tc) α} :
    iprop(ctx T V κ c ∗ RwSt T V c k ∗ (RwSt T V c (k + 1) -∗ wp frame (wpE (defs₀ (F := F)) 𝒱₀ (c : Thread nD τ) none) Set.univ kk Q))
      ⊢ wp frame (wpE (defs₀ (F := F)) 𝒱₀ (c : Thread nD τ) none) Set.univ
          (if cd = 1#1 then
            .op (.waitDma2 ((cc0_scratch6.slice (Rect.unit (s := S8) ofs S1.size is)).squeeze S_ squeezes_S1_S_).sem src dst h1 h2) (fun _ => kk)
           else kk) Q := by
  subst hofs
  unfold RwSt
  iintro ⟨#HX, ⟨Hm, ⟨%W, HO⟩⟩, Hk⟩
  ihave Hm := (march_take (rowE T V c) (rowF V c) hk) $$ Hm
  icases Hm with ⟨HA, Hback⟩
  simp only [rowE, rowF, rowD, rowCred]
  icases HA with ⟨Hs, Hc, Hat⟩
  ihave #Hi := (inv_recv T V κ c c ⟨k, hk⟩) $$ HX
  by_cases h : cd = 1#1
  · have ht := hcd.mp h
    have hs : recvd T c ⟨k, hk⟩ = {tok c ⟨k, hk⟩} := recvd_eq ht
    simp only [if_pos h, if_pos ht]
    iapply (Rounds.wp_wait_rest_token 𝒱₀ EB (Rd T V) (c : Thread nD τ) none (sm := .dma (recvS ⟨k, hk⟩)) (k' := rowU) (κ := κ (recvCell c ⟨k, hk⟩))
        (fun K => by rw [← hdst]; exact wpE_waitDma2_eq (c := (c : Thread nD τ)) (defs := defs₀ (F := F)) 𝒱₀ none Set.univ K) (Set.mem_univ _) 5
        (R := 0) (m := 0) (T := ∅) (O := 0) (W := W) (by rw [Nat.zero_add]; exact (expect_recv T V c ⟨k, hk⟩ hs).symm)) $$ [HO Hc Hat]
    · isplitr; · iexact Hi
      isplitl [Hc]
      · rw [show rowTally (tok c ⟨k, hk⟩) = tallyAt (recvCell c ⟨k, hk⟩) 5 rowU by unfold rowTally; rw [home_tok, row_tok]]
        iexact Hc
      isplitl [HO]; · iexact HO
      isplitr
      · rw [MayWait_zero]; iempintro
      · iexact Hat
    iintro ⟨HO, Hat, -, Hp⟩
    simp only [show (Rd T V).duties ((c : Thread nD τ), .dma (recvS ⟨k, hk⟩)) 0 = {tok c ⟨k, hk⟩} from (duties_recv T V c ⟨k, hk⟩).trans hs, Finset.sdiff_empty, bigSep_singleton]
    ihave Hp := (show (Rd T V).payload ((c : Thread nD τ), .dma (recvS ⟨k, hk⟩)) 0 (tok c ⟨k, hk⟩) ⊢ ownsRow c ⟨k, hk⟩ (V (tok c ⟨k, hk⟩)) from by
      rw [payload_recv, home_tok, row_tok]) $$ Hp
    imod (Rounds.cell_close EB (Rd T V) (Es := Set.univ) (Set.mem_univ (κ (recvCell c ⟨k, hk⟩))) not_false (g := recvCell c ⟨k, hk⟩) (R := 1) (fun r hr => duties_later T V _ r hr)) $$ [Hat] with Hv
    · isplitr
      · iexact Hi
      · iexact Hat
    iapply Hk
    isplitl [Hback Hp Hv]
    · iapply Hback
      isplitl [Hp]
      · iexact Hp
      · iexact Hv
    · iexists _; iexact HO
  · have ht : ¬ travels T (tok c ⟨k, hk⟩) := fun e => h (hcd.mpr e)
    have hs : recvd T c ⟨k, hk⟩ = ∅ := recvd_empty ht
    simp only [if_neg h, if_neg ht]
    imod (Rounds.cell_close EB (Rd T V) (Es := Set.univ) (Set.mem_univ (κ (recvCell c ⟨k, hk⟩))) not_false (g := recvCell c ⟨k, hk⟩) (R := 0) (fun r hr => by
      rcases Nat.eq_zero_or_pos r with rfl | hr'
      · exact (duties_recv T V c ⟨k, hk⟩).trans hs
      · exact duties_later T V _ r hr')) $$ [Hat] with Hv
    · isplitr
      · iexact Hi
      · iexact Hat
    iapply Hk
    isplitl [Hback Hs Hv]
    · iapply Hback
      isplitl [Hs]
      · iexact Hs
      · iexact Hv
    · iexists W; iexact HO

end Cert.Moe
-- ==== Proof.Cells.lean ====
module

public import proofs.«01_k».proof.Proof.Copies

@[expose] public section

/-!
# The small integer arrays

The kernel keeps its counts in scalar memory: how many tokens each expert has taken, which token sits
in each slot, whether each row of this device is filled from somewhere, how many signals to wait for.
Here: reading and writing one entry of such an array, and the four arrays after the first `k` tokens.
-/

noncomputable section

namespace Cert.Moe

open Cert.KernelIdeal Cert.KernelIdeal.Gen
open Idealize.ShloMosaic
open Idealize.ShloMosaic.TcCoe

/-! ## One entry -/

section Entry

variable {F : FTy → Type}

/-- A rectangle of one entry, read. -/
theorem one_read (b : Ref sig .tc) (r : Rect b.ty.shape) (x : r.shape.Idx) (f : b.ty.Contents (Elt F)) (p : b.ty.shape.Idx) (hp : r.emb x = p) :
    ((View.whole b).slice r).read (Elt F) f x = f p := by
  subst hp; rfl

/-- A rectangle of one entry, written. -/
theorem one_write (b : Ref sig .tc) (r : Rect b.ty.shape) (x : r.shape.Idx) (f : b.ty.Contents (Elt F)) (p : b.ty.shape.Idx) (hp : ∀ y, r.emb y = p)
    (w : Elt F b.ty.elt) : ((View.whole b).slice r).write (Elt F) f (fun _ => w) Finset.univ = Function.update f p w := by
  funext i
  by_cases h : i = p
  · subst h
    rw [Function.update_self]
    have e := View.write_emb_of_mem (v := (View.whole b).slice r) (Val := Elt F) f (fun _ => w) (Finset.mem_univ x)
    have e2 : ((View.whole b).slice r).emb x = i := hp x
    rw [e2] at e
    exact e
  · rw [Function.update_of_ne h]
    refine View.write_of_not_mem (v := (View.whole b).slice r) (Val := Elt F) f (fun _ => w) Finset.univ ?_
    intro hm
    obtain ⟨y, -, hy⟩ := Finset.mem_map.mp hm
    exact h (hy.symm.trans (hp y))

abbrev tM : Memref sig .tc .smem S256x1 .i32 := Memref.whole cc0_stg1_0
abbrev nM : Memref sig .tc .smem S64 .i32 := Memref.whole cc0_scratch1
abbrev kM : Memref sig .tc .smem S6 .i32 := Memref.whole cc0_scratch2
abbrev vM : Memref sig .tc .smem S8 .i32 := Memref.whole cc0_scratch3
abbrev eM : Memref sig .tc .smem S1 .i32 := Memref.whole cc0_scratch4

abbrev ixT (j : Fin 256) : S256x1.Idx := fun a => match a with | ⟨0, _⟩ => j | ⟨1, _⟩ => (0 : Fin 1)
abbrev ixN (j : Fin 64) : S64.Idx := fun a => match a with | ⟨0, _⟩ => j
abbrev ixK (j : Fin 6) : S6.Idx := fun a => match a with | ⟨0, _⟩ => j
abbrev ixV (j : Fin 8) : S8.Idx := fun a => match a with | ⟨0, _⟩ => j
abbrev ixE : S1.Idx := fun a => match a with | ⟨0, _⟩ => (0 : Fin 1)

theorem ixN_inj {i j : Fin 64} (h : ixN i = ixN j) : i = j := congrFun h 0
theorem ixK_inj {i j : Fin 6} (h : ixK i = ixK j) : i = j := congrFun h 0
theorem ixV_inj {i j : Fin 8} (h : ixV i = ixV j) : i = j := congrFun h 0

theorem embT {off : Fin 2 → ℕ} {inb : ∀ a, off a + S1x1.size a ≤ S256x1.size a} (j : Fin 256) (h : off = ![j.val, 0])
    (x : (Rect.unit (s := S256x1) off S1x1.size inb).shape.Idx) : (Rect.unit (s := S256x1) off S1x1.size inb).emb x = ixT j := by
  subst h
  funext a
  apply Fin.ext
  have h1 := (x a).isLt
  fin_cases a
  · change (x 0).val < 1 at h1
    show j.val + 1 * (x 0).val = j.val
    omega
  · change (x 1).val < 1 at h1
    show 0 + 1 * (x 1).val = 0
    omega
theorem embN {off : Fin 1 → ℕ} {inb : ∀ a, off a + S1.size a ≤ S64.size a} (j : Fin 64) (h : off = ![j.val])
    (x : (Rect.unit (s := S64) off S1.size inb).shape.Idx) : (Rect.unit (s := S64) off S1.size inb).emb x = ixN j := by
  subst h
  funext a
  apply Fin.ext
  have h1 := (x a).isLt
  fin_cases a
  change (x 0).val < 1 at h1
  show j.val + 1 * (x 0).val = j.val
  omega
theorem embK {off : Fin 1 → ℕ} {inb : ∀ a, off a + S1.size a ≤ S6.size a} (j : Fin 6) (h : off = ![j.val])
    (x : (Rect.unit (s := S6) off S1.size inb).shape.Idx) : (Rect.unit (s := S6) off S1.size inb).emb x = ixK j := by
  subst h
  funext a
  apply Fin.ext
  have h1 := (x a).isLt
  fin_cases a
  change (x 0).val < 1 at h1
  show j.val + 1 * (x 0).val = j.val
  omega
theorem embV {off : Fin 1 → ℕ} {inb : ∀ a, off a + S1.size a ≤ S8.size a} (j : Fin 8) (h : off = ![j.val])
    (x : (Rect.unit (s := S8) off S1.size inb).shape.Idx) : (Rect.unit (s := S8) off S1.size inb).emb x = ixV j := by
  subst h
  funext a
  apply Fin.ext
  have h1 := (x a).isLt
  fin_cases a
  change (x 0).val < 1 at h1
  show j.val + 1 * (x 0).val = j.val
  omega
theorem embE {off : Fin 1 → ℕ} {inb : ∀ a, off a + S1.size a ≤ S1.size a} (h : off = ![0])
    (x : (Rect.unit (s := S1) off S1.size inb).shape.Idx) : (Rect.unit (s := S1) off S1.size inb).emb x = ixE := by
  subst h
  funext a
  apply Fin.ext
  have h1 := (x a).isLt
  fin_cases a
  change (x 0).val < 1 at h1
  show 0 + 1 * (x 0).val = 0
  omega

end Entry

/-! ## The arrays after `k` tokens -/

section Arrays

variable (T : Tab) (c : Fin 32)

/-- The table. -/
abbrev tblW : S256x1.Idx → BitVec 32 := fun p => wd (T (p 0)).val
/-- The counts, cut off at 3. -/
def Counts (k : ℕ) (f : S64.Idx → BitVec 32) : Prop := ∀ e, f (ixN e) = wd (min 3 (cnt T k e))
/-- The tokens in the slots; 256 where there is none. -/
def Held (k : ℕ) (f : S6.Idx → BitVec 32) : Prop :=
  ∀ s : Fin 6, (∃ i : Fin 256, i.val < k ∧ At T c s.val i ∧ f (ixK s) = wd i.val) ∨ ((∀ i : Fin 256, i.val < k → ¬ At T c s.val i) ∧ f (ixK s) = wd 256)
/-- The rows filled from somewhere. -/
def Filled (k : ℕ) (f : S8.Idx → BitVec 32) : Prop := ∀ r : Fin 8, (tok c r).val < k → f (ixV r) = if under T (tok c r) then 1#32 else 0#32
/-- The number of signals to wait for. -/
def Called (k : ℕ) (f : S1.Idx → BitVec 32) : Prop := f ixE = wd (callsN T c k)

variable {T c}

theorem counts_zero {f : S64.Idx → BitVec 32} (h : ∀ e, f (ixN e) = 0#32) : Counts T 0 f := fun e => by
  rw [h e, cnt_zero]; rfl
theorem held_zero {f : S6.Idx → BitVec 32} (h : ∀ s, f (ixK s) = 256#32) : Held T c 0 f := fun s =>
  Or.inr ⟨fun i hi => absurd hi (Nat.not_lt_zero _), h s⟩
theorem filled_zero (f : S8.Idx → BitVec 32) : Filled T c 0 f := fun r hr => absurd hr (Nat.not_lt_zero _)
theorem called_zero {f : S1.Idx → BitVec 32} (h : f ixE = 0#32) : Called T c 0 f := by
  unfold Called; rw [h, callsN_zero]

theorem counts_at {k : Fin 256} {f : S64.Idx → BitVec 32} (h : Counts T k.val f) : f (ixN (T k)) = wd (min 3 (rank T k)) := h (T k)

theorem counts_step {k : Fin 256} {f : S64.Idx → BitVec 32} (h : Counts T k.val f) {w : BitVec 32} (hw : w = wd (min 3 (rank T k + 1))) :
    Counts T (k.val + 1) (Function.update f (ixN (T k)) w) := by
  intro e
  rw [cnt_succ]
  by_cases he : T k = e
  · subst he
    rw [Function.update_self, if_pos rfl, hw]; rfl
  · rw [Function.update_of_ne (fun e' => he (ixN_inj e').symm), if_neg he, Nat.add_zero, h e]

theorem held_step {k : Fin 256} {s : Fin 6} {f : S6.Idx → BitVec 32} (h : Held T c k.val f) (hs : At T c s.val k) :
    Held T c (k.val + 1) (Function.update f (ixK s) (wd k.val)) := by
  intro s'
  by_cases e : s' = s
  · subst e
    exact Or.inl ⟨k, Nat.lt_succ_self _, hs, Function.update_self ..⟩
  · rw [Function.update_of_ne (fun e' => e (ixK_inj e'))]
    rcases h s' with ⟨i, hi, ha, hf⟩ | ⟨hn, hf⟩
    · exact Or.inl ⟨i, by omega, ha, hf⟩
    · refine Or.inr ⟨fun i hi ha => ?_, hf⟩
      rcases Nat.lt_succ_iff_lt_or_eq.mp hi with hi | hi
      · exact hn i hi ha
      · have : i = k := Fin.ext hi
        subst this
        exact e (Fin.ext (ha.2.2.symm.trans hs.2.2))
theorem held_skip {k : Fin 256} {f : S6.Idx → BitVec 32} (h : Held T c k.val f) (hs : ¬ (owner T k = c ∧ under T k)) : Held T c (k.val + 1) f := by
  intro s'
  rcases h s' with ⟨i, hi, ha, hf⟩ | ⟨hn, hf⟩
  · exact Or.inl ⟨i, by omega, ha, hf⟩
  · refine Or.inr ⟨fun i hi ha => ?_, hf⟩
    rcases Nat.lt_succ_iff_lt_or_eq.mp hi with hi | hi
    · exact hn i hi ha
    · have : i = k := Fin.ext hi
      subst this
      exact hs ⟨ha.1, ha.2.1⟩
theorem held_all {f : S6.Idx → BitVec 32} (h : Held T c 256 f) (s : Fin 6) : f (ixK s) = wd (heldAt T c s.val).val := by
  rcases h s with ⟨i, -, ha, hf⟩ | ⟨hn, hf⟩
  · rw [hf, heldAt_of ha]
  · rw [hf, heldAt_none (fun ⟨i, hi⟩ => hn i i.isLt hi)]; rfl

theorem filled_step {k : Fin 256} {f : S8.Idx → BitVec 32} (h : Filled T c k.val f) (hk : home k = c) {w : BitVec 32} (hw : w = if under T k then 1#32 else 0#32) :
    Filled T c (k.val + 1) (Function.update f (ixV (row k)) w) := by
  intro r hr
  by_cases e : r = row k
  · subst e
    rw [Function.update_self, hw, ← hk, tok_home_row]
  · rw [Function.update_of_ne (fun e' => e (ixV_inj e'))]
    rcases Nat.lt_succ_iff_lt_or_eq.mp hr with hr | hr
    · exact h r hr
    · exact absurd (by rw [← (Fin.ext hr : tok c r = k), row_tok]) e
theorem filled_skip {k : Fin 256} {f : S8.Idx → BitVec 32} (h : Filled T c k.val f) (hk : home k ≠ c) : Filled T c (k.val + 1) f := by
  intro r hr
  rcases Nat.lt_succ_iff_lt_or_eq.mp hr with hr | hr
  · exact h r hr
  · exact absurd (by rw [← (Fin.ext hr : tok c r = k), home_tok]) hk
theorem filled_all {f : S8.Idx → BitVec 32} (h : Filled T c 256 f) (r : Fin 8) : f (ixV r) = if under T (tok c r) then 1#32 else 0#32 :=
  h r (tok c r).isLt

theorem called_step {k : Fin 256} {f : S1.Idx → BitVec 32} (h : Called T c k.val f) (hk : calls T c k) {w : BitVec 32} (hw : w = f ixE + 1#32) :
    Called T c (k.val + 1) (Function.update f ixE w) := by
  unfold Called at *
  rw [Function.update_self, hw, h, callsN_succ, if_pos hk]
  exact (BitVec.ofNat_add _ _).symm
theorem called_skip {k : Fin 256} {f : S1.Idx → BitVec 32} (h : Called T c k.val f) (hk : ¬ calls T c k) : Called T c (k.val + 1) f := by
  unfold Called at *
  rw [h, callsN_succ, if_neg hk, Nat.add_zero]

end Arrays

/-! ## The words of the counting loop -/

theorem room_word : ∀ n : Fin 4, Scalar.cmpi .slt (wd n.val) 3#32 = if n.val < 3 then 1#1 else 0#1 := by decide
theorem grow_word : ∀ n : Fin 4, Scalar.addi (wd n.val) (Scalar.extui (Scalar.cmpi .slt (wd n.val) 3#32) : BitVec 32) = wd (min 3 (n.val + 1)) := by decide
theorem fill_word : ∀ n : Fin 4, (Scalar.extui (Scalar.cmpi .slt (wd n.val) 3#32) : BitVec 32) = if n.val < 3 then 1#32 else 0#32 := by decide

theorem own_word : ∀ (d : Fin 32) (t : Fin 64),
    Scalar.andi (Scalar.cmpi .sge (wd t.val) (Scalar.muli 2#32 (me d))) (Scalar.cmpi .slt (wd t.val) (Scalar.addi (Scalar.muli 2#32 (me d)) 2#32))
      = if t.val / 2 = d.val then 1#1 else 0#1 := by decide +kernel
theorem away_word : ∀ (d : Fin 32) (k : Fin 256),
    Scalar.ori (Scalar.cmpi .slt (wd k.val) (Scalar.muli 8#32 (me d))) (Scalar.cmpi .sge (wd k.val) (Scalar.addi (Scalar.muli 8#32 (me d)) 8#32))
      = if k.val / 8 = d.val then 0#1 else 1#1 := by decide +kernel
theorem iv_word : ∀ k : Fin 256, Scf.iv 0#32 1#32 k.val = wd k.val := by decide +kernel

/-- The condition under which the number of signals grows. -/
def callCond (d : Dev nD) (t i : BitVec 32) : BitVec 1 :=
  Scalar.cmpi .ne (Scalar.extui (Scalar.andi
    (Scalar.andi (Scalar.cmpi .sge t (Scalar.muli 2#32 (me d))) (Scalar.cmpi .slt t (Scalar.addi (Scalar.muli 2#32 (me d)) 2#32)))
    (Scalar.ori (Scalar.cmpi .slt i (Scalar.muli 8#32 (me d))) (Scalar.cmpi .sge i (Scalar.addi (Scalar.muli 8#32 (me d)) 8#32)))) : BitVec 32) 0#32

theorem and_word : ∀ a b : Bool, Scalar.cmpi .ne (Scalar.extui (Scalar.andi (if a then 1#1 else 0#1) (if b then 0#1 else 1#1)) : BitVec 32) 0#32 = 1#1
    ↔ (a = true ∧ b = false) := by decide

theorem callCond_iff (d : Fin 32) (t : Fin 64) (k : Fin 256) : callCond d (wd t.val) (wd k.val) = 1#1 ↔ (t.val / 2 = d.val ∧ k.val / 8 ≠ d.val) := by
  unfold callCond
  rw [own_word, away_word]
  have := and_word (decide (t.val / 2 = d.val)) (decide (k.val / 8 = d.val))
  simpa using this

/-- The condition under which a row is cleared. -/
theorem clear_word (b : Bool) : Scalar.cmpi .ne (Scalar.extui (Scalar.cmpi .eq (if b then 1#32 else 0#32) 0#32) : BitVec 32) 0#32 = 1#1 ↔ b = false := by
  revert b; decide

end Cert.Moe
-- ==== Proof.Count.lean ====
module

public import proofs.«01_k».proof.Proof.Cells

@[expose] public section

/-!
# The loops

One loop clears the counts, one goes over the 256 tokens, one takes the signals.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

variable (T : Tab) (V : Fin 256 → S1x256.Idx → Elt F .f32) (κ : GSem nD τ sig → ℕ) (c : Dev nD)

/-! ## One word -/

theorem wp_word {s : Shape} {e : EltTy} {m : Memref sig .tc .smem s e} {r : Rect s} {h1 : r.shape.numel = 1} {hp : e.packing = 1}
    {f : Buf (Elt F) ((m.access r).loc (c : Thread nD τ))} {v : Elt F e} (hv : ∀ x, (m.access r).read (Elt F) f x = v)
    {α : Type} {Q : α → sProp 𝕄} {k : Elt F e → Prog (TpuEff nD τ sig (Elt F) Λ₀ .tc) α} :
    ((m.access r).loc (c : Thread nD τ) ↦{fullShare} f : sProp 𝕄)
      ⊢ iprop((((m.access r).loc (c : Thread nD τ) ↦{fullShare} f) -∗ wp frame (wpE (defs₀ (F := F)) 𝒱₀ (c : Thread nD τ) none) Set.univ (k v) Q) -∗ wp frame (wpE (defs₀ (F := F)) 𝒱₀ (c : Thread nD τ) none) Set.univ (smemLoad m r h1 hp >>= k) Q) := by
  rw [← hv (Shape.Idx.first (h1.symm ▸ Nat.one_pos))]
  exact wp_load_rect 𝒱₀ (c : Thread nD τ) none Set.univ (m := m) (r := r) (hl := View.loadsAt_rect (View.loads_smem_one hp h1))
    (k := fun g => k (g (Shape.Idx.first (h1.symm ▸ Nat.one_pos)))) (Finset.subset_univ _)

theorem wp_getT {off : Fin 2 → ℕ} {inb : ∀ a, off a + S1x1.size a ≤ S256x1.size a} (j : Fin 256) (h : off = ![j.val, 0]) {f : (cc0_stg1_0 : Ref sig .tc).ty.Contents (Elt F)}
    {v : BitVec 32} (hv : f (ixT j) = v) {h1} {hp} {α : Type} {Q : α → sProp 𝕄} {k : BitVec 32 → Prog (TpuEff nD τ sig (Elt F) Λ₀ .tc) α} :
    (((c : Thread nD τ).loc cc0_stg1_0) ↦{fullShare} f : sProp 𝕄)
      ⊢ iprop(((((c : Thread nD τ).loc cc0_stg1_0) ↦{fullShare} f) -∗ wp frame (wpE (defs₀ (F := F)) 𝒱₀ (c : Thread nD τ) none) Set.univ (k v) Q) -∗ wp frame (wpE (defs₀ (F := F)) 𝒱₀ (c : Thread nD τ) none) Set.univ (smemLoad tM (Rect.unit (s := S256x1) off S1x1.size inb) h1 hp >>= k) Q) :=
  wp_word c (m := tM) (fun x => (one_read cc0_stg1_0 (Rect.unit (s := S256x1) off S1x1.size inb) x f (ixT j) (embT j h x)).trans hv)

theorem wp_getN {off : Fin 1 → ℕ} {inb : ∀ a, off a + S1.size a ≤ S64.size a} (j : Fin 64) (h : off = ![j.val]) {f : (cc0_scratch1 : Ref sig .tc).ty.Contents (Elt F)}
    {v : BitVec 32} (hv : f (ixN j) = v) {h1} {hp} {α : Type} {Q : α → sProp 𝕄} {k : BitVec 32 → Prog (TpuEff nD τ sig (Elt F) Λ₀ .tc) α} :
    (((c : Thread nD τ).loc cc0_scratch1) ↦{fullShare} f : sProp 𝕄)
      ⊢ iprop(((((c : Thread nD τ).loc cc0_scratch1) ↦{fullShare} f) -∗ wp frame (wpE (defs₀ (F := F)) 𝒱₀ (c : Thread nD τ) none) Set.univ (k v) Q) -∗ wp frame (wpE (defs₀ (F := F)) 𝒱₀ (c : Thread nD τ) none) Set.univ (smemLoad nM (Rect.unit (s := S64) off S1.size inb) h1 hp >>= k) Q) :=
  wp_word c (m := nM) (fun x => (one_read cc0_scratch1 (Rect.unit (s := S64) off S1.size inb) x f (ixN j) (embN j h x)).trans hv)

theorem wp_getK {off : Fin 1 → ℕ} {inb : ∀ a, off a + S1.size a ≤ S6.size a} (j : Fin 6) (h : off = ![j.val]) {f : (cc0_scratch2 : Ref sig .tc).ty.Contents (Elt F)}
    {v : BitVec 32} (hv : f (ixK j) = v) {h1} {hp} {α : Type} {Q : α → sProp 𝕄} {k : BitVec 32 → Prog (TpuEff nD τ sig (Elt F) Λ₀ .tc) α} :
    (((c : Thread nD τ).loc cc0_scratch2) ↦{fullShare} f : sProp 𝕄)
      ⊢ iprop(((((c : Thread nD τ).loc cc0_scratch2) ↦{fullShare} f) -∗ wp frame (wpE (defs₀ (F := F)) 𝒱₀ (c : Thread nD τ) none) Set.univ (k v) Q) -∗ wp frame (wpE (defs₀ (F := F)) 𝒱₀ (c : Thread nD τ) none) Set.univ (smemLoad kM (Rect.unit (s := S6) off S1.size inb) h1 hp >>= k) Q) :=
  wp_word c (m := kM) (fun x => (one_read cc0_scratch2 (Rect.unit (s := S6) off S1.size inb) x f (ixK j) (embK j h x)).trans hv)

theorem wp_getV {off : Fin 1 → ℕ} {inb : ∀ a, off a + S1.size a ≤ S8.size a} (j : Fin 8) (h : off = ![j.val]) {f : (cc0_scratch3 : Ref sig .tc).ty.Contents (Elt F)}
    {v : BitVec 32} (hv : f (ixV j) = v) {h1} {hp} {α : Type} {Q : α → sProp 𝕄} {k : BitVec 32 → Prog (TpuEff nD τ sig (Elt F) Λ₀ .tc) α} :
    (((c : Thread nD τ).loc cc0_scratch3) ↦{fullShare} f : sProp 𝕄)
      ⊢ iprop(((((c : Thread nD τ).loc cc0_scratch3) ↦{fullShare} f) -∗ wp frame (wpE (defs₀ (F := F)) 𝒱₀ (c : Thread nD τ) none) Set.univ (k v) Q) -∗ wp frame (wpE (defs₀ (F := F)) 𝒱₀ (c : Thread nD τ) none) Set.univ (smemLoad vM (Rect.unit (s := S8) off S1.size inb) h1 hp >>= k) Q) :=
  wp_word c (m := vM) (fun x => (one_read cc0_scratch3 (Rect.unit (s := S8) off S1.size inb) x f (ixV j) (embV j h x)).trans hv)

theorem wp_getE {off : Fin 1 → ℕ} {inb : ∀ a, off a + S1.size a ≤ S1.size a} (h : off = ![0]) {f : (cc0_scratch4 : Ref sig .tc).ty.Contents (Elt F)}
    {v : BitVec 32} (hv : f ixE = v) {h1} {hp} {α : Type} {Q : α → sProp 𝕄} {k : BitVec 32 → Prog (TpuEff nD τ sig (Elt F) Λ₀ .tc) α} :
    (((c : Thread nD τ).loc cc0_scratch4) ↦{fullShare} f : sProp 𝕄)
      ⊢ iprop(((((c : Thread nD τ).loc cc0_scratch4) ↦{fullShare} f) -∗ wp frame (wpE (defs₀ (F := F)) 𝒱₀ (c : Thread nD τ) none) Set.univ (k v) Q) -∗ wp frame (wpE (defs₀ (F := F)) 𝒱₀ (c : Thread nD τ) none) Set.univ (smemLoad eM (Rect.unit (s := S1) off S1.size inb) h1 hp >>= k) Q) :=
  wp_word c (m := eM) (fun x => (one_read cc0_scratch4 (Rect.unit (s := S1) off S1.size inb) x f ixE (embE h x)).trans hv)

theorem wp_putN {off : Fin 1 → ℕ} {inb : ∀ a, off a + S1.size a ≤ S64.size a} (j : Fin 64) (h : off = ![j.val]) {f : (cc0_scratch1 : Ref sig .tc).ty.Contents (Elt F)} {w : BitVec 32}
    {hx : (nM.access (Rect.unit (s := S64) off S1.size inb) : View sig .tc _ _ _).Stores Finset.univ}
    {hm : Finset.univ = Finset.univ ∨ ∀ a, (Rect.unit (s := S64) off S1.size inb).stride a = 1}
    {α : Type} {Q : α → sProp 𝕄} {k : PUnit → Prog (TpuEff nD τ sig (Elt F) Λ₀ .tc) α} :
    (((c : Thread nD τ).loc cc0_scratch1) ↦{fullShare} f : sProp 𝕄)
      ⊢ iprop(((((c : Thread nD τ).loc cc0_scratch1) ↦{fullShare} (Function.update f (ixN j) w)) -∗ wp frame (wpE (defs₀ (F := F)) 𝒱₀ (c : Thread nD τ) none) Set.univ (k ⟨⟩) Q)
        -∗ wp frame (wpE (defs₀ (F := F)) 𝒱₀ (c : Thread nD τ) none) Set.univ (.op (.store nM (Rect.unit (s := S64) off S1.size inb) (fun _ => w) Finset.univ hx hm) k) Q) := by
  rw [← one_write cc0_scratch1 (Rect.unit (s := S64) off S1.size inb) (Shape.Idx.first (Nat.one_pos)) f (ixN j) (embN j h) w]
  exact wp_store 𝒱₀ (c : Thread nD τ) none Set.univ (m := nM) (r := Rect.unit (s := S64) off S1.size inb) (Finset.subset_univ _)

theorem wp_putK {off : Fin 1 → ℕ} {inb : ∀ a, off a + S1.size a ≤ S6.size a} (j : Fin 6) (h : off = ![j.val]) {f : (cc0_scratch2 : Ref sig .tc).ty.Contents (Elt F)} {w : BitVec 32}
    {hx : (kM.access (Rect.unit (s := S6) off S1.size inb) : View sig .tc _ _ _).Stores Finset.univ}
    {hm : Finset.univ = Finset.univ ∨ ∀ a, (Rect.unit (s := S6) off S1.size inb).stride a = 1}
    {α : Type} {Q : α → sProp 𝕄} {k : PUnit → Prog (TpuEff nD τ sig (Elt F) Λ₀ .tc) α} :
    (((c : Thread nD τ).loc cc0_scratch2) ↦{fullShare} f : sProp 𝕄)
      ⊢ iprop(((((c : Thread nD τ).loc cc0_scratch2) ↦{fullShare} (Function.update f (ixK j) w)) -∗ wp frame (wpE (defs₀ (F := F)) 𝒱₀ (c : Thread nD τ) none) Set.univ (k ⟨⟩) Q)
        -∗ wp frame (wpE (defs₀ (F := F)) 𝒱₀ (c : Thread nD τ) none) Set.univ (.op (.store kM (Rect.unit (s := S6) off S1.size inb) (fun _ => w) Finset.univ hx hm) k) Q) := by
  rw [← one_write cc0_scratch2 (Rect.unit (s := S6) off S1.size inb) (Shape.Idx.first (Nat.one_pos)) f (ixK j) (embK j h) w]
  exact wp_store 𝒱₀ (c : Thread nD τ) none Set.univ (m := kM) (r := Rect.unit (s := S6) off S1.size inb) (Finset.subset_univ _)

theorem wp_putV {off : Fin 1 → ℕ} {inb : ∀ a, off a + S1.size a ≤ S8.size a} (j : Fin 8) (h : off = ![j.val]) {f : (cc0_scratch3 : Ref sig .tc).ty.Contents (Elt F)} {w : BitVec 32}
    {hx : (vM.access (Rect.unit (s := S8) off S1.size inb) : View sig .tc _ _ _).Stores Finset.univ}
    {hm : Finset.univ = Finset.univ ∨ ∀ a, (Rect.unit (s := S8) off S1.size inb).stride a = 1}
    {α : Type} {Q : α → sProp 𝕄} {k : PUnit → Prog (TpuEff nD τ sig (Elt F) Λ₀ .tc) α} :
    (((c : Thread nD τ).loc cc0_scratch3) ↦{fullShare} f : sProp 𝕄)
      ⊢ iprop(((((c : Thread nD τ).loc cc0_scratch3) ↦{fullShare} (Function.update f (ixV j) w)) -∗ wp frame (wpE (defs₀ (F := F)) 𝒱₀ (c : Thread nD τ) none) Set.univ (k ⟨⟩) Q)
        -∗ wp frame (wpE (defs₀ (F := F)) 𝒱₀ (c : Thread nD τ) none) Set.univ (.op (.store vM (Rect.unit (s := S8) off S1.size inb) (fun _ => w) Finset.univ hx hm) k) Q) := by
  rw [← one_write cc0_scratch3 (Rect.unit (s := S8) off S1.size inb) (Shape.Idx.first (Nat.one_pos)) f (ixV j) (embV j h) w]
  exact wp_store 𝒱₀ (c : Thread nD τ) none Set.univ (m := vM) (r := Rect.unit (s := S8) off S1.size inb) (Finset.subset_univ _)

theorem wp_putE {off : Fin 1 → ℕ} {inb : ∀ a, off a + S1.size a ≤ S1.size a} (h : off = ![0]) {f : (cc0_scratch4 : Ref sig .tc).ty.Contents (Elt F)} {w : BitVec 32}
    {hx : (eM.access (Rect.unit (s := S1) off S1.size inb) : View sig .tc _ _ _).Stores Finset.univ}
    {hm : Finset.univ = Finset.univ ∨ ∀ a, (Rect.unit (s := S1) off S1.size inb).stride a = 1}
    {α : Type} {Q : α → sProp 𝕄} {k : PUnit → Prog (TpuEff nD τ sig (Elt F) Λ₀ .tc) α} :
    (((c : Thread nD τ).loc cc0_scratch4) ↦{fullShare} f : sProp 𝕄)
      ⊢ iprop(((((c : Thread nD τ).loc cc0_scratch4) ↦{fullShare} (Function.update f ixE w)) -∗ wp frame (wpE (defs₀ (F := F)) 𝒱₀ (c : Thread nD τ) none) Set.univ (k ⟨⟩) Q)
        -∗ wp frame (wpE (defs₀ (F := F)) 𝒱₀ (c : Thread nD τ) none) Set.univ (.op (.store eM (Rect.unit (s := S1) off S1.size inb) (fun _ => w) Finset.univ hx hm) k) Q) := by
  rw [← one_write cc0_scratch4 (Rect.unit (s := S1) off S1.size inb) (Shape.Idx.first (Nat.one_pos)) f ixE (embE h) w]
  exact wp_store 𝒱₀ (c : Thread nD τ) none Set.univ (m := eM) (r := Rect.unit (s := S1) off S1.size inb) (Finset.subset_univ _)

/-! ## Clearing the counts -/

def ClearSt (k : ℕ) : sProp 𝕄 :=
  iprop(∃ f : (cc0_scratch1 : Ref sig .tc).ty.Contents (Elt F), ⌜∀ e : Fin 64, e.val < k → f (ixN e) = 0#32⌝ ∗ (((c : Thread nD τ).loc cc0_scratch1) ↦{fullShare} f))

theorem clear_body (k : Fin 64) {off : Fin 1 → ℕ} (hoff : off = ![k.val]) {i1 i2 : ∀ a, off a + S1.size a ≤ S64.size a} {h1} {hp}
    {hx : (nM.access (Rect.unit (s := S64) off S1.size i2) : View sig .tc _ _ _).Stores Finset.univ}
    {hm : Finset.univ = Finset.univ ∨ ∀ a, (Rect.unit (s := S64) off S1.size i2).stride a = 1} :
    (ClearSt c k.val : sProp 𝕄) ⊢ wp frame (wpE (defs₀ (F := F)) 𝒱₀ (c : Thread nD τ) none) Set.univ (smemLoad nM (Rect.unit (s := S64) off S1.size i1) h1 hp >>= fun _ =>
      .op (.store nM (Rect.unit (s := S64) off S1.size i2) (fun _ => 0#32) Finset.univ hx hm) (fun _ => .ret ())) (fun _ => ClearSt c (k.val + 1)) := by
  unfold ClearSt
  iintro ⟨%f, %hf, Hf⟩
  iapply (wp_getN c k hoff rfl) $$ Hf
  iintro Hf
  iapply (wp_putN c k hoff) $$ Hf
  iintro Hf
  rw [wp_ret]
  imodintro
  iexists (Function.update f (ixN k) (0#32 : BitVec 32))
  isplitr
  · ipureintro
    intro e he
    by_cases h : e = k
    · subst h; exact Function.update_self ..
    · exact (Function.update_of_ne (fun e' => h (ixN_inj e')) _ _).trans (hf e (by have : e.val ≠ k.val := fun e' => h (Fin.ext e'); omega))
  · iexact Hf

/-! ## Going over the tokens -/

/-- The table and the four arrays after `k` tokens. -/
def CountSt (k : ℕ) : sProp 𝕄 :=
  iprop((((c : Thread nD τ).loc cc0_stg1_0) ↦{fullShare} (tblW T : (cc0_stg1_0 : Ref sig .tc).ty.Contents (Elt F)))
    ∗ (∃ f : (cc0_scratch1 : Ref sig .tc).ty.Contents (Elt F), ⌜Counts T k f⌝ ∗ (((c : Thread nD τ).loc cc0_scratch1) ↦{fullShare} f))
    ∗ (∃ f : (cc0_scratch2 : Ref sig .tc).ty.Contents (Elt F), ⌜Held T c k f⌝ ∗ (((c : Thread nD τ).loc cc0_scratch2) ↦{fullShare} f))
    ∗ (∃ f : (cc0_scratch3 : Ref sig .tc).ty.Contents (Elt F), ⌜Filled T c k f⌝ ∗ (((c : Thread nD τ).loc cc0_scratch3) ↦{fullShare} f))
    ∗ (∃ f : (cc0_scratch4 : Ref sig .tc).ty.Contents (Elt F), ⌜Called T c k f⌝ ∗ (((c : Thread nD τ).loc cc0_scratch4) ↦{fullShare} f)))

/-- What a device holds of one array after `k` tokens. -/
abbrev HeldSt (k : ℕ) : sProp 𝕄 :=
  iprop(∃ f : (cc0_scratch2 : Ref sig .tc).ty.Contents (Elt F), ⌜Held T c k f⌝ ∗ (((c : Thread nD τ).loc cc0_scratch2) ↦{fullShare} f))
abbrev FilledSt (k : ℕ) : sProp 𝕄 :=
  iprop(∃ f : (cc0_scratch3 : Ref sig .tc).ty.Contents (Elt F), ⌜Filled T c k f⌝ ∗ (((c : Thread nD τ).loc cc0_scratch3) ↦{fullShare} f))
abbrev CalledSt (k : ℕ) : sProp 𝕄 :=
  iprop(∃ f : (cc0_scratch4 : Ref sig .tc).ty.Contents (Elt F), ⌜Called T c k f⌝ ∗ (((c : Thread nD τ).loc cc0_scratch4) ↦{fullShare} f))

theorem held_block (k : Fin 256) {cd : BitVec 1} (hcd : cd = 1#1 ↔ (owner T k = c ∧ under T k)) {of : Fin 1 → ℕ} {i1 : cd = 1#1 → ∀ a, of a + S1.size a ≤ S6.size a}
    (hof : owner T k = c → under T k → of = ![slotN T k]) {w : BitVec 32} (hw : w = wd k.val) {h1 : S1.numel = 1} {hp}
    {hx : ∀ h : cd = 1#1, (kM.access (Rect.unit (s := S6) of S1.size (i1 h)) : View sig .tc _ _ _).Stores Finset.univ}
    {hm : ∀ h : cd = 1#1, Finset.univ = Finset.univ ∨ ∀ a, (Rect.unit (s := S6) of S1.size (i1 h)).stride a = 1}
    {α : Type} {Q : α → sProp 𝕄} {kk : Prog (TpuEff nD τ sig (Elt F) Λ₀ .tc) α} :
    (HeldSt T c k.val : sProp 𝕄) ⊢ iprop((HeldSt T c (k.val + 1) -∗ wp frame (wpE (defs₀ (F := F)) 𝒱₀ (c : Thread nD τ) none) Set.univ kk Q) -∗ wp frame (wpE (defs₀ (F := F)) 𝒱₀ (c : Thread nD τ) none) Set.univ (if h : cd = 1#1 then
        (smemLoad kM (Rect.unit (s := S6) of S1.size (i1 h)) h1 hp >>= fun _ => .op (.store kM (Rect.unit (s := S6) of S1.size (i1 h)) (fun _ => w) Finset.univ (hx h) (hm h)) (fun _ => kk))
      else kk) Q) := by
  iintro ⟨%f, %hf, Hf⟩ Hk
  by_cases h : cd = 1#1
  · rw [dif_pos h]
    obtain ⟨ho, hu⟩ := hcd.mp h
    have hat : At T c (⟨slotN T k, slotN_lt hu⟩ : Fin 6).val k := ⟨ho, hu, rfl⟩
    iapply (wp_getK c ⟨slotN T k, slotN_lt hu⟩ (hof ho hu) rfl) $$ Hf
    iintro Hf
    iapply (wp_putK c ⟨slotN T k, slotN_lt hu⟩ (hof ho hu)) $$ Hf
    iintro Hf
    iapply Hk
    iexists (Function.update f (ixK ⟨slotN T k, slotN_lt hu⟩) w)
    isplitr
    · ipureintro; subst hw; exact held_step hf hat
    · iexact Hf
  · rw [dif_neg h]
    iapply Hk
    iexists f
    isplitr
    · ipureintro; exact held_skip hf (fun e => h (hcd.mpr e))
    · iexact Hf

theorem filled_block (k : Fin 256) {cd : BitVec 1} (hcd : cd = 1#1 ↔ home k = c) {of : Fin 1 → ℕ} {i1 : cd = 1#1 → ∀ a, of a + S1.size a ≤ S8.size a}
    (hof : home k = c → of = ![(row k).val]) {w : BitVec 32} (hw : w = if under T k then 1#32 else 0#32) {h1 : S1.numel = 1} {hp}
    {hx : ∀ h : cd = 1#1, (vM.access (Rect.unit (s := S8) of S1.size (i1 h)) : View sig .tc _ _ _).Stores Finset.univ}
    {hm : ∀ h : cd = 1#1, Finset.univ = Finset.univ ∨ ∀ a, (Rect.unit (s := S8) of S1.size (i1 h)).stride a = 1}
    {α : Type} {Q : α → sProp 𝕄} {kk : Prog (TpuEff nD τ sig (Elt F) Λ₀ .tc) α} :
    (FilledSt T c k.val : sProp 𝕄) ⊢ iprop((FilledSt T c (k.val + 1) -∗ wp frame (wpE (defs₀ (F := F)) 𝒱₀ (c : Thread nD τ) none) Set.univ kk Q) -∗ wp frame (wpE (defs₀ (F := F)) 𝒱₀ (c : Thread nD τ) none) Set.univ (if h : cd = 1#1 then
        (smemLoad vM (Rect.unit (s := S8) of S1.size (i1 h)) h1 hp >>= fun _ => .op (.store vM (Rect.unit (s := S8) of S1.size (i1 h)) (fun _ => w) Finset.univ (hx h) (hm h)) (fun _ => kk))
      else kk) Q) := by
  iintro ⟨%f, %hf, Hf⟩ Hk
  by_cases h : cd = 1#1
  · rw [dif_pos h]
    have ho := hcd.mp h
    iapply (wp_getV c (row k) (hof ho) rfl) $$ Hf
    iintro Hf
    iapply (wp_putV c (row k) (hof ho)) $$ Hf
    iintro Hf
    iapply Hk
    iexists (Function.update f (ixV (row k)) w)
    isplitr
    · ipureintro; exact filled_step hf ho hw
    · iexact Hf
  · rw [dif_neg h]
    iapply Hk
    iexists f
    isplitr
    · ipureintro; exact filled_skip hf (fun e => h (hcd.mpr e))
    · iexact Hf

theorem called_block (k : Fin 256) {cd : BitVec 1} (hcd : cd = 1#1 ↔ calls T c k) {i1 : ∀ a, ![0] a + S1.size a ≤ S1.size a} {h1} {hp}
    {hx : (eM.access (Rect.unit (s := S1) ![0] S1.size i1) : View sig .tc _ _ _).Stores Finset.univ}
    {hm : Finset.univ = Finset.univ ∨ ∀ a, (Rect.unit (s := S1) ![0] S1.size i1).stride a = 1}
    {α : Type} {Q : α → sProp 𝕄} {kk : Prog (TpuEff nD τ sig (Elt F) Λ₀ .tc) α} :
    (CalledSt T c k.val : sProp 𝕄) ⊢ iprop((CalledSt T c (k.val + 1) -∗ wp frame (wpE (defs₀ (F := F)) 𝒱₀ (c : Thread nD τ) none) Set.univ kk Q) -∗ wp frame (wpE (defs₀ (F := F)) 𝒱₀ (c : Thread nD τ) none) Set.univ (if cd = 1#1 then
        (smemLoad eM (Rect.unit (s := S1) ![0] S1.size i1) h1 hp >>= fun v => smemLoad eM (Rect.unit (s := S1) ![0] S1.size i1) h1 hp >>= fun _ =>
          .op (.store eM (Rect.unit (s := S1) ![0] S1.size i1) (fun _ => Scalar.addi v 1#32) Finset.univ hx hm) (fun _ => kk))
      else kk) Q) := by
  iintro ⟨%f, %hf, Hf⟩ Hk
  by_cases h : cd = 1#1
  · rw [if_pos h]
    iapply (wp_getE c rfl rfl) $$ Hf
    iintro Hf
    iapply (wp_getE c rfl rfl) $$ Hf
    iintro Hf
    iapply (wp_putE c rfl) $$ Hf
    iintro Hf
    iapply Hk
    iexists (Function.update f ixE (Scalar.addi (f ixE) 1#32))
    isplitr
    · ipureintro; exact called_step hf (hcd.mp h) rfl
    · iexact Hf
  · rw [if_neg h]
    iapply Hk
    iexists f
    isplitr
    · ipureintro; exact called_skip hf (fun e => h (hcd.mpr e))
    · iexact Hf

theorem rank_min (k : Fin 256) : min 3 (rank T k) < 4 := by omega

theorem count_body (k : Fin 256) (h0 h1 h2 h3 h4 h5 h6 h7 h8) : (CountSt T c k.val : sProp 𝕄)
    ⊢ wp frame (wpE (defs₀ (F := F)) 𝒱₀ (c : Thread nD τ) none) Set.univ (k0_t2_body (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c
        (Scalar.muli 2#32 (me c)) (Scalar.addi (Scalar.muli 2#32 (me c)) 2#32) (Scalar.muli 8#32 (me c)) (Scalar.addi (Scalar.muli 8#32 (me c)) 8#32) (k.cast t2_trips.symm) ())
      (fun _ => CountSt T c (k.val + 1)) := by
  unfold k0_t2_body
  simp only [Prog.lift, Prog.bind_op, Prog.bind_ret, Prog.pure_eq_ret, Prog.bind_assoc]
  unfold CountSt
  iintro ⟨Ht, ⟨%fn, %hn, Hn⟩, Hh, Hf, He⟩
  iapply (wp_getT c k (off10_eq k) (v := wd (T k).val) rfl) $$ Ht
  iintro Ht
  simp only [wp_assume_of _ _ _ _ (d := k0_chk9.dec _) (chk9_ok (T k))]
  iapply (wp_getN c (T k) (off11_eq (T k)) (v := wd (min 3 (rank T k))) (counts_at hn)) $$ Hn
  iintro Hn
  simp only [wp_assume_of _ _ _ _ (d := k0_chk10.dec _ _ _) (chk10_ok c (T k) ⟨_, rank_min T k⟩)]
  iapply (wp_getN c (T k) (off11_eq (T k)) rfl) $$ Hn
  iintro Hn
  iapply (wp_putN c (T k) (off11_eq (T k))) $$ Hn
  iintro Hn
  iapply (held_block T c k (w := Scf.iv 0#32 1#32 k.val)
    ((cond9_iff c (T k) ⟨_, rank_min T k⟩).trans ⟨fun h => ⟨Fin.ext h.2, by have := h.1; show rank T k < 3; simp only at this; omega⟩,
      fun h => ⟨by have : rank T k < 3 := h.2; show min 3 (rank T k) < 3; omega, congrArg Fin.val h.1⟩⟩) ?_ (iv_word k)) $$ Hh
  · intro ho hu
    have e := off12_eq c ⟨(T k).val % 2, Nat.mod_lt _ (by omega)⟩ ⟨rank T k, hu⟩
    have e1 : wd (2 * c.val + (T k).val % 2) = wd (T k).val := by
      rw [show 2 * c.val + (T k).val % 2 = (T k).val by have := congrArg Fin.val ho; rw [owner_val] at this; omega]
    have e2 : min 3 (rank T k) = rank T k := min_eq_right (le_of_lt hu)
    rw [e2, ← e1]
    exact e
  iintro Hh
  iapply (called_block T c k (cd := callCond c (wd (T k).val) (Scf.iv 0#32 1#32 k.val)) ?_) $$ He
  · rw [iv_word, callCond_iff]
    exact ⟨fun h => ⟨Fin.ext h.1, fun e => h.2 (congrArg Fin.val e)⟩, fun h => ⟨congrArg Fin.val h.1, fun e => h.2 (Fin.ext e)⟩⟩
  iintro He
  iapply (filled_block T c k ((cond11_iff c k).trans ?_) ?_ ?_) $$ Hf
  · exact ⟨fun h => Fin.ext h, fun h => congrArg Fin.val h⟩
  · intro h
    have e := off13_eq c (row k)
    rwa [show tok c (row k) = k by rw [← h]; exact tok_home_row k] at e
  · refine (fill_word ⟨_, rank_min T k⟩).trans ?_
    show (if min 3 (rank T k) < 3 then (1#32 : BitVec 32) else 0#32) = if rank T k < 3 then 1#32 else 0#32
    by_cases hu : rank T k < 3
    · rw [if_pos hu, if_pos (by omega)]
    · rw [if_neg hu, if_neg (by omega)]
  iintro Hf
  rw [wp_ret]
  imodintro
  iframe Ht Hh Hf He
  iexists (Function.update fn (ixN (T k)) (Scalar.addi (wd (min 3 (rank T k))) (Scalar.extui (Scalar.cmpi .slt (wd (min 3 (rank T k))) 3#32) : BitVec 32)))
  isplitr
  · ipureintro
    refine counts_step hn ((grow_word ⟨_, rank_min T k⟩).trans ?_)
    congr 1
    show min 3 (min 3 (rank T k) + 1) = min 3 (rank T k + 1)
    omega
  · iexact Hn

end Cert.Moe
-- ==== Proof.Signals.lean ====
module

public import proofs.«01_k».proof.Proof.Count

@[expose] public section

/-!
# The signals

Each device signals, for each of its own tokens, the device that holds the token's
expert, and then clears its counts.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

variable (T : Tab) (V : Fin 256 → S1x256.Idx → Elt F .f32) (κ : GSem nD τ sig → ℕ) (c : Dev nD)
variable (h0 : (Memref.whole cc0_stg0_0 : Memref sig .tc .vmem S256x128 .bf16).IsWhole) (h1 : (Memref.whole cc0_stg1_0 : Memref sig .tc .smem S256x1 .i32).IsWhole)
  (h2 : (Memref.whole cc0_stg2_0 : Memref sig .tc .vmem S2x128x256 .bf16).IsWhole) (h3 : (Memref.whole cc0_stg3_0 : Memref sig .tc .vmem S8x256 .f32).IsWhole)
  (h4 : (Memref.whole cc0_scratch0 : Memref sig .tc .vmem S2x3x256 .f32).IsWhole) (h5 : (Memref.whole cc0_scratch1 : Memref sig .tc .smem S64 .i32).IsWhole)
  (h6 : (Memref.whole cc0_scratch2 : Memref sig .tc .smem S6 .i32).IsWhole) (h7 : (Memref.whole cc0_scratch3 : Memref sig .tc .smem S8 .i32).IsWhole)
  (h8 : (Memref.whole cc0_scratch4 : Memref sig .tc .smem S1 .i32).IsWhole)
theorem bind_dite {E : Type → Type} {α β : Type} {p : Prop} [Decidable p] (x : p → Prog E α) (y : ¬ p → Prog E α) (k : α → Prog E β) :
    ((if h : p then x h else y h) >>= k) = if h : p then x h >>= k else y h >>= k := by
  by_cases h : p
  · rw [dif_pos h, dif_pos h]
  · rw [dif_neg h, dif_neg h]

theorem bind_ite {E : Type → Type} {α β : Type} {p : Prop} [Decidable p] (x y : Prog E α) (k : α → Prog E β) :
    ((if p then x else y) >>= k) = if p then x >>= k else y >>= k := by
  by_cases h : p
  · rw [if_pos h, if_pos h]
  · rw [if_neg h, if_neg h]

theorem own_ne (i : Fin 256) : (T i).val / 2 ≠ c.val ↔ owner T i ≠ c :=
  ⟨fun h e => h (congrArg Fin.val e), fun h e => h (Fin.ext e)⟩

/-- The routing table as a device holds it. -/
abbrev tblPts : sProp 𝕄 := iprop(((c : Thread nD τ).loc cc0_stg1_0) ↦{fullShare} (tblW T : (cc0_stg1_0 : Ref sig .tc).ty.Contents (Elt F)))

set_option maxHeartbeats 4000000 in
theorem part1_run  {α : Type} {Q : α → sProp 𝕄} {kk : _ → Prog (TpuEff nD τ sig (Elt F) Λ₀ .tc) α} :
    iprop(ctx T V κ c ∗ tblPts T c ∗ SigSt T c 0)
      ⊢ iprop((∀ a b d, (tblPts T c ∗ SigSt T c 1) -∗ wp frame (wpE (defs₀ (F := F)) 𝒱₀ (c : Thread nD τ) none) Set.univ (kk ⟨c, me c, Scalar.muli 2#32 (me c), Scalar.addi (Scalar.muli 2#32 (me c)) 2#32, Scalar.muli 8#32 (me c), Scalar.addi (Scalar.muli 8#32 (me c)) 8#32, (SemArray.scalar (sig.barrier 0 rfl)), wd (T (tok c 1)).val, chk2_ok c (T (tok c 1)), a, b, d⟩) Q) -∗ wp frame (wpE (defs₀ (F := F)) 𝒱₀ (c : Thread nD τ) none) Set.univ (k0_part1 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6  >>= kk) Q) := by
  rw [k0_part1_eq_skeleton]
  unfold k0_part1_skel me
  simp only [semSignalWord, Prog.lift, Prog.bind_op, Prog.bind_ret, Prog.pure_eq_ret, Prog.bind_assoc, bind_dite, wp_deviceId]
  iintro ⟨#HX, Ht, Hs⟩ Hk
  iapply (wp_getT c (tok c 0) (off1_eq c) (v := wd (T (tok c 0)).val) rfl) $$ Ht
  iintro Ht
  simp only [wp_assume_of _ _ _ _ (d := k0_chk1.dec _ _) (chk1_ok c (T (tok c 0)))]
  iapply (sig_block T V κ c (k := 0) (by decide) ((cond1_iff c (T (tok c 0))).trans (own_ne T c _)) (fun h => Fin.ext (dev1_eq _)))
  isplitr; · iexact HX
  isplitl [Hs]; · iexact Hs
  iintro Hs
  iapply (wp_getT c (tok c 1) (off2_eq c) (v := wd (T (tok c 1)).val) rfl) $$ Ht
  iintro Ht
  simp only [wp_assume_of _ _ _ _ (d := k0_chk2.dec _ _) (chk2_ok c (T (tok c 1)))]
  iapply Hk
  isplitl [Ht]; · iexact Ht
  iexact Hs

set_option maxHeartbeats 4000000 in
theorem part2_run (v2 v5 : BitVec 32) (a b : BitVec 32) (d : BitVec 1) {α : Type} {Q : α → sProp 𝕄} {kk : _ → Prog (TpuEff nD τ sig (Elt F) Λ₀ .tc) α} :
    iprop(ctx T V κ c ∗ tblPts T c ∗ SigSt T c 1)
      ⊢ iprop(((tblPts T c ∗ SigSt T c 3) -∗ wp frame (wpE (defs₀ (F := F)) 𝒱₀ (c : Thread nD τ) none) Set.univ (kk ⟨⟩) Q) -∗ wp frame (wpE (defs₀ (F := F)) 𝒱₀ (c : Thread nD τ) none) Set.univ (k0_part2 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c v2 v5 (SemArray.scalar (sig.barrier 0 rfl)) (wd (T (tok c 1)).val) (chk2_ok c (T (tok c 1))) a b d >>= kk) Q) := by
  rw [k0_part2_eq_skeleton]
  unfold k0_part2_skel
  simp only [semSignalWord, Prog.lift, Prog.bind_op, Prog.bind_ret, Prog.pure_eq_ret, Prog.bind_assoc, bind_dite, wp_deviceId]
  iintro ⟨#HX, Ht, Hs⟩ Hk
  iapply (sig_block T V κ c (k := 1) (by decide) ((cond2_iff c (T (tok c 1))).trans (own_ne T c _)) (fun h => Fin.ext (dev2_eq _)))
  isplitr; · iexact HX
  isplitl [Hs]; · iexact Hs
  iintro Hs
  iapply (wp_getT c (tok c 2) (off3_eq c) (v := wd (T (tok c 2)).val) rfl) $$ Ht
  iintro Ht
  simp only [wp_assume_of _ _ _ _ (d := k0_chk3.dec _ _) (chk3_ok c (T (tok c 2)))]
  iapply (sig_block T V κ c (k := 2) (by decide) ((cond3_iff c (T (tok c 2))).trans (own_ne T c _)) (fun h => Fin.ext (dev3_eq _)))
  isplitr; · iexact HX
  isplitl [Hs]; · iexact Hs
  iintro Hs
  iapply Hk
  isplitl [Ht]; · iexact Ht
  iexact Hs

set_option maxHeartbeats 4000000 in
theorem part3_run (v2 v5 : BitVec 32) {α : Type} {Q : α → sProp 𝕄} {kk : _ → Prog (TpuEff nD τ sig (Elt F) Λ₀ .tc) α} :
    iprop(ctx T V κ c ∗ tblPts T c ∗ SigSt T c 3)
      ⊢ iprop((∀ a b d e, (tblPts T c ∗ SigSt T c 4) -∗ wp frame (wpE (defs₀ (F := F)) 𝒱₀ (c : Thread nD τ) none) Set.univ (kk ⟨wd (T (tok c 4)).val, chk5_ok c (T (tok c 4)), a, b, d, e⟩) Q) -∗ wp frame (wpE (defs₀ (F := F)) 𝒱₀ (c : Thread nD τ) none) Set.univ (k0_part3 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c v2 v5 (SemArray.scalar (sig.barrier 0 rfl)) >>= kk) Q) := by
  rw [k0_part3_eq_skeleton]
  unfold k0_part3_skel
  simp only [semSignalWord, Prog.lift, Prog.bind_op, Prog.bind_ret, Prog.pure_eq_ret, Prog.bind_assoc, bind_dite, wp_deviceId]
  iintro ⟨#HX, Ht, Hs⟩ Hk
  iapply (wp_getT c (tok c 3) (off4_eq c) (v := wd (T (tok c 3)).val) rfl) $$ Ht
  iintro Ht
  simp only [wp_assume_of _ _ _ _ (d := k0_chk4.dec _ _) (chk4_ok c (T (tok c 3)))]
  iapply (sig_block T V κ c (k := 3) (by decide) ((cond4_iff c (T (tok c 3))).trans (own_ne T c _)) (fun h => Fin.ext (dev4_eq _)))
  isplitr; · iexact HX
  isplitl [Hs]; · iexact Hs
  iintro Hs
  iapply (wp_getT c (tok c 4) (off5_eq c) (v := wd (T (tok c 4)).val) rfl) $$ Ht
  iintro Ht
  simp only [wp_assume_of _ _ _ _ (d := k0_chk5.dec _ _) (chk5_ok c (T (tok c 4)))]
  iapply Hk
  isplitl [Ht]; · iexact Ht
  iexact Hs

set_option maxHeartbeats 4000000 in
theorem part4_run (v2 v5 a : BitVec 32) (b : BitVec 1) (d e : BitVec 32) {α : Type} {Q : α → sProp 𝕄} {kk : _ → Prog (TpuEff nD τ sig (Elt F) Λ₀ .tc) α} :
    iprop(ctx T V κ c ∗ tblPts T c ∗ SigSt T c 4)
      ⊢ iprop((∀ a b d, (tblPts T c ∗ SigSt T c 6) -∗ wp frame (wpE (defs₀ (F := F)) 𝒱₀ (c : Thread nD τ) none) Set.univ (kk ⟨wd (T (tok c 6)).val, chk7_ok c (T (tok c 6)), a, b, d⟩) Q) -∗ wp frame (wpE (defs₀ (F := F)) 𝒱₀ (c : Thread nD τ) none) Set.univ (k0_part4 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c v2 v5 (SemArray.scalar (sig.barrier 0 rfl)) (wd (T (tok c 4)).val) (chk5_ok c (T (tok c 4))) a b d e >>= kk) Q) := by
  rw [k0_part4_eq_skeleton]
  unfold k0_part4_skel
  simp only [semSignalWord, Prog.lift, Prog.bind_op, Prog.bind_ret, Prog.pure_eq_ret, Prog.bind_assoc, bind_dite, wp_deviceId]
  iintro ⟨#HX, Ht, Hs⟩ Hk
  iapply (sig_block T V κ c (k := 4) (by decide) ((cond5_iff c (T (tok c 4))).trans (own_ne T c _)) (fun h => Fin.ext (dev5_eq _)))
  isplitr; · iexact HX
  isplitl [Hs]; · iexact Hs
  iintro Hs
  iapply (wp_getT c (tok c 5) (off6_eq c) (v := wd (T (tok c 5)).val) rfl) $$ Ht
  iintro Ht
  simp only [wp_assume_of _ _ _ _ (d := k0_chk6.dec _ _) (chk6_ok c (T (tok c 5)))]
  iapply (sig_block T V κ c (k := 5) (by decide) ((cond6_iff c (T (tok c 5))).trans (own_ne T c _)) (fun h => Fin.ext (dev6_eq _)))
  isplitr; · iexact HX
  isplitl [Hs]; · iexact Hs
  iintro Hs
  iapply (wp_getT c (tok c 6) (off7_eq c) (v := wd (T (tok c 6)).val) rfl) $$ Ht
  iintro Ht
  simp only [wp_assume_of _ _ _ _ (d := k0_chk7.dec _ _) (chk7_ok c (T (tok c 6)))]
  iapply Hk
  isplitl [Ht]; · iexact Ht
  iexact Hs

set_option maxHeartbeats 4000000 in
theorem part5_run (v2 v5 a b d : BitVec 32) {α : Type} {Q : α → sProp 𝕄} {kk : _ → Prog (TpuEff nD τ sig (Elt F) Λ₀ .tc) α} :
    iprop(ctx T V κ c ∗ tblPts T c ∗ SigSt T c 6 ∗ (∃ f : (cc0_scratch1 : Ref sig .tc).ty.Contents (Elt F), ((c : Thread nD τ).loc cc0_scratch1) ↦{fullShare} f))
      ⊢ iprop(((tblPts T c ∗ SigSt T c 8 ∗ ClearSt c 64) -∗ wp frame (wpE (defs₀ (F := F)) 𝒱₀ (c : Thread nD τ) none) Set.univ (kk ⟨⟩) Q) -∗ wp frame (wpE (defs₀ (F := F)) 𝒱₀ (c : Thread nD τ) none) Set.univ (k0_part5 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c v2 v5 (SemArray.scalar (sig.barrier 0 rfl)) (wd (T (tok c 6)).val) (chk7_ok c (T (tok c 6))) a b d >>= kk) Q) := by
  rw [k0_part5_eq_skeleton]
  unfold k0_part5_skel
  simp only [semSignalWord, Prog.lift, Prog.bind_op, Prog.bind_ret, Prog.pure_eq_ret, Prog.bind_assoc, bind_dite, wp_deviceId]
  iintro ⟨#HX, Ht, Hs, Hf⟩ Hk
  iapply (sig_block T V κ c (k := 6) (by decide) ((cond7_iff c (T (tok c 6))).trans (own_ne T c _)) (fun h => Fin.ext (dev7_eq _)))
  isplitr; · iexact HX
  isplitl [Hs]; · iexact Hs
  iintro Hs
  iapply (wp_getT c (tok c 7) (off8_eq c) (v := wd (T (tok c 7)).val) rfl) $$ Ht
  iintro Ht
  simp only [wp_assume_of _ _ _ _ (d := k0_chk8.dec _ _) (chk8_ok c (T (tok c 7)))]
  iapply (sig_block T V κ c (k := 7) (by decide) ((cond8_iff c (T (tok c 7))).trans (own_ne T c _)) (fun h => Fin.ext (dev8_eq _)))
  isplitr; · iexact HX
  isplitl [Hs]; · iexact Hs
  iintro Hs
  icases Hf with ⟨%f, Hf⟩
  iapply (Scf.wp_for_bind frame (wpE (defs₀ (F := F)) 𝒱₀ (c : Thread nD τ) none) Set.univ _ _ _ k0_t1_ok _ _ (fun k _ => ClearSt c k) (fun k _ => by
      unfold k0_t1_body
      simp only [Prog.lift, Prog.bind_op, Prog.bind_ret, Prog.pure_eq_ret, Prog.bind_assoc]
      exact clear_body c (k.cast t1_trips) (off9_eq (k.cast t1_trips)))) $$ [Hf]
  · unfold ClearSt
    iexists f
    isplitr
    · ipureintro; intro e he; exact absurd he (Nat.not_lt_zero _)
    · iexact Hf
  iintro %_ Hc
  ihave Hc := (show (ClearSt c k0_t1_loop.trips : sProp 𝕄) ⊢ ClearSt c 64 from Entails.of_eq (by rw [t1_trips])) $$ Hc
  iapply Hk
  isplitl [Ht]; · iexact Ht
  isplitl [Hs]; · iexact Hs
  iexact Hc

end Cert.Moe
-- ==== Proof.Know.lean ====
module

public import proofs.«01_k».proof.Proof.Signals

@[expose] public section

/-!
# What a device knows after going over the tokens

The tokens its slots hold, which of its own tokens go through, and how many signals
it waits for; and the rows of its tokens that do not go through, set to zero.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

variable (T : Tab) (V : Fin 256 → S1x256.Idx → Elt F .f32) (c : Dev nD)
variable (h0 : (Memref.whole cc0_stg0_0 : Memref sig .tc .vmem S256x128 .bf16).IsWhole) (h1 : (Memref.whole cc0_stg1_0 : Memref sig .tc .smem S256x1 .i32).IsWhole)
  (h2 : (Memref.whole cc0_stg2_0 : Memref sig .tc .vmem S2x128x256 .bf16).IsWhole) (h3 : (Memref.whole cc0_stg3_0 : Memref sig .tc .vmem S8x256 .f32).IsWhole)
  (h4 : (Memref.whole cc0_scratch0 : Memref sig .tc .vmem S2x3x256 .f32).IsWhole) (h5 : (Memref.whole cc0_scratch1 : Memref sig .tc .smem S64 .i32).IsWhole)
  (h6 : (Memref.whole cc0_scratch2 : Memref sig .tc .smem S6 .i32).IsWhole) (h7 : (Memref.whole cc0_scratch3 : Memref sig .tc .smem S8 .i32).IsWhole)
  (h8 : (Memref.whole cc0_scratch4 : Memref sig .tc .smem S1 .i32).IsWhole)
/-! ## Marking the slots empty -/

def MarkSt (k : ℕ) : sProp 𝕄 :=
  iprop(∃ f : (cc0_scratch2 : Ref sig .tc).ty.Contents (Elt F), ⌜∀ s : Fin 6, s.val < k → f (ixK s) = 256#32⌝ ∗ (((c : Thread nD τ).loc cc0_scratch2) ↦{fullShare} f))

theorem mark_block {k : ℕ} (hk : k < 6) {off : Fin 1 → ℕ} (hoff : off = ![k]) {i1 i2 : ∀ a, off a + S1.size a ≤ S6.size a} {h1} {hp}
    {hx : (kM.access (Rect.unit (s := S6) off S1.size i2) : View sig .tc _ _ _).Stores Finset.univ}
    {hm : Finset.univ = Finset.univ ∨ ∀ a, (Rect.unit (s := S6) off S1.size i2).stride a = 1}
    {α : Type} {Q : α → sProp 𝕄} {kk : Prog (TpuEff nD τ sig (Elt F) Λ₀ .tc) α} :
    (MarkSt c k : sProp 𝕄) ⊢ iprop((MarkSt c (k + 1) -∗ wp frame (wpE (defs₀ (F := F)) 𝒱₀ (c : Thread nD τ) none) Set.univ kk Q) -∗ wp frame (wpE (defs₀ (F := F)) 𝒱₀ (c : Thread nD τ) none) Set.univ (smemLoad kM (Rect.unit (s := S6) off S1.size i1) h1 hp >>= fun _ =>
      .op (.store kM (Rect.unit (s := S6) off S1.size i2) (fun _ => 256#32) Finset.univ hx hm) (fun _ => kk)) Q) := by
  unfold MarkSt
  iintro ⟨%f, %hf, Hf⟩ Hk
  iapply (wp_getK c ⟨k, hk⟩ hoff rfl) $$ Hf
  iintro Hf
  iapply (wp_putK c ⟨k, hk⟩ hoff) $$ Hf
  iintro Hf
  iapply Hk
  iexists (Function.update f (ixK ⟨k, hk⟩) (256#32 : BitVec 32))
  isplitr
  · ipureintro
    intro e he
    by_cases h : e = ⟨k, hk⟩
    · subst h; exact Function.update_self ..
    · exact (Function.update_of_ne (fun e' => h (ixK_inj e')) _ _).trans (hf e (by have : e.val ≠ k := fun e' => h (Fin.ext e'); omega))
  · iexact Hf

/-! ## Knowing -/

def KnowSt : sProp 𝕄 :=
  iprop(tblPts T c
    ∗ (∃ f : (cc0_scratch1 : Ref sig .tc).ty.Contents (Elt F), (((c : Thread nD τ).loc cc0_scratch1) ↦{fullShare} f))
    ∗ (∃ f : (cc0_scratch2 : Ref sig .tc).ty.Contents (Elt F), ⌜∀ s : Fin 6, f (ixK s) = wd (heldAt T c s.val).val⌝ ∗ (((c : Thread nD τ).loc cc0_scratch2) ↦{fullShare} f))
    ∗ (∃ f : (cc0_scratch3 : Ref sig .tc).ty.Contents (Elt F), ⌜∀ r : Fin 8, f (ixV r) = if under T (tok c r) then 1#32 else 0#32⌝ ∗ (((c : Thread nD τ).loc cc0_scratch3) ↦{fullShare} f))
    ∗ (∃ f : (cc0_scratch4 : Ref sig .tc).ty.Contents (Elt F), ⌜f ixE = wd (callers T c).card⌝ ∗ (((c : Thread nD τ).loc cc0_scratch4) ↦{fullShare} f)))

theorem know_of_count : (CountSt T c 256 : sProp 𝕄) ⊢ KnowSt T c := by
  unfold CountSt KnowSt
  iintro ⟨Ht, ⟨%fn, -, Hn⟩, ⟨%fh, %hh, Hh⟩, ⟨%ff, %hf, Hf⟩, ⟨%fe, %he, He⟩⟩
  isplitl [Ht]; · iexact Ht
  isplitl [Hn]; · iexists fn; iexact Hn
  isplitl [Hh]
  · iexists fh
    isplitr
    · ipureintro; exact held_all hh
    · iexact Hh
  isplitl [Hf]
  · iexists ff
    isplitr
    · ipureintro; exact filled_all hf
    · iexact Hf
  · iexists fe
    isplitr
    · ipureintro; exact he.trans (congrArg wd (callsN_all T c))
    · iexact He

theorem know_table {off : Fin 2 → ℕ} {inb : ∀ a, off a + S1x1.size a ≤ S256x1.size a} (j : Fin 256) (h : off = ![j.val, 0]) {h1} {hp}
    {α : Type} {Q : α → sProp 𝕄} {k : BitVec 32 → Prog (TpuEff nD τ sig (Elt F) Λ₀ .tc) α} :
    (KnowSt T c : sProp 𝕄) ⊢ iprop((KnowSt T c -∗ wp frame (wpE (defs₀ (F := F)) 𝒱₀ (c : Thread nD τ) none) Set.univ (k (wd (T j).val)) Q) -∗ wp frame (wpE (defs₀ (F := F)) 𝒱₀ (c : Thread nD τ) none) Set.univ (smemLoad tM (Rect.unit (s := S256x1) off S1x1.size inb) h1 hp >>= k) Q) := by
  unfold KnowSt
  iintro ⟨Hg, Hr⟩ Hk
  iapply (wp_getT c j h (v := wd (T j).val) rfl) $$ Hg
  iintro Hg
  iapply Hk
  isplitl [Hg]; · iexact Hg
  iexact Hr

theorem know_slot {off : Fin 1 → ℕ} {inb : ∀ a, off a + S1.size a ≤ S6.size a} (s : Fin 6) (h : off = ![s.val]) {h1} {hp}
    {α : Type} {Q : α → sProp 𝕄} {k : BitVec 32 → Prog (TpuEff nD τ sig (Elt F) Λ₀ .tc) α} :
    (KnowSt T c : sProp 𝕄) ⊢ iprop((KnowSt T c -∗ wp frame (wpE (defs₀ (F := F)) 𝒱₀ (c : Thread nD τ) none) Set.univ (k (wd (heldAt T c s.val).val)) Q) -∗ wp frame (wpE (defs₀ (F := F)) 𝒱₀ (c : Thread nD τ) none) Set.univ (smemLoad kM (Rect.unit (s := S6) off S1.size inb) h1 hp >>= k) Q) := by
  unfold KnowSt
  iintro ⟨Ht, Hn, ⟨%f, %hf, Hg⟩, Hr⟩ Hk
  iapply (wp_getK c s h (hf s)) $$ Hg
  iintro Hg
  iapply Hk
  isplitl [Ht]; · iexact Ht
  isplitl [Hn]; · iexact Hn
  isplitl [Hg]
  · iexists f
    isplitr
    · ipureintro; exact hf
    · iexact Hg
  iexact Hr

theorem know_row {off : Fin 1 → ℕ} {inb : ∀ a, off a + S1.size a ≤ S8.size a} (r : Fin 8) (h : off = ![r.val]) {h1} {hp}
    {α : Type} {Q : α → sProp 𝕄} {k : BitVec 32 → Prog (TpuEff nD τ sig (Elt F) Λ₀ .tc) α} :
    (KnowSt T c : sProp 𝕄) ⊢ iprop((KnowSt T c -∗ wp frame (wpE (defs₀ (F := F)) 𝒱₀ (c : Thread nD τ) none) Set.univ (k (if under T (tok c r) then 1#32 else 0#32)) Q) -∗ wp frame (wpE (defs₀ (F := F)) 𝒱₀ (c : Thread nD τ) none) Set.univ (smemLoad vM (Rect.unit (s := S8) off S1.size inb) h1 hp >>= k) Q) := by
  unfold KnowSt
  iintro ⟨Ht, Hn, Hh, ⟨%f, %hf, Hg⟩, Hr⟩ Hk
  iapply (wp_getV c r h (hf r)) $$ Hg
  iintro Hg
  iapply Hk
  isplitl [Ht]; · iexact Ht
  isplitl [Hn]; · iexact Hn
  isplitl [Hh]; · iexact Hh
  isplitl [Hg]
  · iexists f
    isplitr
    · ipureintro; exact hf
    · iexact Hg
  iexact Hr

theorem know_calls {off : Fin 1 → ℕ} {inb : ∀ a, off a + S1.size a ≤ S1.size a} (h : off = ![0]) {h1} {hp}
    {α : Type} {Q : α → sProp 𝕄} {k : BitVec 32 → Prog (TpuEff nD τ sig (Elt F) Λ₀ .tc) α} :
    (KnowSt T c : sProp 𝕄) ⊢ iprop((KnowSt T c -∗ wp frame (wpE (defs₀ (F := F)) 𝒱₀ (c : Thread nD τ) none) Set.univ (k (wd (callers T c).card)) Q) -∗ wp frame (wpE (defs₀ (F := F)) 𝒱₀ (c : Thread nD τ) none) Set.univ (smemLoad eM (Rect.unit (s := S1) off S1.size inb) h1 hp >>= k) Q) := by
  unfold KnowSt
  iintro ⟨Ht, Hn, Hh, Hs, ⟨%f, %hf, Hg⟩⟩ Hk
  iapply (wp_getE c h hf) $$ Hg
  iintro Hg
  iapply Hk
  isplitl [Ht]; · iexact Ht
  isplitl [Hn]; · iexact Hn
  isplitl [Hh]; · iexact Hh
  isplitl [Hs]; · iexact Hs
  iexists f
  isplitr
  · ipureintro; exact hf
  · iexact Hg

/-! ## Zero rows -/

theorem clear_iff (p : Prop) [Decidable p] :
    Scalar.cmpi .ne (Scalar.extui (Scalar.cmpi .eq (if p then 1#32 else 0#32) 0#32) : BitVec 32) 0#32 = 1#1 ↔ ¬ p := by
  have := clear_word (decide p)
  simpa using this

variable (hV : ∀ i, ¬ under T i → V i = k0_pay1)
include hV

set_option maxHeartbeats 4000000 in
theorem part6_run {α : Type} {Q : α → sProp 𝕄} {kk : _ → Prog (TpuEff nD τ sig (Elt F) Λ₀ .tc) α} :
    iprop(tblPts T c ∗ ClearSt c 64
      ∗ (∃ f : (cc0_scratch2 : Ref sig .tc).ty.Contents (Elt F), ((c : Thread nD τ).loc cc0_scratch2) ↦{fullShare} f)
      ∗ (∃ f : (cc0_scratch3 : Ref sig .tc).ty.Contents (Elt F), ((c : Thread nD τ).loc cc0_scratch3) ↦{fullShare} f)
      ∗ (∃ f : (cc0_scratch4 : Ref sig .tc).ty.Contents (Elt F), ((c : Thread nD τ).loc cc0_scratch4) ↦{fullShare} f)
      ∗ march (rowB T c) (rowC T V c) 0)
      ⊢ iprop(((KnowSt T c ∗ march (rowB T c) (rowC T V c) 3) -∗ wp frame (wpE (defs₀ (F := F)) 𝒱₀ (c : Thread nD τ) none) Set.univ (kk ⟨⟩) Q) -∗ wp frame (wpE (defs₀ (F := F)) 𝒱₀ (c : Thread nD τ) none) Set.univ (k0_part6 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c
        (Scalar.muli 2#32 (me c)) (Scalar.addi (Scalar.muli 2#32 (me c)) 2#32) (Scalar.muli 8#32 (me c)) (Scalar.addi (Scalar.muli 8#32 (me c)) 8#32) >>= kk) Q) := by
  rw [k0_part6_eq_skeleton]
  unfold k0_part6_skel
  simp only [Prog.lift, Prog.bind_op, Prog.bind_ret, Prog.pure_eq_ret, Prog.bind_assoc, bind_ite]
  iintro ⟨Ht, Hc, ⟨%f2, H2⟩, ⟨%f3, H3⟩, ⟨%f4, H4⟩, Hr⟩ Hk
  ihave HM := (show (((c : Thread nD τ).loc cc0_scratch2) ↦{fullShare} f2 : sProp 𝕄) ⊢ MarkSt c 0 from by
    unfold MarkSt
    iintro H
    iexists f2
    isplitr
    · ipureintro; intro e he; exact absurd he (Nat.not_lt_zero _)
    · iexact H) $$ H2
  iapply (mark_block c (k := 0) (by decide) rfl) $$ HM
  iintro HM
  iapply (mark_block c (k := 1) (by decide) rfl) $$ HM
  iintro HM
  iapply (mark_block c (k := 2) (by decide) rfl) $$ HM
  iintro HM
  iapply (mark_block c (k := 3) (by decide) rfl) $$ HM
  iintro HM
  iapply (mark_block c (k := 4) (by decide) rfl) $$ HM
  iintro HM
  iapply (mark_block c (k := 5) (by decide) rfl) $$ HM
  iintro HM
  iapply (wp_getE c rfl rfl) $$ H4
  iintro H4
  iapply (wp_putE c rfl) $$ H4
  iintro H4
  iapply (Scf.wp_for_bind frame (wpE (defs₀ (F := F)) 𝒱₀ (c : Thread nD τ) none) Set.univ _ _ _ k0_t2_ok _ _ (fun k _ => CountSt T c k) (fun k _ =>
      count_body T c (k.cast t2_trips) h0 h1 h2 h3 h4 h5 h6 h7 h8)) $$ [Ht Hc HM H3 H4]
  · unfold CountSt ClearSt MarkSt
    icases Hc with ⟨%fc, %hc, Hc⟩
    icases HM with ⟨%fm, %hm, HM⟩
    isplitl [Ht]; · iexact Ht
    isplitl [Hc]
    · iexists fc
      isplitr
      · ipureintro; exact counts_zero fun e => hc e e.isLt
      · iexact Hc
    isplitl [HM]
    · iexists fm
      isplitr
      · ipureintro; exact held_zero fun s => hm s s.isLt
      · iexact HM
    isplitl [H3]
    · iexists f3
      isplitr
      · ipureintro; exact filled_zero f3
      · iexact H3
    · iexists (Function.update f4 ixE (0#32 : BitVec 32))
      isplitr
      · ipureintro; exact called_zero (Function.update_self ..)
      · iexact H4
  iintro %_ HK
  ihave HK := (show (CountSt T c k0_t2_loop.trips : sProp 𝕄) ⊢ KnowSt T c from (Entails.of_eq (by rw [t2_trips])).trans (know_of_count T c)) $$ HK
  iapply (know_row T c 0 rfl) $$ HK
  iintro HK
  iapply (zero_block T V c (k := 0) (by decide) (clear_iff _) rfl (hV _))
  isplitl [Hr]; · iexact Hr
  iintro Hr
  iapply (know_row T c 1 rfl) $$ HK
  iintro HK
  iapply (zero_block T V c (k := 1) (by decide) (clear_iff _) rfl (hV _))
  isplitl [Hr]; · iexact Hr
  iintro Hr
  iapply (know_row T c 2 rfl) $$ HK
  iintro HK
  iapply (zero_block T V c (k := 2) (by decide) (clear_iff _) rfl (hV _))
  isplitl [Hr]; · iexact Hr
  iintro Hr
  iapply Hk
  isplitl [HK]; · iexact HK
  iexact Hr

set_option maxHeartbeats 4000000 in
theorem part7_run {α : Type} {Q : α → sProp 𝕄} {kk : _ → Prog (TpuEff nD τ sig (Elt F) Λ₀ .tc) α} :
    iprop(KnowSt T c ∗ march (rowB T c) (rowC T V c) 3)
      ⊢ iprop((∀ a b, (KnowSt T c ∗ march (rowB T c) (rowC T V c) 8) -∗ wp frame (wpE (defs₀ (F := F)) 𝒱₀ (c : Thread nD τ) none) Set.univ (kk ⟨wd (heldAt T c ((0 : Fin 6).val)).val, chk11_ok c (heldAt T c ((0 : Fin 6).val)), wd (heldAt T c ((1 : Fin 6).val)).val, chk12_ok c (heldAt T c ((1 : Fin 6).val)),
        wd (heldAt T c ((2 : Fin 6).val)).val, chk13_ok c (heldAt T c ((2 : Fin 6).val)), wd (heldAt T c ((3 : Fin 6).val)).val, chk14_ok c (heldAt T c ((3 : Fin 6).val)), wd (heldAt T c ((4 : Fin 6).val)).val, chk15_ok c (heldAt T c ((4 : Fin 6).val)),
        wd (heldAt T c ((5 : Fin 6).val)).val, chk16_ok c (heldAt T c ((5 : Fin 6).val)), a, b⟩) Q) -∗ wp frame (wpE (defs₀ (F := F)) 𝒱₀ (c : Thread nD τ) none) Set.univ (k0_part7 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c >>= kk) Q) := by
  rw [k0_part7_eq_skeleton]
  unfold k0_part7_skel
  simp only [Prog.lift, Prog.bind_op, Prog.bind_ret, Prog.pure_eq_ret, Prog.bind_assoc, bind_ite]
  iintro ⟨HK, Hr⟩ Hk
  iapply (know_row T c 3 rfl) $$ HK
  iintro HK
  iapply (zero_block T V c (k := 3) (by decide) (clear_iff _) rfl (hV _))
  isplitl [Hr]; · iexact Hr
  iintro Hr
  iapply (know_row T c 4 rfl) $$ HK
  iintro HK
  iapply (zero_block T V c (k := 4) (by decide) (clear_iff _) rfl (hV _))
  isplitl [Hr]; · iexact Hr
  iintro Hr
  iapply (know_row T c 5 rfl) $$ HK
  iintro HK
  iapply (zero_block T V c (k := 5) (by decide) (clear_iff _) rfl (hV _))
  isplitl [Hr]; · iexact Hr
  iintro Hr
  iapply (know_row T c 6 rfl) $$ HK
  iintro HK
  iapply (zero_block T V c (k := 6) (by decide) (clear_iff _) rfl (hV _))
  isplitl [Hr]; · iexact Hr
  iintro Hr
  iapply (know_row T c 7 rfl) $$ HK
  iintro HK
  iapply (zero_block T V c (k := 7) (by decide) (clear_iff _) rfl (hV _))
  isplitl [Hr]; · iexact Hr
  iintro Hr
  iapply (know_slot T c 0 rfl) $$ HK
  iintro HK
  simp only [wp_assume_of _ _ _ _ (d := k0_chk11.dec _ _) (chk11_ok c (heldAt T c ((0 : Fin 6).val)))]
  iapply (know_slot T c 1 rfl) $$ HK
  iintro HK
  simp only [wp_assume_of _ _ _ _ (d := k0_chk12.dec _ _) (chk12_ok c (heldAt T c ((1 : Fin 6).val)))]
  iapply (know_slot T c 2 rfl) $$ HK
  iintro HK
  simp only [wp_assume_of _ _ _ _ (d := k0_chk13.dec _ _) (chk13_ok c (heldAt T c ((2 : Fin 6).val)))]
  iapply (know_slot T c 3 rfl) $$ HK
  iintro HK
  simp only [wp_assume_of _ _ _ _ (d := k0_chk14.dec _ _) (chk14_ok c (heldAt T c ((3 : Fin 6).val)))]
  iapply (know_slot T c 4 rfl) $$ HK
  iintro HK
  simp only [wp_assume_of _ _ _ _ (d := k0_chk15.dec _ _) (chk15_ok c (heldAt T c ((4 : Fin 6).val)))]
  iapply (know_slot T c 5 rfl) $$ HK
  iintro HK
  simp only [wp_assume_of _ _ _ _ (d := k0_chk16.dec _ _) (chk16_ok c (heldAt T c ((5 : Fin 6).val)))]
  iapply Hk
  isplitl [HK]; · iexact HK
  iexact Hr

end Cert.Moe
-- ==== Proof.Store.lean ====
module

public import proofs.«01_k».proof.Proof.Know

@[expose] public section

/-!
# What a device computes

The outputs of its two experts on the tokens in their slots, in the exchange buffer.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

variable (T : Tab) (V : Fin 256 → S1x256.Idx → Elt F .f32) (c : Dev nD)

abbrev xM : Memref sig .tc .vmem S256x128 .bf16 := Memref.whole cc0_stg0_0
abbrev wM : Memref sig .tc .vmem S2x128x256 .bf16 := Memref.whole cc0_stg2_0

abbrev ixX (j : Fin 256) (d : Fin 128) : S256x128.Idx := fun a => match a with | ⟨0, _⟩ => j | ⟨1, _⟩ => d
abbrev ixW (b : Fin 2) (d : Fin 128) (o : Fin 256) : S2x128x256.Idx := fun a => match a with | ⟨0, _⟩ => b | ⟨1, _⟩ => d | ⟨2, _⟩ => o
abbrev ixB (j : Fin 3) (o : Fin 256) : S1x3x256.Idx := fun a => match a with | ⟨0, _⟩ => (0 : Fin 1) | ⟨1, _⟩ => j | ⟨2, _⟩ => o

theorem embX {off : Fin 2 → ℕ} {inb : ∀ a, off a + S1x128.size a ≤ S256x128.size a} (j : Fin 256) (h : off = ![j.val, 0])
    (x : (Rect.unit (s := S256x128) off S1x128.size inb).shape.Idx) : (Rect.unit (s := S256x128) off S1x128.size inb).emb x = ixX j (x 1) := by
  subst h
  funext a
  match a with
  | ⟨0, _⟩ =>
    apply Fin.ext
    show j.val + 1 * (x 0).val = j.val
    have := (x 0).isLt
    have : (x 0).val < 1 := this
    omega
  | ⟨1, _⟩ =>
    apply Fin.ext
    show 0 + 1 * (x 1).val = (x 1).val
    omega

theorem embW {off : Fin 3 → ℕ} {inb : ∀ a, off a + S1x128x256.size a ≤ S2x128x256.size a} (b : Fin 2) (h : off = ![b.val, 0, 0])
    (x : (Rect.unit (s := S2x128x256) off S1x128x256.size inb).shape.Idx) : (Rect.unit (s := S2x128x256) off S1x128x256.size inb).emb x = ixW b (x 1) (x 2) := by
  subst h
  funext a
  match a with
  | ⟨0, _⟩ =>
    apply Fin.ext
    show b.val + 1 * (x 0).val = b.val
    have : (x 0).val < 1 := (x 0).isLt
    omega
  | ⟨1, _⟩ =>
    apply Fin.ext
    show 0 + 1 * (x 1).val = (x 1).val
    omega
  | ⟨2, _⟩ =>
    apply Fin.ext
    show 0 + 1 * (x 2).val = (x 2).val
    omega

/-- The row of `x` that a slot holding `t` reads. -/
def xRow (X : (cc0_stg0_0 : Ref sig .tc).ty.Contents (Elt F)) (t : Fin 257) : S1x128.Idx → Elt F .bf16 :=
  fun i => X (ixX ⟨min t.val 255, by omega⟩ (i 1))
/-- One expert's weights. -/
def wBlk (Wt : (cc0_stg2_0 : Ref sig .tc).ty.Contents (Elt F)) (b : Fin 2) : S1x128x256.Idx → Elt F .bf16 :=
  fun i => Wt (ixW b (i 1) (i 2))

theorem wp_getX {off : Fin 2 → ℕ} {inb : ∀ a, off a + S1x128.size a ≤ S256x128.size a} (t : Fin 257) (h : off = ![min t.val 255, 0])
    {X : (cc0_stg0_0 : Ref sig .tc).ty.Contents (Elt F)} {hl} {α : Type} {Q : α → sProp 𝕄} {k : (S1x128.Idx → Elt F .bf16) → Prog (TpuEff nD τ sig (Elt F) Λ₀ .tc) α} :
    (((c : Thread nD τ).loc cc0_stg0_0) ↦{fullShare} X : sProp 𝕄)
      ⊢ iprop(((((c : Thread nD τ).loc cc0_stg0_0) ↦{fullShare} X) -∗ wp frame (wpE (defs₀ (F := F)) 𝒱₀ (c : Thread nD τ) none) Set.univ (k (xRow X t)) Q) -∗ wp frame (wpE (defs₀ (F := F)) 𝒱₀ (c : Thread nD τ) none) Set.univ (.op (.load xM (Rect.unit (s := S256x128) off S1x128.size inb).toLoadRect hl) k) Q) := by
  have e : (xM.access (Rect.unit (s := S256x128) off S1x128.size inb) : View sig .tc _ _ _).read (Elt F) X = xRow X t :=
    funext fun x => one_read cc0_stg0_0 (Rect.unit (s := S256x128) off S1x128.size inb) x X _ (embX ⟨min t.val 255, by omega⟩ h x)
  rw [← e]
  exact wp_load_rect 𝒱₀ (c : Thread nD τ) none Set.univ (m := xM) (r := Rect.unit (s := S256x128) off S1x128.size inb) (hl := hl) (Finset.subset_univ _)

theorem wp_getW {off : Fin 3 → ℕ} {inb : ∀ a, off a + S1x128x256.size a ≤ S2x128x256.size a} (b : Fin 2) (h : off = ![b.val, 0, 0])
    {Wt : (cc0_stg2_0 : Ref sig .tc).ty.Contents (Elt F)} {hl} {α : Type} {Q : α → sProp 𝕄} {k : (S1x128x256.Idx → Elt F .bf16) → Prog (TpuEff nD τ sig (Elt F) Λ₀ .tc) α} :
    (((c : Thread nD τ).loc cc0_stg2_0) ↦{fullShare} Wt : sProp 𝕄)
      ⊢ iprop(((((c : Thread nD τ).loc cc0_stg2_0) ↦{fullShare} Wt) -∗ wp frame (wpE (defs₀ (F := F)) 𝒱₀ (c : Thread nD τ) none) Set.univ (k (wBlk Wt b)) Q) -∗ wp frame (wpE (defs₀ (F := F)) 𝒱₀ (c : Thread nD τ) none) Set.univ (.op (.load wM (Rect.unit (s := S2x128x256) off S1x128x256.size inb).toLoadRect hl) k) Q) := by
  have e : (wM.access (Rect.unit (s := S2x128x256) off S1x128x256.size inb) : View sig .tc _ _ _).read (Elt F) Wt = wBlk Wt b :=
    funext fun x => one_read cc0_stg2_0 (Rect.unit (s := S2x128x256) off S1x128x256.size inb) x Wt _ (embW b h x)
  rw [← e]
  exact wp_load_rect 𝒱₀ (c : Thread nD τ) none Set.univ (m := wM) (r := Rect.unit (s := S2x128x256) off S1x128x256.size inb) (hl := hl) (Finset.subset_univ _)

abbrev cBlk (off : Fin 3 → ℕ) (inb : ∀ a, off a + S1x3x256.size a ≤ S2x3x256.size a) : Rect S2x3x256 := Rect.unit (s := S2x3x256) off S1x3x256.size inb

theorem cBlk_emb (b : Fin 2) {inb : ∀ a, (![b.val, 0, 0] : Fin 3 → ℕ) a + S1x3x256.size a ≤ S2x3x256.size a} (x : (cBlk ![b.val, 0, 0] inb).shape.Idx) (a : Fin 3) :
    (((cBlk ![b.val, 0, 0] inb).emb x) a).val = (![b.val, (x 1).val, (x 2).val] : Fin 3 → ℕ) a := by
  match a with
  | ⟨0, _⟩ =>
    show b.val + 1 * (x 0).val = b.val
    have : (x 0).val < 1 := (x 0).isLt
    omega
  | ⟨1, _⟩ =>
    show 0 + 1 * (x 1).val = (x 1).val
    omega
  | ⟨2, _⟩ =>
    show 0 + 1 * (x 2).val = (x 2).val
    omega

/-- One block of the exchange buffer, written. -/
theorem block_write (b : Fin 2) {inb : ∀ a, (![b.val, 0, 0] : Fin 3 → ℕ) a + S1x3x256.size a ≤ S2x3x256.size a} (f : (cc0_scratch0 : Ref sig .tc).ty.Contents (Elt F))
    (w : S1x3x256.Idx → Elt F .f32) (i : S2x3x256.Idx) :
    (cM.access (cBlk ![b.val, 0, 0] inb) : View sig .tc _ _ _).write (Elt F) f w Finset.univ i = if (i 0).val = b.val then w (ixB (i 1) (i 2)) else f i := by
  by_cases h : (i 0).val = b.val
  · rw [if_pos h]
    have e2 : (cM.access (cBlk ![b.val, 0, 0] inb) : View sig .tc _ _ _).emb (ixB (i 1) (i 2)) = i := by
      show (cBlk ![b.val, 0, 0] inb).emb (ixB (i 1) (i 2)) = i
      funext a
      apply Fin.ext
      rw [cBlk_emb b]
      match a with
      | ⟨0, _⟩ => exact h.symm
      | ⟨1, _⟩ => rfl
      | ⟨2, _⟩ => rfl
    have e := View.write_emb_of_mem (v := (cM.access (cBlk ![b.val, 0, 0] inb) : View sig .tc _ _ _)) (Val := Elt F) f w (Finset.mem_univ (ixB (i 1) (i 2)))
    rw [e2] at e
    exact e
  · rw [if_neg h]
    refine View.write_of_not_mem (v := (cM.access (cBlk ![b.val, 0, 0] inb) : View sig .tc _ _ _)) (Val := Elt F) f w Finset.univ ?_
    intro hm
    obtain ⟨y, -, hy⟩ := Finset.mem_map.mp hm
    have hy' : (cBlk ![b.val, 0, 0] inb).emb y = i := hy
    exact h (by rw [← hy']; exact cBlk_emb b y 0)

/-- What the exchange buffer holds in the end. -/
def commFull (X : (cc0_stg0_0 : Ref sig .tc).ty.Contents (Elt F)) (Wt : (cc0_stg2_0 : Ref sig .tc).ty.Contents (Elt F)) : (cc0_scratch0 : Ref sig .tc).ty.Contents (Elt F) :=
  fun i => if (i 0).val = 1
    then k0_pay11 (k0_pay10 (xRow X (heldAt T c (3 : Fin 6).val)) (xRow X (heldAt T c (4 : Fin 6).val)) (xRow X (heldAt T c (5 : Fin 6).val)) (wBlk Wt 1)) (ixB (i 1) (i 2))
    else k0_pay9 (xRow X (heldAt T c (0 : Fin 6).val)) (xRow X (heldAt T c (1 : Fin 6).val)) (xRow X (heldAt T c (2 : Fin 6).val)) (wBlk Wt 0) (ixB (i 1) (i 2))

theorem two_writes {inb0 : ∀ a, (![0, 0, 0] : Fin 3 → ℕ) a + S1x3x256.size a ≤ S2x3x256.size a} {inb1 : ∀ a, (![1, 0, 0] : Fin 3 → ℕ) a + S1x3x256.size a ≤ S2x3x256.size a}
    (f : (cc0_scratch0 : Ref sig .tc).ty.Contents (Elt F)) (p q : S1x3x256.Idx → Elt F .f32) :
    (cM.access (cBlk ![1, 0, 0] inb1) : View sig .tc _ _ _).write (Elt F) ((cM.access (cBlk ![0, 0, 0] inb0) : View sig .tc _ _ _).write (Elt F) f p Finset.univ) q Finset.univ
      = fun i => if (i 0).val = 1 then q (ixB (i 1) (i 2)) else p (ixB (i 1) (i 2)) := by
  funext i
  refine (block_write (1 : Fin 2) _ q i).trans ?_
  show (if (i 0).val = 1 then _ else _) = _
  by_cases h : (i 0).val = 1
  · rw [if_pos h, if_pos h]
  · rw [if_neg h, if_neg h]
    refine (block_write (0 : Fin 2) f p i).trans (if_pos ?_)
    have : (i 0).val < 2 := (i 0).isLt
    show (i 0).val = 0
    omega

theorem wp_getC {off : Fin 3 → ℕ} {inb : ∀ a, off a + S1x3x256.size a ≤ S2x3x256.size a}
    {f : (cc0_scratch0 : Ref sig .tc).ty.Contents (Elt F)} {hl} {α : Type} {Q : α → sProp 𝕄} {k : (S1x3x256.Idx → Elt F .f32) → Prog (TpuEff nD τ sig (Elt F) Λ₀ .tc) α} :
    (((c : Thread nD τ).loc cc0_scratch0) ↦{fullShare} f : sProp 𝕄)
      ⊢ iprop(((((c : Thread nD τ).loc cc0_scratch0) ↦{fullShare} f) -∗ wp frame (wpE (defs₀ (F := F)) 𝒱₀ (c : Thread nD τ) none) Set.univ (k ((cM.access (cBlk off inb) : View sig .tc _ _ _).read (Elt F) f)) Q) -∗ wp frame (wpE (defs₀ (F := F)) 𝒱₀ (c : Thread nD τ) none) Set.univ (.op (.load cM (cBlk off inb).toLoadRect hl) k) Q) :=
  wp_load_rect 𝒱₀ (c : Thread nD τ) none Set.univ (m := cM) (r := cBlk off inb) (hl := hl) (Finset.subset_univ _)

theorem wp_putC {off : Fin 3 → ℕ} {inb : ∀ a, off a + S1x3x256.size a ≤ S2x3x256.size a}
    {f : (cc0_scratch0 : Ref sig .tc).ty.Contents (Elt F)} {w : S1x3x256.Idx → Elt F .f32}
    {hx : (cM.access (cBlk off inb) : View sig .tc _ _ _).Stores Finset.univ} {hm : Finset.univ = Finset.univ ∨ ∀ a, (cBlk off inb).stride a = 1}
    {α : Type} {Q : α → sProp 𝕄} {k : PUnit → Prog (TpuEff nD τ sig (Elt F) Λ₀ .tc) α} :
    (((c : Thread nD τ).loc cc0_scratch0) ↦{fullShare} f : sProp 𝕄)
      ⊢ iprop(((((c : Thread nD τ).loc cc0_scratch0) ↦{fullShare} ((cM.access (cBlk off inb) : View sig .tc _ _ _).write (Elt F) f w Finset.univ)) -∗ wp frame (wpE (defs₀ (F := F)) 𝒱₀ (c : Thread nD τ) none) Set.univ (k ⟨⟩) Q)
        -∗ wp frame (wpE (defs₀ (F := F)) 𝒱₀ (c : Thread nD τ) none) Set.univ (.op (.store cM (cBlk off inb) w Finset.univ hx hm) k) Q) :=
  wp_store 𝒱₀ (c : Thread nD τ) none Set.univ (m := cM) (r := cBlk off inb) (Finset.subset_univ _)

variable (h0 : (Memref.whole cc0_stg0_0 : Memref sig .tc .vmem S256x128 .bf16).IsWhole) (h1 : (Memref.whole cc0_stg1_0 : Memref sig .tc .smem S256x1 .i32).IsWhole)
  (h2 : (Memref.whole cc0_stg2_0 : Memref sig .tc .vmem S2x128x256 .bf16).IsWhole) (h3 : (Memref.whole cc0_stg3_0 : Memref sig .tc .vmem S8x256 .f32).IsWhole)
  (h4 : (Memref.whole cc0_scratch0 : Memref sig .tc .vmem S2x3x256 .f32).IsWhole) (h5 : (Memref.whole cc0_scratch1 : Memref sig .tc .smem S64 .i32).IsWhole)
  (h6 : (Memref.whole cc0_scratch2 : Memref sig .tc .smem S6 .i32).IsWhole) (h7 : (Memref.whole cc0_scratch3 : Memref sig .tc .smem S8 .i32).IsWhole)
  (h8 : (Memref.whole cc0_scratch4 : Memref sig .tc .smem S1 .i32).IsWhole)
/-- The buffers a device computes from, and the exchange buffer. -/
abbrev xPts (X : (cc0_stg0_0 : Ref sig .tc).ty.Contents (Elt F)) : sProp 𝕄 := iprop(((c : Thread nD τ).loc cc0_stg0_0) ↦{fullShare} X)
abbrev wPts (Wt : (cc0_stg2_0 : Ref sig .tc).ty.Contents (Elt F)) : sProp 𝕄 := iprop(((c : Thread nD τ).loc cc0_stg2_0) ↦{fullShare} Wt)
abbrev cPts (f : (cc0_scratch0 : Ref sig .tc).ty.Contents (Elt F)) : sProp 𝕄 := iprop(((c : Thread nD τ).loc cc0_scratch0) ↦{fullShare} f)

set_option maxHeartbeats 4000000 in
theorem part8_run (X : (cc0_stg0_0 : Ref sig .tc).ty.Contents (Elt F)) (Wt : (cc0_stg2_0 : Ref sig .tc).ty.Contents (Elt F)) (a b : BitVec 32)
    {α : Type} {Q : α → sProp 𝕄} {kk : _ → Prog (TpuEff nD τ sig (Elt F) Λ₀ .tc) α} :
    iprop(xPts c X ∗ wPts c Wt ∗ ∃ f, cPts c f)
      ⊢ iprop((∀ f d0 d1 d2 d3 d4 d5, (xPts c X ∗ wPts c Wt
          ∗ cPts c ((cM.access (cBlk ![0, 0, 0] inb_S2x3x256_S1x3x256_0_0_0) : View sig .tc _ _ _).write (Elt F) f (k0_pay9 (xRow X (heldAt T c (0 : Fin 6).val)) (xRow X (heldAt T c (1 : Fin 6).val)) (xRow X (heldAt T c (2 : Fin 6).val)) (wBlk Wt 0)) Finset.univ)) -∗
        wp frame (wpE (defs₀ (F := F)) 𝒱₀ (c : Thread nD τ) none) Set.univ (kk ⟨d0, d1, d2, d3, d4, k0_pay10 (xRow X (heldAt T c (3 : Fin 6).val)) (xRow X (heldAt T c (4 : Fin 6).val)) (xRow X (heldAt T c (5 : Fin 6).val)) (wBlk Wt 1), d5⟩) Q) -∗ wp frame (wpE (defs₀ (F := F)) 𝒱₀ (c : Thread nD τ) none) Set.univ (k0_part8 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c
          (wd (heldAt T c (0 : Fin 6).val).val) (chk11_ok c (heldAt T c (0 : Fin 6).val)) (wd (heldAt T c (1 : Fin 6).val).val) (chk12_ok c (heldAt T c (1 : Fin 6).val)) (wd (heldAt T c (2 : Fin 6).val).val) (chk13_ok c (heldAt T c (2 : Fin 6).val)) (wd (heldAt T c (3 : Fin 6).val).val) (chk14_ok c (heldAt T c (3 : Fin 6).val)) (wd (heldAt T c (4 : Fin 6).val).val) (chk15_ok c (heldAt T c (4 : Fin 6).val)) (wd (heldAt T c (5 : Fin 6).val).val) (chk16_ok c (heldAt T c (5 : Fin 6).val)) a b >>= kk) Q) := by
  rw [k0_part8_eq_skeleton]
  unfold k0_part8_skel
  simp only [Prog.lift, Prog.bind_op, Prog.bind_ret, Prog.pure_eq_ret, Prog.bind_assoc]
  iintro ⟨Hx, Hw, ⟨%f, Hc⟩⟩ Hk
  iapply (wp_getX c (heldAt T c (0 : Fin 6).val) (off14_eq _)) $$ Hx
  iintro Hx
  iapply (wp_getX c (heldAt T c (1 : Fin 6).val) (off15_eq _)) $$ Hx
  iintro Hx
  iapply (wp_getX c (heldAt T c (2 : Fin 6).val) (off16_eq _)) $$ Hx
  iintro Hx
  iapply (wp_getW c 0 rfl) $$ Hw
  iintro Hw
  iapply (wp_getC c) $$ Hc
  iintro Hc
  iapply (wp_putC c) $$ Hc
  iintro Hc
  iapply (wp_getX c (heldAt T c (3 : Fin 6).val) (off17_eq _)) $$ Hx
  iintro Hx
  iapply (wp_getX c (heldAt T c (4 : Fin 6).val) (off18_eq _)) $$ Hx
  iintro Hx
  iapply (wp_getX c (heldAt T c (5 : Fin 6).val) (off19_eq _)) $$ Hx
  iintro Hx
  iapply (wp_getW c 1 rfl) $$ Hw
  iintro Hw
  iapply (wp_getC c) $$ Hc
  iintro Hc
  iapply Hk
  isplitl [Hx]; · iexact Hx
  isplitl [Hw]; · iexact Hw
  iexact Hc

end Cert.Moe
-- ==== Proof.Wait.lean ====
module

public import proofs.«01_k».proof.Proof.Store

@[expose] public section

/-!
# The wait for the signals

A device waits for one signal per token of another device that its experts are to
handle. Each such signal of a token that goes through hands over the row the token's
output goes to.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

variable (T : Tab) (V : Fin 256 → S1x256.Idx → Elt F .f32) (κ : GSem nD τ sig → ℕ) (c : Dev nD)

/-- After `k` signals. -/
def WaitSt (k : ℕ) : sProp 𝕄 :=
  iprop(∃ S : Finset (Fin 256), ⌜S ⊆ callers T c ∧ k + (callers T c \ S).card ≤ (callers T c).card⌝
    ∗ atPos EB (barCell c) 0 S k ∗ (bigSep S fun i => barPay T i)
    ∗ cred (tallyAt (barCell c) 4 ((callers T c).card - k)) ∗ ∃ W, owes (c : Thread nD τ) (∑ s : Fin 6, sendDues T c s) W)

/-- It may wait, for the copies it still owes come later. -/
theorem may_wait : (ctx T V κ c : sProp 𝕄) ⊢ MayWait (c : Thread nD τ) (.reg barS) 4 (∑ s : Fin 6, sendDues T c s) := by
  unfold ctx
  iintro ⟨-, -, -, -, H⟩
  iapply (SiteBlocks.mayWait_of (N := NL) (i := 4) (by decide) c (.reg barS) (∑ s : Fin 6, sendDues T c s) ?_) $$ H
  intro g k h
  have := sendDues_above T (e := id) h
  exact ⟨this.1, by omega⟩

set_option maxHeartbeats 4000000 in
theorem wait_block {k : ℕ} (hk : k < (callers T c).card) {α : Type} {Q : α → sProp 𝕄} {kk : Prog (TpuEff nD τ sig (Elt F) Λ₀ .tc) α} :
    iprop(ctx T V κ c ∗ WaitSt T c k ∗ (WaitSt T c (k + 1) -∗ wp frame (wpE (defs₀ (F := F)) 𝒱₀ (c : Thread nD τ) none) Set.univ kk Q))
      ⊢ wp frame (wpE (defs₀ (F := F)) 𝒱₀ (c : Thread nD τ) none) Set.univ (.op (.semWait barS (1#32 : BitVec 32).toInt) (fun _ => kk)) Q := by
  unfold WaitSt
  rw [show (1#32 : BitVec 32).toInt = ((1 : ℕ) : Int) from rfl]
  iintro ⟨#HX, ⟨%S, %hS, Hat, Hp, Hc, ⟨%W, HO⟩⟩, Hk⟩
  ihave #Hi := (inv_bar T V κ c c) $$ HX
  have e : (tallyAt (barCell c) 4 ((callers T c).card - k) : CellTallies nD τ sig ℕ)
      = tallyOn (barCell c) (Finsupp.single 4 1) + tallyAt (barCell c) 4 ((callers T c).card - (k + 1)) := by
    show _ = tallyAt (barCell c) 4 1 + _
    rw [tallyAt_add]
    congr 1
    omega
  ihave Hc := (show (cred (tallyAt (barCell c) 4 ((callers T c).card - k)) : sProp 𝕄)
      ⊢ iprop(cred (tallyOn (barCell c) (Finsupp.single 4 1)) ∗ cred (tallyAt (barCell c) 4 ((callers T c).card - (k + 1)))) from by
    rw [e]; exact (cred_add _ _).1) $$ Hc
  icases Hc with ⟨Hc1, Hc⟩
  ihave HM := (may_wait T V κ c) $$ HX
  iapply (Rounds.wp_wait 𝒱₀ EB (Rd T V) (c : Thread nD τ) none (sm := .reg barS) (k' := 1) (κ := κ (barCell c))
    (wpE_semWait_eq 𝒱₀ (c : Thread nD τ) none Set.univ) (Set.mem_univ _) (cr := Finsupp.single 4 1) (W := W) {((.reg barS : SemLoc sig), (4 : ℕ))} (R := 0) (m := k) (T := S)
    (by rw [Idealize.SL.Util.total_single]) (by
      intro p hp
      obtain ⟨i, hi, rfl⟩ := Finset.mem_image.mp hp
      have := Finsupp.support_single_subset hi
      rw [Finset.mem_singleton.mp this]
      exact Finset.mem_singleton_self _)) $$ [Hc1 HO HM Hat]
  · isplitr; · iexact Hi
    isplitl [Hc1]; · iexact Hc1
    isplitl [HO]; · iexact HO
    isplitl [HM]; · iexact HM
    iexact Hat
  iintro %S' ⟨%hS', HO, Hat, Hq⟩
  have h2 := hS'.2.1
  have h3 := hS'.2.2
  rw [duties_bar] at h2
  rw [duties_bar, expect_bar] at h3
  iapply Hk
  iexists S'
  isplitr
  · ipureintro; exact ⟨h2, h3⟩
  isplitl [Hat]; · iexact Hat
  isplitl [Hp Hq]
  · iapply (show iprop((bigSep S fun i => (barPay T i : sProp 𝕄)) ∗ bigSep (S' \ S) fun i => (Rd T V).payload (barCell c) 0 i) ⊢ (bigSep S' fun i => (barPay T i : sProp 𝕄)) from
      Entails.of_eq (bigSep_sdiff_split hS'.1).symm)
    isplitl [Hp]
    · iexact Hp
    · iexact Hq
  isplitl [Hc]; · iexact Hc
  iexists _; iexact HO

/-! ## What the signals bring -/

variable (Cm : (cc0_scratch0 : Ref sig .tc).ty.Contents (Elt F))

def slotEquiv : Fin 6 ≃ Fin 2 × Fin 3 where
  toFun := slotP
  invFun p := ⟨3 * p.1.val + p.2.val, by omega⟩
  left_inv := by decide
  right_inv := by decide

theorem split_slots (f : (cc0_scratch0 : Ref sig .tc).ty.Contents (Elt F)) :
    ((((c : Thread nD τ).loc cc0_scratch0) ↦{fullShare} f) : sProp 𝕄) = bigSep Finset.univ fun s : Fin 6 => slotPts c f s :=
  (split_comm c f).trans (bigSep_univ_equiv slotEquiv _)

/-- The slots, whatever they hold, are the whole exchange buffer. -/
theorem join_comm : (bigSep Finset.univ fun s : Fin 6 => anySlot c (slotP s) : sProp 𝕄)
    ⊢ iprop(∃ f : (cc0_scratch0 : Ref sig .tc).ty.Contents (Elt F), (((c : Thread nD τ).loc cc0_scratch0) ↦{fullShare} f)) := by
  haveI : Nonempty ((cc0_scratch0 : Ref sig .tc).ty.Contents (Elt F)) := ⟨fun _ => Scalar.ofBits .f32 0⟩
  refine (Entails.of_eq (bigSep_univ_equiv slotEquiv (fun p => (anySlot c p : sProp 𝕄))).symm).trans ?_
  unfold anySlot
  iintro H
  ihave H := (bigSep_exists_pi (Y := fun _ : Fin 2 × Fin 3 => (cc0_scratch0 : Ref sig .tc).ty.Contents (Elt F)) Finset.univ _) $$ H
  icases H with ⟨%fs, H⟩
  ihave H := (pointsTo_biUnion_join (ℓ := (c : Thread nD τ).loc cc0_scratch0) (q := fullShare) Finset.univ cSet fs (fs (0, 0)) cSet_disj) $$ H
  icases H with ⟨%g, -, H⟩
  rw [cSet_all]
  iexists g
  iexact H

/-- The duties of the copies. -/
def sendToks : sProp 𝕄 :=
  bigSep Finset.univ fun s : Fin 6 => bigSep (sent T c s) fun i =>
    iprop(dutyTok EB (sendTok T i).1 (sendTok T i).2.1 (sendTok T i).2.2 ∗ dutyTok EB (recvTok i).1 (recvTok i).2.1 (recvTok i).2.2)

theorem slot_of (s : Fin 6) (i : Fin 256) (hi : i ∈ sent T c s) :
    iprop((dutyTok EB (sendTok T i).1 (sendTok T i).2.1 (sendTok T i).2.2 ∗ dutyTok EB (recvTok i).1 (recvTok i).2.1 (recvTok i).2.2) ∗ (barPay T i : sProp 𝕄))
      ⊢ toSend (F := F) c s i := by
  have h := mem_sent.mp hi
  unfold toSend barPay sendTok recvTok
  simp only [if_pos h.1.2.1, slotF_of h.1, h.1.1]
  iintro ⟨⟨H1, H2⟩, H3, H4⟩
  isplitl [H1]; · iexact H1
  isplitl [H2]; · iexact H2
  isplitl [H3]; · iexact H3
  iexact H4

theorem slots_ready : iprop((((c : Thread nD τ).loc cc0_scratch0) ↦{fullShare} Cm) ∗ sendToks T c ∗ (bigSep (callers T c) fun i => barPay T i) : sProp 𝕄)
    ⊢ bigSep Finset.univ (slotA T c Cm) := by
  have hsub : sentAll T c ⊆ callers T c := fun i hi => by
    have := mem_sentAll.mp hi
    exact Finset.mem_filter.mpr ⟨Finset.mem_univ _, this.1, this.2.2⟩
  rw [split_slots]
  unfold sendToks
  iintro ⟨Hc, Ht, Hp⟩
  ihave Hp := (show (bigSep (callers T c) fun i => (barPay T i : sProp 𝕄)) ⊢ (bigSep Finset.univ fun s : Fin 6 => bigSep (sent T c s) fun i => (barPay T i : sProp 𝕄)) from
    (bigSep_subset hsub).trans (Entails.of_eq (bigSep_biUnion_eq _ _ _ (sent_disj T c)))) $$ Hp
  iapply (show iprop((bigSep Finset.univ fun s : Fin 6 => slotPts c Cm s) ∗ (bigSep Finset.univ fun s : Fin 6 => bigSep (sent T c s) fun i =>
      iprop(dutyTok EB (sendTok T i).1 (sendTok T i).2.1 (sendTok T i).2.2 ∗ dutyTok EB (recvTok i).1 (recvTok i).2.1 (recvTok i).2.2))
      ∗ (bigSep Finset.univ fun s : Fin 6 => bigSep (sent T c s) fun i => (barPay T i : sProp 𝕄)) : sProp 𝕄) ⊢ bigSep Finset.univ (slotA T c Cm) from by
    rw [← bigSep_sep', ← bigSep_sep']
    refine bigSep_mono fun s _ => ?_
    unfold slotA
    refine sep_mono (Entails.refl _) ?_
    rw [← bigSep_sep']
    exact bigSep_mono fun i hi => slot_of T c s i hi)
  isplitl [Hc]; · iexact Hc
  isplitl [Ht]; · iexact Ht
  iexact Hp

/-- The whole wait. -/
theorem wait_start : iprop(atPos EB (barCell c) 0 ∅ 0 ∗ cred (tallyAt (barCell c) 4 (callers T c).card) ∗ ∃ W, owes (c : Thread nD τ) (∑ s : Fin 6, sendDues T c s) W : sProp 𝕄)
    ⊢ WaitSt T c 0 := by
  unfold WaitSt
  iintro ⟨H1, H2, H3⟩
  iexists (∅ : Finset (Fin 256))
  isplitr
  · ipureintro; exact ⟨Finset.empty_subset _, by simp⟩
  isplitl [H1]; · iexact H1
  isplitr; · rw [bigSep_empty]; iempintro
  isplitl [H2]; · iexact H2
  iexact H3

theorem wait_end : iprop(ctx T V κ c ∗ WaitSt T c (callers T c).card : sProp 𝕄)
    ⊢ |={Set.univ}=> iprop(atPos EB (barCell c) 1 ∅ 0 ∗ (bigSep (callers T c) fun i => barPay T i) ∗ ∃ W, owes (c : Thread nD τ) (∑ s : Fin 6, sendDues T c s) W) := by
  unfold WaitSt
  iintro ⟨#HX, ⟨%S, %hS, Hat, Hp, Hc, HO⟩⟩
  have e : S = callers T c := Finset.Subset.antisymm hS.1 (by
    have : (callers T c \ S).card = 0 := by have := hS.2; omega
    rw [← Finset.sdiff_eq_empty_iff_subset]; exact Finset.card_eq_zero.mp this)
  subst e
  ihave #Hi := (inv_bar T V κ c c) $$ HX
  imod (Rounds.fupd_skip EB (Rd T V) (κ := κ (barCell c)) (g := barCell c) (R := 0) (m := (callers T c).card) (T := callers T c) (by rw [duties_bar]) (by rw [expect_bar]) (Es := Set.univ) (Set.mem_univ _)) $$ [Hat] with H
  · isplitr
    · iexact Hi
    · iexact Hat
  icases H with ⟨Hat, -⟩
  imodintro
  isplitl [Hat]; · iexact Hat
  isplitl [Hp]; · iexact Hp
  iexact HO

end Cert.Moe
-- ==== Proof.Exchange.lean ====
module

public import proofs.«01_k».proof.Proof.Wait

@[expose] public section

/-!
# The exchange

Slot by slot the copies are started, then their ends are waited for, then, row by row, the
arrivals.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

variable (T : Tab) (V : Fin 256 → S1x256.Idx → Elt F .f32) (κ : GSem nD τ sig → ℕ) (c : Dev nD)
variable (Cm : (cc0_scratch0 : Ref sig .tc).ty.Contents (Elt F))

theorem slot_remote (s : ℕ) : ((heldAt T c s).val < 256 ∧ (heldAt T c s).val / 8 ≠ c.val) ↔ ∃ i, At T c s i ∧ home i ≠ c := by
  rcases heldAt_cases T c s with ⟨i, hi, e⟩ | ⟨hn, e⟩
  · rw [e]
    exact ⟨fun h => ⟨i, hi, fun he => h.2 (congrArg Fin.val he)⟩, fun ⟨j, hj, hne⟩ => ⟨i.isLt, fun he => hne (by rw [At_unique hj hi]; exact Fin.ext he)⟩⟩
  · rw [e]
    exact ⟨fun h => absurd h.1 (by decide), fun ⟨i, hi, _⟩ => absurd ⟨i, hi⟩ hn⟩

theorem slot_local (s : ℕ) : ((heldAt T c s).val < 256 ∧ (heldAt T c s).val / 8 = c.val) ↔ ∃ i, At T c s i ∧ home i = c := by
  rcases heldAt_cases T c s with ⟨i, hi, e⟩ | ⟨hn, e⟩
  · rw [e]
    exact ⟨fun h => ⟨i, hi, Fin.ext h.2⟩, fun ⟨j, hj, he⟩ => ⟨i.isLt, by rw [At_unique hj hi] at he; exact congrArg Fin.val he⟩⟩
  · rw [e]
    exact ⟨fun h => absurd h.1 (by decide), fun ⟨i, hi, _⟩ => absurd ⟨i, hi⟩ hn⟩

theorem slot_val {s : ℕ} {A : Type} {g : BitVec 32 → A} {y : ℕ → A} (h : ∀ t : Fin 256, g (wd t.val) = y t.val) {i : Fin 256} (hi : At T c s i) :
    g (wd (heldAt T c s).val) = y i.val := by
  rw [heldAt_of hi]; exact h i

theorem row_iff (r : Fin 8) : recvCond c (wd (T (tok c r)).val) (if under T (tok c r) then 1#32 else 0#32) = 1#1 ↔ travels T (tok c r) := by
  have h := recvCond_iff c (T (tok c r)) (decide (under T (tok c r)))
  simp only [decide_eq_true_eq] at h
  refine h.trans ⟨fun h => ⟨h.1, fun e => h.2 ?_⟩, fun h => ⟨h.1, fun e => h.2 ?_⟩⟩
  · rw [home_tok] at e; exact congrArg Fin.val e
  · rw [home_tok]; exact Fin.ext e

/-- When all copies are started, the waits begin. -/
theorem swait_start : iprop(SendSt T c Cm 6 ∗ bigSep Finset.univ fun s : Fin 6 => atPos EB (sendCell c s) 0 ∅ 0 : sProp 𝕄) ⊢ SwSt T c Cm 0 := by
  unfold SendSt SwSt
  rw [tail_all, march_all, march_zero]
  unfold slotC
  rw [bigSep_sep']
  iintro ⟨⟨H, HO⟩, Ha⟩
  isplitl [H Ha]
  · isplitl [H]; · iexact H
    iexact Ha
  · iexact HO

theorem swait_end : (SwSt T c Cm 6 : sProp 𝕄) ⊢ iprop((bigSep Finset.univ fun s : Fin 6 => slotD c s) ∗ ∃ W, owes (c : Thread nD τ) 0 W) := by
  unfold SwSt
  rw [march_all]

theorem rwait_start : iprop((bigSep Finset.univ (rowL T V c 6)) ∗ (bigSep Finset.univ fun r : Fin 8 => cred (rowCred T c r)) ∗ (bigSep Finset.univ fun r : Fin 8 => atPos EB (recvCell c r) 0 ∅ 0)
    ∗ ∃ W, owes (c : Thread nD τ) 0 W : sProp 𝕄) ⊢ RwSt T V c 0 := by
  unfold RwSt
  rw [rowL_six, march_zero]
  unfold rowE
  rw [bigSep_sep', bigSep_sep']
  iintro ⟨H1, H2, H3, HO⟩
  isplitl [H1 H2 H3]
  · isplitl [H1]; · iexact H1
    isplitl [H2]; · iexact H2
    iexact H3
  · iexact HO

theorem rwait_end : (RwSt T V c 8 : sProp 𝕄) ⊢ iprop((bigSep Finset.univ fun r : Fin 8 => ownsRow c r (V (tok c r))) ∗ (bigSep Finset.univ fun r : Fin 8 => semVal (recvCell c r) 0) ∗ ∃ W, owes (c : Thread nD τ) 0 W) := by
  unfold RwSt
  rw [march_all]
  unfold rowF
  rw [bigSep_sep']
  iintro ⟨⟨H1, H2⟩, HO⟩
  isplitl [H1]; · iexact H1
  isplitl [H2]; · iexact H2
  iexact HO

variable (h0 : (Memref.whole cc0_stg0_0 : Memref sig .tc .vmem S256x128 .bf16).IsWhole) (h1 : (Memref.whole cc0_stg1_0 : Memref sig .tc .smem S256x1 .i32).IsWhole)
  (h2 : (Memref.whole cc0_stg2_0 : Memref sig .tc .vmem S2x128x256 .bf16).IsWhole) (h3 : (Memref.whole cc0_stg3_0 : Memref sig .tc .vmem S8x256 .f32).IsWhole)
  (h4 : (Memref.whole cc0_scratch0 : Memref sig .tc .vmem S2x3x256 .f32).IsWhole) (h5 : (Memref.whole cc0_scratch1 : Memref sig .tc .smem S64 .i32).IsWhole)
  (h6 : (Memref.whole cc0_scratch2 : Memref sig .tc .smem S6 .i32).IsWhole) (h7 : (Memref.whole cc0_scratch3 : Memref sig .tc .smem S8 .i32).IsWhole)
  (h8 : (Memref.whole cc0_scratch4 : Memref sig .tc .smem S1 .i32).IsWhole)
variable (hCm : ∀ s i, At T c s.val i → V i = (cRow (slotP s).1 (slotP s).2).view.read (Elt F) Cm)

set_option maxHeartbeats 4000000 in
include hCm in
theorem part9_run (X : (cc0_stg0_0 : Ref sig .tc).ty.Contents (Elt F)) (Wt : (cc0_stg2_0 : Ref sig .tc).ty.Contents (Elt F)) (hC : Cm = commFull T c X Wt) (f : (cc0_scratch0 : Ref sig .tc).ty.Contents (Elt F)) (v239 : BitVec 32) (v274 : Vec F S1x3x256 .f32) {α : Type} {Q : α → sProp 𝕄} {kk : _ → Prog (TpuEff nD τ sig (Elt F) Λ₀ .tc) α} :
    iprop(ctx T V κ c ∗ KnowSt T c ∗ cPts c ((cM.access (cBlk ![0, 0, 0] inb_S2x3x256_S1x3x256_0_0_0) : View sig .tc _ _ _).write (Elt F) f (k0_pay9 (xRow X (heldAt T c (0 : Fin 6).val)) (xRow X (heldAt T c (1 : Fin 6).val)) (xRow X (heldAt T c (2 : Fin 6).val)) (wBlk Wt 0)) Finset.univ) ∗ WaitSt T c 0 ∗ sendToks T c)
      ⊢ iprop((∀ a b, (KnowSt T c ∗ atPos EB (barCell c) 1 ∅ 0 ∗ SendSt T c Cm 1) -∗ wp frame (wpE (defs₀ (F := F)) 𝒱₀ (c : Thread nD τ) none) Set.univ (kk ⟨a, b⟩) Q) -∗
        wp frame (wpE (defs₀ (F := F)) 𝒱₀ (c : Thread nD τ) none) Set.univ (k0_part9 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c (me c) (SemArray.scalar (sig.barrier 0 rfl)) (wd (heldAt T c (0 : Fin 6).val).val) (chk11_ok c (heldAt T c (0 : Fin 6).val)) v239 (k0_pay10 (xRow X (heldAt T c (3 : Fin 6).val)) (xRow X (heldAt T c (4 : Fin 6).val)) (xRow X (heldAt T c (5 : Fin 6).val)) (wBlk Wt 1)) v274 >>= kk) Q) := by
  rw [k0_part9_eq_skeleton]
  unfold k0_part9_skel
  simp only [Prog.lift, Prog.bind_op, Prog.bind_ret, Prog.pure_eq_ret, Prog.bind_assoc, bind_dite, bind_ite]
  iintro ⟨#HX, HK, Hc, Hw, Ht⟩ Hk
  iapply (wp_putC c) $$ Hc
  iintro Hc
  ihave Hc := (show (cPts c _ : sProp 𝕄) ⊢ cPts c Cm from Entails.of_eq (congrArg (cPts c) ((two_writes f _ _).trans hC.symm))) $$ Hc
  iapply (know_calls T c rfl) $$ HK
  iintro HK
  have hcard : (callers T c).card < 257 := Nat.lt_succ_of_le (by rw [← callsN_all]; exact callsN_le T c 256)
  simp only [wp_assume_of _ _ _ _ (d := k0_chk17.dec _) (chk17_ok ⟨(callers T c).card, hcard⟩)]
  have htr : (k0_t3_loop (wd (callers T c).card)).trips = (callers T c).card := t3_trips ⟨_, hcard⟩
  iapply (Scf.wp_for_bind frame (wpE (defs₀ (F := F)) 𝒱₀ (c : Thread nD τ) none) Set.univ _ _ _ (k0_t3_ok _ (chk17_ok ⟨(callers T c).card, hcard⟩)) _ _ (fun k _ => iprop(ctx T V κ c ∗ WaitSt T c k)) (fun k _ => by
      unfold k0_t3_body
      simp only [semWaitWord, Prog.lift, Prog.bind_op, Prog.bind_ret, Prog.pure_eq_ret, Prog.bind_assoc]
      iintro ⟨#HX, Hw⟩
      iapply (wait_block T V κ c (k := k.val) (lt_of_lt_of_eq k.isLt htr))
      isplitr; · iexact HX
      isplitl [Hw]; · iexact Hw
      iintro Hw
      rw [wp_ret]
      imodintro
      isplitr; · iexact HX
      iexact Hw)) $$ [Hw]
  · isplitr; · iexact HX
    iexact Hw
  iintro %_ ⟨-, Hw⟩
  imod (wait_end T V κ c) $$ [Hw] with H
  · isplitr; · iexact HX
    iapply (show (WaitSt T c (k0_t3_loop (wd (callers T c).card)).trips : sProp 𝕄) ⊢ WaitSt T c (callers T c).card from Entails.of_eq (by rw [htr]))
    iexact Hw
  icases H with ⟨Hat, Hp, HO⟩
  have htr0 : (k0_t4_loop (wd (callers T c).card)).trips = 0 := t4_trips ⟨_, hcard⟩
  iapply (Scf.wp_for_bind frame (wpE (defs₀ (F := F)) 𝒱₀ (c : Thread nD τ) none) Set.univ _ _ _ (k0_t4_ok _ (chk17_ok ⟨(callers T c).card, hcard⟩)) _ _ (fun _ _ => iprop(emp)) (fun k _ =>
      absurd (lt_of_lt_of_eq k.isLt htr0) (Nat.not_lt_zero _))) $$ []
  · iempintro
  iintro %_ -
  ihave HS := (show iprop((bigSep Finset.univ (slotA T c Cm)) ∗ ∃ W, owes (c : Thread nD τ) (∑ s : Fin 6, sendDues T c s) W) ⊢ (SendSt T c Cm 0 : sProp 𝕄) from by
    unfold SendSt
    rw [march_zero, tail_zero]) $$ [Hc Ht Hp HO]
  · isplitl [Hc Ht Hp]
    · iapply (slots_ready T c Cm)
      isplitl [Hc]; · iexact Hc
      isplitl [Ht]; · iexact Ht
      iexact Hp
    · iexact HO
  iapply (send_block T V κ c Cm hCm (k := 0) (ofc := ![0, 0, 0]) (ofs := ![0]) (by decide) ((cond20_iff c (heldAt T c (0 : Fin 6).val)).trans (slot_remote T c _)) (fun h i hi => Fin.ext (slot_val T c (s := (0 : Fin 6).val) (g := k0_dev9) (y := fun t => t / 8) dev9_eq hi)) rfl rfl
    (fun i hi => slot_val T c (s := (0 : Fin 6).val) (g := k0_off20) (y := fun t => ![t % 8]) off20_eq hi) (fun i hi => slot_val T c (s := (0 : Fin 6).val) (g := k0_off21) (y := fun t => ![t % 8, 0]) off21_eq hi))
  isplitr; · iexact HX
  isplitl [HS]; · iexact HS
  iintro HS
  iapply Hk
  isplitl [HK]; · iexact HK
  isplitl [Hat]; · iexact Hat
  iexact HS

set_option maxHeartbeats 4000000 in
include hCm in
theorem part10_run (v240 v241 v302 : BitVec 32) {α : Type} {Q : α → sProp 𝕄} {kk : _ → Prog (TpuEff nD τ sig (Elt F) Λ₀ .tc) α} :
    iprop(ctx T V κ c ∗ SendSt T c Cm 1 ∗ bigSep Finset.univ (rowL T V c 0))
      ⊢ iprop((∀ a b e g h i j, (SendSt T c Cm 2 ∗ bigSep Finset.univ (rowL T V c 2)) -∗ wp frame (wpE (defs₀ (F := F)) 𝒱₀ (c : Thread nD τ) none) Set.univ (kk ⟨a, b, e, g, h, i, j⟩) Q) -∗ wp frame (wpE (defs₀ (F := F)) 𝒱₀ (c : Thread nD τ) none) Set.univ (k0_part10 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c (me c) (wd (heldAt T c (0 : Fin 6).val).val) (chk11_ok c (heldAt T c (0 : Fin 6).val)) (wd (heldAt T c (1 : Fin 6).val).val) (chk12_ok c (heldAt T c (1 : Fin 6).val)) (wd (heldAt T c (2 : Fin 6).val).val) v240 v241 v302 >>= kk) Q) := by
  rw [k0_part10_eq_skeleton]
  unfold k0_part10_skel
  simp only [Prog.lift, Prog.bind_op, Prog.bind_ret, Prog.pure_eq_ret, Prog.bind_assoc, bind_dite, bind_ite]
  iintro ⟨#HX, HS, HL⟩ Hk
  iapply (copy_block T V c Cm hCm (k := 0) (ofc := ![0, 0, 0]) (by decide) ((cond21_iff c (heldAt T c (0 : Fin 6).val)).trans (slot_local T c _)) rfl
    (fun i hi => slot_val T c (s := (0 : Fin 6).val) (g := k0_off22) (y := fun t => ![t % 8, 0]) off22_eq hi) (pay := k0_pay12) (fun f => rfl))
  isplitl [HS HL]
  · isplitl [HS]; · iexact HS
    iexact HL
  iintro ⟨HS, HL⟩
  iapply (send_block T V κ c Cm hCm (k := 1) (ofc := ![0, 1, 0]) (ofs := ![1]) (by decide) ((cond22_iff c (heldAt T c (1 : Fin 6).val)).trans (slot_remote T c _)) (fun h i hi => Fin.ext (slot_val T c (s := (1 : Fin 6).val) (g := k0_dev10) (y := fun t => t / 8) dev10_eq hi)) rfl rfl
    (fun i hi => slot_val T c (s := (1 : Fin 6).val) (g := k0_off23) (y := fun t => ![t % 8]) off23_eq hi) (fun i hi => slot_val T c (s := (1 : Fin 6).val) (g := k0_off24) (y := fun t => ![t % 8, 0]) off24_eq hi))
  isplitr; · iexact HX
  isplitl [HS]; · iexact HS
  iintro HS
  iapply (copy_block T V c Cm hCm (k := 1) (ofc := ![0, 1, 0]) (by decide) ((cond23_iff c (heldAt T c (1 : Fin 6).val)).trans (slot_local T c _)) rfl
    (fun i hi => slot_val T c (s := (1 : Fin 6).val) (g := k0_off25) (y := fun t => ![t % 8, 0]) off25_eq hi) (pay := k0_pay13) (fun f => rfl))
  isplitl [HS HL]
  · isplitl [HS]; · iexact HS
    iexact HL
  iintro ⟨HS, HL⟩
  iapply Hk
  isplitl [HS]; · iexact HS
  iexact HL

set_option maxHeartbeats 4000000 in
include hCm in
theorem part11_run (v241 v242 : BitVec 32) (v339 : BitVec 1) (c8 v340 v345 v347 : BitVec 32) (v348 : BitVec 1) {α : Type} {Q : α → sProp 𝕄} {kk : _ → Prog (TpuEff nD τ sig (Elt F) Λ₀ .tc) α} :
    iprop(ctx T V κ c ∗ SendSt T c Cm 2 ∗ bigSep Finset.univ (rowL T V c 2))
      ⊢ iprop((∀ a b e g h i, (SendSt T c Cm 3 ∗ bigSep Finset.univ (rowL T V c 3)) -∗ wp frame (wpE (defs₀ (F := F)) 𝒱₀ (c : Thread nD τ) none) Set.univ (kk ⟨a, b, e, g, h, i⟩) Q) -∗ wp frame (wpE (defs₀ (F := F)) 𝒱₀ (c : Thread nD τ) none) Set.univ (k0_part11 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c (me c) (wd (heldAt T c (2 : Fin 6).val).val) (chk13_ok c (heldAt T c (2 : Fin 6).val)) (wd (heldAt T c (3 : Fin 6).val).val) v241 v242 v339 c8 v340 v345 v347 v348 >>= kk) Q) := by
  rw [k0_part11_eq_skeleton]
  unfold k0_part11_skel
  simp only [Prog.lift, Prog.bind_op, Prog.bind_ret, Prog.pure_eq_ret, Prog.bind_assoc, bind_dite, bind_ite]
  iintro ⟨#HX, HS, HL⟩ Hk
  iapply (send_block T V κ c Cm hCm (k := 2) (ofc := ![0, 2, 0]) (ofs := ![2]) (by decide) ((cond24_iff c (heldAt T c (2 : Fin 6).val)).trans (slot_remote T c _)) (fun h i hi => Fin.ext (slot_val T c (s := (2 : Fin 6).val) (g := k0_dev11) (y := fun t => t / 8) dev11_eq hi)) rfl rfl
    (fun i hi => slot_val T c (s := (2 : Fin 6).val) (g := k0_off26) (y := fun t => ![t % 8]) off26_eq hi) (fun i hi => slot_val T c (s := (2 : Fin 6).val) (g := k0_off27) (y := fun t => ![t % 8, 0]) off27_eq hi))
  isplitr; · iexact HX
  isplitl [HS]; · iexact HS
  iintro HS
  iapply (copy_block T V c Cm hCm (k := 2) (ofc := ![0, 2, 0]) (by decide) ((cond25_iff c (heldAt T c (2 : Fin 6).val)).trans (slot_local T c _)) rfl
    (fun i hi => slot_val T c (s := (2 : Fin 6).val) (g := k0_off28) (y := fun t => ![t % 8, 0]) off28_eq hi) (pay := k0_pay14) (fun f => rfl))
  isplitl [HS HL]
  · isplitl [HS]; · iexact HS
    iexact HL
  iintro ⟨HS, HL⟩
  iapply Hk
  isplitl [HS]; · iexact HS
  iexact HL

set_option maxHeartbeats 4000000 in
include hCm in
theorem part12_run (v243 v244 : BitVec 32) (v367 : BitVec 1) (v384 v386 v389 : BitVec 32) {α : Type} {Q : α → sProp 𝕄} {kk : _ → Prog (TpuEff nD τ sig (Elt F) Λ₀ .tc) α} :
    iprop(ctx T V κ c ∗ SendSt T c Cm 3 ∗ bigSep Finset.univ (rowL T V c 3))
      ⊢ iprop((∀ a b e g h, (SendSt T c Cm 5 ∗ bigSep Finset.univ (rowL T V c 5)) -∗ wp frame (wpE (defs₀ (F := F)) 𝒱₀ (c : Thread nD τ) none) Set.univ (kk ⟨a, b, e, g, h⟩) Q) -∗ wp frame (wpE (defs₀ (F := F)) 𝒱₀ (c : Thread nD τ) none) Set.univ (k0_part12 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c (me c) (wd (heldAt T c (3 : Fin 6).val).val) (chk14_ok c (heldAt T c (3 : Fin 6).val)) (wd (heldAt T c (4 : Fin 6).val).val) (chk15_ok c (heldAt T c (4 : Fin 6).val)) (wd (heldAt T c (5 : Fin 6).val).val) v243 v244 v367 v384 v386 v389 >>= kk) Q) := by
  rw [k0_part12_eq_skeleton]
  unfold k0_part12_skel
  simp only [Prog.lift, Prog.bind_op, Prog.bind_ret, Prog.pure_eq_ret, Prog.bind_assoc, bind_dite, bind_ite]
  iintro ⟨#HX, HS, HL⟩ Hk
  iapply (send_block T V κ c Cm hCm (k := 3) (ofc := ![1, 0, 0]) (ofs := ![3]) (by decide) ((cond26_iff c (heldAt T c (3 : Fin 6).val)).trans (slot_remote T c _)) (fun h i hi => Fin.ext (slot_val T c (s := (3 : Fin 6).val) (g := k0_dev12) (y := fun t => t / 8) dev12_eq hi)) rfl rfl
    (fun i hi => slot_val T c (s := (3 : Fin 6).val) (g := k0_off29) (y := fun t => ![t % 8]) off29_eq hi) (fun i hi => slot_val T c (s := (3 : Fin 6).val) (g := k0_off30) (y := fun t => ![t % 8, 0]) off30_eq hi))
  isplitr; · iexact HX
  isplitl [HS]; · iexact HS
  iintro HS
  iapply (copy_block T V c Cm hCm (k := 3) (ofc := ![1, 0, 0]) (by decide) ((cond27_iff c (heldAt T c (3 : Fin 6).val)).trans (slot_local T c _)) rfl
    (fun i hi => slot_val T c (s := (3 : Fin 6).val) (g := k0_off31) (y := fun t => ![t % 8, 0]) off31_eq hi) (pay := k0_pay15) (fun f => rfl))
  isplitl [HS HL]
  · isplitl [HS]; · iexact HS
    iexact HL
  iintro ⟨HS, HL⟩
  iapply (send_block T V κ c Cm hCm (k := 4) (ofc := ![1, 1, 0]) (ofs := ![4]) (by decide) ((cond28_iff c (heldAt T c (4 : Fin 6).val)).trans (slot_remote T c _)) (fun h i hi => Fin.ext (slot_val T c (s := (4 : Fin 6).val) (g := k0_dev13) (y := fun t => t / 8) dev13_eq hi)) rfl rfl
    (fun i hi => slot_val T c (s := (4 : Fin 6).val) (g := k0_off32) (y := fun t => ![t % 8]) off32_eq hi) (fun i hi => slot_val T c (s := (4 : Fin 6).val) (g := k0_off33) (y := fun t => ![t % 8, 0]) off33_eq hi))
  isplitr; · iexact HX
  isplitl [HS]; · iexact HS
  iintro HS
  iapply (copy_block T V c Cm hCm (k := 4) (ofc := ![1, 1, 0]) (by decide) ((cond29_iff c (heldAt T c (4 : Fin 6).val)).trans (slot_local T c _)) rfl
    (fun i hi => slot_val T c (s := (4 : Fin 6).val) (g := k0_off34) (y := fun t => ![t % 8, 0]) off34_eq hi) (pay := k0_pay16) (fun f => rfl))
  isplitl [HS HL]
  · isplitl [HS]; · iexact HS
    iexact HL
  iintro ⟨HS, HL⟩
  iapply Hk
  isplitl [HS]; · iexact HS
  iexact HL

set_option maxHeartbeats 4000000 in
include hCm in
theorem part13_run (v244 : BitVec 32) (v304 v332 v360 v388 v423 : BitVec 1) (c8 v424 v426 : BitVec 32) {α : Type} {Q : α → sProp 𝕄} {kk : _ → Prog (TpuEff nD τ sig (Elt F) Λ₀ .tc) α} :
    iprop(ctx T V κ c ∗ SendSt T c Cm 5 ∗ (bigSep Finset.univ (rowL T V c 5)) ∗ bigSep Finset.univ fun s : Fin 6 => atPos EB (sendCell c s) 0 ∅ 0)
      ⊢ iprop((∀ a, (SwSt T c Cm 4 ∗ bigSep Finset.univ (rowL T V c 6)) -∗ wp frame (wpE (defs₀ (F := F)) 𝒱₀ (c : Thread nD τ) none) Set.univ (kk a) Q) -∗ wp frame (wpE (defs₀ (F := F)) 𝒱₀ (c : Thread nD τ) none) Set.univ (k0_part13 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c (me c)
        (wd (heldAt T c (0 : Fin 6).val).val) (chk11_ok c (heldAt T c (0 : Fin 6).val)) (wd (heldAt T c (1 : Fin 6).val).val) (chk12_ok c (heldAt T c (1 : Fin 6).val)) (wd (heldAt T c (2 : Fin 6).val).val) (chk13_ok c (heldAt T c (2 : Fin 6).val)) (wd (heldAt T c (3 : Fin 6).val).val) (chk14_ok c (heldAt T c (3 : Fin 6).val)) (wd (heldAt T c (5 : Fin 6).val).val) (chk16_ok c (heldAt T c (5 : Fin 6).val)) v244 v304 v332 v360 v388 v423 c8 v424 v426 >>= kk) Q) := by
  rw [k0_part13_eq_skeleton]
  unfold k0_part13_skel
  simp only [Prog.lift, Prog.bind_op, Prog.bind_ret, Prog.pure_eq_ret, Prog.bind_assoc, bind_dite, bind_ite]
  iintro ⟨#HX, HS, HL, Ha⟩ Hk
  iapply (send_block T V κ c Cm hCm (k := 5) (ofc := ![1, 2, 0]) (ofs := ![5]) (by decide) ((cond30_iff c (heldAt T c (5 : Fin 6).val)).trans (slot_remote T c _)) (fun h i hi => Fin.ext (slot_val T c (s := (5 : Fin 6).val) (g := k0_dev14) (y := fun t => t / 8) dev14_eq hi)) rfl rfl
    (fun i hi => slot_val T c (s := (5 : Fin 6).val) (g := k0_off35) (y := fun t => ![t % 8]) off35_eq hi) (fun i hi => slot_val T c (s := (5 : Fin 6).val) (g := k0_off36) (y := fun t => ![t % 8, 0]) off36_eq hi))
  isplitr; · iexact HX
  isplitl [HS]; · iexact HS
  iintro HS
  iapply (copy_block T V c Cm hCm (k := 5) (ofc := ![1, 2, 0]) (by decide) ((cond31_iff c (heldAt T c (5 : Fin 6).val)).trans (slot_local T c _)) rfl
    (fun i hi => slot_val T c (s := (5 : Fin 6).val) (g := k0_off37) (y := fun t => ![t % 8, 0]) off37_eq hi) (pay := k0_pay17) (fun f => rfl))
  isplitl [HS HL]
  · isplitl [HS]; · iexact HS
    iexact HL
  iintro ⟨HS, HL⟩
  ihave HS := (swait_start T c Cm) $$ [HS Ha]
  · isplitl [HS]; · iexact HS
    iexact Ha
  iapply (sendwait_block T V κ c Cm (k := 0) (dst := cRow 0 0) (by decide) ((cond32_iff c (heldAt T c (0 : Fin 6).val)).trans (slot_remote T c _)) rfl rfl)
  isplitr; · iexact HX
  isplitl [HS]; · iexact HS
  iintro HS
  iapply (sendwait_block T V κ c Cm (k := 1) (dst := cRow 0 1) (by decide) ((cond33_iff c (heldAt T c (1 : Fin 6).val)).trans (slot_remote T c _)) rfl rfl)
  isplitr; · iexact HX
  isplitl [HS]; · iexact HS
  iintro HS
  iapply (sendwait_block T V κ c Cm (k := 2) (dst := cRow 0 2) (by decide) ((cond34_iff c (heldAt T c (2 : Fin 6).val)).trans (slot_remote T c _)) rfl rfl)
  isplitr; · iexact HX
  isplitl [HS]; · iexact HS
  iintro HS
  iapply (sendwait_block T V κ c Cm (k := 3) (dst := cRow 1 0) (by decide) ((cond35_iff c (heldAt T c (3 : Fin 6).val)).trans (slot_remote T c _)) rfl rfl)
  isplitr; · iexact HX
  isplitl [HS]; · iexact HS
  iintro HS
  iapply Hk
  isplitl [HS]; · iexact HS
  iexact HL

set_option maxHeartbeats 4000000 in
theorem part14_run (v5 : BitVec 32) (v416 v444 : BitVec 1) {α : Type} {Q : α → sProp 𝕄} {kk : _ → Prog (TpuEff nD τ sig (Elt F) Λ₀ .tc) α} :
    iprop(ctx T V κ c ∗ KnowSt T c ∗ SwSt T c Cm 4 ∗ (bigSep Finset.univ (rowL T V c 6)) ∗ (bigSep Finset.univ fun r : Fin 8 => cred (rowCred T c r)) ∗ (bigSep Finset.univ fun r : Fin 8 => atPos EB (recvCell c r) 0 ∅ 0))
      ⊢ iprop(((KnowSt T c ∗ (bigSep Finset.univ fun s : Fin 6 => slotD c s) ∗ RwSt T V c 1) -∗ wp frame (wpE (defs₀ (F := F)) 𝒱₀ (c : Thread nD τ) none) Set.univ (kk ⟨(wd (T (tok c 1)).val), 2#32, Scalar.divsi (wd (T (tok c 1)).val) 2#32, Scalar.cmpi .sgt (wd (T (tok c 1)).val) 0#32⟩) Q) -∗
        wp frame (wpE (defs₀ (F := F)) 𝒱₀ (c : Thread nD τ) none) Set.univ (k0_part14 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c (me c) v5 (wd (heldAt T c (4 : Fin 6).val).val) (chk15_ok c (heldAt T c (4 : Fin 6).val)) (wd (heldAt T c (5 : Fin 6).val).val) (chk16_ok c (heldAt T c (5 : Fin 6).val)) v416 v444 >>= kk) Q) := by
  rw [k0_part14_eq_skeleton]
  unfold k0_part14_skel
  simp only [Prog.lift, Prog.bind_op, Prog.bind_ret, Prog.pure_eq_ret, Prog.bind_assoc, bind_dite, bind_ite]
  iintro ⟨#HX, HK, HS, HL, Hc, Ha⟩ Hk
  iapply (sendwait_block T V κ c Cm (k := 4) (dst := cRow 1 1) (by decide) ((cond36_iff c (heldAt T c (4 : Fin 6).val)).trans (slot_remote T c _)) rfl rfl)
  isplitr; · iexact HX
  isplitl [HS]; · iexact HS
  iintro HS
  iapply (sendwait_block T V κ c Cm (k := 5) (dst := cRow 1 2) (by decide) ((cond37_iff c (heldAt T c (5 : Fin 6).val)).trans (slot_remote T c _)) rfl rfl)
  isplitr; · iexact HX
  isplitl [HS]; · iexact HS
  iintro HS
  ihave HS := (swait_end T c Cm) $$ HS
  icases HS with ⟨HD, HO⟩
  ihave HS := (rwait_start T V c) $$ [HL Hc Ha HO]
  · isplitl [HL]; · iexact HL
    isplitl [Hc]; · iexact Hc
    isplitl [Ha]; · iexact Ha
    iexact HO
  iapply (know_table T c (tok c 0) (off44_eq c)) $$ HK
  iintro HK
  iapply (know_row T c 0 rfl) $$ HK
  iintro HK
  iapply (recvwait_block T V κ c (k := 0) (src := cRow 0 0) (dst := oRow 0) (by decide) (row_iff T c 0) rfl rfl)
  isplitr; · iexact HX
  isplitl [HS]; · iexact HS
  iintro HS
  iapply (know_table T c (tok c 1) (off45_eq c)) $$ HK
  iintro HK
  iapply Hk
  isplitl [HK]; · iexact HK
  isplitl [HD]; · iexact HD
  iexact HS

set_option maxHeartbeats 4000000 in
theorem part15_run (v5 : BitVec 32) {α : Type} {Q : α → sProp 𝕄} {kk : _ → Prog (TpuEff nD τ sig (Elt F) Λ₀ .tc) α} :
    iprop(ctx T V κ c ∗ KnowSt T c ∗ RwSt T V c 1)
      ⊢ iprop(((KnowSt T c ∗ RwSt T V c 2) -∗ wp frame (wpE (defs₀ (F := F)) 𝒱₀ (c : Thread nD τ) none) Set.univ (kk (half (wd (T (tok c 2)).val))) Q) -∗ wp frame (wpE (defs₀ (F := F)) 𝒱₀ (c : Thread nD τ) none) Set.univ (k0_part15 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c (me c) v5 (wd (T (tok c 1)).val) 2#32 (Scalar.divsi (wd (T (tok c 1)).val) 2#32) (Scalar.cmpi .sgt (wd (T (tok c 1)).val) 0#32) >>= kk) Q) := by
  rw [k0_part15_eq_skeleton]
  unfold k0_part15_skel
  simp only [Prog.lift, Prog.bind_op, Prog.bind_ret, Prog.pure_eq_ret, Prog.bind_assoc, bind_dite, bind_ite]
  iintro ⟨#HX, HK, HS⟩ Hk
  iapply (know_row T c 1 rfl) $$ HK
  iintro HK
  iapply (recvwait_block T V κ c (k := 1) (src := cRow 0 0) (dst := oRow 1) (by decide) (row_iff T c 1) rfl rfl)
  isplitr; · iexact HX
  isplitl [HS]; · iexact HS
  iintro HS
  iapply (know_table T c (tok c 2) (off46_eq c)) $$ HK
  iintro HK
  iapply Hk
  isplitl [HK]; · iexact HK
  iexact HS

set_option maxHeartbeats 4000000 in
theorem part16_run (v5 : BitVec 32) {α : Type} {Q : α → sProp 𝕄} {kk : _ → Prog (TpuEff nD τ sig (Elt F) Λ₀ .tc) α} :
    iprop(ctx T V κ c ∗ KnowSt T c ∗ RwSt T V c 2)
      ⊢ iprop(((KnowSt T c ∗ RwSt T V c 4) -∗ wp frame (wpE (defs₀ (F := F)) 𝒱₀ (c : Thread nD τ) none) Set.univ (kk ⟨(wd (T (tok c 4)).val), 2#32, (Scalar.divsi (wd (T (tok c 4)).val) 2#32), (Scalar.extui (Scalar.cmpi .sgt (wd (T (tok c 4)).val) 0#32)), (Scalar.cmpi .slt (wd (T (tok c 4)).val) 0#32)⟩) Q) -∗ wp frame (wpE (defs₀ (F := F)) 𝒱₀ (c : Thread nD τ) none) Set.univ (k0_part16 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c (me c) v5 (half (wd (T (tok c 2)).val)) >>= kk) Q) := by
  rw [k0_part16_eq_skeleton]
  unfold k0_part16_skel
  simp only [Prog.lift, Prog.bind_op, Prog.bind_ret, Prog.pure_eq_ret, Prog.bind_assoc, bind_dite, bind_ite]
  iintro ⟨#HX, HK, HS⟩ Hk
  iapply (know_row T c 2 rfl) $$ HK
  iintro HK
  iapply (recvwait_block T V κ c (k := 2) (src := cRow 0 0) (dst := oRow 2) (by decide) (row_iff T c 2) rfl rfl)
  isplitr; · iexact HX
  isplitl [HS]; · iexact HS
  iintro HS
  iapply (know_table T c (tok c 3) (off47_eq c)) $$ HK
  iintro HK
  iapply (know_row T c 3 rfl) $$ HK
  iintro HK
  iapply (recvwait_block T V κ c (k := 3) (src := cRow 0 0) (dst := oRow 3) (by decide) (row_iff T c 3) rfl rfl)
  isplitr; · iexact HX
  isplitl [HS]; · iexact HS
  iintro HS
  iapply (know_table T c (tok c 4) (off48_eq c)) $$ HK
  iintro HK
  iapply Hk
  isplitl [HK]; · iexact HK
  iexact HS

set_option maxHeartbeats 4000000 in
theorem part17_run (v5 : BitVec 32) {α : Type} {Q : α → sProp 𝕄} {kk : _ → Prog (TpuEff nD τ sig (Elt F) Λ₀ .tc) α} :
    iprop(ctx T V κ c ∗ KnowSt T c ∗ RwSt T V c 4)
      ⊢ iprop(((KnowSt T c ∗ RwSt T V c 5) -∗ wp frame (wpE (defs₀ (F := F)) 𝒱₀ (c : Thread nD τ) none) Set.univ (kk ⟨half (wd (T (tok c 5)).val), (Scalar.cmpi .eq (if under T (tok c 5) then 1#32 else 0#32) 1#32)⟩) Q) -∗ wp frame (wpE (defs₀ (F := F)) 𝒱₀ (c : Thread nD τ) none) Set.univ (k0_part17 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c (me c) v5 (wd (T (tok c 4)).val) 2#32 (Scalar.divsi (wd (T (tok c 4)).val) 2#32) (Scalar.extui (Scalar.cmpi .sgt (wd (T (tok c 4)).val) 0#32)) (Scalar.cmpi .slt (wd (T (tok c 4)).val) 0#32) >>= kk) Q) := by
  rw [k0_part17_eq_skeleton]
  unfold k0_part17_skel
  simp only [Prog.lift, Prog.bind_op, Prog.bind_ret, Prog.pure_eq_ret, Prog.bind_assoc, bind_dite, bind_ite]
  iintro ⟨#HX, HK, HS⟩ Hk
  iapply (know_row T c 4 rfl) $$ HK
  iintro HK
  iapply (recvwait_block T V κ c (k := 4) (src := cRow 0 0) (dst := oRow 4) (by decide) (row_iff T c 4) rfl rfl)
  isplitr; · iexact HX
  isplitl [HS]; · iexact HS
  iintro HS
  iapply (know_table T c (tok c 5) (off49_eq c)) $$ HK
  iintro HK
  iapply (know_row T c 5 rfl) $$ HK
  iintro HK
  iapply Hk
  isplitl [HK]; · iexact HK
  iexact HS

set_option maxHeartbeats 4000000 in
theorem part18_run (v5 : BitVec 32) {α : Type} {Q : α → sProp 𝕄} {kk : _ → Prog (TpuEff nD τ sig (Elt F) Λ₀ .tc) α} :
    iprop(ctx T V κ c ∗ KnowSt T c ∗ RwSt T V c 5)
      ⊢ iprop(((KnowSt T c ∗ RwSt T V c 7) -∗ wp frame (wpE (defs₀ (F := F)) 𝒱₀ (c : Thread nD τ) none) Set.univ (kk ⟨(wd (T (tok c 7)).val), 2#32, (Scalar.divsi (wd (T (tok c 7)).val) 2#32), Scalar.subi (Scalar.extui (Scalar.cmpi .sgt (wd (T (tok c 7)).val) 0#32)) (Scalar.extui (Scalar.cmpi .slt (wd (T (tok c 7)).val) 0#32)), 0#32⟩) Q) -∗ wp frame (wpE (defs₀ (F := F)) 𝒱₀ (c : Thread nD τ) none) Set.univ (k0_part18 (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6 c (me c) v5 (half (wd (T (tok c 5)).val)) (Scalar.cmpi .eq (if under T (tok c 5) then 1#32 else 0#32) 1#32) >>= kk) Q) := by
  rw [k0_part18_eq_skeleton]
  unfold k0_part18_skel
  simp only [Prog.lift, Prog.bind_op, Prog.bind_ret, Prog.pure_eq_ret, Prog.bind_assoc, bind_dite, bind_ite]
  iintro ⟨#HX, HK, HS⟩ Hk
  iapply (recvwait_block T V κ c (k := 5) (src := cRow 0 0) (dst := oRow 5) (by decide) (row_iff T c 5) rfl rfl)
  isplitr; · iexact HX
  isplitl [HS]; · iexact HS
  iintro HS
  iapply (know_table T c (tok c 6) (off50_eq c)) $$ HK
  iintro HK
  iapply (know_row T c 6 rfl) $$ HK
  iintro HK
  iapply (recvwait_block T V κ c (k := 6) (src := cRow 0 0) (dst := oRow 6) (by decide) (row_iff T c 6) rfl rfl)
  isplitr; · iexact HX
  isplitl [HS]; · iexact HS
  iintro HS
  iapply (know_table T c (tok c 7) (off51_eq c)) $$ HK
  iintro HK
  iapply Hk
  isplitl [HK]; · iexact HK
  iexact HS

end Cert.Moe
-- ==== Proof.Body.lean ====
module

public import proofs.«01_k».proof.Proof.Exchange

@[expose] public section

/-!
# The whole body

One device's run of the kernel, its parts one after another.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

variable (T : Tab) (V : Fin 256 → S1x256.Idx → Elt F .f32) (κ : GSem nD τ sig → ℕ) (c : Dev nD)
variable (X : (cc0_stg0_0 : Ref sig .tc).ty.Contents (Elt F)) (Wt : (cc0_stg2_0 : Ref sig .tc).ty.Contents (Elt F))

/-- The scratch words. -/
def wordsAny : sProp 𝕄 :=
  iprop((∃ f : (cc0_scratch1 : Ref sig .tc).ty.Contents (Elt F), ((c : Thread nD τ).loc cc0_scratch1) ↦{fullShare} f)
    ∗ (∃ f : (cc0_scratch2 : Ref sig .tc).ty.Contents (Elt F), ((c : Thread nD τ).loc cc0_scratch2) ↦{fullShare} f)
    ∗ (∃ f : (cc0_scratch3 : Ref sig .tc).ty.Contents (Elt F), ((c : Thread nD τ).loc cc0_scratch3) ↦{fullShare} f)
    ∗ (∃ f : (cc0_scratch4 : Ref sig .tc).ty.Contents (Elt F), ((c : Thread nD τ).loc cc0_scratch4) ↦{fullShare} f))

theorem words_open : (wordsAny c : sProp 𝕄) ⊢ iprop((∃ f : (cc0_scratch1 : Ref sig .tc).ty.Contents (Elt F), ((c : Thread nD τ).loc cc0_scratch1) ↦{fullShare} f)
    ∗ (∃ f : (cc0_scratch2 : Ref sig .tc).ty.Contents (Elt F), ((c : Thread nD τ).loc cc0_scratch2) ↦{fullShare} f)
    ∗ (∃ f : (cc0_scratch3 : Ref sig .tc).ty.Contents (Elt F), ((c : Thread nD τ).loc cc0_scratch3) ↦{fullShare} f)
    ∗ (∃ f : (cc0_scratch4 : Ref sig .tc).ty.Contents (Elt F), ((c : Thread nD τ).loc cc0_scratch4) ↦{fullShare} f)) := by
  unfold wordsAny
  exact Entails.refl _

/-- What a device brings to the exchange. -/
def kit : sProp 𝕄 :=
  iprop(atPos EB (barCell c) 0 ∅ 0 ∗ cred (tallyAt (barCell c) 4 (callers T c).card) ∗ sendToks T c
    ∗ (bigSep Finset.univ fun s : Fin 6 => atPos EB (sendCell c s) 0 ∅ 0)
    ∗ (bigSep Finset.univ fun r : Fin 8 => cred (rowCred T c r))
    ∗ (bigSep Finset.univ fun r : Fin 8 => atPos EB (recvCell c r) 0 ∅ 0))

/-- What it takes away. -/
def spent : sProp 𝕄 :=
  iprop(atPos EB (barCell c) 1 ∅ 0 ∗ (bigSep Finset.univ fun s : Fin 6 => semVal (sendCell c s) 0)
    ∗ (bigSep Finset.univ fun r : Fin 8 => semVal (recvCell c r) 0) ∗ ∃ W, owes (c : Thread nD τ) 0 W)

theorem know_words : (KnowSt T c : sProp 𝕄) ⊢ iprop(tblPts T c ∗ wordsAny c) := by
  unfold KnowSt wordsAny
  iintro ⟨Ht, Hn, ⟨%f, -, H1⟩, ⟨%g, -, H2⟩, ⟨%h, -, H3⟩⟩
  isplitl [Ht]; · iexact Ht
  isplitl [Hn]; · iexact Hn
  isplitl [H1]; · iexists f; iexact H1
  isplitl [H2]; · iexists g; iexact H2
  iexists h; iexact H3

theorem sig_done : (SigSt T c 8 : sProp 𝕄) ⊢ iprop(march (rowB T c) (rowC T V c) 0 ∗ ∃ W, owes (c : Thread nD τ) (∑ s, sendDues T c s) W) := by
  unfold SigSt
  rw [tail_all, add_zero, march_all, march_zero]

variable (h0 : (Memref.whole cc0_stg0_0 : Memref sig .tc .vmem S256x128 .bf16).IsWhole) (h1 : (Memref.whole cc0_stg1_0 : Memref sig .tc .smem S256x1 .i32).IsWhole)
  (h2 : (Memref.whole cc0_stg2_0 : Memref sig .tc .vmem S2x128x256 .bf16).IsWhole) (h3 : (Memref.whole cc0_stg3_0 : Memref sig .tc .vmem S8x256 .f32).IsWhole)
  (h4 : (Memref.whole cc0_scratch0 : Memref sig .tc .vmem S2x3x256 .f32).IsWhole) (h5 : (Memref.whole cc0_scratch1 : Memref sig .tc .smem S64 .i32).IsWhole)
  (h6 : (Memref.whole cc0_scratch2 : Memref sig .tc .smem S6 .i32).IsWhole) (h7 : (Memref.whole cc0_scratch3 : Memref sig .tc .smem S8 .i32).IsWhole)
  (h8 : (Memref.whole cc0_scratch4 : Memref sig .tc .smem S1 .i32).IsWhole)
variable (hV : ∀ i, ¬ under T i → V i = k0_pay1)
variable (hCm : ∀ s i, At T c s.val i → V i = (cRow (slotP s).1 (slotP s).2).view.read (Elt F) (commFull T c X Wt))

set_option maxHeartbeats 16000000 in
include hV hCm in
theorem body_run {Q : PUnit → sProp 𝕄} :
    iprop((ctx T V κ c ∗ tblPts T c ∗ SigSt T c 0 ∗ wordsAny c ∗ xPts c X ∗ wPts c Wt ∗ (∃ f, cPts c f) ∗ kit T c)
      ∗ ((tblPts T c ∗ wordsAny c ∗ xPts c X ∗ wPts c Wt ∗ (∃ f, cPts c f)
        ∗ (((c : Thread nD τ).loc cc0_stg3_0) ↦{fullShare} (stack fun r => V (tok c r))) ∗ spent c) -∗ Q ⟨⟩))
      ⊢ wp frame (wpE (defs₀ (F := F)) 𝒱₀ (c : Thread nD τ) none) Set.univ (cc0_body (F := F) (Memref.whole cc0_stg0_0) h0 (Memref.whole cc0_stg1_0) h1 (Memref.whole cc0_stg2_0) h2 (Memref.whole cc0_stg3_0) h3 (Memref.whole cc0_scratch0) h4 (Memref.whole cc0_scratch1) h5 (Memref.whole cc0_scratch2) h6 (Memref.whole cc0_scratch3) h7 (Memref.whole cc0_scratch4) h8 cc0_scratch5 cc0_scratch6) Q := by
  rw [cc0_body_eq_skeleton]
  unfold cc0_body_skel kit
  iintro ⟨⟨#HX, Ht, HS, Hwd, Hx, Hw, Hc, ⟨Hbar, Hcr, Htoks, Has, Hcs, Har⟩⟩, HQ⟩
  ihave Hwd := (words_open c) $$ Hwd
  icases Hwd with ⟨Hn, Htok, Hsurv, Hsend⟩
  iapply (part1_run T V κ c h0 h1 h2 h3 h4 h5 h6 h7 h8) $$ [Ht HS]
  · isplitr; · iexact HX
    isplitl [Ht]; · iexact Ht
    iexact HS
  iintro %_ %_ %_ ⟨Ht, HS⟩
  dsimp only
  iapply (part2_run T V κ c h0 h1 h2 h3 h4 h5 h6 h7 h8 _ _ _ _ _) $$ [Ht HS]
  · isplitr; · iexact HX
    isplitl [Ht]; · iexact Ht
    iexact HS
  iintro ⟨Ht, HS⟩
  dsimp only
  iapply (part3_run T V κ c h0 h1 h2 h3 h4 h5 h6 h7 h8 _ _) $$ [Ht HS]
  · isplitr; · iexact HX
    isplitl [Ht]; · iexact Ht
    iexact HS
  iintro %_ %_ %_ %_ ⟨Ht, HS⟩
  dsimp only
  iapply (part4_run T V κ c h0 h1 h2 h3 h4 h5 h6 h7 h8 _ _ _ _ _ _) $$ [Ht HS]
  · isplitr; · iexact HX
    isplitl [Ht]; · iexact Ht
    iexact HS
  iintro %_ %_ %_ ⟨Ht, HS⟩
  dsimp only
  iapply (part5_run T V κ c h0 h1 h2 h3 h4 h5 h6 h7 h8 _ _ _ _ _) $$ [Ht HS Hn]
  · isplitr; · iexact HX
    isplitl [Ht]; · iexact Ht
    isplitl [HS]; · iexact HS
    iexact Hn
  iintro ⟨Ht, HS, Hn⟩
  dsimp only
  ihave HS := (sig_done T V c) $$ HS
  icases HS with ⟨Hr, HO⟩
  iapply (part6_run T V c h0 h1 h2 h3 h4 h5 h6 h7 h8 hV) $$ [Ht Hn Htok Hsurv Hsend Hr]
  · isplitl [Ht]; · iexact Ht
    isplitl [Hn]; · iexact Hn
    isplitl [Htok]; · iexact Htok
    isplitl [Hsurv]; · iexact Hsurv
    isplitl [Hsend]; · iexact Hsend
    iexact Hr
  iintro ⟨HK, Hr⟩
  dsimp only
  iapply (part7_run T V c h0 h1 h2 h3 h4 h5 h6 h7 h8 hV) $$ [HK Hr]
  · isplitl [HK]; · iexact HK
    iexact Hr
  iintro %_ %_ ⟨HK, Hr⟩
  dsimp only
  iapply (part8_run T c h0 h1 h2 h3 h4 h5 h6 h7 h8 X Wt _ _) $$ [Hx Hw Hc]
  · isplitl [Hx]; · iexact Hx
    isplitl [Hw]; · iexact Hw
    iexact Hc
  iintro %f %_ %_ %_ %_ %_ %_ ⟨Hx, Hw, Hc⟩
  dsimp only
  ihave HW := (wait_start T c) $$ [Hbar Hcr HO]
  · isplitl [Hbar]; · iexact Hbar
    isplitl [Hcr]; · iexact Hcr
    iexact HO
  iapply (part9_run T V κ c (commFull T c X Wt) h0 h1 h2 h3 h4 h5 h6 h7 h8 hCm X Wt rfl f _ _) $$ [HK Hc HW Htoks]
  · isplitr; · iexact HX
    isplitl [HK]; · iexact HK
    isplitl [Hc]; · iexact Hc
    isplitl [HW]; · iexact HW
    iexact Htoks
  iintro %_ %_ ⟨HK, Hbar, HS⟩
  dsimp only
  ihave Hr := (show (march (rowB T c) (rowC T V c) 8 : sProp 𝕄) ⊢ bigSep Finset.univ (rowL T V c 0) from Entails.of_eq ((march_all _ _).trans (by rw [rowL_zero]))) $$ Hr
  iapply (part10_run T V κ c _ h0 h1 h2 h3 h4 h5 h6 h7 h8 hCm _ _ _) $$ [HS Hr]
  · isplitr; · iexact HX
    isplitl [HS]; · iexact HS
    iexact Hr
  iintro %_ %_ %_ %_ %_ %_ %_ ⟨HS, Hr⟩
  dsimp only
  iapply (part11_run T V κ c _ h0 h1 h2 h3 h4 h5 h6 h7 h8 hCm _ _ _ _ _ _ _ _) $$ [HS Hr]
  · isplitr; · iexact HX
    isplitl [HS]; · iexact HS
    iexact Hr
  iintro %_ %_ %_ %_ %_ %_ ⟨HS, Hr⟩
  dsimp only
  iapply (part12_run T V κ c _ h0 h1 h2 h3 h4 h5 h6 h7 h8 hCm _ _ _ _ _ _) $$ [HS Hr]
  · isplitr; · iexact HX
    isplitl [HS]; · iexact HS
    iexact Hr
  iintro %_ %_ %_ %_ %_ ⟨HS, Hr⟩
  dsimp only
  iapply (part13_run T V κ c _ h0 h1 h2 h3 h4 h5 h6 h7 h8 hCm _ _ _ _ _ _ _ _ _) $$ [HS Hr Has]
  · isplitr; · iexact HX
    isplitl [HS]; · iexact HS
    isplitl [Hr]; · iexact Hr
    iexact Has
  iintro %_ ⟨HS, Hr⟩
  dsimp only
  iapply (part14_run T V κ c _ h0 h1 h2 h3 h4 h5 h6 h7 h8 _ _ _) $$ [HK HS Hr Hcs Har]
  · isplitr; · iexact HX
    isplitl [HK]; · iexact HK
    isplitl [HS]; · iexact HS
    isplitl [Hr]; · iexact Hr
    isplitl [Hcs]; · iexact Hcs
    iexact Har
  iintro ⟨HK, HD, HS⟩
  dsimp only
  iapply (part15_run T V κ c h0 h1 h2 h3 h4 h5 h6 h7 h8 _) $$ [HK HS]
  · isplitr; · iexact HX
    isplitl [HK]; · iexact HK
    iexact HS
  iintro ⟨HK, HS⟩
  dsimp only
  iapply (part16_run T V κ c h0 h1 h2 h3 h4 h5 h6 h7 h8 _) $$ [HK HS]
  · isplitr; · iexact HX
    isplitl [HK]; · iexact HK
    iexact HS
  iintro ⟨HK, HS⟩
  dsimp only
  iapply (part17_run T V κ c h0 h1 h2 h3 h4 h5 h6 h7 h8 _) $$ [HK HS]
  · isplitr; · iexact HX
    isplitl [HK]; · iexact HK
    iexact HS
  iintro ⟨HK, HS⟩
  dsimp only
  iapply (part18_run T V κ c h0 h1 h2 h3 h4 h5 h6 h7 h8 _) $$ [HK HS]
  · isplitr; · iexact HX
    isplitl [HK]; · iexact HK
    iexact HS
  iintro ⟨HK, HS⟩
  dsimp only
  iapply (know_row T c 7 rfl) $$ HK
  iintro HK
  simp only [Prog.lift, Prog.bind_op, Prog.bind_ret, Prog.pure_eq_ret, Prog.bind_assoc, bind_ite]
  iapply (recvwait_block T V κ c (k := 7) (src := cRow 0 0) (dst := oRow 7) (by decide) (row_iff T c 7) rfl rfl)
  isplitr; · iexact HX
  isplitl [HS]; · iexact HS
  iintro HS
  rw [wp_ret]
  imodintro
  iapply HQ
  ihave HK := (know_words T c) $$ HK
  icases HK with ⟨Ht, Hwords⟩
  ihave HS := (rwait_end T V c) $$ HS
  icases HS with ⟨Hout, Hrs, HO⟩
  ihave HD := (show (bigSep Finset.univ fun s : Fin 6 => slotD c s : sProp 𝕄) ⊢ iprop((bigSep Finset.univ fun s : Fin 6 => anySlot c (slotP s)) ∗ bigSep Finset.univ fun s : Fin 6 => semVal (sendCell c s) 0) from by
    unfold slotD
    rw [bigSep_sep']) $$ HD
  icases HD with ⟨Hc, Hss⟩
  isplitl [Ht]; · iexact Ht
  isplitl [Hwords]; · iexact Hwords
  isplitl [Hx]; · iexact Hx
  isplitl [Hw]; · iexact Hw
  isplitl [Hc]; · iapply (join_comm c); iexact Hc
  isplitl [Hout]; · iapply (join_out c (fun r => V (tok c r))); iexact Hout
  unfold spent
  isplitl [Hbar]; · iexact Hbar
  isplitl [Hss]; · iexact Hss
  isplitl [Hrs]; · iexact Hrs
  iexact HO

end Cert.Moe
-- ==== Proof.Values.lean ====
module

public import proofs.«01_k».proof.Proof.Body

@[expose] public section

/-!
# What each row of the result holds

A surviving token's row is the row of the exchange buffer, on its expert's device, at the token's slot; every other
row is zero.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

variable (T : Tab)
variable (X : Dev nD → (cc0_stg0_0 : Ref sig .tc).ty.Contents (Elt F)) (Wt : Dev nD → (cc0_stg2_0 : Ref sig .tc).ty.Contents (Elt F))

/-- The row of token `i`. -/
def rowVal (i : Fin 256) : S1x256.Idx → Elt F .f32 :=
  if under T i then (cRow (slotP (slotF T i)).1 (slotP (slotF T i)).2).view.read (Elt F) (commFull T (owner T i) (X (owner T i)) (Wt (owner T i)))
  else k0_pay1

theorem rowVal_over (i : Fin 256) (h : ¬ under T i) : rowVal T X Wt i = k0_pay1 := by
  unfold rowVal
  rw [if_neg h]

theorem rowVal_at {c : Dev nD} (s : Fin 6) (i : Fin 256) (h : At T c s.val i) :
    rowVal T X Wt i = (cRow (slotP s).1 (slotP s).2).view.read (Elt F) (commFull T c (X c) (Wt c)) := by
  unfold rowVal
  rw [if_pos h.2.1, slotF_of h, h.1]

end Cert.Moe
-- ==== Proof.Deal.lean ====
module

public import proofs.«01_k».proof.Proof.Values

@[expose] public section

/-!
# What a device takes into the kernel

Out of what rides from the program's launch, with the kernel's own semaphores at zero, to the state in which the body
starts.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

variable (T : Tab) (V : Fin 256 → S1x256.Idx → Elt F .f32) (c : Dev nD)

/-- The kernel's own semaphores at zero. -/
theorem ownSems_eq : (Pipeline.ownSems0 osem c : sProp 𝕄)
    = iprop((bigSep Finset.univ fun s : Fin 6 => semVal (sendCell c s) 0) ∗ (bigSep Finset.univ fun r : Fin 8 => semVal (recvCell c r) 0)) := by
  unfold Pipeline.ownSems0
  rw [bigSep_univ_sum]
  rfl

/-- What rides to the kernel. -/
def Tk : sProp 𝕄 :=
  iprop((fam T).barPos EB (Rd T V) c 0 Finset.univ ∗ (fam T).rides EB (Rd T V) c 0 ∗ Pipeline.launchCred (dues T) c)

/-- What is there once the kernel's own cells are open. -/
def Xk : sProp 𝕄 :=
  iprop((∃ κ, ctx T V κ c) ∗ kit T c
    ∗ bigSep Finset.univ fun r : Fin 8 => if owner T (tok c r) ≠ c then dutyTok EB (barCell (owner T (tok c r))) 0 (tok c r) else iprop(emp))

/-- What the kernel leaves, apart from the buffers. -/
def Yk : sProp 𝕄 := (fam T).barPos EB (Rd T V) c 1 ∅

theorem tk_open : (Tk T V c : sProp 𝕄) ⊢ iprop((fam T).barPos EB (Rd T V) c 0 Finset.univ ∗ (fam T).rides EB (Rd T V) c 0 ∗ Pipeline.launchCred (dues T) c) := by
  unfold Tk
  exact Entails.refl _

theorem barPos_open (n : ℕ) (nb : Finset (Dev nD)) : ((fam T).barPos EB (Rd T V) c n nb : sProp 𝕄)
    ⊢ iprop((∃ κ, (fam T).cellInvs EB (Rd T V) κ) ∗ atPos EB (barCell c) n ∅ 0 ∗ bigSep nb fun m => reached EB (barCell m) n) := by
  unfold TalkSites.Fam.barPos
  exact Entails.refl _

theorem rides_open : ((fam T).rides EB (Rd T V) c 0 : sProp 𝕄)
    ⊢ iprop((∃ κ, (fam T).cellInvs EB (Rd T V) κ)
      ∗ ((bigSep Finset.univ fun s : Fin 6 => openTok EB (sendCell c s)) ∗ (bigSep Finset.univ fun r : Fin 8 => openTok EB (recvCell c r)))
      ∗ (bigSep Finset.univ fun r : Fin 8 => if owner T (tok c r) ≠ c then dutyTok EB (barCell (owner T (tok c r))) 0 (tok c r) else iprop(emp))
      ∗ sendToks T c) := by
  unfold TalkSites.Fam.rides sendToks
  rw [bigSep_dorm, bigSep_toks]

/-- Cells of the family, their counters at zero, are opened together. -/
theorem open_all {K : Type} [Fintype K] [DecidableEq K] (gs : K → GSem nD τ sig) (κ : GSem nD τ sig → ℕ)
    (hI : ∀ k, ((fam T).cellInvs EB (Rd T V) κ : sProp 𝕄) ⊢ cellInv EB (Rd T V) (κ (gs k)) (gs k)) :
    (iprop((fam T).cellInvs EB (Rd T V) κ ∗ (bigSep Finset.univ fun k => openTok EB (gs k)) ∗ bigSep Finset.univ fun k => semVal (gs k) 0) : sProp 𝕄)
      ⊢ |={Set.univ}=> iprop((bigSep Finset.univ fun k => atPos EB (gs k) 0 ∅ 0) ∗ bigSep Finset.univ fun k => reached EB (gs k) 0) := by
  have h1 := cells_open EB (Rd T V) Finset.univ gs (fun k => κ (gs k)) (Es := Set.univ) (fun _ _ => Set.mem_univ _)
  rw [bigSep_sep' (s := Finset.univ) (Φ := fun k => atPos EB (gs k) 0 ∅ 0)] at h1
  refine BI.Entails.trans ?_ h1
  show (_ : sProp 𝕄) ⊢ _
  iintro ⟨#HI, Ho, Hv⟩
  isplitr [Hv]
  · iapply (bigSep_with_persistent (R := (fam T).cellInvs EB (Rd T V) κ) (S := Finset.univ) (Φ := fun k => openTok EB (gs k)) fun k _ => (sep_mono_left (hI k)))
    isplitr; · iexact HI
    iexact Ho
  iexact Hv

set_option maxHeartbeats 2000000 in
theorem deal : iprop(Tk T V c ∗ Pipeline.ownSems0 osem c ∗ levAts (SiteBlocks.L NL) SiteBlocks.lv) ⊢ (|={Set.univ}=> Xk T V c : sProp 𝕄) := by
  rw [ownSems_eq]
  iintro ⟨HT, ⟨Hs0, Hr0⟩, #HL⟩
  ihave HT := (tk_open T V c) $$ HT
  icases HT with ⟨HB, HR, HC⟩
  ihave HB := (barPos_open T V c 0 Finset.univ) $$ HB
  icases HB with ⟨-, Hat, #Hreach⟩
  ihave HR := (rides_open T V c) $$ HR
  icases HR with ⟨⟨%κ, #HI⟩, ⟨Hos, Hor⟩, Hbt, Hst⟩
  ihave HC := (Entails.of_eq (launch_creds (F := F) T c)) $$ HC
  icases HC with ⟨Hcr, Hcb⟩
  imod (open_all T V (fun s : Fin 6 => sendCell c s) κ (fun s => (fam T).cellInvs_dorm EB (Rd T V) κ c (j := 0) (sm := osem (.inl s)) (show _ ∈ Finset.univ.map osemE from Finset.mem_map_of_mem osemE (Finset.mem_univ (Sum.inl s))))) $$ [Hos Hs0] with ⟨Has, #Hrs⟩
  · isplitr; · iexact HI
    isplitl [Hos]; · iexact Hos
    iexact Hs0
  imod (open_all T V (fun r : Fin 8 => recvCell c r) κ (fun r => (fam T).cellInvs_dorm EB (Rd T V) κ c (j := 0) (sm := osem (.inr r)) (show _ ∈ Finset.univ.map osemE from Finset.mem_map_of_mem osemE (Finset.mem_univ (Sum.inr r))))) $$ [Hor Hr0] with ⟨Har, #Hrr⟩
  · isplitr; · iexact HI
    isplitl [Hor]; · iexact Hor
    iexact Hr0
  imodintro
  unfold Xk kit ctx
  isplitr [Hat Hst Hbt Hcr Hcb Has Har]
  · iexists κ
    isplitr; · iexact HI
    isplitr; · iexact Hreach
    isplitr; · iexact Hrs
    isplitr; · iexact Hrr
    iexact HL
  isplitr [Hbt]
  · isplitl [Hat]; · iexact Hat
    isplitl [Hcb]; · iexact Hcb
    isplitl [Hst]; · iexact Hst
    isplitl [Has]; · iexact Has
    isplitl [Hcr]; · iexact Hcr
    iexact Har
  iexact Hbt

theorem xk_open : (Xk T V c : sProp 𝕄) ⊢ iprop((∃ κ, ctx T V κ c) ∗ kit T c
    ∗ bigSep Finset.univ fun r : Fin 8 => if owner T (tok c r) ≠ c then dutyTok EB (barCell (owner T (tok c r))) 0 (tok c r) else iprop(emp)) := by
  unfold Xk
  exact Entails.refl _

/-- The state before the first signal, out of the tokens, the result's buffer and what is owed. -/
theorem sig_start {f : (cc0_stg3_0 : Ref sig .tc).ty.Contents (Elt F)} :
    (iprop((bigSep Finset.univ fun r : Fin 8 => if owner T (tok c r) ≠ c then dutyTok EB (barCell (owner T (tok c r))) 0 (tok c r) else iprop(emp))
      ∗ (((c : Thread nD τ).loc cc0_stg3_0) ↦{fullShare} f) ∗ ∃ W, owes (c : Thread nD τ) (dues T c) W) : sProp 𝕄) ⊢ SigSt T c 0 := by
  unfold SigSt
  rw [march_zero, tail_zero, split_out]
  iintro ⟨Ht, Hb, Ho⟩
  isplitr [Ho]
  · unfold rowA
    rw [bigSep_sep']
    isplitl [Ht]; · iexact Ht
    iapply (show (bigSep Finset.univ fun r : Fin 8 => ((((c : Thread nD τ).loc cc0_stg3_0) ↦[oSet r]{fullShare} f) : sProp 𝕄)) ⊢ bigSep Finset.univ fun r : Fin 8 => anyRow c r from
      bigSep_mono fun r _ => (show (((((c : Thread nD τ).loc cc0_stg3_0) ↦[oSet r]{fullShare} f) : sProp 𝕄)) ⊢ anyRow c r from by
        unfold anyRow
        iintro H
        iexists f
        iexact H)) $$ Hb
  unfold dues
  iexact Ho

/-- What passes out of the kernel. -/
theorem spent_out (κ : GSem nD τ sig → ℕ) : (iprop(ctx T V κ c ∗ spent c) : sProp 𝕄)
    ⊢ iprop(Yk T V c ∗ Pipeline.ownSems0 osem c ∗ ∃ W, owes (c : Thread nD τ) 0 W) := by
  rw [ownSems_eq]
  unfold spent Yk TalkSites.Fam.barPos ctx
  iintro ⟨⟨#HI, -⟩, Ha, Hs, Hr, Ho⟩
  isplitl [Ha]
  · isplitr
    · iexists κ; iexact HI
    isplitl [Ha]; · iexact Ha
    rw [bigSep_empty]
    iempintro
  isplitr [Ho]
  · isplitl [Hs]; · iexact Hs
    iexact Hr
  iexact Ho

end Cert.Moe
-- ==== Proof.Region.lean ====
module
public import proofs.«01_k».proof.Proof.Deal

public import proofs.«01_k».proof.Proof.Gen.KernelIdeal.Launch
public import proofs.«01_k».proof.Proof.Gen.KernelIdeal.Points
public import Idealize.ShloMosaic.Lib.Pipeline.RegionTalk
public import Idealize.ShloMosaic.Lib.Pipeline.TalkReads

@[expose] public section

/-!
# The kernel as a region of the program

What its buffers hold before and after, the body's obligation, and the region itself.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

variable (T : Tab) (m : (ℓ : Loc nD τ sig) → Buf (Elt F) ℓ) (c : Dev nD)

/-- What device `c`'s buffers hold at launch. -/
abbrev V₀ (c : Dev nD) : Valuation τ sig (Elt F) := fun b => m ((c : Dev nD), b)
/-- After the routing table has been shared. -/
def V₁ (c : Dev nD) : Valuation τ sig (Elt F) := (ar0 (F := F)).after₀ (V₀ m) c
/-- The same, as a memory. -/
abbrev m₁ (ℓ : Loc nD τ sig) : Buf (Elt F) ℓ := V₁ m ℓ.1 ℓ.2

abbrev xOf (c : Dev nD) : (cc0_stg0_0 : Ref sig .tc).ty.Contents (Elt F) := V₁ m c main_arg0
/-- The routing table the kernel reads. -/
abbrev tOf (c : Dev nD) : (cc0_stg1_0 : Ref sig .tc).ty.Contents (Elt F) := V₁ m c main_v1
abbrev wOf (c : Dev nD) : (cc0_stg2_0 : Ref sig .tc).ty.Contents (Elt F) := V₁ m c main_arg3
/-- Every token's row. -/
abbrev rows (i : Fin 256) : S1x256.Idx → Elt F .f32 := rowVal T (xOf m) (wOf m) i
/-- The result of device `c`. -/
abbrev outOf (c : Dev nD) : (cc0_stg3_0 : Ref sig .tc).ty.Contents (Elt F) := stack fun r => rows T m (tok c r)

abbrev adm : (p : Fin 1) → (pcfgs (F := F) p).Adm := fun p => (cfgs p).toPCfg_adm

/-- The kernel's scratch. -/
def scratch : sProp 𝕄 := iprop((∃ f, cPts c f) ∗ wordsAny c)

theorem scratch_eq : (Pipeline.scopedRest (Ix := ℕ) (Name := ℕ) (U := UU) (Lvl := ℕ) (Val := Elt F) spec0 c : sProp 𝕄) = scratch c := by
  rw [scopedRest0_eq]
  rfl

def dat0 : Pipeline.Dat τ (Elt F) ℕ ℕ UU ℕ cfg0 c where
  A w := m₁ m ((cfg0.win w).arr.view.loc (c : Thread nD τ))
  after w _ := match w with
    | 0 => xOf m c
    | 1 => tblW T
    | 2 => wOf m c
    | 3 => outOf T m c
  Φ t := if t.val = 0 then iprop(Xk T (rows T m) c ∗ scratch c ∗ ∃ r, prngReg c r)
    else iprop(Yk T (rows T m) c ∗ Pipeline.ownSems0 osem c ∗ scratch c ∗ ∃ r, prngReg c r)
  q _ := fullShare
  owed t := if t.val = 0 then dues T c else 0

abbrev pdats : (p : Fin 1) → (c : Dev nD) → Pipeline.Dat τ (Elt F) ℕ ℕ UU ℕ (Pipeline.pin (pcfgs (F := F)) adm p) c
  | 0 => dat0 T m

theorem first_idx : ((t0_0).castSucc : Fin (cfg0.N + 1)).val = 0 := rfl
theorem last_idx : ((t0_0).succ : Fin (cfg0.N + 1)).val = 1 := rfl

theorem phi_first : (dat0 T m c).Φ (t0_0).castSucc = iprop(Xk T (rows T m) c ∗ scratch c ∗ ∃ r, prngReg c r) := rfl
theorem phi_last : (dat0 T m c).Φ (t0_0).succ = iprop(Yk T (rows T m) c ∗ Pipeline.ownSems0 osem c ∗ scratch c ∗ ∃ r, prngReg c r) := rfl
theorem owed_first : (dat0 T m c).owed (t0_0).castSucc = dues T c := rfl
theorem owed_last : (dat0 T m c).owed (t0_0).succ = 0 := rfl
theorem share_eq (w : Fin cfg0.W) : (dat0 T m c).share w = fullShare := by unfold Pipeline.Dat.share; split <;> rfl

theorem blk_0 (y : S256x128.Idx) : ((cfg0.win 0).blk t0_0).view.emb y = y := by
  funext a
  refine Fin.ext ?_
  fin_cases a
  · show 0 * 256 + 1 * (y 0).val = (y 0).val
    omega
  · show 0 * 128 + 1 * (y 1).val = (y 1).val
    omega
theorem blk_1 (y : S256x1.Idx) : ((cfg0.win 1).blk t0_0).view.emb y = y := by
  funext a
  refine Fin.ext ?_
  fin_cases a
  · show 0 * 256 + 1 * (y 0).val = (y 0).val
    omega
  · show 0 * 1 + 1 * (y 1).val = (y 1).val
    omega
theorem blk_2 (y : S2x128x256.Idx) : ((cfg0.win 2).blk t0_0).view.emb y = y := by
  funext a
  refine Fin.ext ?_
  fin_cases a
  · show 0 * 2 + 1 * (y 0).val = (y 0).val
    omega
  · show 0 * 128 + 1 * (y 1).val = (y 1).val
    omega
  · show 0 * 256 + 1 * (y 2).val = (y 2).val
    omega
theorem blk_3 (y : S8x256.Idx) : ((cfg0.win 3).blk t0_0).view.emb y = y := by
  funext a
  refine Fin.ext ?_
  fin_cases a
  · show 0 * 8 + 1 * (y 0).val = (y 0).val
    omega
  · show 0 * 256 + 1 * (y 1).val = (y 1).val
    omega

theorem before_0 (d) : (dat0 T m c).before 0 t0_0 d = xOf m c := by
  have h : (dat0 T m c).before 0 t0_0 d = (dat0 T m c).blockOf 0 t0_0 := if_pos (fetch0_0 t0_0)
  rw [h]
  funext y
  exact congrArg (xOf m c) (blk_0 y)
theorem block_1 (X : S256x1.Idx → Elt F .i32) (y : S256x1.Idx) : ((cfg0.win 1).blk t0_0).view.read (Elt F) X y = X (((cfg0.win 1).blk t0_0).view.emb y) := rfl
attribute [local irreducible] V₁ in
theorem block_of_1 : (dat0 T m c).blockOf 1 t0_0 = ((cfg0.win 1).blk t0_0).view.read (Elt F) (tOf m c) := rfl
theorem read_1 (X : S256x1.Idx → Elt F .i32) : ((cfg0.win 1).blk t0_0).view.read (Elt F) X = X :=
  funext fun y => (block_1 X y).trans (congrArg X (blk_1 y))
theorem before_1 (d) : (dat0 T m c).before 1 t0_0 d = tOf m c :=
  (show (dat0 T m c).before 1 t0_0 d = (dat0 T m c).blockOf 1 t0_0 from if_pos (fetch0_1 t0_0)).trans
    ((block_of_1 T m c).trans (read_1 (tOf m c)))
theorem before_2 (d) : (dat0 T m c).before 2 t0_0 d = wOf m c := by
  have h : (dat0 T m c).before 2 t0_0 d = (dat0 T m c).blockOf 2 t0_0 := if_pos (fetch0_2 t0_0)
  rw [h]
  funext y
  exact congrArg (wOf m c) (blk_2 y)

/-- The result's array after the kernel. -/
theorem arr_out : (dat0 T m c).arrAt 3 cfg0.N = (outOf T m c : S8x256.Idx → Elt F .f32) := by
  have h : (dat0 T m c).arrAt 3 (t0_0.val + 1) = ((cfg0.win 3).blk t0_0).view.write (Elt F) ((dat0 T m c).arrAt 3 t0_0) ((dat0 T m c).flushed 3 t0_0) Finset.univ :=
    ((dat0 T m c).arrAt_succ 3 t0_0).trans (if_pos (flush0_3 t0_0))
  rw [show cfg0.N = t0_0.val + 1 from N_0, h]
  funext y
  have hw := View.write_emb_of_mem (v := ((cfg0.win 3).blk t0_0).view) (Val := Elt F) ((dat0 T m c).arrAt 3 t0_0) ((dat0 T m c).flushed 3 t0_0) (Finset.mem_univ (y : S8x256.Idx))
  have e := congrArg (((cfg0.win 3).blk t0_0).view.write (Elt F) ((dat0 T m c).arrAt 3 t0_0) ((dat0 T m c).flushed 3 t0_0) Finset.univ) (blk_3 y)
  exact e.symm.trans hw

end Cert.Moe
-- ==== Proof.Meets.lean ====
module

public import proofs.«01_k».proof.Proof.Region

@[expose] public section

/-!
# The kernel's body meets its obligation

The body's run, read against the staging buffers and the data of the region.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

variable (T : Tab) (m : (ℓ : Loc nD τ sig) → Buf (Elt F) ℓ) (c : Dev nD)

theorem in_0 : (iprop(∃ d, owns (c : Thread nD τ) (stage0_0 0) fullShare ((dat0 T m c).before 0 t0_0 d)) : sProp 𝕄)
    ⊢ xPts c (xOf m c) := by
  iintro ⟨%d, H⟩
  rw [before_0]
  iapply (Entails.of_eq (owns_whole (c : Thread nD τ) cc0_stg0_0 fullShare (xOf m c)))
  iexact H
theorem in_1 (hT : tOf m c = tblW T) : (iprop(∃ d, owns (c : Thread nD τ) (stage0_1 0) fullShare ((dat0 T m c).before 1 t0_0 d)) : sProp 𝕄)
    ⊢ tblPts T c := by
  iintro ⟨%d, H⟩
  rw [before_1, hT]
  iapply (Entails.of_eq (owns_whole (c : Thread nD τ) cc0_stg1_0 fullShare (tblW T)))
  iexact H
theorem in_2 : (iprop(∃ d, owns (c : Thread nD τ) (stage0_2 0) fullShare ((dat0 T m c).before 2 t0_0 d)) : sProp 𝕄)
    ⊢ wPts c (wOf m c) := by
  iintro ⟨%d, H⟩
  rw [before_2]
  iapply (Entails.of_eq (owns_whole (c : Thread nD τ) cc0_stg2_0 fullShare (wOf m c)))
  iexact H
theorem in_3 : (iprop(∃ d, owns (c : Thread nD τ) (stage0_3 0) fullShare ((dat0 T m c).before 3 t0_0 d)) : sProp 𝕄)
    ⊢ iprop(∃ f : (cc0_stg3_0 : Ref sig .tc).ty.Contents (Elt F), ((c : Thread nD τ).loc cc0_stg3_0) ↦{fullShare} f) := by
  iintro ⟨%d, H⟩
  iexists ((dat0 T m c).before 3 t0_0 d)
  iapply (Entails.of_eq (owns_whole (c : Thread nD τ) cc0_stg3_0 fullShare ((dat0 T m c).before 3 t0_0 d)))
  iexact H
theorem out_0 : (xPts c (xOf m c) : sProp 𝕄) ⊢ owns (c : Thread nD τ) (stage0_0 0) fullShare ((dat0 T m c).after 0 t0_0) :=
  Entails.of_eq (owns_whole (c : Thread nD τ) cc0_stg0_0 fullShare (xOf m c)).symm
theorem own_1 (X : (cc0_stg1_0 : Ref sig .tc).ty.Contents (Elt F)) : (iprop(((c : Thread nD τ).loc cc0_stg1_0) ↦{fullShare} X) : sProp 𝕄)
    ⊢ owns (c : Thread nD τ) (stage0_1 0) fullShare X :=
  Entails.of_eq (owns_whole (c : Thread nD τ) cc0_stg1_0 fullShare X).symm
theorem after_1 : (dat0 T m c).after 1 t0_0 = tblW T := rfl
theorem out_1 : (tblPts T c : sProp 𝕄) ⊢ owns (c : Thread nD τ) (stage0_1 0) fullShare ((dat0 T m c).after 1 t0_0) :=
  by rw [after_1]; exact own_1 c (tblW T)
theorem out_2 : (wPts c (wOf m c) : sProp 𝕄) ⊢ owns (c : Thread nD τ) (stage0_2 0) fullShare ((dat0 T m c).after 2 t0_0) :=
  Entails.of_eq (owns_whole (c : Thread nD τ) cc0_stg2_0 fullShare (wOf m c)).symm
theorem out_3 : (iprop(((c : Thread nD τ).loc cc0_stg3_0) ↦{fullShare} (outOf T m c)) : sProp 𝕄)
    ⊢ owns (c : Thread nD τ) (stage0_3 0) fullShare ((dat0 T m c).after 3 t0_0) :=
  Entails.of_eq (owns_whole (c : Thread nD τ) cc0_stg3_0 fullShare (outOf T m c)).symm

theorem owes_in : ((dat0 T m c).owesAt 0 (t0_0).castSucc : sProp 𝕄) ⊢ iprop(∃ W, owes (c : Thread nD τ) (dues T c) W) := by
  unfold Pipeline.Dat.owesAt Pipeline.owesWithin
  rw [owed_first]
  iintro ⟨%W, -, HO⟩
  iexists W
  iexact HO
theorem owes_out : (iprop(∃ W, owes (c : Thread nD τ) 0 W) : sProp 𝕄) ⊢ (dat0 T m c).owesAt 0 (t0_0).succ := by
  unfold Pipeline.Dat.owesAt Pipeline.owesWithin Pipeline.Dat.bound
  rw [owed_last, show (dat0 T m c).recorded (t0_0).succ = Set.univ from rfl]
  iintro ⟨%W, HO⟩
  iexists W
  isplitr
  · ipureintro; exact fun _ _ => Or.inl trivial
  iexact HO

theorem scratch_open : (scratch c : sProp 𝕄) ⊢ iprop((∃ f, cPts c f) ∗ wordsAny c) := by unfold scratch; exact Entails.refl _
theorem scratch_close : (iprop((∃ f, cPts c f) ∗ wordsAny c) : sProp 𝕄) ⊢ scratch c := by unfold scratch; exact Entails.refl _

set_option maxHeartbeats 2000000 in
theorem body_meets (hT : tOf m c = tblW T) : Pipeline.BodyObligation (dat0 T m c) defs₀ 𝒱₀ 0 Set.univ := fun t => by
  obtain rfl := fin_N0 t
  rw [bigSep_W0, bigSep_W0, phi_first, phi_last]
  show iprop((Xk T (rows T m) c ∗ scratch c ∗ ∃ r, prngReg c r) ∗ (dat0 T m c).owesAt 0 (t0_0).castSucc ∗ (∃ d, owns (c : Thread nD τ) (stage0_0 0) fullShare ((dat0 T m c).before 0 t0_0 d)) ∗ (∃ d, owns (c : Thread nD τ) (stage0_1 0) fullShare ((dat0 T m c).before 1 t0_0 d)) ∗ (∃ d, owns (c : Thread nD τ) (stage0_2 0) fullShare ((dat0 T m c).before 2 t0_0 d)) ∗ (∃ d, owns (c : Thread nD τ) (stage0_3 0) fullShare ((dat0 T m c).before 3 t0_0 d)))
    ⊢ wp frame (wpE (defs₀ (F := F)) 𝒱₀ (c : Thread nD τ) none) Set.univ (cc0_body (F := F) (Memref.whole cc0_stg0_0) (hstage0_0 0) (Memref.whole cc0_stg1_0) (hstage0_1 0) (Memref.whole cc0_stg2_0) (hstage0_2 0) (Memref.whole cc0_stg3_0) (hstage0_3 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6)
      fun _ => iprop((Yk T (rows T m) c ∗ Pipeline.ownSems0 osem c ∗ scratch c ∗ ∃ r, prngReg c r) ∗ (dat0 T m c).owesAt 0 (t0_0).succ ∗ owns (c : Thread nD τ) (stage0_0 0) fullShare ((dat0 T m c).after 0 t0_0) ∗ owns (c : Thread nD τ) (stage0_1 0) fullShare ((dat0 T m c).after 1 t0_0) ∗ owns (c : Thread nD τ) (stage0_2 0) fullShare ((dat0 T m c).after 2 t0_0) ∗ owns (c : Thread nD τ) (stage0_3 0) fullShare ((dat0 T m c).after 3 t0_0))
  iintro ⟨⟨HX, HS, Hp⟩, HO, H0, H1, H2, H3⟩
  ihave H0 := (in_0 T m c) $$ H0
  ihave H1 := (in_1 T m c hT) $$ H1
  ihave H2 := (in_2 T m c) $$ H2
  ihave H3 := (in_3 T m c) $$ H3
  icases H3 with ⟨%f, H3⟩
  ihave HX := (xk_open T (rows T m) c) $$ HX
  icases HX with ⟨⟨%κ, #HX⟩, HK, Ht⟩
  ihave HS := (scratch_open c) $$ HS
  icases HS with ⟨Hc, Hw⟩
  ihave HO := (owes_in T m c) $$ HO
  ihave Hsig := (sig_start T c (f := f)) $$ [Ht H3 HO]
  · isplitl [Ht]; · iexact Ht
    isplitl [H3]; · iexact H3
    iexact HO
  iapply (body_run T (rows T m) κ c (xOf m c) (wOf m c) (hstage0_0 0) (hstage0_1 0) (hstage0_2 0) (hstage0_3 0) (Memref.isWhole_whole _)
    (Memref.isWhole_whole _) (Memref.isWhole_whole _) (Memref.isWhole_whole _) (Memref.isWhole_whole _)
    (fun i h => rowVal_over T (xOf m) (wOf m) i h) (fun s i h => rowVal_at T (xOf m) (wOf m) s i h))
  isplitr [Hp]
  · isplitr; · iexact HX
    isplitl [H1]; · iexact H1
    isplitl [Hsig]; · iexact Hsig
    isplitl [Hw]; · iexact Hw
    isplitl [H0]; · iexact H0
    isplitl [H2]; · iexact H2
    isplitl [Hc]; · iexact Hc
    iexact HK
  iintro ⟨H1, Hw, H0, H2, Hc, H3, Hsp⟩
  ihave Hsp := (spent_out T (rows T m) c κ) $$ [Hsp]
  · isplitr; · iexact HX
    iexact Hsp
  icases Hsp with ⟨HY, Hos, HO⟩
  isplitl [HY Hos Hc Hw Hp]
  · isplitl [HY]; · iexact HY
    isplitl [Hos]; · iexact Hos
    isplitl [Hc Hw]
    · iapply (scratch_close c)
      isplitl [Hc]; · iexact Hc
      iexact Hw
    iexact Hp
  isplitl [HO]
  · iapply (owes_out T m c) $$ HO
  isplitl [H0]; · iapply (out_0 T m c) $$ H0
  isplitl [H1]; · iapply (out_1 T m c) $$ H1
  isplitl [H2]; · iapply (out_2 T m c) $$ H2
  iapply (out_3 T m c) $$ H3

end Cert.Moe
-- ==== Proof.Segs.lean ====
module
public import proofs.«01_k».proof.Proof.Meets

public import Idealize.ShloMosaic.Lib.Pipeline.SiteBlocksAR

@[expose] public section

/-!
# The program as two segments

The all-reduce that shares the routing table, and the kernel. Each is entered from what the other leaves.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

variable (T : Tab) (m : (ℓ : Loc nD τ sig) → Buf (Elt F) ℓ) (c : Dev nD)

/-- What device `c`'s buffers hold at the end. -/
def Vn (c : Dev nD) : Valuation τ sig (Elt F) := Function.update (V₁ m c) (Proc.devRef .tc main_v2) (outOf T m c)

theorem vn_result : Vn T m c main_v2 = outOf T m c := Function.update_self ..
theorem vn_of_ne {b : DevRef τ sig} (h : b ≠ Proc.devRef .tc main_v2) : Vn T m c b = V₁ m c b := Function.update_of_ne h ..

/-- The kernel's arrays, and the other buffers. -/
abbrev arrs : Finset (DevRef τ sig) := Pipeline.arrRefs (τ := τ) spec0
abbrev others : Finset (DevRef τ sig) := Pipeline.ucRefs τ sig \ arrs

theorem arrs_sub : arrs ⊆ Pipeline.ucRefs τ sig := Pipeline.arrRefs_sub_ucRefs spec0 (by decide)
theorem result_mem : Proc.devRef .tc main_v2 ∈ arrs := by decide

/-- The all-reduce's cells under their invariants. -/
abbrev invsA : sProp 𝕄 := iprop(∃ κ, (AllReduce.Dat.once (ar0 (F := F)) (V₀ m)).cellInvs E0 κ)
/-- What the all-reduce leaves behind. -/
abbrev pastA (c : Dev nD) : sProp 𝕄 := iprop(invsA m ∗ (ar0 (F := F)).ghostAfter E0 c 0)

theorem owed_zero : (pdats T m 0 c).owed 0 = dues T c := rfl
theorem owed_end : (pdats T m 0 c).owed (Fin.last _) = 0 := by
  show (if (Fin.last cfg0.N).val = 0 then dues T c else 0) = 0
  rw [Fin.val_last, if_neg (by rw [show cfg0.N = 1 from N_0]; decide)]

theorem held_none (W : Valuation τ sig (Elt F)) : (StableHlo.held (c.tc : Thread nD τ) ∅ W : sProp 𝕄) = BI.emp := by
  unfold StableHlo.held
  exact BI.bigSep_empty

theorem region_in : iprop(Pipeline.scopedRest (Pipeline.pin (pcfgs (F := F)) adm 0).spec c ∗ (∃ r, prngReg c r)
      ∗ StableHlo.held (c.tc : Thread nD τ) ∅ (V₁ m c) ∗ Xk T (rows T m) c)
    ⊢ (pdats T m 0 c).Φ 0 := by
  show iprop(Pipeline.scopedRest spec0 c ∗ (∃ r, prngReg c r) ∗ StableHlo.held (c.tc : Thread nD τ) ∅ (V₁ m c) ∗ Xk T (rows T m) c)
    ⊢ iprop(Xk T (rows T m) c ∗ scratch c ∗ ∃ r, prngReg c r)
  rw [scratch_eq]
  iintro ⟨Hs, Hp, -, HX⟩
  isplitl [HX]; · iexact HX
  isplitl [Hs]; · iexact Hs
  iexact Hp

theorem region_out : (pdats T m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (Vn T m c) ∗ Pipeline.ownSems0 osem c ∗ Yk T (rows T m) c) := by
  show iprop(Yk T (rows T m) c ∗ Pipeline.ownSems0 osem c ∗ scratch c ∗ ∃ r, prngReg c r)
    ⊢ iprop(Pipeline.scopedRest spec0 c ∗ (∃ r, prngReg c r)
      ∗ StableHlo.held (c.tc : Thread nD τ) ∅ (Vn T m c) ∗ Pipeline.ownSems0 osem c ∗ Yk T (rows T m) c)
  rw [scratch_eq, held_none]
  iintro ⟨HY, Ho, Hs, Hp⟩
  isplitl [Hs]; · iexact Hs
  isplitl [Hp]; · iexact Hp
  isplitr; · iempintro
  isplitl [Ho]; · iexact Ho
  iexact HY

attribute [local irreducible] V₁ in
theorem arr_start (w : Fin cfg0.W) : (dat0 T m c).arrAt w 0 = V₁ m c (Proc.devRef .tc (Pipeline.arrRef spec0 w)) := by
  fin_cases w
  · exact (show xOf m c = V₁ m c (Proc.devRef .tc main_arg0) from rfl)
  · exact (show tOf m c = V₁ m c (Proc.devRef .tc main_v1) from rfl)
  · exact (show wOf m c = V₁ m c (Proc.devRef .tc main_arg3) from rfl)
  · exact (show V₁ m c (Proc.devRef .tc main_v2) = V₁ m c (Proc.devRef .tc main_v2) from rfl)

theorem end_0 : xOf m c = Vn T m c (Proc.devRef .tc main_arg0) := (vn_of_ne T m c (b := Proc.devRef .tc main_arg0) (by decide)).symm
theorem end_1 : tOf m c = Vn T m c (Proc.devRef .tc main_v1) := (vn_of_ne T m c (b := Proc.devRef .tc main_v1) (by decide)).symm
theorem end_2 : wOf m c = Vn T m c (Proc.devRef .tc main_arg3) := (vn_of_ne T m c (b := Proc.devRef .tc main_arg3) (by decide)).symm

attribute [local irreducible] V₁ Vn in
theorem arr_end (w : Fin cfg0.W) : (dat0 T m c).arrAt w cfg0.N = Vn T m c (Proc.devRef .tc (Pipeline.arrRef spec0 w)) := by
  fin_cases w
  · exact ((dat0 T m c).arrAt_in 0 rfl _).trans (end_0 T m c)
  · exact ((dat0 T m c).arrAt_in 1 rfl _).trans (end_1 T m c)
  · exact ((dat0 T m c).arrAt_in 2 rfl _).trans (end_2 T m c)
  · exact (arr_out T m c).trans (vn_result T m c).symm

theorem region_cut : Pipeline.LevelCutOwed (pcfgs (F := F)) adm (pdats T m) 0 (SiteBlocks.L NL) SiteBlocks.lv 0 (fun _ => 0) :=
  ⟨fun _ _ _ => SiteBlocks.mem_L _ _ (by decide), fun _ _ _ => le_refl _, fun c t g i h => by
    have e : (pdats T m 0 c).owed t = if t.val = 0 then dues T c else 0 := rfl
    rw [e] at h
    split at h
    · have h' := dues_above T c h
      exact ⟨h'.1, lt_of_lt_of_le (by decide) h'.2⟩
    · exact absurd h (Nat.lt_irrefl 0)⟩

set_option backward.isDefEq.respectTransparency.types false in
/-- The kernel. -/
def region (hT : ∀ c, tOf m c = tblW T) : Pipeline.RegionSeg (pcfgs (F := F)) adm (pdats T m) 0 defs₀ 𝒱₀ (SiteBlocks.L NL) SiteBlocks.lv 0 :=
  Pipeline.RegionSeg.ofTalk (pcfgs (F := F)) adm (pdats T m) 0 defs₀ 𝒱₀ (SiteBlocks.L NL) SiteBlocks.lv 0 osem
    (by decide : Pipeline.OwnSemFacts spec0 osem) ∅ others (Finset.empty_subset _) launch0.toP rfl (fun c => (body_meets T m c (hT c)).loose)
    (fun _ => 0) (dues T) (fun c => (owed_zero T m c).trans (zero_add _).symm) (owed_end T m) (fun _ => rfl) (fun c w => share_eq T m c w)
    (V₁ m) (Vn T m) (fun c b hb => vn_of_ne T m c fun h => (Finset.mem_sdiff.mp (Finset.mem_sdiff.mp hb).1).2 (h ▸ result_mem))
    (Tk T (rows T m)) (Yk T (rows T m)) (Xk T (rows T m)) (Yk T (rows T m)) (deal T (rows T m)) (region_in T m) (region_out T m)
    (fun c => by iintro H; imodintro; iexact H)
    (fun _ => 0) (region_cut T m) (pastA m) (arr_start T m) (arr_end T m)

/-- What rides beside the all-reduce. -/
def restA (c : Dev nD) : sProp 𝕄 :=
  iprop(StableHlo.held (c.tc : Thread nD τ) (Pipeline.ucRefs τ sig \ (ar0 (F := F)).siteRefs) (V₀ m c) ∗ (∃ r, prngReg c r) ∗ invsA m ∗ Tk T (rows T m) c)

/-- The all-reduce. -/
def share : Pipeline.HostSeg (Ix := ℕ) (Name := ℕ) (U := UU) (Lvl := ℕ) (pcfgs (F := F)) defs₀ 𝒱₀ (SiteBlocks.L NL) SiteBlocks.lv :=
  collSeg0 E0 𝒱₀ (SiteBlocks.L NL) SiteBlocks.lv (V₀ m) (dues T) 1 1 2 3 2
    (SiteBlocks.ar_hbar (ar0 (F := F)) (N := NL) (b := 1) (by decide) (above_dues T))
    (SiteBlocks.ar_hrecv (ar0 (F := F)) (N := NL) (b := 1) (by decide) (above_dues T))
    (SiteBlocks.ar_hsend (ar0 (F := F)) (N := NL) (b := 1) (by decide) (above_dues T)) (restA T m)

/-- The program's two parts. -/
def segs (hT : ∀ c, tOf m c = tblW T) : List (Pipeline.Seg (pcfgs (F := F)) adm (pdats T m) 0 defs₀ 𝒱₀ (SiteBlocks.L NL) SiteBlocks.lv) :=
  [.host (share T m), .region (region T m hT)]

theorem main_eq (hT : ∀ c, tOf m c = tblW T) : main (F := F) c = Pipeline.Seg.run (segs T m hT) :=
  main_segs adm (pdats T m) 0 𝒱₀ (SiteBlocks.L NL) SiteBlocks.lv (share T m) (region T m hT) rfl c

/-- The state at launch. -/
def T₀ (c : Dev nD) : sProp 𝕄 :=
  iprop(StableHlo.held (c.tc : Thread nD τ) (Pipeline.ucRefs τ sig) (V₀ m c) ∗ (∃ r, prngReg c r)
    ∗ SiteBlocks.arRides (ar0 (F := F)) E0 1 (V₀ m) c ∗ Tk T (rows T m) c ∗ ∃ W, owes (c : Thread nD τ) (dues T c + (ar0 (F := F)).due c 1 2) W)

/-- The state at the end. -/
def Tₙ (c : Dev nD) : sProp 𝕄 :=
  iprop(StableHlo.held (c.tc : Thread nD τ) (Pipeline.ucRefs τ sig) (Vn T m c) ∗ pastA m c ∗ Yk T (rows T m) c)

theorem to_share : (T₀ T m c : sProp 𝕄) ⊢ (share T m).pre c := by
  show (T₀ T m c : sProp 𝕄) ⊢ iprop(StableHlo.held (c.tc : Thread nD τ) (ar0 (F := F)).siteRefs (V₀ m c) ∗ SiteBlocks.arRides (ar0 (F := F)) E0 1 (V₀ m) c
    ∗ (∃ W, owes (c : Thread nD τ) (dues T c + (ar0 (F := F)).due c 1 2) W) ∗ restA T m c)
  unfold T₀ restA
  rw [StableHlo.held_sub_split (c.tc : Thread nD τ) ((ar0 (F := F)).siteRefs_sub_ucRefs) (V₀ m c)]
  iintro ⟨⟨Hs, Hu⟩, Hp, Hra, HT, HO⟩
  ihave #Hia := (show (SiteBlocks.arRides (ar0 (F := F)) E0 1 (V₀ m) c : sProp 𝕄) ⊢ invsA m from by
    unfold SiteBlocks.arRides AllReduce.Dat.rides
    iintro ⟨Hi, -⟩
    iexact Hi) $$ Hra
  isplitl [Hs]; · iexact Hs
  isplitl [Hra]; · iexact Hra
  isplitl [HO]; · iexact HO
  isplitl [Hu]; · iexact Hu
  isplitl [Hp]; · iexact Hp
  isplitr; · iexact Hia
  iexact HT

theorem share_to_region (hT : ∀ c, tOf m c = tblW T) : (share T m).post c ⊢ (region T m hT).pre c := by
  show iprop(StableHlo.held (c.tc : Thread nD τ) (ar0 (F := F)).siteRefs (V₁ m c) ∗ (ar0 (F := F)).ghostAfter E0 c 0
      ∗ (∃ W, owes (c : Thread nD τ) (dues T c) W) ∗ restA T m c)
    ⊢ iprop(StableHlo.held (c.tc : Thread nD τ) arrs (V₁ m c) ∗ (∃ r, prngReg c r)
      ∗ (StableHlo.held (c.tc : Thread nD τ) others (V₁ m c) ∗ pastA m c) ∗ Tk T (rows T m) c ∗ ∃ Wd, owes (c : Thread nD τ) (0 + dues T c) Wd)
  have e : (StableHlo.held (c.tc : Thread nD τ) (Pipeline.ucRefs τ sig \ (ar0 (F := F)).siteRefs) (V₀ m c) : sProp 𝕄)
      = StableHlo.held (c.tc : Thread nD τ) (Pipeline.ucRefs τ sig \ (ar0 (F := F)).siteRefs) (V₁ m c) :=
    StableHlo.held_congr (c.tc : Thread nD τ) fun b hb => ((ar0 (F := F)).after₀_off_siteRefs (V₀ m) c (Finset.mem_sdiff.mp hb).2).symm
  have e2 : (iprop(StableHlo.held (c.tc : Thread nD τ) (ar0 (F := F)).siteRefs (V₁ m c)
        ∗ StableHlo.held (c.tc : Thread nD τ) (Pipeline.ucRefs τ sig \ (ar0 (F := F)).siteRefs) (V₁ m c)) : sProp 𝕄)
      = iprop(StableHlo.held (c.tc : Thread nD τ) arrs (V₁ m c) ∗ StableHlo.held (c.tc : Thread nD τ) others (V₁ m c)) :=
    (StableHlo.held_sub_split (c.tc : Thread nD τ) ((ar0 (F := F)).siteRefs_sub_ucRefs) (V₁ m c)).symm.trans
      (StableHlo.held_sub_split (c.tc : Thread nD τ) arrs_sub (V₁ m c))
  unfold restA
  rw [e, zero_add]
  iintro ⟨Hs, Hg, HO, Hu, Hp, Hia, HT⟩
  ihave H := (Entails.of_eq e2) $$ [Hs Hu]
  · isplitl [Hs]; · iexact Hs
    iexact Hu
  icases H with ⟨Ha, Hu⟩
  isplitl [Ha]; · iexact Ha
  isplitl [Hp]; · iexact Hp
  isplitl [Hu Hia Hg]
  · isplitl [Hu]; · iexact Hu
    isplitl [Hia]; · iexact Hia
    iexact Hg
  isplitl [HT]; · iexact HT
  iexact HO

theorem region_to_end (hT : ∀ c, tOf m c = tblW T) : (region T m hT).post c
    ⊢ iprop(Tₙ T m c ∗ ∃ W, owes (c : Thread nD τ) (0 : CellTallies nD τ sig ℕ) W) := by
  show iprop(StableHlo.held (c.tc : Thread nD τ) arrs (Vn T m c) ∗ (∃ r, prngReg c r)
      ∗ (StableHlo.held (c.tc : Thread nD τ) others (Vn T m c) ∗ pastA m c) ∗ Yk T (rows T m) c ∗ ∃ Wd, owes (c : Thread nD τ) 0 Wd) ⊢ _
  unfold Tₙ
  rw [StableHlo.held_sub_split (c.tc : Thread nD τ) arrs_sub (Vn T m c)]
  iintro ⟨Ha, -, ⟨Hu, Hpa⟩, HY, HO⟩
  isplitr [HO]
  · isplitl [Ha Hu]
    · isplitl [Ha]; · iexact Ha
      iexact Hu
    isplitl [Hpa]; · iexact Hpa
    iexact HY
  iexact HO

end Cert.Moe
-- ==== Proof.Run.lean ====
module

public import proofs.«01_k».proof.Proof.Segs

@[expose] public section

/-!
# The run of the whole program

From any memory in which the shared table holds the experts of `T`, every fair execution of the 32 devices terminates, leaves
the arguments as they were and every semaphore at zero, and the result of device `c` at the eight rows of its tokens.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

variable (T : Tab) (m : (ℓ : Loc nD τ sig) → Buf (Elt F) ℓ) (ρ : Dev nD → PrngReg) (c : Dev nD)

/-- What the devices owe at launch. -/
abbrev O₀ (c : Dev nD) : CellTallies nD τ sig ℕ := (fun _ => 0 : Dev nD → CellTallies nD τ sig ℕ) c + dues T c + (ar0 (F := F)).due c 1 2

/-- Every peer. -/
abbrev allPeers : Dev nD → Finset (Dev nD) := fun _ => Finset.univ

theorem not_unitless : ∀ g ∈ (fam T).Sd, ¬ (Rd T (rows T m)).unitless g := fun _ _ h => h

/-- The counters the launch puts under invariants. -/
abbrev cellsOf (c : Dev nD) : sProp 𝕄 := iprop(SiteBlocks.arCells (ar0 (F := F)) c ∗ semVal ((c.tc : Thread nD τ), (fam T).bar) 0)

/-- What every device gets from it. -/
abbrev dealt (c : Dev nD) : sProp 𝕄 :=
  iprop(SiteBlocks.arRides (ar0 (F := F)) E0 1 (V₀ m) c ∗ (Pipeline.launchCred (dues T) c ∗ (fam T).launched EB (Rd T (rows T m)) allPeers c))

/-- The element the launch spends, beside the pipeline's. -/
abbrev uC : SiteBlocks.Uar nD τ sig × URounds (GSem nD τ sig) (Fin 256) :=
  (SiteBlocks.arInit (U := UU) (ar0 (F := F)) (V₀ m), launchOf (fam T).S (fam T).Sd (fam T).T)

/-- Everything the launch funds. -/
theorem funds : SiteBlocks.Funds EC (cellsOf T) (O₀ (F := F) T) (uC T m) (dealt T m) Set.univ :=
  SiteBlocks.Funds.step EC (SiteBlocks.ar_funds E0 (ar0 (F := F)) 1 (V₀ m))
    (TalkSites.pass (dues T) ((fam T).funds EB (Rd T (rows T m)) (not_unitless T m) allPeers))

/-- The element, at the first device. -/
abbrev G : Dev nD → sProp 𝕄 := SiteBlocks.onDev 0 (BI.own (EC (uC T m)))

/-- The whole launch element. -/
def u₀ : UU :=
  (initOf (Pipeline.cells (Pipeline.pin (pcfgs (F := F)) adm) cellOf_inj) (Pipeline.launchToks (Pipeline.pin (pcfgs (F := F)) adm) cellOf_inj), uC T m)

theorem sems_eq : (unscopedSems0 c : sProp 𝕄) = iprop(semVal ((ar0 (F := F)).barrierCell c) 0 ∗ semVal ((ar0 (F := F)).recvCell c) 0
    ∗ semVal ((ar0 (F := F)).sendCell c) 0 ∗ semVal ((c : Thread nD τ), .reg barrier0) 0) := Sites.sems_eq c

theorem bufs_eq : (unscopedBufs c (fun b => m ((c : Thread nD τ).loc b)) : sProp 𝕄)
    = StableHlo.held (c.tc : Thread nD τ) (Pipeline.ucRefs τ sig) (V₀ m c) := by
  unfold unscopedBufs StableHlo.held Pipeline.ucRefs StableHlo.tcRefs
  rw [Finset.filter_map, BI.bigSep_map]
  rfl

theorem launched_open : ((fam T).launched EB (Rd T (rows T m)) allPeers c : sProp 𝕄)
    ⊢ iprop((fam T).barPos EB (Rd T (rows T m)) c 0 Finset.univ ∗ (fam T).rides EB (Rd T (rows T m)) c 0) := by
  unfold TalkSites.Fam.launched
  rw [show (Finset.univ : Finset (Fin 1)) = {0} from rfl, bigSep_singleton]

theorem sort_in : iprop(unscopedBufs c (fun b => m ((c : Thread nD τ).loc b)) ∗ unscopedSems0 c
      ∗ owes (c : Thread nD τ) (O₀ (F := F) T c) ∅ ∗ Pipeline.launchCred (O₀ (F := F) T) c ∗ prngReg c (ρ c) ∗ G T m c)
    ⊢ (iprop((cellsOf T c ∗ Pipeline.launchCred (O₀ (F := F) T) c) ∗ G T m c
        ∗ (unscopedBufs c (fun b => m ((c : Thread nD τ).loc b)) ∗ prngReg c (ρ c) ∗ owes (c : Thread nD τ) (O₀ (F := F) T c) ∅)) : sProp 𝕄) := by
  rw [sems_eq]
  iintro ⟨Hub, ⟨H1, H2, H3, H4⟩, HO, Hcr, Hp, HG⟩
  isplitl [H1 H2 H3 H4 Hcr]
  · isplitl [H1 H2 H3 H4]
    · isplitl [H1 H2 H3]
      · isplitl [H1]; · iexact H1
        isplitl [H2]; · iexact H2
        iexact H3
      iexact H4
    iexact Hcr
  isplitl [HG]; · iexact HG
  isplitl [Hub]; · iexact Hub
  isplitl [Hp] <;> iassumption

theorem sort_out : iprop(dealt T m c
      ∗ (unscopedBufs c (fun b => m ((c : Thread nD τ).loc b)) ∗ prngReg c (ρ c) ∗ owes (c : Thread nD τ) (O₀ (F := F) T c) ∅))
    ⊢ (T₀ T m c : sProp 𝕄) := by
  unfold T₀ Tk
  rw [bufs_eq]
  iintro ⟨⟨Hra, Hcr, Hl⟩, Hub, Hp, HO⟩
  ihave Hl := (launched_open T m c) $$ Hl
  icases Hl with ⟨Hb, Hr⟩
  isplitl [Hub]; · iexact Hub
  isplitl [Hp]; · iexists _; iexact Hp
  isplitl [Hra]; · iexact Hra
  isplitl [Hb Hr Hcr]
  · isplitl [Hb]; · iexact Hb
    isplitl [Hr]; · iexact Hr
    iexact Hcr
  iexists ∅
  iapply (show (owes (c : Thread nD τ) (O₀ (F := F) T c) ∅ : sProp 𝕄) ⊢ owes (c : Thread nD τ) (dues T c + (ar0 (F := F)).due c 1 2) ∅ from by
    rw [show O₀ (F := F) T c = 0 + dues T c + (ar0 (F := F)).due c 1 2 from rfl, zero_add])
  iexact HO

theorem init :
    iprop((bigSep Finset.univ fun c : Dev nD => iprop(unscopedBufs c (fun b => m ((c : Thread nD τ).loc b)) ∗ unscopedSems0 c
          ∗ owes (c : Thread nD τ) (O₀ (F := F) T c) ∅ ∗ Pipeline.launchCred (O₀ (F := F) T) c ∗ prngReg c (ρ c) ∗ G T m c))
        ∗ levAts (SiteBlocks.L NL) SiteBlocks.lv)
      ⊢ (|={Set.univ}=> bigSep Finset.univ (T₀ T m) : sProp 𝕄) := by
  iintro ⟨H, -⟩
  ihave H' := (show _ ⊢ iprop((bigSep Finset.univ fun c : Dev nD => iprop(cellsOf T c ∗ Pipeline.launchCred (O₀ (F := F) T) c))
        ∗ bigSep Finset.univ (G T m)
        ∗ bigSep Finset.univ fun c : Dev nD =>
            iprop(unscopedBufs c (fun b => m ((c : Thread nD τ).loc b)) ∗ prngReg c (ρ c) ∗ owes (c : Thread nD τ) (O₀ (F := F) T c) ∅))
      from by rw [← bigSep_sep', ← bigSep_sep']; exact bigSep_mono fun c _ => sort_in T m ρ c) $$ H
  icases H' with ⟨Hsc, HG, Hrest⟩
  ihave Hu := (Entails.of_eq (SiteBlocks.bigSep_onDev 0 (BI.own (EC (uC T m)) : sProp 𝕄))) $$ HG
  imod (funds T m) $$ [Hsc Hu] with Hr
  · isplitl [Hsc]; · iexact Hsc
    iexact Hu
  imodintro
  iapply (show iprop((bigSep Finset.univ fun c : Dev nD => dealt T m c)
        ∗ bigSep Finset.univ fun c : Dev nD =>
            iprop(unscopedBufs c (fun b => m ((c : Thread nD τ).loc b)) ∗ prngReg c (ρ c) ∗ owes (c : Thread nD τ) (O₀ (F := F) T c) ∅))
      ⊢ bigSep Finset.univ (T₀ T m) from by rw [← bigSep_sep']; exact bigSep_mono fun c _ => sort_out T m ρ c)
  isplitl [Hr]; · iexact Hr
  iexact Hrest

/-- The arguments and the result. -/
abbrev seen : Finset (DevRef τ sig) :=
  {Proc.devRef .tc main_arg0, Proc.devRef .tc main_arg1, Proc.devRef .tc main_arg2, Proc.devRef .tc main_arg3, Proc.devRef .tc main_v2}

theorem seen_sub : seen ⊆ Pipeline.ucRefs τ sig := by decide

theorem held_seen (W : Valuation τ sig (Elt F)) : (StableHlo.held (c.tc : Thread nD τ) seen W : sProp 𝕄)
    = iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_arg3 ↦{fullShare} W main_arg3)
      ∗ ((c : Thread nD τ).loc main_v2 ↦{fullShare} W main_v2)) := by
  unfold StableHlo.held
  rw [bigSep_eq_bigSepL_of_eq [Proc.devRef .tc main_arg0, Proc.devRef .tc main_arg1, Proc.devRef .tc main_arg2, Proc.devRef .tc main_arg3,
    Proc.devRef .tc main_v2] (by decide) (by decide)]
  rfl

theorem not_stage : ∀ b ∈ ({main_arg0, main_arg1, main_arg2, main_arg3} : Finset (Ref sig .tc)), b ≠ main_v1 ∧ b ≠ main_v2 ∧ ∀ j, b ≠ ar0_stage j := by
  decide

/-- The arguments hold at the end what they held at launch. -/
theorem kept {b : Ref sig .tc} (hb : b ∈ ({main_arg0, main_arg1, main_arg2, main_arg3} : Finset (Ref sig .tc))) :
    Vn T m c b = m ((c : Thread nD τ).loc b) := by
  have hn := not_stage b hb
  refine (vn_of_ne T m c fun h => hn.2.1 (Proc.devRef_injective _ h)).trans ?_
  refine (ar0 (F := F)).after₀_of_notMem (V₀ m) c (b := Proc.devRef .tc b) fun h => ?_
  rcases Finset.mem_insert.mp h with h | h
  · exact hn.1 (Proc.devRef_injective _ h)
  · obtain ⟨j, hj⟩ := (ar0 (F := F)).mem_stageRefs.mp h
    exact hn.2.2 j (Proc.devRef_injective _ hj)

/-- What is read of device `c` at the end. -/
def Seen (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_v2) = outOf T m c)
  ∧ (s.sem ((ar0 (F := F)).barrierCell c) = 0 ∧ s.sem ((ar0 (F := F)).recvCell c) = 0 ∧ s.sem ((ar0 (F := F)).sendCell c) = 0)
  ∧ s.sem ((c : Thread nD τ), .reg barrier0) = 0

theorem last_read (s' : Phys nD τ sig (Elt F)) : iprop(Tₙ T m c ∗ SI s') ⊢ (|={Set.univ}=> iprop(⌜Seen T m c s'.mem⌝ ∗ SI s') : sProp 𝕄) := by
  unfold Tₙ
  rw [StableHlo.held_sub_split (c.tc : Thread nD τ) seen_sub (Vn T m c), held_seen]
  iintro ⟨⟨⟨⟨H0, H1, H2, H3, Hr⟩, -⟩, Hpa, HY⟩, HSI⟩
  icombine HSI H0 gives %h0
  icombine HSI H1 gives %h1
  icombine HSI H2 gives %h2
  icombine HSI H3 gives %h3
  icombine HSI Hr gives %hr
  imod ((AllReduce.Dat.once (ar0 (F := F)) (V₀ m)).ghostAfter_read E0 c (k := 0) le_rfl s') $$ [Hpa HSI] with ⟨%ha, HSI⟩
  · isplitl [Hpa]; · iexact Hpa
    iexact HSI
  imod ((fam T).barPos_read EB (Rd T (rows T m)) c (duties_later T (rows T m) _ 1 le_rfl) ∅ s') $$ [HY HSI] with ⟨%hb, HSI⟩
  · isplitl [HY]; · iapply (show (Yk T (rows T m) c : sProp 𝕄) ⊢ (fam T).barPos EB (Rd T (rows T m)) c 1 ∅ from Entails.refl _); iexact HY
    iexact HSI
  imodintro
  isplitr
  · ipureintro
    exact ⟨⟨(Buf.eq_of_forall_mem_univ h0).trans (kept T m c (by decide)), (Buf.eq_of_forall_mem_univ h1).trans (kept T m c (by decide)),
      (Buf.eq_of_forall_mem_univ h2).trans (kept T m c (by decide)), (Buf.eq_of_forall_mem_univ h3).trans (kept T m c (by decide)),
      (Buf.eq_of_forall_mem_univ hr).trans (vn_result T m c)⟩, ha, hb⟩
  iexact HSI

set_option backward.isDefEq.respectTransparency.types false in
/-- The run. -/
theorem run_main (hT : ∀ c, tOf m c = tblW T) :
    θ_run defs (onTc (τ := τ) (main (F := F))) (s₀ m ρ) (fun r => (∀ c, Seen T m c r.2) ∧ r.2.sem = fun _ => 0) :=
  Pipeline.θ_run_regions_kit_sems (pcfgs (F := F)) adm (pdats T m) 0 cellOf_inj EP defs₀ 𝒱₀ (SiteBlocks.L NL) SiteBlocks.lv m ρ main (segs T m hT)
    (fun c Q => by rw [main_eq T m c hT])
    (by simp only [segs, Pipeline.Seg.pipes_host, Pipeline.Seg.pipes_region, Pipeline.Seg.pipes_nil]; decide)
    (O₀ := O₀ (F := F) T) (hL := SiteBlocks.hL NL) (G := G T m) (u₀ := u₀ T m)
    (hu₀ := by
      unfold u₀
      iintro Hu
      ihave H := (ownU_pair _ _) $$ Hu
      icases H with ⟨HP, HX⟩
      imodintro
      isplitl [HP]; · iexact HP
      rw [SiteBlocks.bigSep_onDev]; iexact HX)
    (T₀ := T₀ T m) (Tₙ := Tₙ T m)
    (hch := ⟨to_share T m, fun c => share_to_region T m c hT, fun c => region_to_end T m c hT⟩)
    (hinit := init T m ρ)
    (QY := Seen T m)
    (hfin := last_read T m)
    (hQ := fun s h hs => ⟨h, sem_eq_zero hs fun c sm hsm => by
      have hl : ∀ sm : SemLoc sig, sm.isScoped .tc = false → sm = .reg ar0_barrier ∨ sm = .dma ar0_recv ∨ sm = .dma ar0_send
          ∨ sm = .reg barrier0 := by decide
      rcases hl sm hsm with rfl | rfl | rfl | rfl
      exacts [(h c).2.1.1, (h c).2.1.2.1, (h c).2.1.2.2, (h c).2.2]⟩)

end Cert.Moe
-- ==== Proof.Shared.lean ====
module
public import proofs.«01_k».proof.Proof.Run

public import proofs.«01_k».proof.Proof.Gen.Pre_routed_Kernel
public import Idealize.ShloMosaic.Lib.ReduceAll

@[expose] public section

/-!
# The shared routing table

The all-reduce leaves the elementwise greatest of the 32 copies, the same on every device. Where every copy names
experts 0 to 63 so does the result, and where the copies are equal it is that table.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

variable (m : (ℓ : Loc nD τ sig) → Buf (Elt F) ℓ) (ρ : Dev nD → PrngReg)

/-- The greatest of the 32 words `v`. -/
def greatest (v : Fin 32 → BitVec 32) : BitVec 32 := ((List.finRange 32).drop 1).foldl (fun a j => IntOp.maxsi a (v j)) (v 0)

theorem peer_any (c d : Dev nD) (j : Fin 32) : (ar0 (F := F)).peer c j = (ar0 (F := F)).peer d j := by
  have e : ((ar0 (F := F)).grp c : Fin 1) = (ar0 (F := F)).grp d := Subsingleton.elim _ _
  unfold AllReduce.Cfg.peer
  exact congrArg (fun k : Fin 1 => (ar0 (F := F)).mem (k, j)) e

/-- The words the devices hold at entry `p` of their tables, in the order of the reduction. -/
def copies (p : S256x1.Idx) : Fin 32 → BitVec 32 := fun j => m (((ar0 (F := F)).peer 0 j : Thread nD τ).loc main_arg2) p

theorem toResult_eq (Y : S256x1.Idx → BitVec 32) : (ar0 (F := F)).toResult Y = Y := rfl

theorem foldGroup_eq (v : Fin 32 → S256x1.Idx → BitVec 32) : (ar0 (F := F)).foldGroup v = fun p => greatest (fun j => v j p) := rfl

theorem table_eq (c : Dev nD) : tOf m c = fun p => greatest (copies m p) := by
  have e : tOf m c = (ar0 (F := F)).toResult ((ar0 (F := F)).foldGroup fun j => V₀ m ((ar0 (F := F)).peer c j) (ar0 (F := F)).operand) :=
    (ar0 (F := F)).after₀_result (V₀ m) c
  rw [e, toResult_eq, foldGroup_eq]
  funext p
  unfold copies
  simp only [peer_any (F := F) c 0]

theorem foldl_keeps {α β : Type} (Q : α → Prop) (f : α → β → α) (h : ∀ a b, Q a → Q (f a b)) : ∀ (l : List β) (a : α), Q a → Q (l.foldl f a)
  | [], _, ha => ha
  | b :: l, a, ha => foldl_keeps Q f h l (f a b) (h a b ha)

theorem maxsi_cases (a b : BitVec 32) : IntOp.maxsi a b = a ∨ IntOp.maxsi a b = b := by
  unfold IntOp.maxsi
  split
  · exact Or.inl rfl
  · exact Or.inr rfl

/-- The greatest word is one of them. -/
theorem greatest_of (Q : BitVec 32 → Prop) (v : Fin 32 → BitVec 32) (h : ∀ j, Q (v j)) : Q (greatest v) :=
  foldl_keeps Q _ (fun a j ha => (maxsi_cases a (v j)).elim (fun e => (congrArg Q e).mpr ha) (fun e => (congrArg Q e).mpr (h j))) _ _ (h 0)

/-- The word of an expert. -/
def Expert (w : BitVec 32) : Prop := ∃ n : Fin 64, w = wd n.val

theorem of_ixT (p : S256x1.Idx) : p = ixT (p 0) := by
  funext a
  fin_cases a
  · rfl
  · exact Subsingleton.elim (α := Fin 1) _ _

theorem exists_tab (t : S256x1.Idx → BitVec 32) (h : ∀ p, Expert (t p)) : ∃ T : Tab, t = tblW T := by
  choose N hN using h
  exact ⟨fun i => N (ixT i), funext fun p => (hN p).trans (congrArg (fun q => wd (N q).val) (of_ixT p))⟩

/-- Where every copy names experts, so does the shared table. -/
theorem shared_tab (h : ∀ (c : Dev nD) p, Expert (m ((c : Thread nD τ).loc main_arg2) p)) : ∃ T : Tab, ∀ c, tOf m c = tblW T := by
  obtain ⟨T, hT⟩ := exists_tab (fun p => greatest (copies m p)) fun p => greatest_of Expert _ fun j => h _ p
  exact ⟨T, fun c => (table_eq m c).trans hT⟩

/-- Where the copies are equal, the shared table is the one they hold. -/
theorem shared_same (t : S256x1.Idx → BitVec 32) (h : ∀ c : Dev nD, m ((c : Thread nD τ).loc main_arg2) = t) (c : Dev nD) : tOf m c = t :=
  (table_eq m c).trans (funext fun p => greatest_of (· = t p) _ fun _ => congrFun (h _) p)

/-- What the precondition says of a table. -/
theorem experts_of_pre (x : FVec F S256x128 .bf16) (y : FVec F ⟨2, ![128, 64]⟩ .bf16) (t : IVec S256x1 32) (w : FVec F S2x128x256 .bf16)
    (h : Cert.Pre_routed_Kernel.fn x y t w = fun _ => 1#1) (p : S256x1.Idx) : Expert (t p) := by
  have : Subsingleton Cert.Pre_routed_Kernel.S_.Idx := ⟨fun a b => funext fun k => k.elim0⟩
  have e := Host.reduce_andi_all _ _ _ _ _ (congrFun h (fun a => a.elim0)) p
  have e' : IntOp.andi (BitVec.ofBool ((0#32 : BitVec 32).sle (t p))) (BitVec.ofBool ((t p).slt 64#32)) = 1#1 := e
  have both : ∀ a b : Bool, IntOp.andi (BitVec.ofBool a) (BitVec.ofBool b) = 1#1 → a = true ∧ b = true := by decide
  obtain ⟨h0, h1⟩ := both _ _ e'
  have h0 := BitVec.sle_iff_toInt_le.mp h0
  have h1 := BitVec.slt_iff_toInt_lt.mp h1
  have z0 : (0#32 : BitVec 32).toInt = 0 := by decide
  have z1 : (64#32 : BitVec 32).toInt = 64 := by decide
  rw [z0] at h0
  rw [z1] at h1
  have hd := BitVec.toInt_eq_toNat_cond (t p)
  have hl : (t p).toNat < 64 := by
    have := (t p).isLt
    split at hd <;> omega
  exact ⟨⟨(t p).toNat, hl⟩, ((BitVec.ofNat_toNat 32 (t p)).trans (BitVec.setWidth_eq (t p))).symm⟩

end Cert.Moe
-- ==== Proof.Frames.lean ====
module
public import proofs.«01_k».proof.Proof.Shared

public import proofs.«01_k».proof.Defs
public import proofs.«01_k».proof.Proof.Gen.Kernel
public import proofs.«01_k».proof.Proof.Gen.ReferenceIdeal.Run

@[expose] public section

/-!
# The frames

Both printings of the kernel are one text, so the run, written over any float values, frames both. The reference is a
row of host operations; it has no semaphore.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

/-- Under the precondition the program ends with its arguments unchanged and its semaphores at zero. -/
theorem run_frame (m : (ℓ : Loc nD τ sig) → Buf (Elt F) ℓ) (ρ : Dev nD → PrngReg)
    (h : ∀ (c : Dev nD) p, Expert (m ((c : Thread nD τ).loc main_arg2) p)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  obtain ⟨T, hT⟩ := shared_tab m h
  exact (θ_run defs _ _).mono (fun _ hr => ⟨fun c => ⟨(hr.1 c).1.1, (hr.1 c).1.2.1, (hr.1 c).1.2.2.1, (hr.1 c).1.2.2.2.1⟩, hr.2⟩) (run_main T m ρ hT)

/-- The frame of the kernel over the extended reals. -/
theorem frame_kernelIdeal : Cert.quiescent_KernelIdeal := fun m ρ h => run_frame m ρ fun c p => experts_of_pre _ _ _ _ (h c) p

/-- The frame of the reference. -/
theorem frame_reference : Cert.quiescent_ReferenceIdeal := fun m ρ _ =>
  (θ_run Cert.ReferenceIdeal.defs _ _).mono
    (fun _ hr => ⟨fun c => (hr c).2, funext fun g => match g with | (_, .reg s) => s.elim0 | (_, .dma s) => s.elim0⟩)
    (Cert.ReferenceIdeal.Value.run (F := Ideal) m ρ)

/-- The same under the precondition. -/
theorem frame_reference_pre [Cert.Pre_routed_ReferenceIdeal.Facts] : Cert.quiescent_ReferenceIdeal_pre_routed_ReferenceIdeal := fun m ρ _ =>
  frame_reference m ρ trivial

end Cert.Moe
-- ==== Proof.Same.lean ====
module

public import proofs.«01_k».proof.Proof.Frames

@[expose] public section

/-!
# The frame of the kernel as printed

The kernel and the printing read at the ideal numbers are one text, declared twice. They are equal declaration by
declaration, so the run of the one is the run of the other.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

theorem same_main (c : Dev nD) : Cert.Kernel.main (F := F) c = Cert.KernelIdeal.main (F := F) c := id rfl

set_option maxHeartbeats 4000000 in
theorem same_body : @Cert.Kernel.cc0_body F _ _ = @Cert.KernelIdeal.cc0_body F _ _ := id rfl

theorem same_defs₀ : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    exact congrFun (congrFun (congrFun (congrFun (congrFun (congrFun (congrFun (congrFun (congrFun (congrFun (congrFun (congrFun (congrFun (congrFun
      (congrFun (congrFun (congrFun (congrFun (congrFun (congrFun same_body _) _) _) _) _) _) _) _) _) _) _) _) _) _) _) _) _) _) _) _

theorem same_defs : Cert.Kernel.defs (F := F) = Cert.KernelIdeal.defs (F := F) := by
  unfold Cert.Kernel.defs Cert.KernelIdeal.defs
  rw [same_defs₀]
  rfl

theorem frame_kernel : Cert.quiescent_Kernel := fun m ρ h => by
  rw [same_defs, show Cert.Kernel.main (F := Bits) = Cert.KernelIdeal.main (F := Bits) from funext same_main]
  exact run_frame (F := Bits) m ρ fun c p => experts_of_pre (F := Bits) _ _ _ _ (h c) p

end Cert.Moe
-- ==== Proof.KValue.lean ====
module
public import proofs.«01_k».proof.Proof.Run

public import Idealize.ShloMosaic.Lib.Pointwise

@[expose] public section

/-!
# The kernel's rows at the ideal numbers

Row `i` of the result is the token's row of `x` times the weights of its expert, or zeros where the token is over capacity.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

local notation "𝕀" => Idealize.ShloMosaic.Ideal

/-- The rows of the first expert's buffer: each token row times the expert's weights. -/
theorem pay_first (R : Fin 3 → S1x128.Idx → Elt 𝕀 .bf16) (w : S1x128x256.Idx → Elt 𝕀 .bf16) (j : Fin 3) (o : Fin 256) :
    k0_pay9 (F := 𝕀) (R 0) (R 1) (R 2) w (ixB j o) = ∑ k : Fin 128, R j (ix2 0 k) * w (ix3 0 k o) := by
  pointwise [k0_pay9]
  refine Finset.sum_congr rfl fun k _ => ?_
  fin_cases j <;> rfl

/-- The rows of the second expert's buffer. -/
theorem pay_second (R : Fin 3 → S1x128.Idx → Elt 𝕀 .bf16) (w : S1x128x256.Idx → Elt 𝕀 .bf16) (j : Fin 3) (o : Fin 256) :
    k0_pay11 (F := 𝕀) (k0_pay10 (R 0) (R 1) (R 2) w) (ixB j o) = ∑ k : Fin 128, R j (ix2 0 k) * w (ix3 0 k o) := by
  pointwise [k0_pay10, k0_pay11]
  refine Finset.sum_congr rfl fun k _ => ?_
  fin_cases j <;> rfl

/-- Slot `(e, j)` of the exchange buffer, read at column `o`. -/
theorem slot_read (e : Fin 2) (j : Fin 3) (f : S2x3x256.Idx → Elt 𝕀 .f32) (y : S1x256.Idx) :
    (cRow e j).view.read (Elt 𝕀) f y = f (ix3 e j (y 1)) := by
  rw [cRow_read]
  have hy : y = ix2 0 (y 1) := by
    rw [eq_ix2 y]; congr 1; exact Subsingleton.elim _ _
  rw [hy]
  pointwise
  refine congrArg f (funext fun a => Fin.ext ?_)
  match a with
  | 0 => exact (Nat.add_zero _).trans rfl
  | 1 => exact (Nat.add_zero _).trans rfl
  | 2 => exact (Nat.zero_add _).trans (Nat.one_mul _)

/-- The six rows of a device's buffers, each the held token's row times the weights of the slot's expert. -/
theorem comm_at (T : Tab) (c : Dev nD) (X : S256x128.Idx → Elt 𝕀 .bf16) (Wt : S2x128x256.Idx → Elt 𝕀 .bf16)
    (s : Fin 6) (y : S1x256.Idx) :
    (cRow (slotP s).1 (slotP s).2).view.read (Elt 𝕀) (commFull T c X Wt) y
      = ∑ k : Fin 128, xRow X (heldAt T c s.val) (ix2 0 k) * Wt (ixW (slotP s).1 k (y 1)) := by
  have h0 := pay_first (fun j => xRow X (heldAt T c j.val)) (wBlk Wt 0)
  have h1 := pay_second (fun j => xRow X (heldAt T c (3 + j.val))) (wBlk Wt 1)
  rw [slot_read]
  match s with
  | 0 => exact h0 0 (y 1)
  | 1 => exact h0 1 (y 1)
  | 2 => exact h0 2 (y 1)
  | 3 => exact h1 0 (y 1)
  | 4 => exact h1 1 (y 1)
  | 5 => exact h1 2 (y 1)

/-- A routed row: the token's row of the input times its expert's weights. -/
theorem rowVal_under (T : Tab) (X : Dev nD → S256x128.Idx → Elt 𝕀 .bf16) (Wt : Dev nD → S2x128x256.Idx → Elt 𝕀 .bf16)
    (i : Fin 256) (h : under T i) (y : S1x256.Idx) :
    rowVal T X Wt i y = ∑ k : Fin 128, X (owner T i) (ix2 i k) * Wt (owner T i) (ixW ⟨(T i).val % 2, Nat.mod_lt _ (by decide)⟩ k (y 1)) := by
  have hs : slotN T i < 6 := slotN_lt h
  have hA : At T (owner T i) (⟨slotN T i, hs⟩ : Fin 6).val i := ⟨rfl, h, rfl⟩
  rw [rowVal_at T X Wt ⟨slotN T i, hs⟩ i hA, comm_at]
  refine Finset.sum_congr rfl fun k _ => ?_
  have hx : xRow (X (owner T i)) (heldAt T (owner T i) (slotN T i)) (ix2 0 k) = X (owner T i) (ix2 i k) := by
    have hv := heldAt_of hA
    unfold xRow
    refine congrArg (X (owner T i)) (funext fun a => ?_)
    match a with
    | 0 => exact Fin.ext (show min (heldAt T (owner T i) (slotN T i)).val 255 = i.val by
        have := i.isLt
        have hv' : (heldAt T (owner T i) (slotN T i)).val = i.val := hv
        omega)
    | 1 => rfl
  have he : (slotP ⟨slotN T i, hs⟩).1 = ⟨(T i).val % 2, Nat.mod_lt _ (by decide)⟩ := by
    refine Fin.ext (show slotN T i / 3 = (T i).val % 2 from ?_)
    unfold under at h
    unfold slotN
    omega
  rw [hx, he]

/-- A dropped row is zero. -/
theorem rowVal_dropped (T : Tab) (X : Dev nD → S256x128.Idx → Elt 𝕀 .bf16) (Wt : Dev nD → S2x128x256.Idx → Elt 𝕀 .bf16)
    (i : Fin 256) (h : ¬ under T i) (y : S1x256.Idx) : rowVal T X Wt i y = 0 := by
  unfold rowVal
  rw [if_neg h]
  pointwise [k0_pay1]

end Cert.Moe
-- ==== Proof.RValue.lean ====
module

public import proofs.«01_k».proof.Proof.Words
public import proofs.«01_k».proof.Proof.Gen.ReferenceIdeal.Run
public import Idealize.ShloMosaic.Lib.Pointwise
public import Idealize.ShloMosaic.Lib.WordCmp
public import Idealize.ShloMosaic.Lib.StableHlo.Predicate

@[expose] public section

/-!
# What the reference computes

Row `i` of the reference's result is the token's row of `x` times the weights of its expert where fewer than three
earlier tokens want that expert, and zeros otherwise.
-/

noncomputable section

namespace Cert.Moe

open Cert.ReferenceIdeal Cert.ReferenceIdeal.Gen Idealize.ShloMosaic

local notation "𝕀" => Idealize.ShloMosaic.Ideal

section Integers

/-- The table as a vector. -/
def vecOf (t : IVec S256x1 32) : IVec S256 32 := shapeCast _ t shapeCasts_S256x1_S256

/-- For each pair of tokens, 1 where the second comes first and wants the same expert. -/
def earlier (t : IVec S256x1 32) : IVec S256x256 32 :=
  select (cmpi .slt (iotaInDim S256x256 32 1) (iotaInDim S256x256 32 0)) (extui 32 (cmpi .eq (broadcastInDim S256x256 ![0, 1] bcast_S256x1_S256x256_0_1 (broadcastInDim S256x1 ![0] bcast_S256_S256x1_0 (vecOf t))) (broadcastInDim S256x256 ![0, 1] bcast_S1x256_S256x256_0_1 (broadcastInDim S1x256 ![1] bcast_S256_S1x256_1 (vecOf t)))) natLt_1_32) (broadcastInDim S256x256 ![] bcast_S_S256x256 (id (constantI S_ 32 0#32)))

/-- The number of earlier tokens that want the same expert. -/
def ranks (t : IVec S256x1 32) : IVec S256 32 :=
  Host.reduce IntOp.addi (earlier t) (constantI S_ 32 0#32) reducesTo_S256x256_S256_d1 h_S_

/-- The expert each token takes its weights from. -/
def taken (t : IVec S256x1 32) : IVec S256x1 32 :=
  broadcastInDim S256x1 ![0] bcast_S256_S256x1_0 (select (cmpi .slt (vecOf t) (broadcastInDim S256 ![] bcast_S_S256 (constantI S_ 32 0#32))) (addi (vecOf t) (broadcastInDim S256 ![] bcast_S_S256 (constantI S_ 32 64#32))) (vecOf t))

/-- The words of a table. -/
abbrev words (T : Tab) : IVec S256x1 32 := fun p => wd (T (p 0)).val

/-- The count's terms, as a condition on the table. -/
theorem earlier_words (T : Tab) (i q : Fin 256) :
    earlier (words T) (ix2 i q) = if q.val < i.val ∧ T q = T i then 1#32 else 0#32 := by
  have hi : i.val < 2 ^ 31 := by have := i.isLt; omega
  have hq : q.val < 2 ^ 31 := by have := q.isLt; omega
  have hTi : (T i).val < 2 ^ 32 := by have := (T i).isLt; omega
  have hTq : (T q).val < 2 ^ 32 := by have := (T q).isLt; omega
  pointwise [earlier, vecOf]
  show Scalar.select (IntOp.cmpi CmpIPredicate.slt (BitVec.ofNat 32 q.val) (BitVec.ofNat 32 i.val))
      (BitVec.setWidth 32 (IntOp.cmpi CmpIPredicate.eq (wd (T i).val) (wd (T q).val))) 0#32 = _
  rw [WordCmp.cmpi_slt_ofNat hq hi, WordCmp.cmpi_eq_eq]
  by_cases h : q.val < i.val
  · by_cases e : T q = T i
    · simp [h, e, Scalar.select]
    · have hne : wd (T i).val ≠ wd (T q).val := fun hw => e (Fin.ext ((WordCmp.ofNat_eq_ofNat_iff hTi hTq).1 hw).symm)
      simp [h, e, hne, Scalar.select]
  · simp [h, Scalar.select]

/-- The bit for each pair of tokens. -/
def earlierBit (T : Tab) : IVec S256x256 1 := fun p => if (p 1).val < (p 0).val ∧ T (p 1) = T (p 0) then 1#1 else 0#1

/-- The terms are those bits, widened. -/
theorem earlier_eq (T : Tab) : earlier (words T) = extui 32 (earlierBit T) natLt_1_32 := by
  funext p
  refine (congrArg (earlier (words T)) (eq_ix2 p)).trans ((earlier_words T (p 0) (p 1)).trans ?_)
  show _ = BitVec.setWidth 32 (if (p 1).val < (p 0).val ∧ T (p 1) = T (p 0) then 1#1 else 0#1)
  split <;> rfl

/-- A rank is at most the number of tokens. -/
theorem rank_le (T : Tab) (i : Fin 256) : rank T i ≤ 256 := by
  unfold rank cnt
  exact (Finset.card_le_univ _).trans (by simp)

/-- The reference's count for a token is its rank. -/
theorem ranks_words (T : Tab) (i : Fin 256) : ranks (words T) (ix1 i) = wd (rank T i) := by
  have hb := rank_le T i
  refine BitVec.eq_of_toNat_eq ?_
  unfold ranks
  rw [earlier_eq, StableHlo.Predicate.toNat_reduce_count_cols (by decide), BitVec.toNat_ofNat, Nat.mod_eq_of_lt (by omega)]
  unfold rank cnt
  refine congrArg Finset.card (Finset.filter_congr fun q _ => ?_)
  show (if q.val < i.val ∧ T q = T i then 1#1 else 0#1) = 1#1 ↔ _
  split <;> simp_all

/-- The expert a token takes its weights from is the one it wants. -/
theorem taken_words (T : Tab) (i : Fin 256) (z : Fin 1) : taken (words T) (ix2 i z) = wd (T i).val := by
  have h : ∀ n : Fin 64, Scalar.select (IntOp.cmpi CmpIPredicate.slt (wd n.val) 0#32) (IntOp.addi (wd n.val) 64#32) (wd n.val) = wd n.val := by
    decide
  pointwise [taken, vecOf]
  exact h (T i)

end Integers

/-- The weights taken for each token, read at an entry. -/
theorem gather_words {α : Type} (W : S64x128x256.Idx → α) (T : Tab) (i : Fin 256) (k : Fin 128) (o : Fin 256) :
    Host.gather gather_S64x128x256_S256x1_S256x128x256_12_0_n_n_0_1_1128256 W (taken (words T)) (ix3 i k o) = W (ix3 (T i) k o) := by
  unfold Host.gather
  refine congrArg W (funext fun a => Fin.ext ?_)
  show GatherDims.start _ (ix3 i k o) (taken (words T)) a + GatherDims.batchCoord _ (ix3 i k o) a + GatherDims.offCoord _ (ix3 i k o) a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (show (0 : Fin 3) ∈ gather_S64x128x256_S256x1_S256x128x256_12_0_n_n_0_1_1128256.startIndexMap from List.mem_singleton.mpr rfl)]
    have hsi : GatherDims.siIdx gather_S64x128x256_S256x1_S256x128x256_12_0_n_n_0_1_1128256 (ix3 i k o)
        ⟨List.idxOf (0 : Fin 3) gather_S64x128x256_S256x1_S256x128x256_12_0_n_n_0_1_1128256.startIndexMap,
          List.idxOf_lt_length_iff.2 (List.mem_singleton.mpr rfl)⟩ = ix2 i 0 := by
      funext b
      match b with
      | 0 => exact Fin.ext rfl
      | 1 => exact Fin.ext rfl
    rw [hsi, taken_words]
    have hw : ∀ n : Fin 64, min (wd n.val).toInt.toNat (64 - 1) = n.val := by decide
    exact hw (T i)
  | 1 =>
    have hs : GatherDims.start gather_S64x128x256_S256x1_S256x128x256_12_0_n_n_0_1_1128256 (ix3 i k o) (taken (words T)) 1 = 0 := by
      unfold GatherDims.start
      exact dif_neg (by decide)
    rw [hs, Nat.zero_add]
    rfl
  | 2 =>
    have hs : GatherDims.start gather_S64x128x256_S256x1_S256x128x256_12_0_n_n_0_1_1128256 (ix3 i k o) (taken (words T)) 2 = 0 := by
      unfold GatherDims.start
      exact dif_neg (by decide)
    rw [hs, Nat.zero_add]
    rfl

/-- The reference's result, as its operations compose it. -/
def expected (x : S256x128.Idx → Elt 𝕀 .bf16) (t : IVec S256x1 32) (W : S64x128x256.Idx → Elt 𝕀 .bf16) : S256x256.Idx → Elt 𝕀 .f32 :=
  select (broadcastInDim S256x256 ![0, 1] bcast_S256x1_S256x256_0_1 (broadcastInDim S256x1 ![0] bcast_S256_S256x1_0 (cmpi .slt (ranks t) (broadcastInDim S256 ![] bcast_S_S256 (constantI S_ 32 3#32)))))
    (Host.dotGeneral (F := 𝕀) dot_S256x128_S256x128x256_S256x256_1_1_n_2_0_0 none (extf .f32 x bitsLt_bf16_f32) (Host.gather gather_S64x128x256_S256x1_S256x128x256_12_0_n_n_0_1_1128256 (extf (F := 𝕀) .f32 W bitsLt_bf16_f32) (taken t)))
    (broadcastInDim S256x256 ![] bcast_S_S256x256 (id (constant (F := 𝕀) S_ .f32 0x00000000#32)))

/-- An entry of the reference's result: the token's row times its expert's column, or zero over capacity. -/
theorem expected_apply (x : S256x128.Idx → Elt 𝕀 .bf16) (T : Tab) (W : S64x128x256.Idx → Elt 𝕀 .bf16) (i o : Fin 256) :
    expected x (words T) W (ix2 i o) = if under T i then ∑ k : Fin 128, x (ix2 i k) * W (ix3 (T i) k o) else (0 : EReal) := by
  pointwise [expected]
  show Scalar.select (IntOp.cmpi CmpIPredicate.slt (ranks (words T) (ix1 i)) 3#32)
      (∑ k : Fin 128, x (ix2 i k) * Host.gather gather_S64x128x256_S256x1_S256x128x256_12_0_n_n_0_1_1128256 W (taken (words T)) (ix3 i k o))
      (Ideal.ofBits .f32 0#32) = _
  have hr := rank_le T i
  rw [ranks_words, WordCmp.cmpi_slt_ofNat (show rank T i < 2 ^ 31 by omega) (show 3 < 2 ^ 31 by omega), Ideal.ofBits_zero_f32]
  simp only [gather_words]
  unfold under
  by_cases h : rank T i < 3
  · simp [h, Scalar.select]
  · simp [h, Scalar.select]

end Cert.Moe
-- ==== Proof.Agree.lean ====
module
public import proofs.«01_k».proof.Proof.KValue

public import proofs.«01_k».proof.Proof.RValue
public import proofs.«01_k».proof.Proof.Frames
public import proofs.«01_k».proof.Defs
public import Idealize.ShloMosaic.Lib.Layout

@[expose] public section

/-!
# The kernel and the reference agree

Device `c` ends with rows `8 c … 8 c + 7` of the reference's result.
-/

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig ℕ (Elt F) ℕ UU ℕ

local notation "𝕀" => Idealize.ShloMosaic.Ideal

section Rows

variable (T : Tab) (m : (ℓ : Loc nD τ sig) → Buf (Elt 𝕀) ℓ)

/-- The tokens the kernel reads are the argument. -/
theorem x_kept (c : Dev nD) : xOf m c = m ((c : Thread nD τ).loc main_arg0) :=
  (vn_of_ne (fun _ => 0) m c (by decide)).symm.trans (kept (fun _ => 0) m c (by decide))

/-- The weights the kernel reads are the argument. -/
theorem w_kept (c : Dev nD) : wOf m c = m ((c : Thread nD τ).loc main_arg3) :=
  (vn_of_ne (fun _ => 0) m c (by decide)).symm.trans (kept (fun _ => 0) m c (by decide))

/-- An entry of a device's weights, in the whole array. -/
theorem w_block (W : (⟨3, ![64, 128, 256]⟩ : Shape).Idx → EReal) (i : Fin 256) (k : Fin 128) (o : Fin 256) :
    Layout.block ⟨3, ![2, 128, 256]⟩ ⟨3, ![64, 128, 256]⟩ 0 32 (owner T i) W (by decide) (ixW ⟨(T i).val % 2, Nat.mod_lt _ (by decide)⟩ k o)
      = W (ix3 (T i) k o) := by
  rw [Layout.block_apply]
  refine congrArg W (funext fun a => Fin.ext ?_)
  rw [Layout.Tiles.idx_val]
  match a with
  | 0 => exact (show (T i).val / 2 * 2 + (T i).val % 2 = (T i).val by omega)
  | 1 => rfl
  | 2 => rfl

/-- A row of the result is the reference's. -/
theorem row_agrees (x : S256x128.Idx → EReal) (W : (⟨3, ![64, 128, 256]⟩ : Shape).Idx → EReal)
    (hx : ∀ c : Dev nD, m ((c : Thread nD τ).loc main_arg0) = x)
    (hw : ∀ c : Dev nD, m ((c : Thread nD τ).loc main_arg3) = Layout.block ⟨3, ![2, 128, 256]⟩ ⟨3, ![64, 128, 256]⟩ 0 32 c W (by decide))
    (i : Fin 256) (y : S1x256.Idx) : rows T m i y = expected x (words T) W (ix2 i (y 1)) := by
  refine Eq.trans ?_ (expected_apply x T W i (y 1)).symm
  by_cases h : under T i
  · rw [if_pos h]
    refine (rowVal_under T (xOf m) (wOf m) i h y).trans (Finset.sum_congr rfl fun k _ => ?_)
    have e1 : xOf m (owner T i) (ix2 i k) = x (ix2 i k) := congrFun ((x_kept m _).trans (hx _)) _
    have e2 : wOf m (owner T i) (ixW ⟨(T i).val % 2, Nat.mod_lt _ (by decide)⟩ k (y 1)) = W (ix3 (T i) k (y 1)) :=
      (congrFun ((w_kept m _).trans (hw _)) _).trans (w_block T W i k (y 1))
    exact congrArg₂ (fun a b : EReal => a * b) e1 e2
  · rw [if_neg h]
    exact rowVal_dropped T (xOf m) (wOf m) i h y

/-- What a device ends with is its block of the reference's result. -/
theorem out_agrees (x : S256x128.Idx → EReal) (W : (⟨3, ![64, 128, 256]⟩ : Shape).Idx → EReal)
    (hx : ∀ c : Dev nD, m ((c : Thread nD τ).loc main_arg0) = x)
    (hw : ∀ c : Dev nD, m ((c : Thread nD τ).loc main_arg3) = Layout.block ⟨3, ![2, 128, 256]⟩ ⟨3, ![64, 128, 256]⟩ 0 32 c W (by decide))
    (c : Dev nD) : outOf T m c = Layout.block ⟨2, ![8, 256]⟩ ⟨2, ![256, 256]⟩ 0 32 c (expected x (words T) W) (by decide) := by
  funext p
  rw [Layout.block_apply]
  refine (row_agrees T m x W hx hw (tok c (p 0)) (inRow p)).trans (congrArg (expected x (words T) W) (funext fun a => Fin.ext ?_))
  rw [Layout.Tiles.idx_val]
  match a with
  | 0 => exact (show 8 * c.val + (p 0).val = c.val * 8 + (p 0).val by omega)
  | 1 => rfl

end Rows

/-- The kernel's results are the blocks of the reference's. -/
theorem agrees : Cert.algebraic_KernelIdeal_ReferenceIdeal := by
  intro m g m' g' hpre hsame
  have he : ∀ p, Expert (m' (((0 : Dev Cert.ReferenceIdeal.nD).tc : Thread Cert.ReferenceIdeal.nD Cert.ReferenceIdeal.τ).loc Cert.ReferenceIdeal.main_arg2) p) := fun p =>
    (congrArg Expert (congrFun (hsame 0).2.2.1 p)).mp (experts_of_pre _ _ _ _ (hpre 0) p)
  obtain ⟨T, hT⟩ := exists_tab _ he
  have hc : ∀ c, tOf m c = tblW T := fun c => (shared_same m _ (fun c => (hsame c).2.2.1) c).trans hT
  refine ⟨expected (m' (((0 : Dev Cert.ReferenceIdeal.nD).tc : Thread Cert.ReferenceIdeal.nD Cert.ReferenceIdeal.τ).loc Cert.ReferenceIdeal.main_arg0)) (words T)
    (m' (((0 : Dev Cert.ReferenceIdeal.nD).tc : Thread Cert.ReferenceIdeal.nD Cert.ReferenceIdeal.τ).loc Cert.ReferenceIdeal.main_arg3)), ?_, ?_⟩
  · refine (θ_run defs _ _).mono (fun _ hr c => ?_) (run_main T m g hc)
    obtain ⟨h0, h1, h2, h3, h4⟩ := (hr.1 c).1
    exact ⟨h4.trans (out_agrees T m _ _ (fun c => (hsame c).1) (fun c => (hsame c).2.2.2) c), h0, h1, h2, h3⟩
  · refine (θ_run Cert.ReferenceIdeal.defs _ _).mono (fun _ hr => ⟨(hr 0).1.trans ?_, (hr 0).2⟩) (Cert.ReferenceIdeal.Value.run (F := Ideal) m' g')
    rw [hT]
    rfl

end Cert.Moe
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_routed_Kernel
public import proofs.«01_k».proof.Proof.Gen.Pre_routed_ReferenceIdeal
public import proofs.«01_k».proof.Proof.Frames
public import proofs.«01_k».proof.Proof.Same
public import proofs.«01_k».proof.Proof.Agree
public import Idealize.ShloMosaic.Adequacy
public import Idealize.ShloMosaic.Init

@[expose] public section

namespace Cert.Proof

theorem claim : Cert.Claim :=
  ⟨Cert.Kernel.Gen.facts, Cert.KernelIdeal.Gen.facts, Cert.ReferenceIdeal.Gen.facts, Cert.Pre_routed_Kernel.Gen.facts,
    Cert.Pre_routed_ReferenceIdeal.Gen.facts, Cert.Moe.frame_kernel, Cert.Moe.frame_kernelIdeal, Cert.Moe.frame_reference,
    Cert.Moe.frame_reference_pre, trivial, Cert.Moe.agrees⟩

end Cert.Proof

end
